-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionReferenceIdeal (m : (ℓ : Loc Cert.RetentionReferenceIdeal.nD Cert.RetentionReferenceIdeal.τ Cert.RetentionReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Latents (m : (ℓ : Loc Cert.Latents.nD Cert.Latents.τ Cert.Latents.sig) → Buf (Elt Bits) ℓ) : Prop :=
  True

def Pre_LatentsIdeal (m : (ℓ : Loc Cert.LatentsIdeal.nD Cert.LatentsIdeal.τ Cert.LatentsIdeal.sig) → Buf (Elt Ideal) ℓ) : Prop :=
  True

def Pre_LatentsReferenceIdeal (m : (ℓ : Loc Cert.LatentsReferenceIdeal.nD Cert.LatentsReferenceIdeal.τ Cert.LatentsReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Activation (m : (ℓ : Loc Cert.Activation.nD Cert.Activation.τ Cert.Activation.sig) → Buf (Elt Bits) ℓ) : Prop :=
  True

def Pre_ActivationIdeal (m : (ℓ : Loc Cert.ActivationIdeal.nD Cert.ActivationIdeal.τ Cert.ActivationIdeal.sig) → Buf (Elt Ideal) ℓ) : Prop :=
  True

def Pre_ActivationReferenceIdeal (m : (ℓ : Loc Cert.ActivationReferenceIdeal.nD Cert.ActivationReferenceIdeal.τ Cert.ActivationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9))
      ∧ r.2.sem = fun _ => 0)

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1))
      ∧ r.2.sem = fun _ => 0)

def quiescent_RetentionReferenceIdeal [hRetentionReferenceIdeal : Cert.RetentionReferenceIdeal.Facts] : Prop :=
  ∀ (m : (ℓ : Loc Cert.RetentionReferenceIdeal.nD Cert.RetentionReferenceIdeal.τ Cert.RetentionReferenceIdeal.sig) → Buf (Elt Ideal) ℓ) (g : Dev Cert.RetentionReferenceIdeal.nD → PrngReg), Pre_RetentionReferenceIdeal m →
    θ_run (Cert.RetentionReferenceIdeal.defs (F := Ideal)) (onTc (τ := Cert.RetentionReferenceIdeal.τ) (Cert.RetentionReferenceIdeal.main (F := Ideal))) ⟨m, fun _ => 0, g⟩ (fun r => (∀ c : Dev Cert.RetentionReferenceIdeal.nD,
      r.2.mem ((c.tc : Thread Cert.RetentionReferenceIdeal.nD Cert.RetentionReferenceIdeal.τ).loc Cert.RetentionReferenceIdeal.main_arg0) = m ((c.tc : Thread Cert.RetentionReferenceIdeal.nD Cert.RetentionReferenceIdeal.τ).loc Cert.RetentionReferenceIdeal.main_arg0)
      ∧ r.2.mem ((c.tc : Thread Cert.RetentionReferenceIdeal.nD Cert.RetentionReferenceIdeal.τ).loc Cert.RetentionReferenceIdeal.main_arg1) = m ((c.tc : Thread Cert.RetentionReferenceIdeal.nD Cert.RetentionReferenceIdeal.τ).loc Cert.RetentionReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3))
      ∧ r.2.sem = fun _ => 0)

def quiescent_Latents [hLatents : Cert.Latents.Facts] : Prop :=
  ∀ (m : (ℓ : Loc Cert.Latents.nD Cert.Latents.τ Cert.Latents.sig) → Buf (Elt Bits) ℓ) (g : Dev Cert.Latents.nD → PrngReg), Pre_Latents m →
    θ_run (Cert.Latents.defs (F := Bits)) (onTc (τ := Cert.Latents.τ) (Cert.Latents.main (F := Bits))) ⟨m, fun _ => 0, g⟩ (fun r => (∀ c : Dev Cert.Latents.nD,
      r.2.mem ((c.tc : Thread Cert.Latents.nD Cert.Latents.τ).loc Cert.Latents.main_arg0) = m ((c.tc : Thread Cert.Latents.nD Cert.Latents.τ).loc Cert.Latents.main_arg0)
      ∧ r.2.mem ((c.tc : Thread Cert.Latents.nD Cert.Latents.τ).loc Cert.Latents.main_arg1) = m ((c.tc : Thread Cert.Latents.nD Cert.Latents.τ).loc Cert.Latents.main_arg1)
      ∧ r.2.mem ((c.tc : Thread Cert.Latents.nD Cert.Latents.τ).loc Cert.Latents.main_arg2) = m ((c.tc : Thread Cert.Latents.nD Cert.Latents.τ).loc Cert.Latents.main_arg2)
      ∧ r.2.mem ((c.tc : Thread Cert.Latents.nD Cert.Latents.τ).loc Cert.Latents.main_arg3) = m ((c.tc : Thread Cert.Latents.nD Cert.Latents.τ).loc Cert.Latents.main_arg3)
      ∧ r.2.mem ((c.tc : Thread Cert.Latents.nD Cert.Latents.τ).loc Cert.Latents.main_arg4) = m ((c.tc : Thread Cert.Latents.nD Cert.Latents.τ).loc Cert.Latents.main_arg4)
      ∧ r.2.mem ((c.tc : Thread Cert.Latents.nD Cert.Latents.τ).loc Cert.Latents.main_arg5) = m ((c.tc : Thread Cert.Latents.nD Cert.Latents.τ).loc Cert.Latents.main_arg5)
      ∧ r.2.mem ((c.tc : Thread Cert.Latents.nD Cert.Latents.τ).loc Cert.Latents.main_arg6) = m ((c.tc : Thread Cert.Latents.nD Cert.Latents.τ).loc Cert.Latents.main_arg6)
      ∧ r.2.mem ((c.tc : Thread Cert.Latents.nD Cert.Latents.τ).loc Cert.Latents.main_arg7) = m ((c.tc : Thread Cert.Latents.nD Cert.Latents.τ).loc Cert.Latents.main_arg7)
      ∧ r.2.mem ((c.tc : Thread Cert.Latents.nD Cert.Latents.τ).loc Cert.Latents.main_arg8) = m ((c.tc : Thread Cert.Latents.nD Cert.Latents.τ).loc Cert.Latents.main_arg8)
      ∧ r.2.mem ((c.tc : Thread Cert.Latents.nD Cert.Latents.τ).loc Cert.Latents.main_arg9) = m ((c.tc : Thread Cert.Latents.nD Cert.Latents.τ).loc Cert.Latents.main_arg9))
      ∧ r.2.sem = fun _ => 0)

def quiescent_LatentsIdeal [hLatentsIdeal : Cert.LatentsIdeal.Facts] : Prop :=
  ∀ (m : (ℓ : Loc Cert.LatentsIdeal.nD Cert.LatentsIdeal.τ Cert.LatentsIdeal.sig) → Buf (Elt Ideal) ℓ) (g : Dev Cert.LatentsIdeal.nD → PrngReg), Pre_LatentsIdeal m →
    θ_run (Cert.LatentsIdeal.defs (F := Ideal)) (onTc (τ := Cert.LatentsIdeal.τ) (Cert.LatentsIdeal.main (F := Ideal))) ⟨m, fun _ => 0, g⟩ (fun r => (∀ c : Dev Cert.LatentsIdeal.nD,
      r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
      ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
      ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
      ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3)
      ∧ r.2.mem ((c.tc : Thread Cert.LatentsIdeal.nD Cert.LatentsIdeal.τ).loc Cert.LatentsIdeal.main_arg4) = m ((c.tc : Thread Cert.LatentsIdeal.nD Cert.LatentsIdeal.τ).loc Cert.LatentsIdeal.main_arg4)
      ∧ r.2.mem ((c.tc : Thread Cert.LatentsIdeal.nD Cert.LatentsIdeal.τ).loc Cert.LatentsIdeal.main_arg5) = m ((c.tc : Thread Cert.LatentsIdeal.nD Cert.LatentsIdeal.τ).loc Cert.LatentsIdeal.main_arg5)
      ∧ r.2.mem ((c.tc : Thread Cert.LatentsIdeal.nD Cert.LatentsIdeal.τ).loc Cert.LatentsIdeal.main_arg6) = m ((c.tc : Thread Cert.LatentsIdeal.nD Cert.LatentsIdeal.τ).loc Cert.LatentsIdeal.main_arg6)
      ∧ r.2.mem ((c.tc : Thread Cert.LatentsIdeal.nD Cert.LatentsIdeal.τ).loc Cert.LatentsIdeal.main_arg7) = m ((c.tc : Thread Cert.LatentsIdeal.nD Cert.LatentsIdeal.τ).loc Cert.LatentsIdeal.main_arg7)
      ∧ r.2.mem ((c.tc : Thread Cert.LatentsIdeal.nD Cert.LatentsIdeal.τ).loc Cert.LatentsIdeal.main_arg8) = m ((c.tc : Thread Cert.LatentsIdeal.nD Cert.LatentsIdeal.τ).loc Cert.LatentsIdeal.main_arg8)
      ∧ r.2.mem ((c.tc : Thread Cert.LatentsIdeal.nD Cert.LatentsIdeal.τ).loc Cert.LatentsIdeal.main_arg9) = m ((c.tc : Thread Cert.LatentsIdeal.nD Cert.LatentsIdeal.τ).loc Cert.LatentsIdeal.main_arg9))
      ∧ r.2.sem = fun _ => 0)

def quiescent_LatentsReferenceIdeal [hLatentsReferenceIdeal : Cert.LatentsReferenceIdeal.Facts] : Prop :=
  ∀ (m : (ℓ : Loc Cert.LatentsReferenceIdeal.nD Cert.LatentsReferenceIdeal.τ Cert.LatentsReferenceIdeal.sig) → Buf (Elt Ideal) ℓ) (g : Dev Cert.LatentsReferenceIdeal.nD → PrngReg), Pre_LatentsReferenceIdeal m →
    θ_run (Cert.LatentsReferenceIdeal.defs (F := Ideal)) (onTc (τ := Cert.LatentsReferenceIdeal.τ) (Cert.LatentsReferenceIdeal.main (F := Ideal))) ⟨m, fun _ => 0, g⟩ (fun r => (∀ c : Dev Cert.LatentsReferenceIdeal.nD,
      r.2.mem ((c.tc : Thread Cert.LatentsReferenceIdeal.nD Cert.LatentsReferenceIdeal.τ).loc Cert.LatentsReferenceIdeal.main_arg0) = m ((c.tc : Thread Cert.LatentsReferenceIdeal.nD Cert.LatentsReferenceIdeal.τ).loc Cert.LatentsReferenceIdeal.main_arg0)
      ∧ r.2.mem ((c.tc : Thread Cert.LatentsReferenceIdeal.nD Cert.LatentsReferenceIdeal.τ).loc Cert.LatentsReferenceIdeal.main_arg1) = m ((c.tc : Thread Cert.LatentsReferenceIdeal.nD Cert.LatentsReferenceIdeal.τ).loc Cert.LatentsReferenceIdeal.main_arg1)
      ∧ r.2.mem ((c.tc : Thread Cert.LatentsReferenceIdeal.nD Cert.LatentsReferenceIdeal.τ).loc Cert.LatentsReferenceIdeal.main_arg2) = m ((c.tc : Thread Cert.LatentsReferenceIdeal.nD Cert.LatentsReferenceIdeal.τ).loc Cert.LatentsReferenceIdeal.main_arg2)
      ∧ r.2.mem ((c.tc : Thread Cert.LatentsReferenceIdeal.nD Cert.LatentsReferenceIdeal.τ).loc Cert.LatentsReferenceIdeal.main_arg3) = m ((c.tc : Thread Cert.LatentsReferenceIdeal.nD Cert.LatentsReferenceIdeal.τ).loc Cert.LatentsReferenceIdeal.main_arg3)
      ∧ r.2.mem ((c.tc : Thread Cert.LatentsReferenceIdeal.nD Cert.LatentsReferenceIdeal.τ).loc Cert.LatentsReferenceIdeal.main_arg4) = m ((c.tc : Thread Cert.LatentsReferenceIdeal.nD Cert.LatentsReferenceIdeal.τ).loc Cert.LatentsReferenceIdeal.main_arg4)
      ∧ r.2.mem ((c.tc : Thread Cert.LatentsReferenceIdeal.nD Cert.LatentsReferenceIdeal.τ).loc Cert.LatentsReferenceIdeal.main_arg5) = m ((c.tc : Thread Cert.LatentsReferenceIdeal.nD Cert.LatentsReferenceIdeal.τ).loc Cert.LatentsReferenceIdeal.main_arg5)
      ∧ r.2.mem ((c.tc : Thread Cert.LatentsReferenceIdeal.nD Cert.LatentsReferenceIdeal.τ).loc Cert.LatentsReferenceIdeal.main_arg6) = m ((c.tc : Thread Cert.LatentsReferenceIdeal.nD Cert.LatentsReferenceIdeal.τ).loc Cert.LatentsReferenceIdeal.main_arg6)
      ∧ r.2.mem ((c.tc : Thread Cert.LatentsReferenceIdeal.nD Cert.LatentsReferenceIdeal.τ).loc Cert.LatentsReferenceIdeal.main_arg7) = m ((c.tc : Thread Cert.LatentsReferenceIdeal.nD Cert.LatentsReferenceIdeal.τ).loc Cert.LatentsReferenceIdeal.main_arg7)
      ∧ r.2.mem ((c.tc : Thread Cert.LatentsReferenceIdeal.nD Cert.LatentsReferenceIdeal.τ).loc Cert.LatentsReferenceIdeal.main_arg8) = m ((c.tc : Thread Cert.LatentsReferenceIdeal.nD Cert.LatentsReferenceIdeal.τ).loc Cert.LatentsReferenceIdeal.main_arg8)
      ∧ r.2.mem ((c.tc : Thread Cert.LatentsReferenceIdeal.nD Cert.LatentsReferenceIdeal.τ).loc Cert.LatentsReferenceIdeal.main_arg9) = m ((c.tc : Thread Cert.LatentsReferenceIdeal.nD Cert.LatentsReferenceIdeal.τ).loc Cert.LatentsReferenceIdeal.main_arg9))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Activation [hActivation : Cert.Activation.Facts] : Prop :=
  ∀ (m : (ℓ : Loc Cert.Activation.nD Cert.Activation.τ Cert.Activation.sig) → Buf (Elt Bits) ℓ) (g : Dev Cert.Activation.nD → PrngReg), Pre_Activation m →
    θ_run (Cert.Activation.defs (F := Bits)) (onTc (τ := Cert.Activation.τ) (Cert.Activation.main (F := Bits))) ⟨m, fun _ => 0, g⟩ (fun r => (∀ c : Dev Cert.Activation.nD,
      r.2.mem ((c.tc : Thread Cert.Activation.nD Cert.Activation.τ).loc Cert.Activation.main_arg0) = m ((c.tc : Thread Cert.Activation.nD Cert.Activation.τ).loc Cert.Activation.main_arg0)
      ∧ r.2.mem ((c.tc : Thread Cert.Activation.nD Cert.Activation.τ).loc Cert.Activation.main_arg1) = m ((c.tc : Thread Cert.Activation.nD Cert.Activation.τ).loc Cert.Activation.main_arg1)
      ∧ r.2.mem ((c.tc : Thread Cert.Activation.nD Cert.Activation.τ).loc Cert.Activation.main_arg2) = m ((c.tc : Thread Cert.Activation.nD Cert.Activation.τ).loc Cert.Activation.main_arg2))
      ∧ r.2.sem = fun _ => 0)

def quiescent_ActivationIdeal [hActivationIdeal : Cert.ActivationIdeal.Facts] : Prop :=
  ∀ (m : (ℓ : Loc Cert.ActivationIdeal.nD Cert.ActivationIdeal.τ Cert.ActivationIdeal.sig) → Buf (Elt Ideal) ℓ) (g : Dev Cert.ActivationIdeal.nD → PrngReg), Pre_ActivationIdeal m →
    θ_run (Cert.ActivationIdeal.defs (F := Ideal)) (onTc (τ := Cert.ActivationIdeal.τ) (Cert.ActivationIdeal.main (F := Ideal))) ⟨m, fun _ => 0, g⟩ (fun r => (∀ c : Dev Cert.ActivationIdeal.nD,
      r.2.mem ((c.tc : Thread Cert.ActivationIdeal.nD Cert.ActivationIdeal.τ).loc Cert.ActivationIdeal.main_arg0) = m ((c.tc : Thread Cert.ActivationIdeal.nD Cert.ActivationIdeal.τ).loc Cert.ActivationIdeal.main_arg0)
      ∧ r.2.mem ((c.tc : Thread Cert.ActivationIdeal.nD Cert.ActivationIdeal.τ).loc Cert.ActivationIdeal.main_arg1) = m ((c.tc : Thread Cert.ActivationIdeal.nD Cert.ActivationIdeal.τ).loc Cert.ActivationIdeal.main_arg1)
      ∧ r.2.mem ((c.tc : Thread Cert.ActivationIdeal.nD Cert.ActivationIdeal.τ).loc Cert.ActivationIdeal.main_arg2) = m ((c.tc : Thread Cert.ActivationIdeal.nD Cert.ActivationIdeal.τ).loc Cert.ActivationIdeal.main_arg2))
      ∧ r.2.sem = fun _ => 0)

def quiescent_ActivationReferenceIdeal [hActivationReferenceIdeal : Cert.ActivationReferenceIdeal.Facts] : Prop :=
  ∀ (m : (ℓ : Loc Cert.ActivationReferenceIdeal.nD Cert.ActivationReferenceIdeal.τ Cert.ActivationReferenceIdeal.sig) → Buf (Elt Ideal) ℓ) (g : Dev Cert.ActivationReferenceIdeal.nD → PrngReg), Pre_ActivationReferenceIdeal m →
    θ_run (Cert.ActivationReferenceIdeal.defs (F := Ideal)) (onTc (τ := Cert.ActivationReferenceIdeal.τ) (Cert.ActivationReferenceIdeal.main (F := Ideal))) ⟨m, fun _ => 0, g⟩ (fun r => (∀ c : Dev Cert.ActivationReferenceIdeal.nD,
      r.2.mem ((c.tc : Thread Cert.ActivationReferenceIdeal.nD Cert.ActivationReferenceIdeal.τ).loc Cert.ActivationReferenceIdeal.main_arg0) = m ((c.tc : Thread Cert.ActivationReferenceIdeal.nD Cert.ActivationReferenceIdeal.τ).loc Cert.ActivationReferenceIdeal.main_arg0)
      ∧ r.2.mem ((c.tc : Thread Cert.ActivationReferenceIdeal.nD Cert.ActivationReferenceIdeal.τ).loc Cert.ActivationReferenceIdeal.main_arg1) = m ((c.tc : Thread Cert.ActivationReferenceIdeal.nD Cert.ActivationReferenceIdeal.τ).loc Cert.ActivationReferenceIdeal.main_arg1)
      ∧ r.2.mem ((c.tc : Thread Cert.ActivationReferenceIdeal.nD Cert.ActivationReferenceIdeal.τ).loc Cert.ActivationReferenceIdeal.main_arg2) = m ((c.tc : Thread Cert.ActivationReferenceIdeal.nD Cert.ActivationReferenceIdeal.τ).loc Cert.ActivationReferenceIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
      ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
      ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
      ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)
      ∧ m' ((c.tc : Thread Cert.PromptReferenceIdeal.nD Cert.PromptReferenceIdeal.τ).loc Cert.PromptReferenceIdeal.main_arg8) = m ((c.tc : Thread Cert.PromptIdeal.nD Cert.PromptIdeal.τ).loc Cert.PromptIdeal.main_arg8)
      ∧ m' ((c.tc : Thread Cert.PromptReferenceIdeal.nD Cert.PromptReferenceIdeal.τ).loc Cert.PromptReferenceIdeal.main_arg9) = m ((c.tc : Thread Cert.PromptIdeal.nD Cert.PromptIdeal.τ).loc Cert.PromptIdeal.main_arg9)) →
    ∃ (v0 : (c : Dev Cert.PromptIdeal.nD) → Buf (Elt Ideal) ((c.tc : Thread Cert.PromptIdeal.nD Cert.PromptIdeal.τ).loc Cert.PromptIdeal.main_v21_0)) (v1 : (c : Dev Cert.PromptIdeal.nD) → Buf (Elt Ideal) ((c.tc : Thread Cert.PromptIdeal.nD Cert.PromptIdeal.τ).loc Cert.PromptIdeal.main_v21_1)) (v2 : (c : Dev Cert.PromptIdeal.nD) → Buf (Elt Ideal) ((c.tc : Thread Cert.PromptIdeal.nD Cert.PromptIdeal.τ).loc Cert.PromptIdeal.main_v21_2)) (v3 : (c : Dev Cert.PromptIdeal.nD) → Buf (Elt Ideal) ((c.tc : Thread Cert.PromptIdeal.nD Cert.PromptIdeal.τ).loc Cert.PromptIdeal.main_v21_3)) (v4 : (c : Dev Cert.PromptIdeal.nD) → Buf (Elt Ideal) ((c.tc : Thread Cert.PromptIdeal.nD Cert.PromptIdeal.τ).loc Cert.PromptIdeal.main_v21_4)) (v5 : (c : Dev Cert.PromptIdeal.nD) → Buf (Elt Ideal) ((c.tc : Thread Cert.PromptIdeal.nD Cert.PromptIdeal.τ).loc Cert.PromptIdeal.main_v21_5)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v21_0) = v0 c
          ∧ r.2.mem ((c.tc : Thread Cert.PromptIdeal.nD Cert.PromptIdeal.τ).loc Cert.PromptIdeal.main_v21_1) = v1 c
          ∧ r.2.mem ((c.tc : Thread Cert.PromptIdeal.nD Cert.PromptIdeal.τ).loc Cert.PromptIdeal.main_v21_2) = v2 c
          ∧ r.2.mem ((c.tc : Thread Cert.PromptIdeal.nD Cert.PromptIdeal.τ).loc Cert.PromptIdeal.main_v21_3) = v3 c
          ∧ r.2.mem ((c.tc : Thread Cert.PromptIdeal.nD Cert.PromptIdeal.τ).loc Cert.PromptIdeal.main_v21_4) = v4 c
          ∧ r.2.mem ((c.tc : Thread Cert.PromptIdeal.nD Cert.PromptIdeal.τ).loc Cert.PromptIdeal.main_v21_5) = v5 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v94) = v0 c
          ∧ r.2.mem ((c.tc : Thread Cert.PromptReferenceIdeal.nD Cert.PromptReferenceIdeal.τ).loc Cert.PromptReferenceIdeal.main_v95) = v1 c
          ∧ r.2.mem ((c.tc : Thread Cert.PromptReferenceIdeal.nD Cert.PromptReferenceIdeal.τ).loc Cert.PromptReferenceIdeal.main_v98) = v2 c
          ∧ r.2.mem ((c.tc : Thread Cert.PromptReferenceIdeal.nD Cert.PromptReferenceIdeal.τ).loc Cert.PromptReferenceIdeal.main_v101) = v3 c
          ∧ r.2.mem ((c.tc : Thread Cert.PromptReferenceIdeal.nD Cert.PromptReferenceIdeal.τ).loc Cert.PromptReferenceIdeal.main_v103) = v4 c
          ∧ r.2.mem ((c.tc : Thread Cert.PromptReferenceIdeal.nD Cert.PromptReferenceIdeal.τ).loc Cert.PromptReferenceIdeal.main_v104) = v5 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7)
          ∧ r.2.mem ((c.tc : Thread Cert.PromptReferenceIdeal.nD Cert.PromptReferenceIdeal.τ).loc Cert.PromptReferenceIdeal.main_arg8) = m' ((c.tc : Thread Cert.PromptReferenceIdeal.nD Cert.PromptReferenceIdeal.τ).loc Cert.PromptReferenceIdeal.main_arg8)
          ∧ r.2.mem ((c.tc : Thread Cert.PromptReferenceIdeal.nD Cert.PromptReferenceIdeal.τ).loc Cert.PromptReferenceIdeal.main_arg9) = m' ((c.tc : Thread Cert.PromptReferenceIdeal.nD Cert.PromptReferenceIdeal.τ).loc Cert.PromptReferenceIdeal.main_arg9))

def preserves_Retention_RetentionIdeal : Prop :=
  True

def algebraic_RetentionIdeal_RetentionReferenceIdeal [hRetentionIdeal : Cert.RetentionIdeal.Facts] [hRetentionReferenceIdeal : Cert.RetentionReferenceIdeal.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionReferenceIdeal.nD Cert.RetentionReferenceIdeal.τ Cert.RetentionReferenceIdeal.sig) → Buf (Elt Ideal) ℓ) (g' : Dev Cert.RetentionReferenceIdeal.nD → PrngReg), Pre_RetentionIdeal m →
    (∀ c : Dev Cert.RetentionIdeal.nD,
      m' ((c.tc : Thread Cert.RetentionReferenceIdeal.nD Cert.RetentionReferenceIdeal.τ).loc Cert.RetentionReferenceIdeal.main_arg0) = m ((c.tc : Thread Cert.RetentionIdeal.nD Cert.RetentionIdeal.τ).loc Cert.RetentionIdeal.main_arg0)
      ∧ m' ((c.tc : Thread Cert.RetentionReferenceIdeal.nD Cert.RetentionReferenceIdeal.τ).loc Cert.RetentionReferenceIdeal.main_arg1) = m ((c.tc : Thread Cert.RetentionIdeal.nD Cert.RetentionIdeal.τ).loc Cert.RetentionIdeal.main_arg1)) →
    ∃ (v0 : (c : Dev Cert.RetentionIdeal.nD) → Buf (Elt Ideal) ((c.tc : Thread Cert.RetentionIdeal.nD Cert.RetentionIdeal.τ).loc Cert.RetentionIdeal.main_v0_0)) (v1 : (c : Dev Cert.RetentionIdeal.nD) → Buf (Elt Ideal) ((c.tc : Thread Cert.RetentionIdeal.nD Cert.RetentionIdeal.τ).loc Cert.RetentionIdeal.main_v0_1)) (v2 : (c : Dev Cert.RetentionIdeal.nD) → Buf (Elt Ideal) ((c.tc : Thread Cert.RetentionIdeal.nD Cert.RetentionIdeal.τ).loc Cert.RetentionIdeal.main_v0_2)) (v3 : (c : Dev Cert.RetentionIdeal.nD) → Buf (Elt Ideal) ((c.tc : Thread Cert.RetentionIdeal.nD Cert.RetentionIdeal.τ).loc Cert.RetentionIdeal.main_v0_3)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v0_0) = v0 c
          ∧ r.2.mem ((c.tc : Thread Cert.RetentionIdeal.nD Cert.RetentionIdeal.τ).loc Cert.RetentionIdeal.main_v0_1) = v1 c
          ∧ r.2.mem ((c.tc : Thread Cert.RetentionIdeal.nD Cert.RetentionIdeal.τ).loc Cert.RetentionIdeal.main_v0_2) = v2 c
          ∧ r.2.mem ((c.tc : Thread Cert.RetentionIdeal.nD Cert.RetentionIdeal.τ).loc Cert.RetentionIdeal.main_v0_3) = v3 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1))
      ∧ θ_run (Cert.RetentionReferenceIdeal.defs (F := Ideal)) (onTc (τ := Cert.RetentionReferenceIdeal.τ) (Cert.RetentionReferenceIdeal.main (F := Ideal))) ⟨m', fun _ => 0, g'⟩ (fun r => ∀ c : Dev Cert.RetentionReferenceIdeal.nD,
          r.2.mem ((c.tc : Thread Cert.RetentionReferenceIdeal.nD Cert.RetentionReferenceIdeal.τ).loc Cert.RetentionReferenceIdeal.main_v211) = v0 c
          ∧ r.2.mem ((c.tc : Thread Cert.RetentionReferenceIdeal.nD Cert.RetentionReferenceIdeal.τ).loc Cert.RetentionReferenceIdeal.main_v213) = v1 c
          ∧ r.2.mem ((c.tc : Thread Cert.RetentionReferenceIdeal.nD Cert.RetentionReferenceIdeal.τ).loc Cert.RetentionReferenceIdeal.main_v103) = v2 c
          ∧ r.2.mem ((c.tc : Thread Cert.RetentionReferenceIdeal.nD Cert.RetentionReferenceIdeal.τ).loc Cert.RetentionReferenceIdeal.main_v205) = v3 c
          ∧ r.2.mem ((c.tc : Thread Cert.RetentionReferenceIdeal.nD Cert.RetentionReferenceIdeal.τ).loc Cert.RetentionReferenceIdeal.main_arg0) = m' ((c.tc : Thread Cert.RetentionReferenceIdeal.nD Cert.RetentionReferenceIdeal.τ).loc Cert.RetentionReferenceIdeal.main_arg0)
          ∧ r.2.mem ((c.tc : Thread Cert.RetentionReferenceIdeal.nD Cert.RetentionReferenceIdeal.τ).loc Cert.RetentionReferenceIdeal.main_arg1) = m' ((c.tc : Thread Cert.RetentionReferenceIdeal.nD Cert.RetentionReferenceIdeal.τ).loc Cert.RetentionReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v61) = v0 c
          ∧ r.2.mem ((c.tc : Thread Cert.MixReferenceIdeal.nD Cert.MixReferenceIdeal.τ).loc Cert.MixReferenceIdeal.main_v62) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)) →
    ∃ (v0 : (c : Dev Cert.ResidualIdeal.nD) → Buf (Elt Ideal) ((c.tc : Thread Cert.ResidualIdeal.nD Cert.ResidualIdeal.τ).loc Cert.ResidualIdeal.main_v2)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v2) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v10) = v0 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v1) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v14) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3))

def preserves_Latents_LatentsIdeal : Prop :=
  True

def algebraic_LatentsIdeal_LatentsReferenceIdeal [hLatentsIdeal : Cert.LatentsIdeal.Facts] [hLatentsReferenceIdeal : Cert.LatentsReferenceIdeal.Facts] : Prop :=
  ∀ (m : (ℓ : Loc Cert.LatentsIdeal.nD Cert.LatentsIdeal.τ Cert.LatentsIdeal.sig) → Buf (Elt Ideal) ℓ) (g : Dev Cert.LatentsIdeal.nD → PrngReg)
    (m' : (ℓ : Loc Cert.LatentsReferenceIdeal.nD Cert.LatentsReferenceIdeal.τ Cert.LatentsReferenceIdeal.sig) → Buf (Elt Ideal) ℓ) (g' : Dev Cert.LatentsReferenceIdeal.nD → PrngReg), Pre_LatentsIdeal m →
    (∀ c : Dev Cert.LatentsIdeal.nD,
      m' ((c.tc : Thread Cert.LatentsReferenceIdeal.nD Cert.LatentsReferenceIdeal.τ).loc Cert.LatentsReferenceIdeal.main_arg0) = m ((c.tc : Thread Cert.LatentsIdeal.nD Cert.LatentsIdeal.τ).loc Cert.LatentsIdeal.main_arg0)
      ∧ m' ((c.tc : Thread Cert.LatentsReferenceIdeal.nD Cert.LatentsReferenceIdeal.τ).loc Cert.LatentsReferenceIdeal.main_arg1) = m ((c.tc : Thread Cert.LatentsIdeal.nD Cert.LatentsIdeal.τ).loc Cert.LatentsIdeal.main_arg1)
      ∧ m' ((c.tc : Thread Cert.LatentsReferenceIdeal.nD Cert.LatentsReferenceIdeal.τ).loc Cert.LatentsReferenceIdeal.main_arg2) = m ((c.tc : Thread Cert.LatentsIdeal.nD Cert.LatentsIdeal.τ).loc Cert.LatentsIdeal.main_arg2)
      ∧ m' ((c.tc : Thread Cert.LatentsReferenceIdeal.nD Cert.LatentsReferenceIdeal.τ).loc Cert.LatentsReferenceIdeal.main_arg3) = m ((c.tc : Thread Cert.LatentsIdeal.nD Cert.LatentsIdeal.τ).loc Cert.LatentsIdeal.main_arg3)
      ∧ m' ((c.tc : Thread Cert.LatentsReferenceIdeal.nD Cert.LatentsReferenceIdeal.τ).loc Cert.LatentsReferenceIdeal.main_arg4) = m ((c.tc : Thread Cert.LatentsIdeal.nD Cert.LatentsIdeal.τ).loc Cert.LatentsIdeal.main_arg4)
      ∧ m' ((c.tc : Thread Cert.LatentsReferenceIdeal.nD Cert.LatentsReferenceIdeal.τ).loc Cert.LatentsReferenceIdeal.main_arg5) = m ((c.tc : Thread Cert.LatentsIdeal.nD Cert.LatentsIdeal.τ).loc Cert.LatentsIdeal.main_arg5)
      ∧ m' ((c.tc : Thread Cert.LatentsReferenceIdeal.nD Cert.LatentsReferenceIdeal.τ).loc Cert.LatentsReferenceIdeal.main_arg6) = m ((c.tc : Thread Cert.LatentsIdeal.nD Cert.LatentsIdeal.τ).loc Cert.LatentsIdeal.main_arg6)
      ∧ m' ((c.tc : Thread Cert.LatentsReferenceIdeal.nD Cert.LatentsReferenceIdeal.τ).loc Cert.LatentsReferenceIdeal.main_arg7) = m ((c.tc : Thread Cert.LatentsIdeal.nD Cert.LatentsIdeal.τ).loc Cert.LatentsIdeal.main_arg7)
      ∧ m' ((c.tc : Thread Cert.LatentsReferenceIdeal.nD Cert.LatentsReferenceIdeal.τ).loc Cert.LatentsReferenceIdeal.main_arg8) = m ((c.tc : Thread Cert.LatentsIdeal.nD Cert.LatentsIdeal.τ).loc Cert.LatentsIdeal.main_arg8)
      ∧ m' ((c.tc : Thread Cert.LatentsReferenceIdeal.nD Cert.LatentsReferenceIdeal.τ).loc Cert.LatentsReferenceIdeal.main_arg9) = m ((c.tc : Thread Cert.LatentsIdeal.nD Cert.LatentsIdeal.τ).loc Cert.LatentsIdeal.main_arg9)) →
    ∃ (v0 : (c : Dev Cert.LatentsIdeal.nD) → Buf (Elt Ideal) ((c.tc : Thread Cert.LatentsIdeal.nD Cert.LatentsIdeal.τ).loc Cert.LatentsIdeal.main_v55_0)) (v1 : (c : Dev Cert.LatentsIdeal.nD) → Buf (Elt Ideal) ((c.tc : Thread Cert.LatentsIdeal.nD Cert.LatentsIdeal.τ).loc Cert.LatentsIdeal.main_v55_1)) (v2 : (c : Dev Cert.LatentsIdeal.nD) → Buf (Elt Ideal) ((c.tc : Thread Cert.LatentsIdeal.nD Cert.LatentsIdeal.τ).loc Cert.LatentsIdeal.main_v55_2)) (v3 : (c : Dev Cert.LatentsIdeal.nD) → Buf (Elt Ideal) ((c.tc : Thread Cert.LatentsIdeal.nD Cert.LatentsIdeal.τ).loc Cert.LatentsIdeal.main_v55_3)) (v4 : (c : Dev Cert.LatentsIdeal.nD) → Buf (Elt Ideal) ((c.tc : Thread Cert.LatentsIdeal.nD Cert.LatentsIdeal.τ).loc Cert.LatentsIdeal.main_v55_4)) (v5 : (c : Dev Cert.LatentsIdeal.nD) → Buf (Elt Ideal) ((c.tc : Thread Cert.LatentsIdeal.nD Cert.LatentsIdeal.τ).loc Cert.LatentsIdeal.main_v55_5)),
      θ_run (Cert.LatentsIdeal.defs (F := Ideal)) (onTc (τ := Cert.LatentsIdeal.τ) (Cert.LatentsIdeal.main (F := Ideal))) ⟨m, fun _ => 0, g⟩ (fun r => ∀ c : Dev Cert.LatentsIdeal.nD,
          r.2.mem ((c.tc : Thread Cert.LatentsIdeal.nD Cert.LatentsIdeal.τ).loc Cert.LatentsIdeal.main_v55_0) = v0 c
          ∧ r.2.mem ((c.tc : Thread Cert.LatentsIdeal.nD Cert.LatentsIdeal.τ).loc Cert.LatentsIdeal.main_v55_1) = v1 c
          ∧ r.2.mem ((c.tc : Thread Cert.LatentsIdeal.nD Cert.LatentsIdeal.τ).loc Cert.LatentsIdeal.main_v55_2) = v2 c
          ∧ r.2.mem ((c.tc : Thread Cert.LatentsIdeal.nD Cert.LatentsIdeal.τ).loc Cert.LatentsIdeal.main_v55_3) = v3 c
          ∧ r.2.mem ((c.tc : Thread Cert.LatentsIdeal.nD Cert.LatentsIdeal.τ).loc Cert.LatentsIdeal.main_v55_4) = v4 c
          ∧ r.2.mem ((c.tc : Thread Cert.LatentsIdeal.nD Cert.LatentsIdeal.τ).loc Cert.LatentsIdeal.main_v55_5) = v5 c
          ∧ r.2.mem ((c.tc : Thread Cert.LatentsIdeal.nD Cert.LatentsIdeal.τ).loc Cert.LatentsIdeal.main_arg0) = m ((c.tc : Thread Cert.LatentsIdeal.nD Cert.LatentsIdeal.τ).loc Cert.LatentsIdeal.main_arg0)
          ∧ r.2.mem ((c.tc : Thread Cert.LatentsIdeal.nD Cert.LatentsIdeal.τ).loc Cert.LatentsIdeal.main_arg1) = m ((c.tc : Thread Cert.LatentsIdeal.nD Cert.LatentsIdeal.τ).loc Cert.LatentsIdeal.main_arg1)
          ∧ r.2.mem ((c.tc : Thread Cert.LatentsIdeal.nD Cert.LatentsIdeal.τ).loc Cert.LatentsIdeal.main_arg2) = m ((c.tc : Thread Cert.LatentsIdeal.nD Cert.LatentsIdeal.τ).loc Cert.LatentsIdeal.main_arg2)
          ∧ r.2.mem ((c.tc : Thread Cert.LatentsIdeal.nD Cert.LatentsIdeal.τ).loc Cert.LatentsIdeal.main_arg3) = m ((c.tc : Thread Cert.LatentsIdeal.nD Cert.LatentsIdeal.τ).loc Cert.LatentsIdeal.main_arg3)
          ∧ r.2.mem ((c.tc : Thread Cert.LatentsIdeal.nD Cert.LatentsIdeal.τ).loc Cert.LatentsIdeal.main_arg4) = m ((c.tc : Thread Cert.LatentsIdeal.nD Cert.LatentsIdeal.τ).loc Cert.LatentsIdeal.main_arg4)
          ∧ r.2.mem ((c.tc : Thread Cert.LatentsIdeal.nD Cert.LatentsIdeal.τ).loc Cert.LatentsIdeal.main_arg5) = m ((c.tc : Thread Cert.LatentsIdeal.nD Cert.LatentsIdeal.τ).loc Cert.LatentsIdeal.main_arg5)
          ∧ r.2.mem ((c.tc : Thread Cert.LatentsIdeal.nD Cert.LatentsIdeal.τ).loc Cert.LatentsIdeal.main_arg6) = m ((c.tc : Thread Cert.LatentsIdeal.nD Cert.LatentsIdeal.τ).loc Cert.LatentsIdeal.main_arg6)
          ∧ r.2.mem ((c.tc : Thread Cert.LatentsIdeal.nD Cert.LatentsIdeal.τ).loc Cert.LatentsIdeal.main_arg7) = m ((c.tc : Thread Cert.LatentsIdeal.nD Cert.LatentsIdeal.τ).loc Cert.LatentsIdeal.main_arg7)
          ∧ r.2.mem ((c.tc : Thread Cert.LatentsIdeal.nD Cert.LatentsIdeal.τ).loc Cert.LatentsIdeal.main_arg8) = m ((c.tc : Thread Cert.LatentsIdeal.nD Cert.LatentsIdeal.τ).loc Cert.LatentsIdeal.main_arg8)
          ∧ r.2.mem ((c.tc : Thread Cert.LatentsIdeal.nD Cert.LatentsIdeal.τ).loc Cert.LatentsIdeal.main_arg9) = m ((c.tc : Thread Cert.LatentsIdeal.nD Cert.LatentsIdeal.τ).loc Cert.LatentsIdeal.main_arg9))
      ∧ θ_run (Cert.LatentsReferenceIdeal.defs (F := Ideal)) (onTc (τ := Cert.LatentsReferenceIdeal.τ) (Cert.LatentsReferenceIdeal.main (F := Ideal))) ⟨m', fun _ => 0, g'⟩ (fun r => ∀ c : Dev Cert.LatentsReferenceIdeal.nD,
          r.2.mem ((c.tc : Thread Cert.LatentsReferenceIdeal.nD Cert.LatentsReferenceIdeal.τ).loc Cert.LatentsReferenceIdeal.main_v193) = v0 c
          ∧ r.2.mem ((c.tc : Thread Cert.LatentsReferenceIdeal.nD Cert.LatentsReferenceIdeal.τ).loc Cert.LatentsReferenceIdeal.main_v194) = v1 c
          ∧ r.2.mem ((c.tc : Thread Cert.LatentsReferenceIdeal.nD Cert.LatentsReferenceIdeal.τ).loc Cert.LatentsReferenceIdeal.main_v197) = v2 c
          ∧ r.2.mem ((c.tc : Thread Cert.LatentsReferenceIdeal.nD Cert.LatentsReferenceIdeal.τ).loc Cert.LatentsReferenceIdeal.main_v200) = v3 c
          ∧ r.2.mem ((c.tc : Thread Cert.LatentsReferenceIdeal.nD Cert.LatentsReferenceIdeal.τ).loc Cert.LatentsReferenceIdeal.main_v202) = v4 c
          ∧ r.2.mem ((c.tc : Thread Cert.LatentsReferenceIdeal.nD Cert.LatentsReferenceIdeal.τ).loc Cert.LatentsReferenceIdeal.main_v203) = v5 c
          ∧ r.2.mem ((c.tc : Thread Cert.LatentsReferenceIdeal.nD Cert.LatentsReferenceIdeal.τ).loc Cert.LatentsReferenceIdeal.main_arg0) = m' ((c.tc : Thread Cert.LatentsReferenceIdeal.nD Cert.LatentsReferenceIdeal.τ).loc Cert.LatentsReferenceIdeal.main_arg0)
          ∧ r.2.mem ((c.tc : Thread Cert.LatentsReferenceIdeal.nD Cert.LatentsReferenceIdeal.τ).loc Cert.LatentsReferenceIdeal.main_arg1) = m' ((c.tc : Thread Cert.LatentsReferenceIdeal.nD Cert.LatentsReferenceIdeal.τ).loc Cert.LatentsReferenceIdeal.main_arg1)
          ∧ r.2.mem ((c.tc : Thread Cert.LatentsReferenceIdeal.nD Cert.LatentsReferenceIdeal.τ).loc Cert.LatentsReferenceIdeal.main_arg2) = m' ((c.tc : Thread Cert.LatentsReferenceIdeal.nD Cert.LatentsReferenceIdeal.τ).loc Cert.LatentsReferenceIdeal.main_arg2)
          ∧ r.2.mem ((c.tc : Thread Cert.LatentsReferenceIdeal.nD Cert.LatentsReferenceIdeal.τ).loc Cert.LatentsReferenceIdeal.main_arg3) = m' ((c.tc : Thread Cert.LatentsReferenceIdeal.nD Cert.LatentsReferenceIdeal.τ).loc Cert.LatentsReferenceIdeal.main_arg3)
          ∧ r.2.mem ((c.tc : Thread Cert.LatentsReferenceIdeal.nD Cert.LatentsReferenceIdeal.τ).loc Cert.LatentsReferenceIdeal.main_arg4) = m' ((c.tc : Thread Cert.LatentsReferenceIdeal.nD Cert.LatentsReferenceIdeal.τ).loc Cert.LatentsReferenceIdeal.main_arg4)
          ∧ r.2.mem ((c.tc : Thread Cert.LatentsReferenceIdeal.nD Cert.LatentsReferenceIdeal.τ).loc Cert.LatentsReferenceIdeal.main_arg5) = m' ((c.tc : Thread Cert.LatentsReferenceIdeal.nD Cert.LatentsReferenceIdeal.τ).loc Cert.LatentsReferenceIdeal.main_arg5)
          ∧ r.2.mem ((c.tc : Thread Cert.LatentsReferenceIdeal.nD Cert.LatentsReferenceIdeal.τ).loc Cert.LatentsReferenceIdeal.main_arg6) = m' ((c.tc : Thread Cert.LatentsReferenceIdeal.nD Cert.LatentsReferenceIdeal.τ).loc Cert.LatentsReferenceIdeal.main_arg6)
          ∧ r.2.mem ((c.tc : Thread Cert.LatentsReferenceIdeal.nD Cert.LatentsReferenceIdeal.τ).loc Cert.LatentsReferenceIdeal.main_arg7) = m' ((c.tc : Thread Cert.LatentsReferenceIdeal.nD Cert.LatentsReferenceIdeal.τ).loc Cert.LatentsReferenceIdeal.main_arg7)
          ∧ r.2.mem ((c.tc : Thread Cert.LatentsReferenceIdeal.nD Cert.LatentsReferenceIdeal.τ).loc Cert.LatentsReferenceIdeal.main_arg8) = m' ((c.tc : Thread Cert.LatentsReferenceIdeal.nD Cert.LatentsReferenceIdeal.τ).loc Cert.LatentsReferenceIdeal.main_arg8)
          ∧ r.2.mem ((c.tc : Thread Cert.LatentsReferenceIdeal.nD Cert.LatentsReferenceIdeal.τ).loc Cert.LatentsReferenceIdeal.main_arg9) = m' ((c.tc : Thread Cert.LatentsReferenceIdeal.nD Cert.LatentsReferenceIdeal.τ).loc Cert.LatentsReferenceIdeal.main_arg9))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v4) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Activation_ActivationIdeal : Prop :=
  True

def algebraic_ActivationIdeal_ActivationReferenceIdeal [hActivationIdeal : Cert.ActivationIdeal.Facts] [hActivationReferenceIdeal : Cert.ActivationReferenceIdeal.Facts] : Prop :=
  ∀ (m : (ℓ : Loc Cert.ActivationIdeal.nD Cert.ActivationIdeal.τ Cert.ActivationIdeal.sig) → Buf (Elt Ideal) ℓ) (g : Dev Cert.ActivationIdeal.nD → PrngReg)
    (m' : (ℓ : Loc Cert.ActivationReferenceIdeal.nD Cert.ActivationReferenceIdeal.τ Cert.ActivationReferenceIdeal.sig) → Buf (Elt Ideal) ℓ) (g' : Dev Cert.ActivationReferenceIdeal.nD → PrngReg), Pre_ActivationIdeal m →
    (∀ c : Dev Cert.ActivationIdeal.nD,
      m' ((c.tc : Thread Cert.ActivationReferenceIdeal.nD Cert.ActivationReferenceIdeal.τ).loc Cert.ActivationReferenceIdeal.main_arg0) = m ((c.tc : Thread Cert.ActivationIdeal.nD Cert.ActivationIdeal.τ).loc Cert.ActivationIdeal.main_arg0)
      ∧ m' ((c.tc : Thread Cert.ActivationReferenceIdeal.nD Cert.ActivationReferenceIdeal.τ).loc Cert.ActivationReferenceIdeal.main_arg1) = m ((c.tc : Thread Cert.ActivationIdeal.nD Cert.ActivationIdeal.τ).loc Cert.ActivationIdeal.main_arg1)
      ∧ m' ((c.tc : Thread Cert.ActivationReferenceIdeal.nD Cert.ActivationReferenceIdeal.τ).loc Cert.ActivationReferenceIdeal.main_arg2) = m ((c.tc : Thread Cert.ActivationIdeal.nD Cert.ActivationIdeal.τ).loc Cert.ActivationIdeal.main_arg2)) →
    ∃ (v0 : (c : Dev Cert.ActivationIdeal.nD) → Buf (Elt Ideal) ((c.tc : Thread Cert.ActivationIdeal.nD Cert.ActivationIdeal.τ).loc Cert.ActivationIdeal.main_v0)),
      θ_run (Cert.ActivationIdeal.defs (F := Ideal)) (onTc (τ := Cert.ActivationIdeal.τ) (Cert.ActivationIdeal.main (F := Ideal))) ⟨m, fun _ => 0, g⟩ (fun r => ∀ c : Dev Cert.ActivationIdeal.nD,
          r.2.mem ((c.tc : Thread Cert.ActivationIdeal.nD Cert.ActivationIdeal.τ).loc Cert.ActivationIdeal.main_v0) = v0 c
          ∧ r.2.mem ((c.tc : Thread Cert.ActivationIdeal.nD Cert.ActivationIdeal.τ).loc Cert.ActivationIdeal.main_arg0) = m ((c.tc : Thread Cert.ActivationIdeal.nD Cert.ActivationIdeal.τ).loc Cert.ActivationIdeal.main_arg0)
          ∧ r.2.mem ((c.tc : Thread Cert.ActivationIdeal.nD Cert.ActivationIdeal.τ).loc Cert.ActivationIdeal.main_arg1) = m ((c.tc : Thread Cert.ActivationIdeal.nD Cert.ActivationIdeal.τ).loc Cert.ActivationIdeal.main_arg1)
          ∧ r.2.mem ((c.tc : Thread Cert.ActivationIdeal.nD Cert.ActivationIdeal.τ).loc Cert.ActivationIdeal.main_arg2) = m ((c.tc : Thread Cert.ActivationIdeal.nD Cert.ActivationIdeal.τ).loc Cert.ActivationIdeal.main_arg2))
      ∧ θ_run (Cert.ActivationReferenceIdeal.defs (F := Ideal)) (onTc (τ := Cert.ActivationReferenceIdeal.τ) (Cert.ActivationReferenceIdeal.main (F := Ideal))) ⟨m', fun _ => 0, g'⟩ (fun r => ∀ c : Dev Cert.ActivationReferenceIdeal.nD,
          r.2.mem ((c.tc : Thread Cert.ActivationReferenceIdeal.nD Cert.ActivationReferenceIdeal.τ).loc Cert.ActivationReferenceIdeal.main_v7) = v0 c
          ∧ r.2.mem ((c.tc : Thread Cert.ActivationReferenceIdeal.nD Cert.ActivationReferenceIdeal.τ).loc Cert.ActivationReferenceIdeal.main_arg0) = m' ((c.tc : Thread Cert.ActivationReferenceIdeal.nD Cert.ActivationReferenceIdeal.τ).loc Cert.ActivationReferenceIdeal.main_arg0)
          ∧ r.2.mem ((c.tc : Thread Cert.ActivationReferenceIdeal.nD Cert.ActivationReferenceIdeal.τ).loc Cert.ActivationReferenceIdeal.main_arg1) = m' ((c.tc : Thread Cert.ActivationReferenceIdeal.nD Cert.ActivationReferenceIdeal.τ).loc Cert.ActivationReferenceIdeal.main_arg1)
          ∧ r.2.mem ((c.tc : Thread Cert.ActivationReferenceIdeal.nD Cert.ActivationReferenceIdeal.τ).loc Cert.ActivationReferenceIdeal.main_arg2) = m' ((c.tc : Thread Cert.ActivationReferenceIdeal.nD Cert.ActivationReferenceIdeal.τ).loc Cert.ActivationReferenceIdeal.main_arg2))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptReferenceIdeal : Cert.PromptReferenceIdeal.Facts) (hRetention : Cert.Retention.Facts) (hRetentionIdeal : Cert.RetentionIdeal.Facts) (hRetentionReferenceIdeal : Cert.RetentionReferenceIdeal.Facts) (hMix : Cert.Mix.Facts) (hMixIdeal : Cert.MixIdeal.Facts) (hMixReferenceIdeal : Cert.MixReferenceIdeal.Facts) (hResidual : Cert.Residual.Facts) (hResidualIdeal : Cert.ResidualIdeal.Facts) (hResidualReferenceIdeal : Cert.ResidualReferenceIdeal.Facts) (hTail : Cert.Tail.Facts) (hTailIdeal : Cert.TailIdeal.Facts) (hTailReferenceIdeal : Cert.TailReferenceIdeal.Facts) (hLatents : Cert.Latents.Facts) (hLatentsIdeal : Cert.LatentsIdeal.Facts) (hLatentsReferenceIdeal : Cert.LatentsReferenceIdeal.Facts) (hModulation : Cert.Modulation.Facts) (hModulationIdeal : Cert.ModulationIdeal.Facts) (hModulationReferenceIdeal : Cert.ModulationReferenceIdeal.Facts) (hActivation : Cert.Activation.Facts) (hActivationIdeal : Cert.ActivationIdeal.Facts) (hActivationReferenceIdeal : Cert.ActivationReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Prompt (hPrompt := hPrompt)
    ∧ quiescent_PromptIdeal (hPromptIdeal := hPromptIdeal)
    ∧ quiescent_PromptReferenceIdeal (hPromptReferenceIdeal := hPromptReferenceIdeal)
    ∧ quiescent_Retention (hRetention := hRetention)
    ∧ quiescent_RetentionIdeal (hRetentionIdeal := hRetentionIdeal)
    ∧ quiescent_RetentionReferenceIdeal (hRetentionReferenceIdeal := hRetentionReferenceIdeal)
    ∧ quiescent_Mix (hMix := hMix)
    ∧ quiescent_MixIdeal (hMixIdeal := hMixIdeal)
    ∧ quiescent_MixReferenceIdeal (hMixReferenceIdeal := hMixReferenceIdeal)
    ∧ quiescent_Residual (hResidual := hResidual)
    ∧ quiescent_ResidualIdeal (hResidualIdeal := hResidualIdeal)
    ∧ quiescent_ResidualReferenceIdeal (hResidualReferenceIdeal := hResidualReferenceIdeal)
    ∧ quiescent_Tail (hTail := hTail)
    ∧ quiescent_TailIdeal (hTailIdeal := hTailIdeal)
    ∧ quiescent_TailReferenceIdeal (hTailReferenceIdeal := hTailReferenceIdeal)
    ∧ quiescent_Latents (hLatents := hLatents)
    ∧ quiescent_LatentsIdeal (hLatentsIdeal := hLatentsIdeal)
    ∧ quiescent_LatentsReferenceIdeal (hLatentsReferenceIdeal := hLatentsReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Activation (hActivation := hActivation)
    ∧ quiescent_ActivationIdeal (hActivationIdeal := hActivationIdeal)
    ∧ quiescent_ActivationReferenceIdeal (hActivationReferenceIdeal := hActivationReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Prompt_PromptIdeal
    ∧ algebraic_PromptIdeal_PromptReferenceIdeal (hPromptIdeal := hPromptIdeal) (hPromptReferenceIdeal := hPromptReferenceIdeal)
    ∧ preserves_Retention_RetentionIdeal
    ∧ algebraic_RetentionIdeal_RetentionReferenceIdeal (hRetentionIdeal := hRetentionIdeal) (hRetentionReferenceIdeal := hRetentionReferenceIdeal)
    ∧ preserves_Mix_MixIdeal
    ∧ algebraic_MixIdeal_MixReferenceIdeal (hMixIdeal := hMixIdeal) (hMixReferenceIdeal := hMixReferenceIdeal)
    ∧ preserves_Residual_ResidualIdeal
    ∧ algebraic_ResidualIdeal_ResidualReferenceIdeal (hResidualIdeal := hResidualIdeal) (hResidualReferenceIdeal := hResidualReferenceIdeal)
    ∧ preserves_Tail_TailIdeal
    ∧ algebraic_TailIdeal_TailReferenceIdeal (hTailIdeal := hTailIdeal) (hTailReferenceIdeal := hTailReferenceIdeal)
    ∧ preserves_Latents_LatentsIdeal
    ∧ algebraic_LatentsIdeal_LatentsReferenceIdeal (hLatentsIdeal := hLatentsIdeal) (hLatentsReferenceIdeal := hLatentsReferenceIdeal)
    ∧ preserves_Modulation_ModulationIdeal
    ∧ algebraic_ModulationIdeal_ModulationReferenceIdeal (hModulationIdeal := hModulationIdeal) (hModulationReferenceIdeal := hModulationReferenceIdeal)
    ∧ preserves_Activation_ActivationIdeal
    ∧ algebraic_ActivationIdeal_ActivationReferenceIdeal (hActivationIdeal := hActivationIdeal) (hActivationReferenceIdeal := hActivationReferenceIdeal)
-- ==== Pre_finite_scores.lean ====
abbrev S8x4096x4x192 : Shape := ⟨4, ![8, 4096, 4, 192]⟩
abbrev S8x4096x4x128 : Shape := ⟨4, ![8, 4096, 4, 128]⟩
abbrev S8x256x4x192 : Shape := ⟨4, ![8, 256, 4, 192]⟩
abbrev S8x256x4x128 : Shape := ⟨4, ![8, 256, 4, 128]⟩
abbrev S_ : Shape := ⟨0, ![]⟩

class Facts : Prop where
  bcast_S_S8x4096x4x192 : S_.BroadcastsInDim S8x4096x4x192 (![] : Fin 0 → Fin S8x4096x4x192.rank)
  reducesTo_S8x4096x4x192_S_d0_1_2_3 : S8x4096x4x192.ReducesTo [0, 1, 2, 3] S_
  h_S_ : 0 < S_.numel
  bcast_S_S8x256x4x192 : S_.BroadcastsInDim S8x256x4x192 (![] : Fin 0 → Fin S8x256x4x192.rank)
  reducesTo_S8x256x4x192_S_d0_1_2_3 : S8x256x4x192.ReducesTo [0, 1, 2, 3] S_

variable [Facts]

def fn_part1 {F : FTy → Type} [FloatOps F] (main_arg3 : FVec F S8x256x4x192 .f32) (main_v12 : IVec S_ 1) (main_v14 : IVec S8x256x4x192 1) (main_v15 : FVec F S8x256x4x192 .f32) : IVec S_ 1 :=
  let main_v16 : IVec S8x256x4x192 1 := cmpf .olt main_arg3 main_v15
  let main_v17 : IVec S8x256x4x192 1 := andi main_v14 main_v16
  let main_c_6 : IVec S_ 1 := constantI S_ 1 1#1
  let main_v18 : IVec S_ 1 := (fun x v => Host.reduce IntOp.andi x v reducesTo_S8x256x4x192_S_d0_1_2_3 h_S_) main_v17 main_c_6
  let main_v19 : IVec S_ 1 := andi main_v12 main_v18
  main_v19

def fn {F : FTy → Type} [FloatOps F] (main_arg0 : FVec F S8x4096x4x192 .f32) (main_arg1 : FVec F S8x4096x4x192 .f32) (main_arg2 : FVec F S8x4096x4x128 .f32) (main_arg3 : FVec F S8x256x4x192 .f32) (main_arg4 : FVec F S8x256x4x128 .f32) : IVec S_ 1 :=
  let main_cst : FVec F S_ .f32 := constant S_ .f32 0xFF800000#32
  let main_v0 : FVec F S8x4096x4x192 .f32 := broadcastInDim S8x4096x4x192 ![] bcast_S_S8x4096x4x192 main_cst
  let main_v1 : IVec S8x4096x4x192 1 := cmpf .ogt main_arg0 main_v0
  let main_cst_0 : FVec F S_ .f32 := constant S_ .f32 0x7F800000#32
  let main_v2 : FVec F S8x4096x4x192 .f32 := broadcastInDim S8x4096x4x192 ![] bcast_S_S8x4096x4x192 main_cst_0
  let main_v3 : IVec S8x4096x4x192 1 := cmpf .olt main_arg0 main_v2
  let main_v4 : IVec S8x4096x4x192 1 := andi main_v1 main_v3
  let main_c : IVec S_ 1 := constantI S_ 1 1#1
  let main_v5 : IVec S_ 1 := (fun x v => Host.reduce IntOp.andi x v reducesTo_S8x4096x4x192_S_d0_1_2_3 h_S_) main_v4 main_c
  let main_cst_1 : FVec F S_ .f32 := constant S_ .f32 0xFF800000#32
  let main_v6 : FVec F S8x4096x4x192 .f32 := broadcastInDim S8x4096x4x192 ![] bcast_S_S8x4096x4x192 main_cst_1
  let main_v7 : IVec S8x4096x4x192 1 := cmpf .ogt main_arg1 main_v6
  let main_cst_2 : FVec F S_ .f32 := constant S_ .f32 0x7F800000#32
  let main_v8 : FVec F S8x4096x4x192 .f32 := broadcastInDim S8x4096x4x192 ![] bcast_S_S8x4096x4x192 main_cst_2
  let main_v9 : IVec S8x4096x4x192 1 := cmpf .olt main_arg1 main_v8
  let main_v10 : IVec S8x4096x4x192 1 := andi main_v7 main_v9
  let main_c_3 : IVec S_ 1 := constantI S_ 1 1#1
  let main_v11 : IVec S_ 1 := (fun x v => Host.reduce IntOp.andi x v reducesTo_S8x4096x4x192_S_d0_1_2_3 h_S_) main_v10 main_c_3
  let main_v12 : IVec S_ 1 := andi main_v5 main_v11
  let main_cst_4 : FVec F S_ .f32 := constant S_ .f32 0xFF800000#32
  let main_v13 : FVec F S8x256x4x192 .f32 := broadcastInDim S8x256x4x192 ![] bcast_S_S8x256x4x192 main_cst_4
  let main_v14 : IVec S8x256x4x192 1 := cmpf .ogt main_arg3 main_v13
  let main_cst_5 : FVec F S_ .f32 := constant S_ .f32 0x7F800000#32
  let main_v15 : FVec F S8x256x4x192 .f32 := broadcastInDim S8x256x4x192 ![] bcast_S_S8x256x4x192 main_cst_5
  fn_part1 (F := F) main_arg3 main_v12 main_v14 main_v15
-- ==== Kernel.lean ====
abbrev S8x4096x4x192 : Shape := ⟨4, ![8, 4096, 4, 192]⟩
abbrev S8x4096x4x128 : Shape := ⟨4, ![8, 4096, 4, 128]⟩
abbrev S8x256x4x192 : Shape := ⟨4, ![8, 256, 4, 192]⟩
abbrev S8x256x4x128 : Shape := ⟨4, ![8, 256, 4, 128]⟩
abbrev S_ : Shape := ⟨0, ![]⟩
abbrev S8x4096x4x256 : Shape := ⟨4, ![8, 4096, 4, 256]⟩
abbrev S32768x1024 : Shape := ⟨2, ![32768, 1024]⟩
abbrev S32768x512 : Shape := ⟨2, ![32768, 512]⟩
abbrev S8x256x4x256 : Shape := ⟨4, ![8, 256, 4, 256]⟩
abbrev S2048x1024 : Shape := ⟨2, ![2048, 1024]⟩
abbrev S2048x512 : Shape := ⟨2, ![2048, 512]⟩
abbrev S256x256 : Shape := ⟨2, ![256, 256]⟩
abbrev S4096x256 : Shape := ⟨2, ![4096, 256]⟩
abbrev S4096x128 : Shape := ⟨2, ![4096, 128]⟩
abbrev S256x128 : Shape := ⟨2, ![256, 128]⟩
abbrev S2048x256 : Shape := ⟨2, ![2048, 256]⟩
abbrev S2048x128 : Shape := ⟨2, ![2048, 128]⟩
abbrev S256 : Shape := ⟨1, ![256]⟩
abbrev S256x1 : Shape := ⟨2, ![256, 1]⟩
abbrev S256x2048 : Shape := ⟨2, ![256, 2048]⟩

abbrev nBuf : Space → Nat
  | .hbm => 28
  | .vmem => 12
  | .smem => 0
  | _ => 0

abbrev bufTy : (tb : Table) → Fin (tcTables nBuf tb) → BufTy
  | .hbm, ⟨0, _⟩ => ⟨S8x4096x4x192, .f32⟩
  | .hbm, ⟨1, _⟩ => ⟨S8x4096x4x192, .f32⟩
  | .hbm, ⟨2, _⟩ => ⟨S8x4096x4x128, .f32⟩
  | .hbm, ⟨3, _⟩ => ⟨S8x256x4x192, .f32⟩
  | .hbm, ⟨4, _⟩ => ⟨S8x256x4x128, .f32⟩
  | .hbm, ⟨5, _⟩ => ⟨S_, .i32⟩
  | .hbm, ⟨6, _⟩ => ⟨S_, .f32⟩
  | .hbm, ⟨7, _⟩ => ⟨S8x4096x4x256, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .bf16⟩
  | .hbm, ⟨13, _⟩ => ⟨S_, .i32⟩
  | .hbm, ⟨14, _⟩ => ⟨S_, .f32⟩
  | .hbm, ⟨15, _⟩ => ⟨S8x4096x4x256, .f32⟩
  | .hbm, ⟨16, _⟩ => ⟨S32768x1024, .f32⟩
  | .hbm, ⟨17, _⟩ => ⟨S32768x1024, .bf16⟩
  | .hbm, ⟨18, _⟩ => ⟨S32768x512, .f32⟩
  | .hbm, ⟨19, _⟩ => ⟨S32768x512, .bf16⟩
  | .hbm, ⟨20, _⟩ => ⟨S_, .i32⟩
  | .hbm, ⟨21, _⟩ => ⟨S_, .f32⟩
  | .hbm, ⟨22, _⟩ => ⟨S8x256x4x256, .f32⟩
  | .hbm, ⟨23, _⟩ => ⟨S2048x1024, .f32⟩
  | .hbm, ⟨24, _⟩ => ⟨S2048x1024, .bf16⟩
  | .hbm, ⟨25, _⟩ => ⟨S2048x512, .f32⟩
  | .hbm, ⟨26, _⟩ => ⟨S2048x512, .bf16⟩
  | .hbm, ⟨27, _⟩ => ⟨S32768x512, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | _, _ => ⟨S8x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x4x192 : Shape := ⟨4, ![8, 4096, 4, 192]⟩
abbrev S8x4096x4x128 : Shape := ⟨4, ![8, 4096, 4, 128]⟩
abbrev S8x256x4x192 : Shape := ⟨4, ![8, 256, 4, 192]⟩
abbrev S8x256x4x128 : Shape := ⟨4, ![8, 256, 4, 128]⟩
abbrev S8x4352x4x192 : Shape := ⟨4, ![8, 4352, 4, 192]⟩
abbrev S8x4352x4x128 : Shape := ⟨4, ![8, 4352, 4, 128]⟩
abbrev S8x4x4096x4352 : Shape := ⟨4, ![8, 4, 4096, 4352]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S32768x512 : Shape := ⟨2, ![32768, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x4x192, .f32⟩
  | .hbm, ⟨1, _⟩ => ⟨S8x4096x4x192, .f32⟩
  | .hbm, ⟨2, _⟩ => ⟨S8x4096x4x128, .f32⟩
  | .hbm, ⟨3, _⟩ => ⟨S8x256x4x192, .f32⟩
  | .hbm, ⟨4, _⟩ => ⟨S8x256x4x128, .f32⟩
  | .hbm, ⟨5, _⟩ => ⟨S8x4352x4x192, .f32⟩
  | .hbm, ⟨6, _⟩ => ⟨S8x4352x4x128, .f32⟩
  | .hbm, ⟨7, _⟩ => ⟨S8x4x4096x4352, .f32⟩
  | .hbm, ⟨8, _⟩ => ⟨S_, .f32⟩
  | .hbm, ⟨9, _⟩ => ⟨S8x4x4096x4352, .f32⟩
  | .hbm, ⟨10, _⟩ => ⟨S8x4x4096x4352, .f32⟩
  | .hbm, ⟨11, _⟩ => ⟨S_, .f32⟩
  | .hbm, ⟨12, _⟩ => ⟨S8x4x4096, .f32⟩
  | .hbm, ⟨13, _⟩ => ⟨S_, .f32⟩
  | .hbm, ⟨14, _⟩ => ⟨S8x4x4096, .f32⟩
  | .hbm, ⟨15, _⟩ => ⟨S8x4x4096, .f32⟩
  | .hbm, ⟨16, _⟩ => ⟨S8x4x4096x1, .f32⟩
  | .hbm, ⟨17, _⟩ => ⟨S8x4x4096x4352, .f32⟩
  | .hbm, ⟨18, _⟩ => ⟨S8x4x4096x4352, .f32⟩
  | .hbm, ⟨19, _⟩ => ⟨S8x4x4096x4352, .f32⟩
  | .hbm, ⟨20, _⟩ => ⟨S_, .f32⟩
  | .hbm, ⟨21, _⟩ => ⟨S8x4x4096, .f32⟩
  | .hbm, ⟨22, _⟩ => ⟨S8x4x4096x1, .f32⟩
  | .hbm, ⟨23, _⟩ => ⟨S8x4x4096x4352, .f32⟩
  | .hbm, ⟨24, _⟩ => ⟨S8x4x4096x4352, .f32⟩
  | .hbm, ⟨25, _⟩ => ⟨S8x4x128x4096, .f32⟩
  | .hbm, ⟨26, _⟩ => ⟨S8x4096x4x128, .f32⟩
  | .hbm, ⟨27, _⟩ => ⟨S32768x512, .f32⟩
  | .hbm, ⟨28, _⟩ => ⟨S32768x512, .bf16⟩
  | _, _ => ⟨S8x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Prompt.lean ====
abbrev S16x256x1024 : Shape := ⟨3, ![16, 256, 1024]⟩
abbrev S6144 : Shape := ⟨1, ![6144]⟩
abbrev S1024 : Shape := ⟨1, ![1024]⟩
abbrev S1024x2880 : Shape := ⟨2, ![1024, 2880]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S192 : Shape := ⟨1, ![192]⟩
abbrev S1x6x1024 : Shape := ⟨3, ![1, 6, 1024]⟩
abbrev S16x6x1024 : Shape := ⟨3, ![16, 6, 1024]⟩
abbrev S1024x832 : Shape := ⟨2, ![1024, 832]⟩
abbrev S_ : Shape := ⟨0, ![]⟩
abbrev S1024x64 : Shape := ⟨2, ![1024, 64]⟩
abbrev S1024x2048 : Shape := ⟨2, ![1024, 2048]⟩
abbrev S1024x2944 : Shape := ⟨2, ![1024, 2944]⟩
abbrev S512x4x192 : Shape := ⟨3, ![512, 4, 192]⟩
abbrev S512x4x256 : Shape := ⟨3, ![512, 4, 256]⟩
abbrev S512x1024 : Shape := ⟨2, ![512, 1024]⟩
abbrev S1x1024 : Shape := ⟨2, ![1, 1024]⟩
abbrev S1x512 : Shape := ⟨2, ![1, 512]⟩
abbrev S1x256 : Shape := ⟨2, ![1, 256]⟩
abbrev S256x128 : Shape := ⟨2, ![256, 128]⟩
abbrev S4096x1024 : Shape := ⟨2, ![4096, 1024]⟩
abbrev S4096x256 : Shape := ⟨2, ![4096, 256]⟩
abbrev S4096x64 : Shape := ⟨2, ![4096, 64]⟩
abbrev S4096x512 : Shape := ⟨2, ![4096, 512]⟩
abbrev S4096x2048 : Shape := ⟨2, ![4096, 2048]⟩
abbrev S256x256 : Shape := ⟨2, ![256, 256]⟩
abbrev S256x64 : Shape := ⟨2, ![256, 64]⟩
abbrev S256x512 : Shape := ⟨2, ![256, 512]⟩
abbrev S256x2048 : Shape := ⟨2, ![256, 2048]⟩
abbrev S6x1024 : Shape := ⟨2, ![6, 1024]⟩
abbrev S256x1 : Shape := ⟨2, ![256, 1]⟩
abbrev S256x2944 : Shape := ⟨2, ![256, 2944]⟩
abbrev S1x128 : Shape := ⟨2, ![1, 128]⟩

abbrev nBuf : Space → Nat
  | .hbm => 45
  | .vmem => 26
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x2880, .f32⟩
  | .hbm, ⟨4, _⟩ => ⟨S512, .f32⟩
  | .hbm, ⟨5, _⟩ => ⟨S512x768, .f32⟩
  | .hbm, ⟨6, _⟩ => ⟨S256, .f32⟩
  | .hbm, ⟨7, _⟩ => ⟨S256x1024, .f32⟩
  | .hbm, ⟨8, _⟩ => ⟨S192, .f32⟩
  | .hbm, ⟨9, _⟩ => ⟨S192, .f32⟩
  | .hbm, ⟨10, _⟩ => ⟨S1x6x1024, .f32⟩
  | .hbm, ⟨11, _⟩ => ⟨S16x6x1024, .f32⟩
  | .hbm, ⟨12, _⟩ => ⟨S1024x832, .f32⟩
  | .hbm, ⟨13, _⟩ => ⟨S_, .f32⟩
  | .hbm, ⟨14, _⟩ => ⟨S1024x64, .f32⟩
  | .hbm, ⟨15, _⟩ => ⟨S1024x2048, .f32⟩
  | .hbm, ⟨16, _⟩ => ⟨S1024x2944, .f32⟩
  | .hbm, ⟨17, _⟩ => ⟨S512x4x192, .f32⟩
  | .hbm, ⟨18, _⟩ => ⟨S_, .i32⟩
  | .hbm, ⟨19, _⟩ => ⟨S_, .f32⟩
  | .hbm, ⟨20, _⟩ => ⟨S512x4x256, .f32⟩
  | .hbm, ⟨21, _⟩ => ⟨S512x1024, .f32⟩
  | .hbm, ⟨22, _⟩ => ⟨S1x1024, .f32⟩
  | .hbm, ⟨23, _⟩ => ⟨S1024x2944, .bf16⟩
  | .hbm, ⟨24, _⟩ => ⟨S1x512, .f32⟩
  | .hbm, ⟨25, _⟩ => ⟨S1x256, .f32⟩
  | .hbm, ⟨26, _⟩ => ⟨S512x1024, .bf16⟩
  | .hbm, ⟨27, _⟩ => ⟨S256x1024, .bf16⟩
  | .hbm, ⟨28, _⟩ => ⟨S_, .i32⟩
  | .hbm, ⟨29, _⟩ => ⟨S_, .f32⟩
  | .hbm, ⟨30, _⟩ => ⟨S256, .f32⟩
  | .hbm, ⟨31, _⟩ => ⟨S1x256, .f32⟩
  | .hbm, ⟨32, _⟩ => ⟨S_, .i32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S_, .f32⟩
  | .hbm, ⟨37, _⟩ => ⟨S256x128, .f32⟩
  | .hbm, ⟨38, _⟩ => ⟨S4096x1024, .f32⟩
  | .hbm, ⟨39, _⟩ => ⟨S4096x256, .f32⟩
  | .hbm, ⟨40, _⟩ => ⟨S4096x64, .f32⟩
  | .hbm, ⟨41, _⟩ => ⟨S4096x1024, .bf16⟩
  | .hbm, ⟨42, _⟩ => ⟨S4096x1024, .bf16⟩
  | .hbm, ⟨43, _⟩ => ⟨S4096x512, .bf16⟩
  | .hbm, ⟨44, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2944, .bf16⟩
  | .local _ .vmem, ⟨6, _⟩ => ⟨S1x512, .f32⟩
  | .local _ .vmem, ⟨7, _⟩ => ⟨S1x256, .f32⟩
  | .local _ .vmem, ⟨8, _⟩ => ⟨S512x1024, .bf16⟩
  | .local _ .vmem, ⟨9, _⟩ => ⟨S256x1024, .bf16⟩
  | .local _ .vmem, ⟨10, _⟩ => ⟨S1x256, .f32⟩
  | .local _ .vmem, ⟨11, _⟩ => ⟨S1x256, .f32⟩
  | .local _ .vmem, ⟨12, _⟩ => ⟨S256x128, .f32⟩
  | .local _ .vmem, ⟨13, _⟩ => ⟨S256x128, .f32⟩
  | .local _ .vmem, ⟨14, _⟩ => ⟨S256x256, .f32⟩
  | .local _ .vmem, ⟨15, _⟩ => ⟨S256x256, .f32⟩
  | .local _ .vmem, ⟨16, _⟩ => ⟨S256x64, .f32⟩
  | .local _ .vmem, ⟨17, _⟩ => ⟨S256x64, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x512, .bf16⟩
  | .local _ .vmem, ⟨23, _⟩ => ⟨S256x512, .bf16⟩
  | .local _ .vmem, ⟨24, _⟩ => ⟨S256x2048, .f32⟩
  | .local _ .vmem, ⟨25, _⟩ => ⟨S256x2048, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_v21_3 : Ref sig .tc := ⟨.hbm, 42, rfl⟩
abbrev main_v21_4 : Ref sig .tc := ⟨.hbm, 43, rfl⟩
abbrev main_v21_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PromptReferenceIdeal.lean ====
abbrev S16x256x1024 : Shape := ⟨3, ![16, 256, 1024]⟩
abbrev S6144 : Shape := ⟨1, ![6144]⟩
abbrev S1024 : Shape := ⟨1, ![1024]⟩
abbrev S1024x2880 : Shape := ⟨2, ![1024, 2880]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S192 : Shape := ⟨1, ![192]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x2880 : Shape := ⟨3, ![16, 256, 2880]⟩
abbrev S16x256x512 : Shape := ⟨3, ![16, 256, 512]⟩
abbrev S16x256x256 : Shape := ⟨3, ![16, 256, 256]⟩
abbrev S16x256x64 : Shape := ⟨3, ![16, 256, 64]⟩
abbrev S16x256x2048 : Shape := ⟨3, ![16, 256, 2048]⟩
abbrev S1x1x256 : Shape := ⟨3, ![1, 1, 256]⟩
abbrev S1x1x512 : Shape := ⟨3, ![1, 1, 512]⟩
abbrev S16x256x768 : Shape := ⟨3, ![16, 256, 768]⟩
abbrev S16x256x4x192 : Shape := ⟨4, ![16, 256, 4, 192]⟩
abbrev S16x256x4 : Shape := ⟨3, ![16, 256, 4]⟩
abbrev S16x256x4x1 : Shape := ⟨4, ![16, 256, 4, 1]⟩
abbrev S1x1x1x192 : Shape := ⟨4, ![1, 1, 1, 192]⟩
abbrev S16x256x4x256 : Shape := ⟨4, ![16, 256, 4, 256]⟩
abbrev S16x256x4x128 : Shape := ⟨4, ![16, 256, 4, 128]⟩
abbrev S16x256x1x64 : Shape := ⟨4, ![16, 256, 1, 64]⟩
abbrev S16x256x4x64 : Shape := ⟨4, ![16, 256, 4, 64]⟩
abbrev S4096x256 : Shape := ⟨2, ![4096, 256]⟩
abbrev S4096x64 : Shape := ⟨2, ![4096, 64]⟩
abbrev S4096x1024 : Shape := ⟨2, ![4096, 1024]⟩
abbrev S4096x512 : Shape := ⟨2, ![4096, 512]⟩
abbrev S4096x2048 : Shape := ⟨2, ![4096, 2048]⟩

abbrev nBuf : Space → Nat
  | .hbm => 136
  | .vmem => 0
  | .smem => 0
  | _ => 0

abbrev hbmTy0_0 (i : Nat) : BufTy := match i % 128 with
  | 0 => ⟨S16x256x1024, .f32⟩
  | 1 => ⟨S6144, .f32⟩
  | 2 => ⟨S1024, .f32⟩
  | 3 => ⟨S1024x2880, .f32⟩
  | 4 => ⟨S512, .f32⟩
  | 5 => ⟨S512x768, .f32⟩
  | 6 => ⟨S256, .f32⟩
  | 7 => ⟨S256x1024, .f32⟩
  | 8 => ⟨S192, .f32⟩
  | 9 => ⟨S192, .f32⟩
  | 10 => ⟨S1x1x6144, .f32⟩
  | 11 => ⟨S1x1x1024, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S16x256x1024, .f32⟩
  | 18 => ⟨S_, .f32⟩
  | 19 => ⟨S16x256, .f32⟩
  | 20 => ⟨S16x256x1, .f32⟩
  | 21 => ⟨S_, .f32⟩
  | 22 => ⟨S16x256x1, .f32⟩
  | 23 => ⟨S16x256x1, .f32⟩
  | 24 => ⟨S_, .f32⟩
  | 25 => ⟨S16x256x1, .f32⟩
  | 26 => ⟨S16x256x1, .f32⟩
  | 27 => ⟨S16x256x1, .f32⟩
  | 28 => ⟨S16x256x1024, .f32⟩
  | 29 => ⟨S16x256x1024, .f32⟩
  | 30 => ⟨S1x1x1024, .f32⟩
  | 31 => ⟨S16x256x1024, .f32⟩
  | 32 => ⟨S16x256x1024, .f32⟩
  | 33 => ⟨S_, .f32⟩
  | 34 => ⟨S1x1x1024, .f32⟩
  | 35 => ⟨S1x1x1024, .f32⟩
  | 36 => ⟨S16x256x1024, .f32⟩
  | 37 => ⟨S16x256x1024, .f32⟩
  | 38 => ⟨S16x256x1024, .f32⟩
  | 39 => ⟨S16x256x1024, .f32⟩
  | 40 => ⟨S16x256x2880, .f32⟩
  | 41 => ⟨S16x256x512, .f32⟩
  | 42 => ⟨S16x256x256, .f32⟩
  | 43 => ⟨S16x256x64, .f32⟩
  | 44 => ⟨S16x256x2048, .f32⟩
  | 45 => ⟨S16x256x256, .f32⟩
  | 46 => ⟨S_, .f32⟩
  | 47 => ⟨S16x256, .f32⟩
  | 48 => ⟨S16x256x1, .f32⟩
  | 49 => ⟨S_, .f32⟩
  | 50 => ⟨S16x256x1, .f32⟩
  | 51 => ⟨S16x256x1, .f32⟩
  | 52 => ⟨S_, .f32⟩
  | 53 => ⟨S16x256x1, .f32⟩
  | 54 => ⟨S16x256x1, .f32⟩
  | 55 => ⟨S16x256x1, .f32⟩
  | 56 => ⟨S16x256x256, .f32⟩
  | 57 => ⟨S16x256x256, .f32⟩
  | 58 => ⟨S1x1x256, .f32⟩
  | 59 => ⟨S16x256x256, .f32⟩
  | 60 => ⟨S16x256x256, .f32⟩
  | 61 => ⟨S16x256x512, .f32⟩
  | 62 => ⟨S_, .f32⟩
  | 63 => ⟨S16x256, .f32⟩
  | 64 => ⟨S16x256x1, .f32⟩
  | 65 => ⟨S_, .f32⟩
  | 66 => ⟨S16x256x1, .f32⟩
  | 67 => ⟨S16x256x1, .f32⟩
  | 68 => ⟨S_, .f32⟩
  | 69 => ⟨S16x256x1, .f32⟩
  | 70 => ⟨S16x256x1, .f32⟩
  | 71 => ⟨S16x256x1, .f32⟩
  | 72 => ⟨S16x256x512, .f32⟩
  | 73 => ⟨S16x256x512, .f32⟩
  | 74 => ⟨S1x1x512, .f32⟩
  | 75 => ⟨S16x256x512, .f32⟩
  | 76 => ⟨S16x256x512, .f32⟩
  | 77 => ⟨S16x256x768, .f32⟩
  | 78 => ⟨S16x256x4x192, .f32⟩
  | 79 => ⟨S16x256x4x192, .f32⟩
  | 80 => ⟨S_, .f32⟩
  | 81 => ⟨S16x256x4, .f32⟩
  | 82 => ⟨S16x256x4x1, .f32⟩
  | 83 => ⟨S_, .f32⟩
  | 84 => ⟨S16x256x4x1, .f32⟩
  | 85 => ⟨S16x256x4x1, .f32⟩
  | 86 => ⟨S_, .f32⟩
  | 87 => ⟨S16x256x4x1, .f32⟩
  | 88 => ⟨S16x256x4x1, .f32⟩
  | 89 => ⟨S16x256x4x1, .f32⟩
  | 90 => ⟨S16x256x4x192, .f32⟩
  | 91 => ⟨S16x256x4x192, .f32⟩
  | 92 => ⟨S1x1x1x192, .f32⟩
  | 93 => ⟨S16x256x4x192, .f32⟩
  | 94 => ⟨S16x256x4x192, .f32⟩
  | 95 => ⟨S16x256x1024, .f32⟩
  | 96 => ⟨S16x256x4x256, .f32⟩
  | 97 => ⟨S16x256x4x128, .f32⟩
  | 98 => ⟨S16x256x4x128, .f32⟩
  | 99 => ⟨S16x256x1x64, .f32⟩
  | 100 => ⟨S16x256x4x64, .f32⟩
  | 101 => ⟨S16x256x4x192, .f32⟩
  | 102 => ⟨S16x256x4x192, .f32⟩
  | 103 => ⟨S_, .f32⟩
  | 104 => ⟨S16x256x4, .f32⟩
  | 105 => ⟨S16x256x4x1, .f32⟩
  | 106 => ⟨S_, .f32⟩
  | 107 => ⟨S16x256x4x1, .f32⟩
  | 108 => ⟨S16x256x4x1, .f32⟩
  | 109 => ⟨S_, .f32⟩
  | 110 => ⟨S16x256x4x1, .f32⟩
  | 111 => ⟨S16x256x4x1, .f32⟩
  | 112 => ⟨S16x256x4x1, .f32⟩
  | 113 => ⟨S16x256x4x192, .f32⟩
  | 114 => ⟨S16x256x4x192, .f32⟩
  | 115 => ⟨S1x1x1x192, .f32⟩
  | 116 => ⟨S16x256x4x192, .f32⟩
  | 117 => ⟨S16x256x4x192, .f32⟩
  | 118 => ⟨S_, .f32⟩
  | 119 => ⟨S16x256x4x192, .f32⟩
  | 120 => ⟨S16x256x4x192, .f32⟩
  | 121 => ⟨S4096x256, .f32⟩
  | 122 => ⟨S4096x64, .f32⟩
  | 123 => ⟨S_, .i32⟩
  | 124 => ⟨S_, .f32⟩
  | 125 => ⟨S16x256x4x256, .f32⟩
  | 126 => ⟨S4096x1024, .f32⟩
  | 127 => ⟨S4096x1024, .bf16⟩
  | _ => ⟨S16x256x1024, .f32⟩

abbrev hbmTy0_1 (i : Nat) : BufTy := match i % 128 with
  | 0 => ⟨S_, .i32⟩
  | 1 => ⟨S_, .f32⟩
  | 2 => ⟨S16x256x4x256, .f32⟩
  | 3 => ⟨S4096x1024, .f32⟩
  | 4 => ⟨S4096x1024, .bf16⟩
  | 5 => ⟨S4096x512, .f32⟩
  | 6 => ⟨S4096x512, .bf16⟩
  | 7 => ⟨S4096x2048, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c : Ref sig .tc := ⟨.hbm, 123, rfl⟩
abbrev main_call0_v0 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_16 : Ref sig .tc := ⟨.hbm, 128, rfl⟩
abbrev main_call1_v0 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== Retention.lean ====
abbrev S4096x2048 : Shape := ⟨2, ![4096, 2048]⟩
abbrev S2x4 : Shape := ⟨2, ![2, 4]⟩
abbrev S4096x512 : Shape := ⟨2, ![4096, 512]⟩
abbrev S16x4x128x128 : Shape := ⟨4, ![16, 4, 128, 128]⟩
abbrev S128x512 : Shape := ⟨2, ![128, 512]⟩
abbrev S1x4x128x128 : Shape := ⟨4, ![1, 4, 128, 128]⟩
abbrev S4x128x128 : Shape := ⟨3, ![4, 128, 128]⟩
abbrev S128x128 : Shape := ⟨2, ![128, 128]⟩
abbrev S1x1 : Shape := ⟨2, ![1, 1]⟩
abbrev S1x128 : Shape := ⟨2, ![1, 128]⟩
abbrev S1x128x128 : Shape := ⟨3, ![1, 128, 128]⟩
abbrev S1x1x128x128 : Shape := ⟨4, ![1, 1, 128, 128]⟩

abbrev nBuf : Space → Nat
  | .hbm => 6
  | .vmem => 22
  | .smem => 1
  | _ => 0

abbrev bufTy : (tb : Table) → Fin (tcTables nBuf tb) → BufTy
  | .hbm, ⟨0, _⟩ => ⟨S4096x2048, .f32⟩
  | .hbm, ⟨1, _⟩ => ⟨S2x4, .f32⟩
  | .hbm, ⟨2, _⟩ => ⟨S4096x512, .f32⟩
  | .hbm, ⟨3, _⟩ => ⟨S4096x512, .f32⟩
  | .hbm, ⟨4, _⟩ => ⟨S16x4x128x128, .f32⟩
  | .hbm, ⟨5, _⟩ => ⟨S16x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S1x4x128x128, .f32⟩
  | .local _ .vmem, ⟨17, _⟩ => ⟨S1x4x128x128, .f32⟩
  | .local _ .vmem, ⟨18, _⟩ => ⟨S1x4x128x128, .f32⟩
  | .local _ .vmem, ⟨19, _⟩ => ⟨S1x4x128x128, .f32⟩
  | .local _ .vmem, ⟨20, _⟩ => ⟨S4x128x128, .f32⟩
  | .local _ .vmem, ⟨21, _⟩ => ⟨S4x128x128, .f32⟩
  | .local _ .smem, ⟨0, _⟩ => ⟨S2x4, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c2_i32_0 : BitVec 32 := 2#32
  let c0_i32 : BitVec 32 := 0#32
  ![v1.toNat, c2_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c2_i32_1 : BitVec 32 := 2#32
  let c0_i32 : BitVec 32 := 0#32
  ![v3.toNat, c2_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RetentionReferenceIdeal.lean ====
abbrev S4096x2048 : Shape := ⟨2, ![4096, 2048]⟩
abbrev S2x4 : Shape := ⟨2, ![2, 4]⟩
abbrev S4096x512 : Shape := ⟨2, ![4096, 512]⟩
abbrev S16x256x4x128 : Shape := ⟨4, ![16, 256, 4, 128]⟩
abbrev S_ : Shape := ⟨0, ![]⟩
abbrev S16x4x128x128 : Shape := ⟨4, ![16, 4, 128, 128]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S128x4 : Shape := ⟨2, ![128, 4]⟩
abbrev S1x128x4x1 : Shape := ⟨4, ![1, 128, 4, 1]⟩
abbrev S1x4x1x1 : Shape := ⟨4, ![1, 4, 1, 1]⟩
abbrev S16x2x128x4x128 : Shape := ⟨5, ![16, 2, 128, 4, 128]⟩
abbrev S2x16x128x4x128 : Shape := ⟨5, ![2, 16, 128, 4, 128]⟩
abbrev S1x16x128x4x128 : Shape := ⟨5, ![1, 16, 128, 4, 128]⟩
abbrev S16x128x4x128 : Shape := ⟨4, ![16, 128, 4, 128]⟩
abbrev S1x4x128x128 : Shape := ⟨4, ![1, 4, 128, 128]⟩

abbrev nBuf : Space → Nat
  | .hbm => 251
  | .vmem => 0
  | .smem => 0
  | _ => 0

abbrev hbmTy0_0 (i : Nat) : BufTy := match i % 128 with
  | 0 => ⟨S4096x2048, .f32⟩
  | 1 => ⟨S2x4, .f32⟩
  | 2 => ⟨S4096x512, .f32⟩
  | 3 => ⟨S16x256x4x128, .f32⟩
  | 4 => ⟨S4096x512, .f32⟩
  | 5 => ⟨S16x256x4x128, .f32⟩
  | 6 => ⟨S4096x512, .f32⟩
  | 7 => ⟨S16x256x4x128, .f32⟩
  | 8 => ⟨S_, .f32⟩
  | 9 => ⟨S16x256x4x128, .f32⟩
  | 10 => ⟨S16x256x4x128, .f32⟩
  | 11 => ⟨S2x4, .f32⟩
  | 12 => ⟨S_, .f32⟩
  | 13 => ⟨S2x4, .f32⟩
  | 14 => ⟨S2x4, .f32⟩
  | 15 => ⟨S2x4, .f32⟩
  | 16 => ⟨S2x4, .f32⟩
  | 17 => ⟨S2x4, .i1⟩
  | 18 => ⟨S2x4, .f32⟩
  | 19 => ⟨S2x4, .f32⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S_, .f32⟩
  | 28 => ⟨S16x4x128x128, .f32⟩
  | 29 => ⟨S1x4, .f32⟩
  | 30 => ⟨S4, .f32⟩
  | 31 => ⟨S128, .f32⟩
  | 32 => ⟨S128x1, .f32⟩
  | 33 => ⟨S1x128, .f32⟩
  | 34 => ⟨S128x128, .f32⟩
  | 35 => ⟨S128x128, .f32⟩
  | 36 => ⟨S128x128, .f32⟩
  | 37 => ⟨S1x128x128, .f32⟩
  | 38 => ⟨S_, .f32⟩
  | 39 => ⟨S1x128x128, .f32⟩
  | 40 => ⟨S1x128x128, .i1⟩
  | 41 => ⟨S_, .f32⟩
  | 42 => ⟨S128x128, .f32⟩
  | 43 => ⟨S128x128, .f32⟩
  | 44 => ⟨S1x128x128, .f32⟩
  | 45 => ⟨S4x1x1, .f32⟩
  | 46 => ⟨S4x128x128, .f32⟩
  | 47 => ⟨S4x128x128, .f32⟩
  | 48 => ⟨S4x128x128, .f32⟩
  | 49 => ⟨S4x128x128, .f32⟩
  | 50 => ⟨S_, .f32⟩
  | 51 => ⟨S_, .f32⟩
  | 52 => ⟨S4x128x128, .i1⟩
  | 53 => ⟨S4x128x128, .f32⟩
  | 54 => ⟨S4x128x128, .f32⟩
  | 55 => ⟨S128x1, .f32⟩
  | 56 => ⟨S_, .f32⟩
  | 57 => ⟨S128x1, .f32⟩
  | 58 => ⟨S128x1, .f32⟩
  | 59 => ⟨S1x4, .f32⟩
  | 60 => ⟨S128x4, .f32⟩
  | 61 => ⟨S128x4, .f32⟩
  | 62 => ⟨S128x4, .f32⟩
  | 63 => ⟨S128x4, .f32⟩
  | 64 => ⟨S1x128x4x1, .f32⟩
  | 65 => ⟨S_, .f32⟩
  | 66 => ⟨S128, .f32⟩
  | 67 => ⟨S128, .f32⟩
  | 68 => ⟨S128x1, .f32⟩
  | 69 => ⟨S1x4, .f32⟩
  | 70 => ⟨S128x4, .f32⟩
  | 71 => ⟨S128x4, .f32⟩
  | 72 => ⟨S128x4, .f32⟩
  | 73 => ⟨S128x4, .f32⟩
  | 74 => ⟨S1x128x4x1, .f32⟩
  | 75 => ⟨S_, .f32⟩
  | 76 => ⟨S4, .f32⟩
  | 77 => ⟨S4, .f32⟩
  | 78 => ⟨S4, .f32⟩
  | 79 => ⟨S1x4x1x1, .f32⟩
  | 80 => ⟨S16x2x128x4x128, .f32⟩
  | 81 => ⟨S2x16x128x4x128, .f32⟩
  | 82 => ⟨S16x2x128x4x128, .f32⟩
  | 83 => ⟨S2x16x128x4x128, .f32⟩
  | 84 => ⟨S16x2x128x4x128, .f32⟩
  | 85 => ⟨S2x16x128x4x128, .f32⟩
  | 86 => ⟨S1x16x128x4x128, .f32⟩
  | 87 => ⟨S16x128x4x128, .f32⟩
  | 88 => ⟨S1x16x128x4x128, .f32⟩
  | 89 => ⟨S16x128x4x128, .f32⟩
  | 90 => ⟨S1x16x128x4x128, .f32⟩
  | 91 => ⟨S16x128x4x128, .f32⟩
  | 92 => ⟨S16x4x128x128, .f32⟩
  | 93 => ⟨S1x4x128x128, .f32⟩
  | 94 => ⟨S16x4x128x128, .f32⟩
  | 95 => ⟨S16x4x128x128, .f32⟩
  | 96 => ⟨S16x4x128x128, .f32⟩
  | 97 => ⟨S16x128x4x128, .f32⟩
  | 98 => ⟨S16x4x128x128, .f32⟩
  | 99 => ⟨S16x128x4x128, .f32⟩
  | 100 => ⟨S16x128x4x128, .f32⟩
  | 101 => ⟨S16x128x4x128, .f32⟩
  | 102 => ⟨S16x128x4x128, .f32⟩
  | 103 => ⟨S16x4x128x128, .f32⟩
  | 104 => ⟨S16x4x128x128, .f32⟩
  | 105 => ⟨S16x128x4x128, .f32⟩
  | 106 => ⟨S16x128x4x128, .f32⟩
  | 107 => ⟨S16x4x128x128, .f32⟩
  | 108 => ⟨S16x4x128x128, .f32⟩
  | 109 => ⟨S1x16x128x4x128, .f32⟩
  | 110 => ⟨S16x128x4x128, .f32⟩
  | 111 => ⟨S1x16x128x4x128, .f32⟩
  | 112 => ⟨S16x128x4x128, .f32⟩
  | 113 => ⟨S1x16x128x4x128, .f32⟩
  | 114 => ⟨S16x128x4x128, .f32⟩
  | 115 => ⟨S16x4x128x128, .f32⟩
  | 116 => ⟨S1x4x128x128, .f32⟩
  | 117 => ⟨S16x4x128x128, .f32⟩
  | 118 => ⟨S16x4x128x128, .f32⟩
  | 119 => ⟨S16x4x128x128, .f32⟩
  | 120 => ⟨S16x128x4x128, .f32⟩
  | 121 => ⟨S16x4x128x128, .f32⟩
  | 122 => ⟨S16x128x4x128, .f32⟩
  | 123 => ⟨S16x128x4x128, .f32⟩
  | 124 => ⟨S16x128x4x128, .f32⟩
  | 125 => ⟨S16x128x4x128, .f32⟩
  | 126 => ⟨S16x4x128x128, .f32⟩
  | 127 => ⟨S16x4x128x128, .f32⟩
  | _ => ⟨S4096x2048, .f32⟩

abbrev hbmTy0_1 (i : Nat) : BufTy := match i % 128 with
  | 0 => ⟨S16x128x4x128, .f32⟩
  | 1 => ⟨S16x128x4x128, .f32⟩
  | 2 => ⟨S16x4x128x128, .f32⟩
  | 3 => ⟨S16x4x128x128, .f32⟩
  | 4 => ⟨S1x16x128x4x128, .f32⟩
  | 5 => ⟨S1x16x128x4x128, .f32⟩
  | 6 => ⟨S2x16x128x4x128, .f32⟩
  | 7 => ⟨S16x2x128x4x128, .f32⟩
  | 8 => ⟨S16x256x4x128, .f32⟩
  | 9 => ⟨S16x256x4x128, .f32⟩
  | 10 => ⟨S16x256x4x128, .f32⟩
  | 11 => ⟨S16x256x4x128, .f32⟩
  | 12 => ⟨S1x4, .f32⟩
  | 13 => ⟨S4, .f32⟩
  | 14 => ⟨S128, .f32⟩
  | 15 => ⟨S128x1, .f32⟩
  | 16 => ⟨S1x128, .f32⟩
  | 17 => ⟨S128x128, .f32⟩
  | 18 => ⟨S128x128, .f32⟩
  | 19 => ⟨S128x128, .f32⟩
  | 20 => ⟨S1x128x128, .f32⟩
  | 21 => ⟨S_, .f32⟩
  | 22 => ⟨S1x128x128, .f32⟩
  | 23 => ⟨S1x128x128, .i1⟩
  | 24 => ⟨S_, .f32⟩
  | 25 => ⟨S128x128, .f32⟩
  | 26 => ⟨S128x128, .f32⟩
  | 27 => ⟨S1x128x128, .f32⟩
  | 28 => ⟨S4x1x1, .f32⟩
  | 29 => ⟨S4x128x128, .f32⟩
  | 30 => ⟨S4x128x128, .f32⟩
  | 31 => ⟨S4x128x128, .f32⟩
  | 32 => ⟨S4x128x128, .f32⟩
  | 33 => ⟨S_, .f32⟩
  | 34 => ⟨S_, .f32⟩
  | 35 => ⟨S4x128x128, .i1⟩
  | 36 => ⟨S4x128x128, .f32⟩
  | 37 => ⟨S4x128x128, .f32⟩
  | 38 => ⟨S128x1, .f32⟩
  | 39 => ⟨S_, .f32⟩
  | 40 => ⟨S128x1, .f32⟩
  | 41 => ⟨S128x1, .f32⟩
  | 42 => ⟨S1x4, .f32⟩
  | 43 => ⟨S128x4, .f32⟩
  | 44 => ⟨S128x4, .f32⟩
  | 45 => ⟨S128x4, .f32⟩
  | 46 => ⟨S128x4, .f32⟩
  | 47 => ⟨S1x128x4x1, .f32⟩
  | 48 => ⟨S_, .f32⟩
  | 49 => ⟨S128, .f32⟩
  | 50 => ⟨S128, .f32⟩
  | 51 => ⟨S128x1, .f32⟩
  | 52 => ⟨S1x4, .f32⟩
  | 53 => ⟨S128x4, .f32⟩
  | 54 => ⟨S128x4, .f32⟩
  | 55 => ⟨S128x4, .f32⟩
  | 56 => ⟨S128x4, .f32⟩
  | 57 => ⟨S1x128x4x1, .f32⟩
  | 58 => ⟨S_, .f32⟩
  | 59 => ⟨S4, .f32⟩
  | 60 => ⟨S4, .f32⟩
  | 61 => ⟨S4, .f32⟩
  | 62 => ⟨S1x4x1x1, .f32⟩
  | 63 => ⟨S16x2x128x4x128, .f32⟩
  | 64 => ⟨S2x16x128x4x128, .f32⟩
  | 65 => ⟨S16x2x128x4x128, .f32⟩
  | 66 => ⟨S2x16x128x4x128, .f32⟩
  | 67 => ⟨S16x2x128x4x128, .f32⟩
  | 68 => ⟨S2x16x128x4x128, .f32⟩
  | 69 => ⟨S1x16x128x4x128, .f32⟩
  | 70 => ⟨S16x128x4x128, .f32⟩
  | 71 => ⟨S1x16x128x4x128, .f32⟩
  | 72 => ⟨S16x128x4x128, .f32⟩
  | 73 => ⟨S1x16x128x4x128, .f32⟩
  | 74 => ⟨S16x128x4x128, .f32⟩
  | 75 => ⟨S16x4x128x128, .f32⟩
  | 76 => ⟨S1x4x128x128, .f32⟩
  | 77 => ⟨S16x4x128x128, .f32⟩
  | 78 => ⟨S16x4x128x128, .f32⟩
  | 79 => ⟨S16x4x128x128, .f32⟩
  | 80 => ⟨S16x128x4x128, .f32⟩
  | 81 => ⟨S16x4x128x128, .f32⟩
  | 82 => ⟨S16x128x4x128, .f32⟩
  | 83 => ⟨S16x128x4x128, .f32⟩
  | 84 => ⟨S16x128x4x128, .f32⟩
  | 85 => ⟨S16x128x4x128, .f32⟩
  | 86 => ⟨S16x4x128x128, .f32⟩
  | 87 => ⟨S16x4x128x128, .f32⟩
  | 88 => ⟨S16x128x4x128, .f32⟩
  | 89 => ⟨S16x128x4x128, .f32⟩
  | 90 => ⟨S16x4x128x128, .f32⟩
  | 91 => ⟨S16x4x128x128, .f32⟩
  | 92 => ⟨S1x16x128x4x128, .f32⟩
  | 93 => ⟨S16x128x4x128, .f32⟩
  | 94 => ⟨S1x16x128x4x128, .f32⟩
  | 95 => ⟨S16x128x4x128, .f32⟩
  | 96 => ⟨S1x16x128x4x128, .f32⟩
  | 97 => ⟨S16x128x4x128, .f32⟩
  | 98 => ⟨S16x4x128x128, .f32⟩
  | 99 => ⟨S1x4x128x128, .f32⟩
  | 100 => ⟨S16x4x128x128, .f32⟩
  | 101 => ⟨S16x4x128x128, .f32⟩
  | 102 => ⟨S16x4x128x128, .f32⟩
  | 103 => ⟨S16x128x4x128, .f32⟩
  | 104 => ⟨S16x4x128x128, .f32⟩
  | 105 => ⟨S16x128x4x128, .f32⟩
  | 106 => ⟨S16x128x4x128, .f32⟩
  | 107 => ⟨S16x128x4x128, .f32⟩
  | 108 => ⟨S16x128x4x128, .f32⟩
  | 109 => ⟨S16x4x128x128, .f32⟩
  | 110 => ⟨S16x4x128x128, .f32⟩
  | 111 => ⟨S16x128x4x128, .f32⟩
  | 112 => ⟨S16x128x4x128, .f32⟩
  | 113 => ⟨S16x4x128x128, .f32⟩
  | 114 => ⟨S16x4x128x128, .f32⟩
  | 115 => ⟨S1x16x128x4x128, .f32⟩
  | 116 => ⟨S1x16x128x4x128, .f32⟩
  | 117 => ⟨S2x16x128x4x128, .f32⟩
  | 118 => ⟨S16x2x128x4x128, .f32⟩
  | 119 => ⟨S16x256x4x128, .f32⟩
  | 120 => ⟨S4096x512, .f32⟩
  | 121 => ⟨S16x256x4x128, .f32⟩
  | 122 => ⟨S4096x512, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_7 : Ref sig .tc := ⟨.hbm, 149, rfl⟩
abbrev main_v121 : Ref sig .tc := ⟨.hbm, 150, rfl⟩
abbrev main_v122 : Ref sig .tc := ⟨.hbm, 151, rfl⟩
abbrev main_cst_8 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_9 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_v131 : Ref sig .tc := ⟨.hbm, 165, rfl⟩
abbrev main_v132 : Ref sig .tc := ⟨.hbm, 166, rfl⟩
abbrev main_cst_10 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_11 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_12 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩

abbrev nD : Nat := 1
abbrev τ : Topo := Topo.v7x

variable {F : FTy → Type} [FloatOps F]
-- ==== Mix.lean ====
abbrev S8x4096x1024 : Shape := ⟨3, ![8, 4096, 1024]⟩
abbrev S32768x512 : Shape := ⟨2, ![32768, 512]⟩
abbrev S32768x2048 : Shape := ⟨2, ![32768, 2048]⟩
abbrev S8x6144 : Shape := ⟨2, ![8, 6144]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S32768x1024 : Shape := ⟨2, ![32768, 1024]⟩
abbrev S8x6x1024 : Shape := ⟨3, ![8, 6, 1024]⟩
abbrev S256x1024 : Shape := ⟨2, ![256, 1024]⟩
abbrev S256x512 : Shape := ⟨2, ![256, 512]⟩
abbrev S1x6x1024 : Shape := ⟨3, ![1, 6, 1024]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S6x1024 : Shape := ⟨2, ![6, 1024]⟩

abbrev nBuf : Space → Nat
  | .hbm => 16
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x2048, .f32⟩
  | .hbm, ⟨5, _⟩ => ⟨S8x6144, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1x512, .f32⟩
  | .hbm, ⟨10, _⟩ => ⟨S1024x1024, .bf16⟩
  | .hbm, ⟨11, _⟩ => ⟨S1x1024, .f32⟩
  | .hbm, ⟨12, _⟩ => ⟨S32768x1024, .f32⟩
  | .hbm, ⟨13, _⟩ => ⟨S8x6x1024, .f32⟩
  | .hbm, ⟨14, _⟩ => ⟨S32768x1024, .f32⟩
  | .hbm, ⟨15, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x6x1024, .f32⟩
  | .local _ .vmem, ⟨11, _⟩ => ⟨S1x6x1024, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixReferenceIdeal.lean ====
abbrev S8x4096x1024 : Shape := ⟨3, ![8, 4096, 1024]⟩
abbrev S32768x512 : Shape := ⟨2, ![32768, 512]⟩
abbrev S32768x2048 : Shape := ⟨2, ![32768, 2048]⟩
abbrev S8x6144 : Shape := ⟨2, ![8, 6144]⟩
abbrev S512 : Shape := ⟨1, ![512]⟩
abbrev S1024x1024 : Shape := ⟨2, ![1024, 1024]⟩
abbrev S1024 : Shape := ⟨1, ![1024]⟩
abbrev S8x1x6144 : Shape := ⟨3, ![8, 1, 6144]⟩
abbrev S8x1x1024 : Shape := ⟨3, ![8, 1, 1024]⟩
abbrev S8x4096x512 : Shape := ⟨3, ![8, 4096, 512]⟩
abbrev S8x4096x4x128 : Shape := ⟨4, ![8, 4096, 4, 128]⟩
abbrev S_ : Shape := ⟨0, ![]⟩
abbrev S8x4096x4 : Shape := ⟨3, ![8, 4096, 4]⟩
abbrev S8x4096x4x1 : Shape := ⟨4, ![8, 4096, 4, 1]⟩
abbrev S1x1x512 : Shape := ⟨3, ![1, 1, 512]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x2048, .f32⟩
  | .hbm, ⟨5, _⟩ => ⟨S8x6144, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S32768x512, .f32⟩
  | .hbm, ⟨17, _⟩ => ⟨S8x4096x512, .f32⟩
  | .hbm, ⟨18, _⟩ => ⟨S32768x512, .f32⟩
  | .hbm, ⟨19, _⟩ => ⟨S8x4096x4x128, .f32⟩
  | .hbm, ⟨20, _⟩ => ⟨S_, .f32⟩
  | .hbm, ⟨21, _⟩ => ⟨S8x4096x4, .f32⟩
  | .hbm, ⟨22, _⟩ => ⟨S8x4096x4x1, .f32⟩
  | .hbm, ⟨23, _⟩ => ⟨S_, .f32⟩
  | .hbm, ⟨24, _⟩ => ⟨S8x4096x4x1, .f32⟩
  | .hbm, ⟨25, _⟩ => ⟨S8x4096x4x1, .f32⟩
  | .hbm, ⟨26, _⟩ => ⟨S8x4096x4x128, .f32⟩
  | .hbm, ⟨27, _⟩ => ⟨S8x4096x4x128, .f32⟩
  | .hbm, ⟨28, _⟩ => ⟨S8x4096x4x128, .f32⟩
  | .hbm, ⟨29, _⟩ => ⟨S_, .f32⟩
  | .hbm, ⟨30, _⟩ => ⟨S8x4096x4, .f32⟩
  | .hbm, ⟨31, _⟩ => ⟨S8x4096x4x1, .f32⟩
  | .hbm, ⟨32, _⟩ => ⟨S_, .f32⟩
  | .hbm, ⟨33, _⟩ => ⟨S8x4096x4x1, .f32⟩
  | .hbm, ⟨34, _⟩ => ⟨S8x4096x4x1, .f32⟩
  | .hbm, ⟨35, _⟩ => ⟨S8x4096x4x128, .f32⟩
  | .hbm, ⟨36, _⟩ => ⟨S8x4096x4x128, .f32⟩
  | .hbm, ⟨37, _⟩ => ⟨S_, .f32⟩
  | .hbm, ⟨38, _⟩ => ⟨S8x4096x4x1, .f32⟩
  | .hbm, ⟨39, _⟩ => ⟨S8x4096x4x1, .f32⟩
  | .hbm, ⟨40, _⟩ => ⟨S8x4096x4x1, .f32⟩
  | .hbm, ⟨41, _⟩ => ⟨S8x4096x4x128, .f32⟩
  | .hbm, ⟨42, _⟩ => ⟨S8x4096x4x128, .f32⟩
  | .hbm, ⟨43, _⟩ => ⟨S8x4096x512, .f32⟩
  | .hbm, ⟨44, _⟩ => ⟨S1x1x512, .f32⟩
  | .hbm, ⟨45, _⟩ => ⟨S8x4096x512, .f32⟩
  | .hbm, ⟨46, _⟩ => ⟨S8x4096x512, .f32⟩
  | .hbm, ⟨47, _⟩ => ⟨S8x4096x512, .f32⟩
  | .hbm, ⟨48, _⟩ => ⟨S8x4096x512, .f32⟩
  | .hbm, ⟨49, _⟩ => ⟨S_, .f32⟩
  | .hbm, ⟨50, _⟩ => ⟨S8x4096x512, .f32⟩
  | .hbm, ⟨51, _⟩ => ⟨S8x4096x512, .f32⟩
  | .hbm, ⟨52, _⟩ => ⟨S_, .f32⟩
  | .hbm, ⟨53, _⟩ => ⟨S8x4096x512, .f32⟩
  | .hbm, ⟨54, _⟩ => ⟨S8x4096x512, .f32⟩
  | .hbm, ⟨55, _⟩ => ⟨S8x4096x512, .f32⟩
  | .hbm, ⟨56, _⟩ => ⟨S8x4096x512, .f32⟩
  | .hbm, ⟨57, _⟩ => ⟨S32768x512, .f32⟩
  | .hbm, ⟨58, _⟩ => ⟨S8x4096x512, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x1x1024, .f32⟩
  | .hbm, ⟨82, _⟩ => ⟨S8x1x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S32768x1024, .f32⟩
  | .hbm, ⟨88, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Residual.lean ====
abbrev S4096x1024 : Shape := ⟨2, ![4096, 1024]⟩
abbrev S17792x1024 : Shape := ⟨2, ![17792, 1024]⟩
abbrev S6144 : Shape := ⟨1, ![6144]⟩
abbrev S1x6x1024 : Shape := ⟨3, ![1, 6, 1024]⟩
abbrev S16x6x1024 : Shape := ⟨3, ![16, 6, 1024]⟩
abbrev S128x1024 : Shape := ⟨2, ![128, 1024]⟩
abbrev S6x1024 : Shape := ⟨2, ![6, 1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S17792x1024, .f32⟩
  | .hbm, ⟨2, _⟩ => ⟨S6144, .f32⟩
  | .hbm, ⟨3, _⟩ => ⟨S1x6x1024, .f32⟩
  | .hbm, ⟨4, _⟩ => ⟨S16x6x1024, .f32⟩
  | .hbm, ⟨5, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x6x1024, .f32⟩
  | .local _ .vmem, ⟨5, _⟩ => ⟨S1x6x1024, .f32⟩
  | .local _ .vmem, ⟨6, _⟩ => ⟨S128x1024, .f32⟩
  | .local _ .vmem, ⟨7, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidualReferenceIdeal.lean ====
abbrev S4096x1024 : Shape := ⟨2, ![4096, 1024]⟩
abbrev S17792x1024 : Shape := ⟨2, ![17792, 1024]⟩
abbrev S6144 : Shape := ⟨1, ![6144]⟩
abbrev S1024 : Shape := ⟨1, ![1024]⟩
abbrev S1x1024 : Shape := ⟨2, ![1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S17792x1024, .f32⟩
  | .hbm, ⟨2, _⟩ => ⟨S6144, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Tail.lean ====
abbrev S32768x1024 : Shape := ⟨2, ![32768, 1024]⟩
abbrev S17792x1024 : Shape := ⟨2, ![17792, 1024]⟩
abbrev S8x6144 : Shape := ⟨2, ![8, 6144]⟩
abbrev S8x6x1024 : Shape := ⟨3, ![8, 6, 1024]⟩
abbrev S128x1024 : Shape := ⟨2, ![128, 1024]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S17792x1024, .f32⟩
  | .hbm, ⟨2, _⟩ => ⟨S8x6144, .f32⟩
  | .hbm, ⟨3, _⟩ => ⟨S32768x1024, .f32⟩
  | .hbm, ⟨4, _⟩ => ⟨S8x6x1024, .f32⟩
  | .hbm, ⟨5, _⟩ => ⟨S32768x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x6x1024, .f32⟩
  | .local _ .vmem, ⟨5, _⟩ => ⟨S1x6x1024, .f32⟩
  | .local _ .vmem, ⟨6, _⟩ => ⟨S128x1024, .f32⟩
  | .local _ .vmem, ⟨7, _⟩ => ⟨S128x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![107], ![false]⟩

def cc0_transform_0 (i : grid0.Coords) : Fin 2 → Nat :=
  let arg0 : BitVec 32 := BitVec.ofNat 32 (i 0).val
  let c149_i32 : BitVec 32 := 149#32
  let v0 : BitVec 32 := Scalar.addi c149_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c149_i32 : BitVec 32 := 149#32
  let v0 : BitVec 32 := Scalar.addi c149_i32 arg0
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c149_i32 : BitVec 32 := 149#32
  let v0 : BitVec 32 := Scalar.addi c149_i32 arg0
  let c0_i32 : BitVec 32 := 0#32
  let c0_i32_0 : BitVec 32 := 0#32
  ![v0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TailReferenceIdeal.lean ====
abbrev S32768x1024 : Shape := ⟨2, ![32768, 1024]⟩
abbrev S17792x1024 : Shape := ⟨2, ![17792, 1024]⟩
abbrev S8x6144 : Shape := ⟨2, ![8, 6144]⟩
abbrev S8x1024 : Shape := ⟨2, ![8, 1024]⟩
abbrev S8x4096x1024 : Shape := ⟨3, ![8, 4096, 1024]⟩
abbrev S19072x1024 : Shape := ⟨2, ![19072, 1024]⟩
abbrev S13696x1024 : Shape := ⟨2, ![13696, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S17792x1024, .f32⟩
  | .hbm, ⟨2, _⟩ => ⟨S8x6144, .f32⟩
  | .hbm, ⟨3, _⟩ => ⟨S32768x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x4096x1024, .f32⟩
  | .hbm, ⟨11, _⟩ => ⟨S32768x1024, .f32⟩
  | .hbm, ⟨12, _⟩ => ⟨S19072x1024, .f32⟩
  | .hbm, ⟨13, _⟩ => ⟨S13696x1024, .f32⟩
  | .hbm, ⟨14, _⟩ => ⟨S13696x1024, .f32⟩
  | .hbm, ⟨15, _⟩ => ⟨S13696x1024, .f32⟩
  | .hbm, ⟨16, _⟩ => ⟨S13696x1024, .f32⟩
  | .hbm, ⟨17, _⟩ => ⟨S13696x1024, .f32⟩
  | .hbm, ⟨18, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Latents.lean ====
abbrev S8x4096x1024 : Shape := ⟨3, ![8, 4096, 1024]⟩
abbrev S8x6144 : Shape := ⟨2, ![8, 6144]⟩
abbrev S1024 : Shape := ⟨1, ![1024]⟩
abbrev S1024x2880 : Shape := ⟨2, ![1024, 2880]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S192 : Shape := ⟨1, ![192]⟩
abbrev S1024x832 : Shape := ⟨2, ![1024, 832]⟩
abbrev S_ : Shape := ⟨0, ![]⟩
abbrev S1024x64 : Shape := ⟨2, ![1024, 64]⟩
abbrev S1024x2048 : Shape := ⟨2, ![1024, 2048]⟩
abbrev S1024x2944 : Shape := ⟨2, ![1024, 2944]⟩
abbrev S512x4x192 : Shape := ⟨3, ![512, 4, 192]⟩
abbrev S512x4x256 : Shape := ⟨3, ![512, 4, 256]⟩
abbrev S512x1024 : Shape := ⟨2, ![512, 1024]⟩
abbrev S1x1024 : Shape := ⟨2, ![1, 1024]⟩
abbrev S1x512 : Shape := ⟨2, ![1, 512]⟩
abbrev S1x256 : Shape := ⟨2, ![1, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S32768x1024 : Shape := ⟨2, ![32768, 1024]⟩
abbrev S8x6x1024 : Shape := ⟨3, ![8, 6, 1024]⟩
abbrev S32768x256 : Shape := ⟨2, ![32768, 256]⟩
abbrev S32768x64 : Shape := ⟨2, ![32768, 64]⟩
abbrev S32768x512 : Shape := ⟨2, ![32768, 512]⟩
abbrev S32768x2048 : Shape := ⟨2, ![32768, 2048]⟩
abbrev S1x6x1024 : Shape := ⟨3, ![1, 6, 1024]⟩
abbrev S256x128 : Shape := ⟨2, ![256, 128]⟩
abbrev S256x256 : Shape := ⟨2, ![256, 256]⟩
abbrev S256x64 : Shape := ⟨2, ![256, 64]⟩
abbrev S256x512 : Shape := ⟨2, ![256, 512]⟩
abbrev S256x2048 : Shape := ⟨2, ![256, 2048]⟩
abbrev S6x1024 : Shape := ⟨2, ![6, 1024]⟩
abbrev S256x1 : Shape := ⟨2, ![256, 1]⟩
abbrev S256x2944 : Shape := ⟨2, ![256, 2944]⟩
abbrev S1x128 : Shape := ⟨2, ![1, 128]⟩

abbrev nBuf : Space → Nat
  | .hbm => 81
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x2880, .f32⟩
  | .hbm, ⟨4, _⟩ => ⟨S512, .f32⟩
  | .hbm, ⟨5, _⟩ => ⟨S512x768, .f32⟩
  | .hbm, ⟨6, _⟩ => ⟨S256, .f32⟩
  | .hbm, ⟨7, _⟩ => ⟨S256x1024, .f32⟩
  | .hbm, ⟨8, _⟩ => ⟨S192, .f32⟩
  | .hbm, ⟨9, _⟩ => ⟨S192, .f32⟩
  | .hbm, ⟨10, _⟩ => ⟨S1024x832, .f32⟩
  | .hbm, ⟨11, _⟩ => ⟨S_, .f32⟩
  | .hbm, ⟨12, _⟩ => ⟨S1024x64, .f32⟩
  | .hbm, ⟨13, _⟩ => ⟨S1024x2048, .f32⟩
  | .hbm, ⟨14, _⟩ => ⟨S1024x2944, .f32⟩
  | .hbm, ⟨15, _⟩ => ⟨S512x4x192, .f32⟩
  | .hbm, ⟨16, _⟩ => ⟨S_, .i32⟩
  | .hbm, ⟨17, _⟩ => ⟨S_, .f32⟩
  | .hbm, ⟨18, _⟩ => ⟨S512x4x256, .f32⟩
  | .hbm, ⟨19, _⟩ => ⟨S512x1024, .f32⟩
  | .hbm, ⟨20, _⟩ => ⟨S1x1024, .f32⟩
  | .hbm, ⟨21, _⟩ => ⟨S1024x2944, .bf16⟩
  | .hbm, ⟨22, _⟩ => ⟨S1x512, .f32⟩
  | .hbm, ⟨23, _⟩ => ⟨S1x256, .f32⟩
  | .hbm, ⟨24, _⟩ => ⟨S512x1024, .bf16⟩
  | .hbm, ⟨25, _⟩ => ⟨S256x1024, .bf16⟩
  | .hbm, ⟨26, _⟩ => ⟨S_, .i32⟩
  | .hbm, ⟨27, _⟩ => ⟨S_, .f32⟩
  | .hbm, ⟨28, _⟩ => ⟨S256, .f32⟩
  | .hbm, ⟨29, _⟩ => ⟨S1x256, .f32⟩
  | .hbm, ⟨30, _⟩ => ⟨S_, .i32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S64, .f32⟩
  | .hbm, ⟨35, _⟩ => ⟨S64x64, .f32⟩
  | .hbm, ⟨36, _⟩ => ⟨S4096, .f32⟩
  | .hbm, ⟨37, _⟩ => ⟨S64, .f32⟩
  | .hbm, ⟨38, _⟩ => ⟨S1x64, .f32⟩
  | .hbm, ⟨39, _⟩ => ⟨S64x64, .f32⟩
  | .hbm, ⟨40, _⟩ => ⟨S4096, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S4096x1, .f32⟩
  | .hbm, ⟨50, _⟩ => ⟨S1x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x1, .f32⟩
  | .hbm, ⟨55, _⟩ => ⟨S1x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S_, .f32⟩
  | .hbm, ⟨60, _⟩ => ⟨S4096x64, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x128, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x128, .f32⟩
  | .hbm, ⟨73, _⟩ => ⟨S32768x1024, .f32⟩
  | .hbm, ⟨74, _⟩ => ⟨S8x6x1024, .f32⟩
  | .hbm, ⟨75, _⟩ => ⟨S32768x256, .f32⟩
  | .hbm, ⟨76, _⟩ => ⟨S32768x64, .f32⟩
  | .hbm, ⟨77, _⟩ => ⟨S32768x1024, .bf16⟩
  | .hbm, ⟨78, _⟩ => ⟨S32768x1024, .bf16⟩
  | .hbm, ⟨79, _⟩ => ⟨S32768x512, .bf16⟩
  | .hbm, ⟨80, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2944, .bf16⟩
  | .local _ .vmem, ⟨6, _⟩ => ⟨S1x512, .f32⟩
  | .local _ .vmem, ⟨7, _⟩ => ⟨S1x256, .f32⟩
  | .local _ .vmem, ⟨8, _⟩ => ⟨S512x1024, .bf16⟩
  | .local _ .vmem, ⟨9, _⟩ => ⟨S256x1024, .bf16⟩
  | .local _ .vmem, ⟨10, _⟩ => ⟨S1x256, .f32⟩
  | .local _ .vmem, ⟨11, _⟩ => ⟨S1x256, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x256, .f32⟩
  | .local _ .vmem, ⟨17, _⟩ => ⟨S256x256, .f32⟩
  | .local _ .vmem, ⟨18, _⟩ => ⟨S256x64, .f32⟩
  | .local _ .vmem, ⟨19, _⟩ => ⟨S256x64, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x512, .bf16⟩
  | .local _ .vmem, ⟨25, _⟩ => ⟨S256x512, .bf16⟩
  | .local _ .vmem, ⟨26, _⟩ => ⟨S256x2048, .f32⟩
  | .local _ .vmem, ⟨27, _⟩ => ⟨S256x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_call2_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_v55_3 : Ref sig .tc := ⟨.hbm, 78, rfl⟩
abbrev main_v55_4 : Ref sig .tc := ⟨.hbm, 79, rfl⟩
abbrev main_v55_5 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== LatentsReferenceIdeal.lean ====
abbrev S8x4096x1024 : Shape := ⟨3, ![8, 4096, 1024]⟩
abbrev S8x6144 : Shape := ⟨2, ![8, 6144]⟩
abbrev S1024 : Shape := ⟨1, ![1024]⟩
abbrev S1024x2880 : Shape := ⟨2, ![1024, 2880]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S192 : Shape := ⟨1, ![192]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2880 : Shape := ⟨3, ![8, 4096, 2880]⟩
abbrev S8x4096x512 : Shape := ⟨3, ![8, 4096, 512]⟩
abbrev S8x4096x256 : Shape := ⟨3, ![8, 4096, 256]⟩
abbrev S8x4096x64 : Shape := ⟨3, ![8, 4096, 64]⟩
abbrev S8x4096x2048 : Shape := ⟨3, ![8, 4096, 2048]⟩
abbrev S1x1x256 : Shape := ⟨3, ![1, 1, 256]⟩
abbrev S1x1x512 : Shape := ⟨3, ![1, 1, 512]⟩
abbrev S8x4096x768 : Shape := ⟨3, ![8, 4096, 768]⟩
abbrev S8x4096x4x192 : Shape := ⟨4, ![8, 4096, 4, 192]⟩
abbrev S8x4096x4 : Shape := ⟨3, ![8, 4096, 4]⟩
abbrev S8x4096x4x1 : Shape := ⟨4, ![8, 4096, 4, 1]⟩
abbrev S1x1x1x192 : Shape := ⟨4, ![1, 1, 1, 192]⟩
abbrev S8x4096x4x256 : Shape := ⟨4, ![8, 4096, 4, 256]⟩
abbrev S8x4096x4x128 : Shape := ⟨4, ![8, 4096, 4, 128]⟩
abbrev S8x4096x1x64 : Shape := ⟨4, ![8, 4096, 1, 64]⟩
abbrev S8x4096x4x64 : Shape := ⟨4, ![8, 4096, 4, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S8x4096x4x32 : Shape := ⟨4, ![8, 4096, 4, 32]⟩
abbrev S8x4096x4x16 : Shape := ⟨4, ![8, 4096, 4, 16]⟩
abbrev S1x4096x1x16 : Shape := ⟨4, ![1, 4096, 1, 16]⟩
abbrev S32768x256 : Shape := ⟨2, ![32768, 256]⟩
abbrev S32768x64 : Shape := ⟨2, ![32768, 64]⟩
abbrev S32768x1024 : Shape := ⟨2, ![32768, 1024]⟩
abbrev S32768x512 : Shape := ⟨2, ![32768, 512]⟩
abbrev S32768x2048 : Shape := ⟨2, ![32768, 2048]⟩

abbrev nBuf : Space → Nat
  | .hbm => 237
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024x2880, .f32⟩
  | 4 => ⟨S512, .f32⟩
  | 5 => ⟨S512x768, .f32⟩
  | 6 => ⟨S256, .f32⟩
  | 7 => ⟨S256x1024, .f32⟩
  | 8 => ⟨S192, .f32⟩
  | 9 => ⟨S192, .f32⟩
  | 10 => ⟨S8x1x6144, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S8x4096x2880, .f32⟩
  | 41 => ⟨S8x4096x512, .f32⟩
  | 42 => ⟨S8x4096x256, .f32⟩
  | 43 => ⟨S8x4096x64, .f32⟩
  | 44 => ⟨S8x4096x2048, .f32⟩
  | 45 => ⟨S8x4096x256, .f32⟩
  | 46 => ⟨S_, .f32⟩
  | 47 => ⟨S8x4096, .f32⟩
  | 48 => ⟨S8x4096x1, .f32⟩
  | 49 => ⟨S_, .f32⟩
  | 50 => ⟨S8x4096x1, .f32⟩
  | 51 => ⟨S8x4096x1, .f32⟩
  | 52 => ⟨S_, .f32⟩
  | 53 => ⟨S8x4096x1, .f32⟩
  | 54 => ⟨S8x4096x1, .f32⟩
  | 55 => ⟨S8x4096x1, .f32⟩
  | 56 => ⟨S8x4096x256, .f32⟩
  | 57 => ⟨S8x4096x256, .f32⟩
  | 58 => ⟨S1x1x256, .f32⟩
  | 59 => ⟨S8x4096x256, .f32⟩
  | 60 => ⟨S8x4096x256, .f32⟩
  | 61 => ⟨S8x4096x512, .f32⟩
  | 62 => ⟨S_, .f32⟩
  | 63 => ⟨S8x4096, .f32⟩
  | 64 => ⟨S8x4096x1, .f32⟩
  | 65 => ⟨S_, .f32⟩
  | 66 => ⟨S8x4096x1, .f32⟩
  | 67 => ⟨S8x4096x1, .f32⟩
  | 68 => ⟨S_, .f32⟩
  | 69 => ⟨S8x4096x1, .f32⟩
  | 70 => ⟨S8x4096x1, .f32⟩
  | 71 => ⟨S8x4096x1, .f32⟩
  | 72 => ⟨S8x4096x512, .f32⟩
  | 73 => ⟨S8x4096x512, .f32⟩
  | 74 => ⟨S1x1x512, .f32⟩
  | 75 => ⟨S8x4096x512, .f32⟩
  | 76 => ⟨S8x4096x512, .f32⟩
  | 77 => ⟨S8x4096x768, .f32⟩
  | 78 => ⟨S8x4096x4x192, .f32⟩
  | 79 => ⟨S8x4096x4x192, .f32⟩
  | 80 => ⟨S_, .f32⟩
  | 81 => ⟨S8x4096x4, .f32⟩
  | 82 => ⟨S8x4096x4x1, .f32⟩
  | 83 => ⟨S_, .f32⟩
  | 84 => ⟨S8x4096x4x1, .f32⟩
  | 85 => ⟨S8x4096x4x1, .f32⟩
  | 86 => ⟨S_, .f32⟩
  | 87 => ⟨S8x4096x4x1, .f32⟩
  | 88 => ⟨S8x4096x4x1, .f32⟩
  | 89 => ⟨S8x4096x4x1, .f32⟩
  | 90 => ⟨S8x4096x4x192, .f32⟩
  | 91 => ⟨S8x4096x4x192, .f32⟩
  | 92 => ⟨S1x1x1x192, .f32⟩
  | 93 => ⟨S8x4096x4x192, .f32⟩
  | 94 => ⟨S8x4096x4x192, .f32⟩
  | 95 => ⟨S8x4096x1024, .f32⟩
  | 96 => ⟨S8x4096x4x256, .f32⟩
  | 97 => ⟨S8x4096x4x128, .f32⟩
  | 98 => ⟨S8x4096x4x128, .f32⟩
  | 99 => ⟨S8x4096x1x64, .f32⟩
  | 100 => ⟨S8x4096x4x64, .f32⟩
  | 101 => ⟨S8x4096x4x192, .f32⟩
  | 102 => ⟨S8x4096x4x192, .f32⟩
  | 103 => ⟨S_, .f32⟩
  | 104 => ⟨S8x4096x4, .f32⟩
  | 105 => ⟨S8x4096x4x1, .f32⟩
  | 106 => ⟨S_, .f32⟩
  | 107 => ⟨S8x4096x4x1, .f32⟩
  | 108 => ⟨S8x4096x4x1, .f32⟩
  | 109 => ⟨S_, .f32⟩
  | 110 => ⟨S8x4096x4x1, .f32⟩
  | 111 => ⟨S8x4096x4x1, .f32⟩
  | 112 => ⟨S8x4096x4x1, .f32⟩
  | 113 => ⟨S8x4096x4x192, .f32⟩
  | 114 => ⟨S8x4096x4x192, .f32⟩
  | 115 => ⟨S1x1x1x192, .f32⟩
  | 116 => ⟨S8x4096x4x192, .f32⟩
  | 117 => ⟨S8x4096x4x192, .f32⟩
  | 118 => ⟨S64, .f32⟩
  | 119 => ⟨S64x64, .f32⟩
  | 120 => ⟨S4096, .f32⟩
  | 121 => ⟨S64, .f32⟩
  | 122 => ⟨S1x64, .f32⟩
  | 123 => ⟨S64x64, .f32⟩
  | 124 => ⟨S4096, .f32⟩
  | 125 => ⟨S16, .f32⟩
  | 126 => ⟨S16, .f32⟩
  | 127 => ⟨S_, .f32⟩
  | _ => ⟨S8x4096x1024, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S4096x1, .f32⟩
  | 6 => ⟨S1x16, .f32⟩
  | 7 => ⟨S4096x16, .f32⟩
  | 8 => ⟨S4096x16, .f32⟩
  | 9 => ⟨S4096x16, .f32⟩
  | 10 => ⟨S4096x1, .f32⟩
  | 11 => ⟨S1x16, .f32⟩
  | 12 => ⟨S4096x16, .f32⟩
  | 13 => ⟨S4096x16, .f32⟩
  | 14 => ⟨S4096x16, .f32⟩
  | 15 => ⟨S8x4096x4x128, .f32⟩
  | 16 => ⟨S8x4096x4x32, .f32⟩
  | 17 => ⟨S8x4096x4x16, .f32⟩
  | 18 => ⟨S8x4096x4x16, .f32⟩
  | 19 => ⟨S4096x16, .f32⟩
  | 20 => ⟨S1x4096x1x16, .f32⟩
  | 21 => ⟨S4096x16, .f32⟩
  | 22 => ⟨S1x4096x1x16, .f32⟩
  | 23 => ⟨S8x4096x4x16, .f32⟩
  | 24 => ⟨S8x4096x4x16, .f32⟩
  | 25 => ⟨S8x4096x4x16, .f32⟩
  | 26 => ⟨S8x4096x4x16, .f32⟩
  | 27 => ⟨S8x4096x4x16, .f32⟩
  | 28 => ⟨S8x4096x4x16, .f32⟩
  | 29 => ⟨S8x4096x4x16, .f32⟩
  | 30 => ⟨S8x4096x4x16, .f32⟩
  | 31 => ⟨S8x4096x4x16, .f32⟩
  | 32 => ⟨S8x4096x4x16, .f32⟩
  | 33 => ⟨S8x4096x4x32, .f32⟩
  | 34 => ⟨S8x4096x4x32, .f32⟩
  | 35 => ⟨S8x4096x4x16, .f32⟩
  | 36 => ⟨S8x4096x4x16, .f32⟩
  | 37 => ⟨S4096x16, .f32⟩
  | 38 => ⟨S1x4096x1x16, .f32⟩
  | 39 => ⟨S4096x16, .f32⟩
  | 40 => ⟨S1x4096x1x16, .f32⟩
  | 41 => ⟨S8x4096x4x16, .f32⟩
  | 42 => ⟨S8x4096x4x16, .f32⟩
  | 43 => ⟨S8x4096x4x16, .f32⟩
  | 44 => ⟨S8x4096x4x16, .f32⟩
  | 45 => ⟨S8x4096x4x16, .f32⟩
  | 46 => ⟨S8x4096x4x16, .f32⟩
  | 47 => ⟨S8x4096x4x16, .f32⟩
  | 48 => ⟨S8x4096x4x16, .f32⟩
  | 49 => ⟨S8x4096x4x16, .f32⟩
  | 50 => ⟨S8x4096x4x16, .f32⟩
  | 51 => ⟨S8x4096x4x32, .f32⟩
  | 52 => ⟨S8x4096x4x192, .f32⟩
  | 53 => ⟨S8x4096x4x128, .f32⟩
  | 54 => ⟨S8x4096x4x32, .f32⟩
  | 55 => ⟨S8x4096x4x16, .f32⟩
  | 56 => ⟨S8x4096x4x16, .f32⟩
  | 57 => ⟨S4096x16, .f32⟩
  | 58 => ⟨S1x4096x1x16, .f32⟩
  | 59 => ⟨S4096x16, .f32⟩
  | 60 => ⟨S1x4096x1x16, .f32⟩
  | 61 => ⟨S8x4096x4x16, .f32⟩
  | 62 => ⟨S8x4096x4x16, .f32⟩
  | 63 => ⟨S8x4096x4x16, .f32⟩
  | 64 => ⟨S8x4096x4x16, .f32⟩
  | 65 => ⟨S8x4096x4x16, .f32⟩
  | 66 => ⟨S8x4096x4x16, .f32⟩
  | 67 => ⟨S8x4096x4x16, .f32⟩
  | 68 => ⟨S8x4096x4x16, .f32⟩
  | 69 => ⟨S8x4096x4x16, .f32⟩
  | 70 => ⟨S8x4096x4x16, .f32⟩
  | 71 => ⟨S8x4096x4x32, .f32⟩
  | 72 => ⟨S8x4096x4x32, .f32⟩
  | 73 => ⟨S8x4096x4x16, .f32⟩
  | 74 => ⟨S8x4096x4x16, .f32⟩
  | 75 => ⟨S4096x16, .f32⟩
  | 76 => ⟨S1x4096x1x16, .f32⟩
  | 77 => ⟨S4096x16, .f32⟩
  | 78 => ⟨S1x4096x1x16, .f32⟩
  | 79 => ⟨S8x4096x4x16, .f32⟩
  | 80 => ⟨S8x4096x4x16, .f32⟩
  | 81 => ⟨S8x4096x4x16, .f32⟩
  | 82 => ⟨S8x4096x4x16, .f32⟩
  | 83 => ⟨S8x4096x4x16, .f32⟩
  | 84 => ⟨S8x4096x4x16, .f32⟩
  | 85 => ⟨S8x4096x4x16, .f32⟩
  | 86 => ⟨S8x4096x4x16, .f32⟩
  | 87 => ⟨S8x4096x4x16, .f32⟩
  | 88 => ⟨S8x4096x4x16, .f32⟩
  | 89 => ⟨S8x4096x4x32, .f32⟩
  | 90 => ⟨S8x4096x4x192, .f32⟩
  | 91 => ⟨S_, .f32⟩
  | 92 => ⟨S8x4096x4x192, .f32⟩
  | 93 => ⟨S8x4096x4x192, .f32⟩
  | 94 => ⟨S32768x256, .f32⟩
  | 95 => ⟨S32768x64, .f32⟩
  | 96 => ⟨S_, .i32⟩
  | 97 => ⟨S_, .f32⟩
  | 98 => ⟨S8x4096x4x256, .f32⟩
  | 99 => ⟨S32768x1024, .f32⟩
  | 100 => ⟨S32768x1024, .bf16⟩
  | 101 => ⟨S_, .i32⟩
  | 102 => ⟨S_, .f32⟩
  | 103 => ⟨S8x4096x4x256, .f32⟩
  | 104 => ⟨S32768x1024, .f32⟩
  | 105 => ⟨S32768x1024, .bf16⟩
  | 106 => ⟨S32768x512, .f32⟩
  | 107 => ⟨S32768x512, .bf16⟩
  | 108 => ⟨S32768x2048, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_15 : Ref sig .tc := ⟨.hbm, 127, rfl⟩
abbrev main_v101 : Ref sig .tc := ⟨.hbm, 128, rfl⟩
abbrev main_v102 : Ref sig .tc := ⟨.hbm, 129, rfl⟩
abbrev main_cst_16 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_cst_17 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_c : Ref sig .tc := ⟨.hbm, 224, rfl⟩
abbrev main_call0_v0 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_c_18 : Ref sig .tc := ⟨.hbm, 229, rfl⟩
abbrev main_call1_v0 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩

abbrev nD : Nat := 1
abbrev τ : Topo := Topo.v7x

variable {F : FTy → Type} [FloatOps F]
-- ==== Modulation.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Activation.lean ====
abbrev S4096x128 : Shape := ⟨2, ![4096, 128]⟩
abbrev S32768x1024 : Shape := ⟨2, ![32768, 1024]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S32768x1024, .f32⟩
  | .hbm, ⟨3, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActivationReferenceIdeal.lean ====
abbrev S4096x128 : Shape := ⟨2, ![4096, 128]⟩
abbrev S32768x1024 : Shape := ⟨2, ![32768, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S32768x1024, .f32⟩
  | .hbm, ⟨3, _⟩ => ⟨S_, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.OnlineSoftmax.lean ====
/- The mathematics of attention read block by block: a softmax whose row is rescaled as each block of keys arrives is the
   softmax over all the keys at once. Scores are real numbers and values are any extended reals. -/
module

public import Idealize.ShloMosaic.PureOps.Ideal
public import Mathlib.Data.EReal.Inv

@[expose] public section

noncomputable section

open Idealize.ShloMosaic
open scoped BigOperators

namespace Cert.OnlineSoftmax

/-- The exponential of a difference of reals is the real exponential of the real difference. -/
theorem exp_sub_coe (a b : ℝ) : Ideal.exp ((a : EReal) - (b : EReal)) = ((Real.exp (a - b) : ℝ) : EReal) := by
  rw [← EReal.coe_sub]; rfl

/-- A finite sum of reals, summed as extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A non-negative real factor distributes over any finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The larger of two reals, as extended reals. -/
theorem max_coe (a b : ℝ) : max (a : EReal) (b : EReal) = ((max a b : ℝ) : EReal) :=
  (EReal.coe_strictMono.monotone.map_max).symm

/-- The running maximum of finitely many reals, from `⊥`, is a real as soon as there is one of them. -/
theorem fold_max_coe {n : ℕ} (hn : 0 < n) (σ : Fin n → ℝ) :
    ∃ M : ℝ, Finset.univ.fold max (⊥ : EReal) (fun i => ((σ i : ℝ) : EReal)) = (M : EReal) := by
  have key : ∀ s : Finset (Fin n), s.fold max (⊥ : EReal) (fun i => ((σ i : ℝ) : EReal)) = ⊥
      ∨ ∃ M : ℝ, s.fold max (⊥ : EReal) (fun i => ((σ i : ℝ) : EReal)) = (M : EReal) := by
    intro s
    classical
    induction s using Finset.induction_on with
    | empty => left; simp
    | insert a s ha ih =>
      right
      rw [Finset.fold_insert ha]
      rcases ih with h | ⟨M, h⟩
      · exact ⟨σ a, by rw [h]; simp⟩
      · exact ⟨max (σ a) M, by rw [h, max_coe]⟩
  rcases key Finset.univ with h | h
  · exfalso
    have h1 : ((σ ⟨0, hn⟩ : ℝ) : EReal) ≤ Finset.univ.fold max (⊥ : EReal) (fun i => ((σ i : ℝ) : EReal)) :=
      (Finset.le_fold_max _).mpr (Or.inr ⟨⟨0, hn⟩, Finset.mem_univ _, le_rfl⟩)
    rw [h, le_bot_iff] at h1
    exact EReal.coe_ne_bot _ h1
  · exact h

/-- A block's unnormalised output at the maximum `M`: each value times the exponential of its score above `M`. -/
def acc {n : ℕ} (σ : Fin n → ℝ) (v : Fin n → EReal) (M : ℝ) : EReal := ∑ i, ((Real.exp (σ i - M) : ℝ) : EReal) * v i

/-- A block's weight at the maximum `M`: the sum of the exponentials of its scores above `M`. -/
def den {n : ℕ} (σ : Fin n → ℝ) (M : ℝ) : ℝ := ∑ i, Real.exp (σ i - M)

/-- Moving the maximum from `M` to `M'` multiplies a block's output by `exp (M - M')`. -/
theorem rescale_acc {n : ℕ} (σ : Fin n → ℝ) (v : Fin n → EReal) (M M' : ℝ) :
    ((Real.exp (M - M') : ℝ) : EReal) * acc σ v M = acc σ v M' := by
  unfold acc
  rw [coe_mul_sum _ _ (Real.exp_pos _).le]
  refine Finset.sum_congr rfl fun i _ => ?_
  rw [← mul_assoc, ← EReal.coe_mul, ← Real.exp_add]
  rw [show M - M' + (σ i - M) = σ i - M' by ring]

/-- Moving the maximum from `M` to `M'` multiplies a block's weight by `exp (M - M')`. -/
theorem rescale_den {n : ℕ} (σ : Fin n → ℝ) (M M' : ℝ) : Real.exp (M - M') * den σ M = den σ M' := by
  unfold den
  rw [Finset.mul_sum]
  refine Finset.sum_congr rfl fun i _ => ?_
  rw [← Real.exp_add]
  congr 1; ring

/-- A block with at least one key has a positive weight. -/
theorem den_pos {n : ℕ} (hn : 0 < n) (σ : Fin n → ℝ) (M : ℝ) : 0 < den σ M :=
  Finset.sum_pos (fun _ _ => Real.exp_pos _) ⟨⟨0, hn⟩, Finset.mem_univ _⟩

/-- Dividing an extended real by a positive real is multiplying it by the real inverse. -/
theorem div_coe_pos (x : EReal) (d : ℝ) (hd : 0 < d) : Ideal.div x (d : EReal) = ((d⁻¹ : ℝ) : EReal) * x := by
  unfold Ideal.div
  rw [if_neg (by exact_mod_cast hd.ne'), EReal.coe_inv, mul_comm]

/-- The softmax's output over all the keys at once: the values averaged with the normalised exponentials of the scores. -/
def attend {n : ℕ} (σ : Fin n → ℝ) (v : Fin n → EReal) : EReal :=
  ∑ i, v i * ((Real.exp (σ i) / ∑ j, Real.exp (σ j) : ℝ) : EReal)

/-- The output divided by the weight, at any maximum, is the softmax's output. -/
theorem div_acc_den {n : ℕ} (hn : 0 < n) (σ : Fin n → ℝ) (v : Fin n → EReal) (M : ℝ) :
    Ideal.div (acc σ v M) ((den σ M : ℝ) : EReal) = attend σ v := by
  have hd := den_pos hn σ M
  rw [div_coe_pos _ _ hd]
  unfold acc attend
  rw [coe_mul_sum _ _ (inv_nonneg.mpr hd.le)]
  refine Finset.sum_congr rfl fun i _ => ?_
  rw [← mul_assoc, ← EReal.coe_mul, mul_comm]
  congr 2
  have e : den σ M = Real.exp (-M) * ∑ j, Real.exp (σ j) := by
    unfold den; rw [Finset.mul_sum]
    exact Finset.sum_congr rfl fun j _ => by rw [← Real.exp_add]; congr 1; ring
  have hs : (∑ j, Real.exp (σ j)) ≠ 0 := by
    intro h; rw [h, mul_zero] at e; exact hd.ne' e
  rw [e, sub_eq_add_neg, Real.exp_add]
  field_simp

/-- The textbook row: weights `exp (s - M) / Σ exp (s - M)` at any real `M`, averaged with the values. -/
theorem attend_eq_row {n : ℕ} (hn : 0 < n) (σ : Fin n → ℝ) (v : Fin n → EReal) (M : ℝ) :
    ∑ i, v i * Ideal.div (Ideal.exp ((σ i : EReal) - (M : EReal))) (∑ j, Ideal.exp ((σ j : EReal) - (M : EReal)))
      = attend σ v := by
  have hd := den_pos hn σ M
  simp only [exp_sub_coe, sum_coe]
  rw [← div_acc_den hn σ v M, div_coe_pos _ _ hd]
  unfold acc
  rw [coe_mul_sum _ _ (inv_nonneg.mpr hd.le)]
  refine Finset.sum_congr rfl fun i _ => ?_
  rw [div_coe_pos _ _ (by exact hd), mul_comm, mul_assoc]
  rfl

/-- Three blocks of keys read one after the other, the row's maximum, weight and output carried and rescaled, as extended
    reals: what a row of the kernel computes. -/
def online {a b c : ℕ} (s₀ : Fin a → EReal) (s₁ : Fin b → EReal) (s₂ : Fin c → EReal)
    (v₀ : Fin a → EReal) (v₁ : Fin b → EReal) (v₂ : Fin c → EReal) : EReal :=
  let m₀ := Finset.univ.fold max ⊥ s₀
  let m₁ := max m₀ (Finset.univ.fold max ⊥ s₁)
  let m₂ := max m₁ (Finset.univ.fold max ⊥ s₂)
  let d₀ := ∑ i, Ideal.exp (s₀ i - m₀)
  let o₀ := ∑ i, Ideal.exp (s₀ i - m₀) * v₀ i
  let d₁ := Ideal.exp (m₀ - m₁) * d₀ + ∑ i, Ideal.exp (s₁ i - m₁)
  let o₁ := Ideal.exp (m₀ - m₁) * o₀ + ∑ i, Ideal.exp (s₁ i - m₁) * v₁ i
  let d₂ := Ideal.exp (m₁ - m₂) * d₁ + ∑ i, Ideal.exp (s₂ i - m₂)
  let o₂ := Ideal.exp (m₁ - m₂) * o₁ + ∑ i, Ideal.exp (s₂ i - m₂) * v₂ i
  Ideal.div o₂ d₂

/-- A sum over all the keys, cut into the three blocks. -/
theorem sum_blocks {M : Type*} [AddCommMonoid M] {a b c n : ℕ} (h : n = a + b + c) (f : Fin n → M) :
    ∑ i, f i = (∑ i : Fin a, f ⟨i, by omega⟩) + (∑ i : Fin b, f ⟨a + i, by omega⟩) + ∑ i : Fin c, f ⟨a + b + i, by omega⟩ := by
  subst h
  rw [Fin.sum_univ_add, Fin.sum_univ_add]
  rfl

/-- Read block by block or all at once, the row is the same. -/
theorem online_eq_attend {a b c n : ℕ} (h : n = a + b + c) (ha : 0 < a) (hb : 0 < b) (hc : 0 < c)
    (σ : Fin n → ℝ) (v : Fin n → EReal) :
    online (fun i : Fin a => ((σ ⟨i, by omega⟩ : ℝ) : EReal)) (fun i : Fin b => ((σ ⟨a + i, by omega⟩ : ℝ) : EReal))
      (fun i : Fin c => ((σ ⟨a + b + i, by omega⟩ : ℝ) : EReal))
      (fun i => v ⟨i, by omega⟩) (fun i => v ⟨a + i, by omega⟩) (fun i => v ⟨a + b + i, by omega⟩) = attend σ v := by
  obtain ⟨M₀, h₀⟩ := fold_max_coe ha (fun i : Fin a => σ ⟨i, by omega⟩)
  obtain ⟨M₁, h₁⟩ := fold_max_coe hb (fun i : Fin b => σ ⟨a + i, by omega⟩)
  obtain ⟨M₂, h₂⟩ := fold_max_coe hc (fun i : Fin c => σ ⟨a + b + i, by omega⟩)
  unfold online
  simp only [h₀, h₁, h₂, max_coe, exp_sub_coe, sum_coe]
  set N₁ := max M₀ M₁
  set N₂ := max N₁ M₂
  have r₀ := rescale_acc (fun i : Fin a => σ ⟨i, by omega⟩) (fun i => v ⟨i, by omega⟩) M₀ N₁
  have q₀ := rescale_den (fun i : Fin a => σ ⟨i, by omega⟩) M₀ N₁
  have r₁ := rescale_acc (fun i : Fin a => σ ⟨i, by omega⟩) (fun i => v ⟨i, by omega⟩) N₁ N₂
  have q₁ := rescale_den (fun i : Fin a => σ ⟨i, by omega⟩) N₁ N₂
  have r₂ := rescale_acc (fun i : Fin b => σ ⟨a + i, by omega⟩) (fun i => v ⟨a + i, by omega⟩) N₁ N₂
  have q₂ := rescale_den (fun i : Fin b => σ ⟨a + i, by omega⟩) N₁ N₂
  simp only [acc, den] at r₀ q₀ r₁ q₁ r₂ q₂
  simp only [← EReal.coe_mul, ← EReal.coe_add]
  rw [r₀, q₀, EReal.left_distrib_of_nonneg_of_ne_top (by exact_mod_cast (Real.exp_pos _).le) (EReal.coe_ne_top _), mul_add,
    r₁, q₁, r₂, q₂, ← div_acc_den (by omega) σ v N₂]
  unfold acc den
  rw [sum_blocks h, sum_blocks h]

/-- The scaled dot product taken over lanes padded with zeros, the scale on the first factor, is the dot product over the
    real lanes, scaled. -/
theorem dot_padded (q k : Fin 192 → ℝ) (κ : ℝ) :
    ∑ d : Fin 256, ((if h : d.val < 192 then ((q ⟨d.val, h⟩ : ℝ) : EReal) else 0) * (κ : EReal))
        * (if h : d.val < 192 then ((k ⟨d.val, h⟩ : ℝ) : EReal) else 0)
      = (((∑ d, q d * k d) * κ : ℝ) : EReal) := by
  have e (d : Fin 256) : ((if h : d.val < 192 then ((q ⟨d.val, h⟩ : ℝ) : EReal) else 0) * (κ : EReal))
        * (if h : d.val < 192 then ((k ⟨d.val, h⟩ : ℝ) : EReal) else 0)
      = (((if h : d.val < 192 then q ⟨d.val, h⟩ * k ⟨d.val, h⟩ * κ else 0) : ℝ) : EReal) := by
    by_cases h : d.val < 192
    · rw [dif_pos h, dif_pos h, dif_pos h, ← EReal.coe_mul, ← EReal.coe_mul]; congr 1; ring
    · rw [dif_neg h, dif_neg h, dif_neg h]; simp
  simp only [e]
  rw [sum_coe, Fin.sum_univ_add (a := 192) (b := 64), Finset.sum_mul]
  congr 1
  rw [Finset.sum_eq_zero (s := (Finset.univ : Finset (Fin 64))), add_zero]
  · exact Finset.sum_congr rfl fun d _ => by rw [dif_pos (by exact d.isLt)]; rfl
  · exact fun d _ => dif_neg (by simp)

/-- The same over the real lanes alone, the scale on the sum. -/
theorem dot_scaled (q k : Fin 192 → ℝ) (κ : ℝ) :
    (∑ d, ((q d : ℝ) : EReal) * ((k d : ℝ) : EReal)) * (κ : EReal) = (((∑ d, q d * k d) * κ : ℝ) : EReal) := by
  simp only [← EReal.coe_mul, sum_coe]

end Cert.OnlineSoftmax

end
-- ==== Proof.Block.lean ====
/- What one grid point of the attention kernel computes, read at an index of its output block. -/
module

public import proofs.«01_k».proof.Proof.Gen.KernelIdeal.Frame
public import proofs.«01_k».proof.Proof.OnlineSoftmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.KernelIdeal.Block

open Cert.KernelIdeal Cert.KernelIdeal.Gen

variable (q : FVec Ideal S256x256 .bf16) (kc : FVec Ideal S256x256 .bf16) (vc : FVec Ideal S256x128 .bf16)
  (k₁ k₂ : FVec Ideal S2048x256 .bf16) (v₁ v₂ : FVec Ideal S2048x128 .bf16)

/-- The pattern of minus infinity is the bottom of the extended reals. -/
theorem neg_inf : Ideal.ofBits .f32 0xFF800000#32 = (⊥ : EReal) := by
  simp [Ideal.ofBits, Ideal.ieee]

/-- The score of row `r` against key `i` of the context's block. -/
theorem score₀ (r i : Fin 256) : k0_pay6 (F := Ideal) q kc (ix2 r i) = ∑ d : Fin 256, q (ix2 r d) * kc (ix2 i d) := by
  pointwise [k0_pay6, k0_pay2]

/-- The score of row `r` against key `i` of a block of the latents' keys. -/
theorem score₁ (r : Fin 256) (i : Fin 2048) : k0_pay10 (F := Ideal) q k₁ (ix2 r i) = ∑ d : Fin 256, q (ix2 r d) * k₁ (ix2 i d) := by
  pointwise [k0_pay10, k0_pay2]

/-- The row's maximum over the context's block. -/
theorem max₀ (r : Fin 256) :
    k0_pay7 (F := Ideal) q kc (ix2 r 0) = Finset.univ.fold max ⊥ (fun i : Fin 256 => k0_pay6 (F := Ideal) q kc (ix2 r i)) := by
  pointwise [k0_pay7]
  simp only [neg_inf]

/-- The exponentials of the context's scores above the row's first maximum. -/
theorem exp₀ (r i : Fin 256) :
    k0_pay8 (F := Ideal) q kc (ix2 r i) = Ideal.exp (k0_pay6 (F := Ideal) q kc (ix2 r i) - k0_pay7 (F := Ideal) q kc (ix2 r 0)) := by
  pointwise [k0_pay8]

/-- The row's output over the context's block. -/
theorem out₀ (r : Fin 256) (l : Fin 128) :
    k0_pay9 (F := Ideal) q kc vc (ix2 r l) = ∑ i : Fin 256, k0_pay8 (F := Ideal) q kc (ix2 r i) * vc (ix2 i l) := by
  pointwise [k0_pay9]

/-- The greatest entry of a row of a block of 2048 scores. -/
theorem rowMax (s : FVec Ideal S256x2048 .f32) (r : Fin 256) :
    shapeCast S256x1 (multiReduction .maximumf [1] S256 s 0xFF800000#32 reduces_S256x2048_S256 (.inl rfl) rfl) shapeCasts_S256_S256x1 (ix2 r 0)
      = Finset.univ.fold max ⊥ (fun i : Fin 2048 => s (ix2 r i)) := by
  pointwise
  simp only [neg_inf]

/-- The row's maximum once the second block is read. -/
theorem max₁ (r : Fin 256) :
    k0_pay11 (F := Ideal) q k₁ kc (ix2 r 0)
      = max (k0_pay7 (F := Ideal) q kc (ix2 r 0)) (Finset.univ.fold max ⊥ (fun i : Fin 2048 => k0_pay10 (F := Ideal) q k₁ (ix2 r i))) := by
  unfold k0_pay11
  refine Eq.trans (maximumf_apply _ _ _) ?_
  rw [rowMax]
  simp only [Ideal.maximumf_def]

/-- The factor by which the row is rescaled when the second block is read. -/
theorem keep₁ (r : Fin 256) :
    k0_pay12 (F := Ideal) q k₁ kc (ix2 r 0)
      = Ideal.exp (k0_pay7 (F := Ideal) q kc (ix2 r 0) - k0_pay11 (F := Ideal) q k₁ kc (ix2 r 0)) := by
  pointwise [k0_pay12]

/-- The exponentials of the second block's scores above the row's second maximum. -/
theorem exp₁ (r : Fin 256) (i : Fin 2048) :
    k0_pay13 (F := Ideal) q k₁ kc (ix2 r i)
      = Ideal.exp (k0_pay10 (F := Ideal) q k₁ (ix2 r i) - k0_pay11 (F := Ideal) q k₁ kc (ix2 r 0)) := by
  pointwise [k0_pay13]

/-- The context's weight, rescaled. -/
theorem kept₁ (r : Fin 256) :
    k0_pay14 (F := Ideal) q k₁ kc (ix2 r 0)
      = k0_pay12 (F := Ideal) q k₁ kc (ix2 r 0) * ∑ i : Fin 256, k0_pay8 (F := Ideal) q kc (ix2 r i) := by
  pointwise [k0_pay14]

/-- The second block's weight. -/
theorem den₁ (r : Fin 256) :
    k0_pay15 (F := Ideal) q k₁ kc (ix2 r 0) = ∑ i : Fin 2048, k0_pay13 (F := Ideal) q k₁ kc (ix2 r i) := by
  pointwise [k0_pay15]

/-- The third block read and the row divided by its weight, from what the first two blocks left. -/
theorem last (q' : FVec Ideal S256x256 .bf16) (o : FVec Ideal S256x128 .f32) (m k : FVec Ideal S256x1 .f32)
    (p : FVec Ideal S256x2048 .f32) (d e : FVec Ideal S256x1 .f32) (r : Fin 256) (l : Fin 128) :
    k0_pay1 (F := Ideal) q' v₁ k₂ v₂ o m k p d e (ix2 r l)
      = (let s : Fin 2048 → EReal := fun i => ∑ x : Fin 256, q' (ix2 r x) * k₂ (ix2 i x)
         let m₂ : EReal := max (m (ix2 r 0)) (Finset.univ.fold max ⊥ s)
         let keep : EReal := Ideal.exp (m (ix2 r 0) - m₂)
         Ideal.div (keep * (k (ix2 r 0) * o (ix2 r l) + ∑ i : Fin 2048, p (ix2 r i) * v₁ (ix2 i l))
             + ∑ i : Fin 2048, Ideal.exp (s i - m₂) * v₂ (ix2 i l))
           (keep * (d (ix2 r 0) + e (ix2 r 0)) + ∑ i : Fin 2048, Ideal.exp (s i - m₂))) := by
  pointwise [k0_pay1]
  simp only [neg_inf]

end Cert.KernelIdeal.Block

end
-- ==== Proof.BlockRow.lean ====
/- One row of a grid point's output block: the online softmax of the point's three blocks of keys. -/
module

public import proofs.«01_k».proof.Proof.Gen.KernelIdeal.Frame
public import proofs.«01_k».proof.Proof.Block
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.KernelIdeal.Block

open Cert.KernelIdeal Cert.KernelIdeal.Gen

/-- ONE ROW of a block, at one column: the online softmax of its three blocks of scores against their values. -/
theorem block (x₀ : FVec Ideal S256x256 .bf16) (x₁ : FVec Ideal S4096x256 .bf16) (x₂ : FVec Ideal S4096x128 .bf16)
    (x₃ : FVec Ideal S256x256 .bf16) (x₄ : FVec Ideal S256x128 .bf16) (r : Fin 256) (l : Fin 128) :
    k0_pay1 (F := Ideal) (k0_pay2 x₀) (k0_pay3 (View.ld x₂ r0_2)) (k0_pay4 (View.ld x₁ r0_3)) (k0_pay5 (View.ld x₂ r0_4)) (k0_pay9 x₀ x₃ x₄)
        (k0_pay11 x₀ (View.ld x₁ r0_1) x₃) (k0_pay12 x₀ (View.ld x₁ r0_1) x₃) (k0_pay13 x₀ (View.ld x₁ r0_1) x₃)
        (k0_pay14 x₀ (View.ld x₁ r0_1) x₃) (k0_pay15 x₀ (View.ld x₁ r0_1) x₃) (ix2 r l)
      = Cert.OnlineSoftmax.online
          (fun i : Fin 256 => ∑ d : Fin 256, x₀ (ix2 r d) * x₃ (ix2 i d))
          (fun i : Fin 2048 => ∑ d : Fin 256, x₀ (ix2 r d) * x₁ (ix2 (⟨i, by omega⟩ : Fin 4096) d))
          (fun i : Fin 2048 => ∑ d : Fin 256, x₀ (ix2 r d) * x₁ (ix2 (⟨2048 + i, by omega⟩ : Fin 4096) d))
          (fun i : Fin 256 => x₄ (ix2 i l))
          (fun i : Fin 2048 => x₂ (ix2 (⟨i, by omega⟩ : Fin 4096) l))
          (fun i : Fin 2048 => x₂ (ix2 (⟨2048 + i, by omega⟩ : Fin 4096) l)) := by
  rw [last]
  simp only [kept₁, den₁, exp₁, keep₁, max₁, out₀, exp₀, max₀, score₁, score₀]
  have a₁ (i : Fin 2048) (d : Fin 256) : View.ld (Val := Elt Ideal) (e' := .bf16) x₁ r0_1 (ix2 i d) = x₁ (ix2 (⟨i, by omega⟩ : Fin 4096) d) := by
    pointwise
  have a₂ (i : Fin 2048) (d : Fin 256) : k0_pay4 (F := Ideal) (View.ld x₁ r0_3) (ix2 i d) = x₁ (ix2 (⟨2048 + i, by omega⟩ : Fin 4096) d) := by
    pointwise [k0_pay4]
  have b₁ (i : Fin 2048) (d : Fin 128) : k0_pay3 (F := Ideal) (View.ld x₂ r0_2) (ix2 i d) = x₂ (ix2 (⟨i, by omega⟩ : Fin 4096) d) := by
    pointwise [k0_pay3]
  have b₂ (i : Fin 2048) (d : Fin 128) : k0_pay5 (F := Ideal) (View.ld x₂ r0_4) (ix2 i d) = x₂ (ix2 (⟨2048 + i, by omega⟩ : Fin 4096) d) := by
    pointwise [k0_pay5]
  have c₀ (i d : Fin 256) : k0_pay2 (F := Ideal) x₀ (ix2 i d) = x₀ (ix2 i d) := by
    pointwise [k0_pay2]
  simp only [a₁, a₂, b₁, b₂, c₀]
  rfl

end Cert.KernelIdeal.Block

end
-- ==== Proof.Entry.lean ====
/- What the host leaves in the attention kernel's five operands, and what a grid point's blocks of them hold. -/
module

public import proofs.«01_k».proof.Proof.Gen.KernelIdeal.Frame
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.KernelIdeal.Entry

open Cert.KernelIdeal Cert.KernelIdeal.Gen

variable (m : (ℓ : Loc nD τ sig) → Buf (Elt Ideal) ℓ) (c : Dev nD)

/-- Every window's block index at a grid point. -/
theorem idx : ∀ t : Fin cfg0.N, win0_0.index t = ![(t.val / 64) * 16 + t.val % 16, t.val / 16 % 4]
    ∧ win0_1.index t = ![t.val / 64, t.val / 16 % 4]
    ∧ win0_2.index t = ![t.val / 64, t.val / 16 % 4]
    ∧ win0_3.index t = ![t.val / 64, t.val / 16 % 4]
    ∧ win0_4.index t = ![t.val / 64, t.val / 16 % 4]
    ∧ win0_5.index t = ![(t.val / 64) * 16 + t.val % 16, t.val / 16 % 4] ∧ t.val / 64 < 8 :=
  (by decide +kernel : ∀ t : Fin grid0.N, _)

/-- The scale of the scores, as the literal both programs print. -/
abbrev κ : EReal := Ideal.ofBits .f32 0x3D93CD3A#32

/-- The queries, on device `c`. -/
abbrev Q : FVec Ideal S8x4096x4x192 .f32 := m ((c : Thread nD τ).loc main_arg0)
/-- The latents' keys. -/
abbrev K : FVec Ideal S8x4096x4x192 .f32 := m ((c : Thread nD τ).loc main_arg1)
/-- The latents' values. -/
abbrev W : FVec Ideal S8x4096x4x128 .f32 := m ((c : Thread nD τ).loc main_arg2)
/-- The context's keys. -/
abbrev Kc : FVec Ideal S8x256x4x192 .f32 := m ((c : Thread nD τ).loc main_arg3)
/-- The context's values. -/
abbrev Wc : FVec Ideal S8x256x4x128 .f32 := m ((c : Thread nD τ).loc main_arg4)

/-- The integer zero converted to a float is zero. -/
theorem sitofp_zero : FloatOps.sitofp (F := Ideal) FTy.f32 0#32 = (0 : EReal) := by
  show (((0#32 : BitVec 32).toInt : ℝ) : EReal) = 0
  simp

/-- The query operand: the queries, each head padded to 256 lanes with zeros, times the scale. -/
theorem q_entry (R : Fin 32768) (C : Fin 1024) :
    V m c main_v4 (ix2 R C)
      = (if h : C.val % 256 < 192 then
          Q m c (ix4 (⟨R.val / 4096, by omega⟩ : Fin 8) (⟨R.val % 4096, by omega⟩ : Fin 4096) (⟨C.val / 256, by omega⟩ : Fin 4) (⟨C.val % 256, h⟩ : Fin 192))
        else 0) * κ := by
  unfold V
  after_reads_at
  by_cases h : C.val % 256 < 192
  · have h' : R.val / 4096 < 8 ∧ R.val % 4096 < 4096 ∧ C.val / 256 < 4 ∧ C.val % 256 < 192 :=
      ⟨by omega, by omega, by omega, h⟩
    simp only [dif_pos h', dif_pos h]
  · have h' : ¬ (R.val / 4096 < 8 ∧ R.val % 4096 < 4096 ∧ C.val / 256 < 4 ∧ C.val % 256 < 192) := fun k => h k.2.2.2
    simp only [dif_neg h', dif_neg h, sitofp_zero]

/-- The latents' key operand: the keys, each head padded to 256 lanes with zeros. -/
theorem k_entry (R : Fin 32768) (C : Fin 1024) :
    V m c main_v7 (ix2 R C)
      = (if h : C.val % 256 < 192 then
          K m c (ix4 (⟨R.val / 4096, by omega⟩ : Fin 8) (⟨R.val % 4096, by omega⟩ : Fin 4096) (⟨C.val / 256, by omega⟩ : Fin 4) (⟨C.val % 256, h⟩ : Fin 192))
        else 0) := by
  unfold V
  after_reads_at
  by_cases h : C.val % 256 < 192
  · have h' : R.val / 4096 < 8 ∧ R.val % 4096 < 4096 ∧ C.val / 256 < 4 ∧ C.val % 256 < 192 :=
      ⟨by omega, by omega, by omega, h⟩
    simp only [dif_pos h', dif_pos h]
  · have h' : ¬ (R.val / 4096 < 8 ∧ R.val % 4096 < 4096 ∧ C.val / 256 < 4 ∧ C.val % 256 < 192) := fun k => h k.2.2.2
    simp only [dif_neg h', dif_neg h, sitofp_zero]

/-- The context's key operand: the keys, each head padded to 256 lanes with zeros. -/
theorem kc_entry (R : Fin 2048) (C : Fin 1024) :
    V m c main_v12 (ix2 R C)
      = (if h : C.val % 256 < 192 then
          Kc m c (ix4 (⟨R.val / 256, by omega⟩ : Fin 8) (⟨R.val % 256, by omega⟩ : Fin 256) (⟨C.val / 256, by omega⟩ : Fin 4) (⟨C.val % 256, h⟩ : Fin 192))
        else 0) := by
  unfold V
  after_reads_at
  by_cases h : C.val % 256 < 192
  · have h' : R.val / 256 < 8 ∧ R.val % 256 < 256 ∧ C.val / 256 < 4 ∧ C.val % 256 < 192 :=
      ⟨by omega, by omega, by omega, h⟩
    simp only [dif_pos h', dif_pos h]
  · have h' : ¬ (R.val / 256 < 8 ∧ R.val % 256 < 256 ∧ C.val / 256 < 4 ∧ C.val % 256 < 192) := fun k => h k.2.2.2
    simp only [dif_neg h', dif_neg h, sitofp_zero]

/-- The latents' value operand: the values with the heads laid side by side. -/
theorem v_entry (R : Fin 32768) (C : Fin 512) :
    V m c main_v9 (ix2 R C)
      = W m c (ix4 (⟨R.val / 4096, by omega⟩ : Fin 8) (⟨R.val % 4096, by omega⟩ : Fin 4096) (⟨C.val / 128, by omega⟩ : Fin 4) (⟨C.val % 128, by omega⟩ : Fin 128)) := by
  unfold V
  after_reads_at

/-- The context's value operand: the values with the heads laid side by side. -/
theorem vc_entry (R : Fin 2048) (C : Fin 512) :
    V m c main_v14 (ix2 R C)
      = Wc m c (ix4 (⟨R.val / 256, by omega⟩ : Fin 8) (⟨R.val % 256, by omega⟩ : Fin 256) (⟨C.val / 128, by omega⟩ : Fin 4) (⟨C.val % 128, by omega⟩ : Fin 128)) := by
  unfold V
  after_reads_at

/-- The batch element a grid point works on. -/
def bat (t : Fin cfg0.N) : Fin 8 := ⟨t.val / 64, (idx t).2.2.2.2.2.2⟩
/-- The head a grid point works on. -/
def head (t : Fin cfg0.N) : Fin 4 := ⟨t.val / 16 % 4, by omega⟩
/-- The row of its batch element at which row `r` of a grid point's block of queries sits. -/
def row (t : Fin cfg0.N) (r : Fin 256) : Fin 4096 := ⟨t.val % 16 * 256 + r.val, by omega⟩

/-- A grid point's block of queries. -/
theorem q_block (t : Fin cfg0.N) (r d : Fin 256) :
    iblk m c 0 t (ix2 r d) = (if h : d.val < 192 then Q m c (ix4 (bat t) (row t r) (head t) (⟨d.val, h⟩ : Fin 192)) else 0) * κ := by
  have hb := (bat t).isLt
  simp only [bat] at hb
  blk_simp [iblk, idx t]
  have e : (win0_0.blk t).view.emb (ix2 r d)
      = ix2 (⟨(t.val / 64 * 16 + t.val % 16) * 256 + r.val, by omega⟩ : Fin 32768) (⟨t.val / 16 % 4 * 256 + d.val, by omega⟩ : Fin 1024) := by
    blk_ext [idx t]
  rw [e, q_entry]
  by_cases h : d.val < 192
  · rw [dif_pos h, dif_pos (by show (t.val / 16 % 4 * 256 + d.val) % 256 < 192; omega)]
    congr 2
    blk_ext [bat, row, head]
  · rw [dif_neg h, dif_neg (by show ¬ (t.val / 16 % 4 * 256 + d.val) % 256 < 192; omega)]

/-- A grid point's block of the latents' keys. -/
theorem k_block (t : Fin cfg0.N) (i : Fin 4096) (d : Fin 256) :
    iblk m c 1 t (ix2 i d) = (if h : d.val < 192 then K m c (ix4 (bat t) i (head t) (⟨d.val, h⟩ : Fin 192)) else 0) := by
  have hb := (bat t).isLt
  simp only [bat] at hb
  blk_simp [iblk, idx t]
  have e : (win0_1.blk t).view.emb (ix2 i d)
      = ix2 (⟨t.val / 64 * 4096 + i.val, by omega⟩ : Fin 32768) (⟨t.val / 16 % 4 * 256 + d.val, by omega⟩ : Fin 1024) := by
    blk_ext [idx t]
  rw [e, k_entry]
  by_cases h : d.val < 192
  · rw [dif_pos h, dif_pos (by show (t.val / 16 % 4 * 256 + d.val) % 256 < 192; omega)]
    blk_ext [bat, head]
  · rw [dif_neg h, dif_neg (by show ¬ (t.val / 16 % 4 * 256 + d.val) % 256 < 192; omega)]

/-- A grid point's block of the latents' values. -/
theorem v_block (t : Fin cfg0.N) (i : Fin 4096) (d : Fin 128) :
    iblk m c 2 t (ix2 i d) = W m c (ix4 (bat t) i (head t) d) := by
  have hb := (bat t).isLt
  simp only [bat] at hb
  blk_simp [iblk, idx t]
  have e : (win0_2.blk t).view.emb (ix2 i d)
      = ix2 (⟨t.val / 64 * 4096 + i.val, by omega⟩ : Fin 32768) (⟨t.val / 16 % 4 * 128 + d.val, by omega⟩ : Fin 512) := by
    blk_ext [idx t]
  rw [e, v_entry]
  blk_ext [bat, head]

/-- A grid point's block of the context's keys. -/
theorem kc_block (t : Fin cfg0.N) (i : Fin 256) (d : Fin 256) :
    iblk m c 3 t (ix2 i d) = (if h : d.val < 192 then Kc m c (ix4 (bat t) i (head t) (⟨d.val, h⟩ : Fin 192)) else 0) := by
  have hb := (bat t).isLt
  simp only [bat] at hb
  blk_simp [iblk, idx t]
  have e : (win0_3.blk t).view.emb (ix2 i d)
      = ix2 (⟨t.val / 64 * 256 + i.val, by omega⟩ : Fin 2048) (⟨t.val / 16 % 4 * 256 + d.val, by omega⟩ : Fin 1024) := by
    blk_ext [idx t]
  rw [e, kc_entry]
  by_cases h : d.val < 192
  · rw [dif_pos h, dif_pos (by show (t.val / 16 % 4 * 256 + d.val) % 256 < 192; omega)]
    blk_ext [bat, head]
  · rw [dif_neg h, dif_neg (by show ¬ (t.val / 16 % 4 * 256 + d.val) % 256 < 192; omega)]

/-- A grid point's block of the context's values. -/
theorem vc_block (t : Fin cfg0.N) (i : Fin 256) (d : Fin 128) :
    iblk m c 4 t (ix2 i d) = Wc m c (ix4 (bat t) i (head t) d) := by
  have hb := (bat t).isLt
  simp only [bat] at hb
  blk_simp [iblk, idx t]
  have e : (win0_4.blk t).view.emb (ix2 i d)
      = ix2 (⟨t.val / 64 * 256 + i.val, by omega⟩ : Fin 2048) (⟨t.val / 16 % 4 * 128 + d.val, by omega⟩ : Fin 512) := by
    blk_ext [idx t]
  rw [e, vc_entry]
  blk_ext [bat, head]

end Cert.KernelIdeal.Entry

end
-- ==== Proof.Reference.lean ====
/- The reference's term read at an index: row by row, the softmax of the scaled scores over all the keys, averaged with
   the values. -/
module

public import proofs.«01_k».proof.Proof.Gen.ReferenceIdeal
public import proofs.«01_k».proof.Proof.OnlineSoftmax
public import Idealize.ShloMosaic.Lib.Pointwise

@[expose] public section

set_option maxRecDepth 16384

noncomputable section

open Idealize.ShloMosaic
open scoped BigOperators

namespace Cert.ReferenceIdeal.Row

open Cert.ReferenceIdeal Cert.ReferenceIdeal.Gen

variable (q k : FVec Ideal S8x4096x4x192 .f32) (v : FVec Ideal S8x4096x4x128 .f32)
  (kc : FVec Ideal S8x256x4x192 .f32) (vc : FVec Ideal S8x256x4x128 .f32)

/-- All the keys: the context's and then the latents'. -/
def keys : FVec Ideal S8x4352x4x192 .f32 :=
  concatenate S8x4352x4x192 1 [⟨S8x256x4x192, kc⟩, ⟨S8x4096x4x192, k⟩] concatenates_S8x256x4x192_S8x4096x4x192_S8x4352x4x192_d1

/-- All the values: the context's and then the latents'. -/
def vals : FVec Ideal S8x4352x4x128 .f32 :=
  concatenate S8x4352x4x128 1 [⟨S8x256x4x128, vc⟩, ⟨S8x4096x4x128, v⟩] concatenates_S8x256x4x128_S8x4096x4x128_S8x4352x4x128_d1

/-- The scaled scores. -/
def scores (kk : FVec Ideal S8x4352x4x192 .f32) : FVec Ideal S8x4x4096x4352 .f32 :=
  mulf (Host.dotGeneral dot_S8x4096x4x192_S8x4352x4x192_S8x4x4096x4352_3_3_1_1_02_02 none q kk)
    (broadcastInDim S8x4x4096x4352 ![] bcast_S_S8x4x4096x4352 (constant S_ .f32 0x3D93CD3A#32))

/-- The maximum over each row's scores. -/
def rowFold (s : FVec Ideal S8x4x4096x4352 .f32) : FVec Ideal S8x4x4096 .f32 :=
  Host.reduce FloatOps.maximumf s (constant S_ .f32 0xFF800000#32) reducesTo_S8x4x4096x4352_S8x4x4096_d3 h_S_

/-- A vector's entries, none of them below minus infinity. -/
def floored (x : FVec Ideal S8x4x4096 .f32) : FVec Ideal S8x4x4096 .f32 :=
  maximumf (broadcastInDim S8x4x4096 ![] bcast_S_S8x4x4096 (constant S_ .f32 0xFF800000#32)) x

/-- Each row's greatest score. -/
def rowMax (s : FVec Ideal S8x4x4096x4352 .f32) : FVec Ideal S8x4x4096 .f32 := floored (rowFold s)

/-- The exponentials of the scores above a row's greatest. -/
def exps (s : FVec Ideal S8x4x4096x4352 .f32) (m : FVec Ideal S8x4x4096 .f32) : FVec Ideal S8x4x4096x4352 .f32 :=
  Host.exp (subf s (broadcastInDim S8x4x4096x4352 ![0, 1, 2, 3] bcast_S8x4x4096x1_S8x4x4096x4352_0_1_2_3
    (broadcastInDim S8x4x4096x1 ![0, 1, 2] bcast_S8x4x4096_S8x4x4096x1_0_1_2 m)))

/-- The exponentials divided by their row's sum. -/
def probs (p : FVec Ideal S8x4x4096x4352 .f32) : FVec Ideal S8x4x4096x4352 .f32 :=
  Host.divf p (broadcastInDim S8x4x4096x4352 ![0, 1, 2, 3] bcast_S8x4x4096x1_S8x4x4096x4352_0_1_2_3
    (broadcastInDim S8x4x4096x1 ![0, 1, 2] bcast_S8x4x4096_S8x4x4096x1_0_1_2
      (Host.reduceAdd p (constant S_ .f32 0x00000000#32) reducesTo_S8x4x4096x4352_S8x4x4096_d3 h_S_)))

/-- The values averaged with the probabilities, the heads side by side. -/
def average (vv : FVec Ideal S8x4352x4x128 .f32) (p : FVec Ideal S8x4x4096x4352 .f32) : FVec Ideal S32768x512 .bf16 :=
  truncf .bf16 (shapeCast S32768x512 (transpose S8x4096x4x128 [0, 3, 1, 2]
    (Host.dotGeneral dot_S8x4352x4x128_S8x4x4096x4352_S8x4x128x4096_1_3_3_2_02_01 none vv p : FVec Ideal S8x4x128x4096 .f32)
    transposes_S8x4x128x4096_S8x4096x4x128_0_3_1_2) shapeCasts_S8x4096x4x128_S32768x512) bitsLt_bf16_f32

/-- The reference's result, of its five arguments. -/
def result : FVec Ideal S32768x512 .bf16 :=
  average (vals v vc) (probs (exps (scores q (keys k kc)) (rowMax (scores q (keys k kc)))))

variable (b : Fin 8) (h : Fin 4) (i : Fin 4096)

/-- A key at an index: the context's below 256, a latent's from there on. -/
theorem keys_apply (j : Fin 4352) (d : Fin 192) :
    keys k kc (ix4 b j h d) = if t : j.val < 256 then kc (ix4 b (⟨j.val, t⟩ : Fin 256) h d)
      else k (ix4 b (⟨j.val - 256, by omega⟩ : Fin 4096) h d) := by
  split
  · next t =>
    exact concatenate_pair_apply_left (s₁ := S8x256x4x192) (s₂ := S8x4096x4x192) (t := S8x4352x4x192) 1 kc k _ _ rfl _ fun a => by
      fin_cases a <;> rfl
  · next t =>
    refine concatenate_pair_apply_right (s₁ := S8x256x4x192) (s₂ := S8x4096x4x192) (t := S8x4352x4x192) 1 kc k _ _ rfl rfl _ (fun a ha => ?_) ?_
    · fin_cases a <;> first | rfl | exact absurd rfl ha
    · exact Nat.sub_add_cancel (Nat.not_lt.1 t)

/-- A value at an index: the context's below 256, a latent's from there on. -/
theorem vals_apply (j : Fin 4352) (l : Fin 128) :
    vals v vc (ix4 b j h l) = if t : j.val < 256 then vc (ix4 b (⟨j.val, t⟩ : Fin 256) h l)
      else v (ix4 b (⟨j.val - 256, by omega⟩ : Fin 4096) h l) := by
  split
  · next t =>
    exact concatenate_pair_apply_left (s₁ := S8x256x4x128) (s₂ := S8x4096x4x128) (t := S8x4352x4x128) 1 vc v _ _ rfl _ fun a => by
      fin_cases a <;> rfl
  · next t =>
    refine concatenate_pair_apply_right (s₁ := S8x256x4x128) (s₂ := S8x4096x4x128) (t := S8x4352x4x128) 1 vc v _ _ rfl rfl _ (fun a ha => ?_) ?_
    · fin_cases a <;> first | rfl | exact absurd rfl ha
    · exact Nat.sub_add_cancel (Nat.not_lt.1 t)

/-- A scaled score at an index. -/
theorem scores_apply (kk : FVec Ideal S8x4352x4x192 .f32) (j : Fin 4352) :
    scores q kk (ix4 b h i j) = (∑ d : Fin 192, q (ix4 b i h d) * kk (ix4 b j h d)) * Ideal.ofBits .f32 0x3D93CD3A#32 := by
  pointwise [scores]

/-- The maximum over a row, as a fold. -/
theorem rowFold_apply (s : FVec Ideal S8x4x4096x4352 .f32) :
    rowFold s (ix3 b h i) = Finset.univ.fold max (Ideal.ofBits .f32 0xFF800000#32) fun j : Fin 4352 => s (ix4 b h i j) := by
  pointwise [rowFold]

/-- The flooring at an index. -/
theorem floored_apply (x : FVec Ideal S8x4x4096 .f32) :
    floored x (ix3 b h i) = max (Ideal.ofBits .f32 0xFF800000#32) (x (ix3 b h i)) := by
  pointwise [floored]

/-- A row's greatest score, as a fold over the keys. -/
theorem rowMax_apply (s : FVec Ideal S8x4x4096x4352 .f32) :
    rowMax s (ix3 b h i) = max (Ideal.ofBits .f32 0xFF800000#32)
      (Finset.univ.fold max (Ideal.ofBits .f32 0xFF800000#32) fun j : Fin 4352 => s (ix4 b h i j)) := by
  rw [rowMax, floored_apply, rowFold_apply]

/-- An exponential at an index. -/
theorem exps_apply (s : FVec Ideal S8x4x4096x4352 .f32) (m : FVec Ideal S8x4x4096 .f32) (j : Fin 4352) :
    exps s m (ix4 b h i j) = Ideal.exp (s (ix4 b h i j) - m (ix3 b h i)) := by
  pointwise [exps]

/-- A probability at an index. -/
theorem probs_apply (p : FVec Ideal S8x4x4096x4352 .f32) (j : Fin 4352) :
    probs p (ix4 b h i j) = Ideal.div (p (ix4 b h i j)) (∑ j' : Fin 4352, p (ix4 b h i j')) := by
  pointwise [probs]

/-- An averaged value: the row's batch and position, the column's head and lane. -/
theorem average_apply (vv : FVec Ideal S8x4352x4x128 .f32) (p : FVec Ideal S8x4x4096x4352 .f32) (R : Fin 32768) (C : Fin 512) :
    average vv p (ix2 R C)
      = ∑ j : Fin 4352, vv (ix4 (⟨R.val / 4096, by omega⟩ : Fin 8) j (⟨C.val / 128, by omega⟩ : Fin 4) (⟨C.val % 128, by omega⟩ : Fin 128))
          * p (ix4 (⟨R.val / 4096, by omega⟩ : Fin 8) (⟨C.val / 128, by omega⟩ : Fin 4) (⟨R.val % 4096, by omega⟩ : Fin 4096) j) := by
  pointwise [average]

/-- The reference's result at row `R` and column `C`: the softmax of the row's scaled scores, averaged with the values. -/
theorem result_apply (R : Fin 32768) (C : Fin 512) :
    result q k v kc vc (ix2 R C)
      = ∑ j : Fin 4352, vals v vc (ix4 (⟨R.val / 4096, by omega⟩ : Fin 8) j (⟨C.val / 128, by omega⟩ : Fin 4) (⟨C.val % 128, by omega⟩ : Fin 128))
          * Ideal.div (Ideal.exp (scores q (keys k kc) (ix4 (⟨R.val / 4096, by omega⟩ : Fin 8) (⟨C.val / 128, by omega⟩ : Fin 4) (⟨R.val % 4096, by omega⟩ : Fin 4096) j)
              - rowMax (scores q (keys k kc)) (ix3 (⟨R.val / 4096, by omega⟩ : Fin 8) (⟨C.val / 128, by omega⟩ : Fin 4) (⟨R.val % 4096, by omega⟩ : Fin 4096))))
            (∑ j' : Fin 4352, Ideal.exp (scores q (keys k kc) (ix4 (⟨R.val / 4096, by omega⟩ : Fin 8) (⟨C.val / 128, by omega⟩ : Fin 4) (⟨R.val % 4096, by omega⟩ : Fin 4096) j')
              - rowMax (scores q (keys k kc)) (ix3 (⟨R.val / 4096, by omega⟩ : Fin 8) (⟨C.val / 128, by omega⟩ : Fin 4) (⟨R.val % 4096, by omega⟩ : Fin 4096)))) := by
  rw [result, average_apply]
  refine Finset.sum_congr rfl fun j _ => ?_
  rw [probs_apply]
  exact congrArg₂ (· * ·) rfl (congrArg₂ Ideal.div (exps_apply _ _ _ _ _ _) (Finset.sum_congr rfl fun j' _ => exps_apply _ _ _ _ _ _))

end Cert.ReferenceIdeal.Row

end
-- ==== Proof.Equation.lean ====
/- The equation of the attention: on real queries and keys, the kernel's online softmax over the context's keys and two
   blocks of the latents' equals the reference's softmax over all the keys. -/
module

public import proofs.«01_k».proof.Proof.Reference

@[expose] public section

set_option maxRecDepth 16384

noncomputable section

open Idealize.ShloMosaic
open scoped BigOperators

namespace Cert.Equation

open Cert.ReferenceIdeal Cert.ReferenceIdeal.Row Cert.OnlineSoftmax

/-- The scale of the scores. -/
abbrev κ : EReal := Ideal.ofBits .f32 0x3D93CD3A#32

/-- The scale is a real number. -/
theorem κ_real : ∃ y : ℝ, κ = (y : EReal) := by
  simp only [κ, Ideal.ofBits, Ideal.ieee]
  exact ⟨_, rfl⟩

/-- The word of a negative infinity is `⊥`. -/
theorem ofBits_neg_inf : Ideal.ofBits .f32 0xFF800000#32 = (⊥ : EReal) := by simp [Ideal.ofBits, Ideal.ieee]

variable (q k : FVec Ideal S8x4096x4x192 .f32) (v : FVec Ideal S8x4096x4x128 .f32)
  (kc : FVec Ideal S8x256x4x192 .f32) (vc : FVec Ideal S8x256x4x128 .f32)

/-- One row: the kernel's online softmax is the reference's. -/
theorem row (hq : ∀ i, ∃ y : ℝ, q i = (y : EReal)) (hk : ∀ i, ∃ y : ℝ, k i = (y : EReal)) (hkc : ∀ i, ∃ y : ℝ, kc i = (y : EReal))
    (b : Fin 8) (h : Fin 4) (i : Fin 4096) (l : Fin 128) :
    online
        (fun j : Fin 256 => ∑ d : Fin 256, ((if t : d.val < 192 then q (ix4 b i h (⟨d.val, t⟩ : Fin 192)) else 0) * κ)
          * (if t : d.val < 192 then kc (ix4 b j h (⟨d.val, t⟩ : Fin 192)) else 0))
        (fun j : Fin 2048 => ∑ d : Fin 256, ((if t : d.val < 192 then q (ix4 b i h (⟨d.val, t⟩ : Fin 192)) else 0) * κ)
          * (if t : d.val < 192 then k (ix4 b (⟨j, by omega⟩ : Fin 4096) h (⟨d.val, t⟩ : Fin 192)) else 0))
        (fun j : Fin 2048 => ∑ d : Fin 256, ((if t : d.val < 192 then q (ix4 b i h (⟨d.val, t⟩ : Fin 192)) else 0) * κ)
          * (if t : d.val < 192 then k (ix4 b (⟨2048 + j, by omega⟩ : Fin 4096) h (⟨d.val, t⟩ : Fin 192)) else 0))
        (fun j : Fin 256 => vc (ix4 b j h l))
        (fun j : Fin 2048 => v (ix4 b (⟨j, by omega⟩ : Fin 4096) h l))
        (fun j : Fin 2048 => v (ix4 b (⟨2048 + j, by omega⟩ : Fin 4096) h l))
      = ∑ j : Fin 4352, vals v vc (ix4 b j h l)
          * Ideal.div (Ideal.exp (scores q (keys k kc) (ix4 b h i j) - rowMax (scores q (keys k kc)) (ix3 b h i)))
            (∑ j' : Fin 4352, Ideal.exp (scores q (keys k kc) (ix4 b h i j') - rowMax (scores q (keys k kc)) (ix3 b h i))) := by
  choose q' hq' using hq
  choose k' hk' using hk
  choose kc' hkc' using hkc
  obtain ⟨κ', hκ⟩ := κ_real
  -- the scaled scores of the row, as real numbers
  let kk (j : Fin 4352) (d : Fin 192) : ℝ :=
    if t : j.val < 256 then kc' (ix4 b (⟨j.val, t⟩ : Fin 256) h d) else k' (ix4 b (⟨j.val - 256, by omega⟩ : Fin 4096) h d)
  let σ (j : Fin 4352) : ℝ := (∑ d, q' (ix4 b i h d) * kk j d) * κ'
  have hs (j : Fin 4352) : scores q (keys k kc) (ix4 b h i j) = (σ j : EReal) := by
    rw [scores_apply, ← dot_scaled, ← hκ]
    refine congrArg (· * κ) (Finset.sum_congr rfl fun d _ => ?_)
    rw [keys_apply, hq']
    by_cases t : j.val < 256
    · simp only [kk, dif_pos t, hkc']
    · simp only [kk, dif_neg t, hk']
  have hM : ∃ M : ℝ, rowMax (scores q (keys k kc)) (ix3 b h i) = (M : EReal) := by
    rw [rowMax_apply]
    simp only [hs, ofBits_neg_inf]
    obtain ⟨M, hM⟩ := fold_max_coe (by decide : 0 < 4352) σ
    exact ⟨M, by rw [hM]; exact max_eq_right bot_le⟩
  obtain ⟨M, hM⟩ := hM
  simp only [hs, hM]
  rw [attend_eq_row (by decide) σ (fun j => vals v vc (ix4 b j h l)) M,
    ← online_eq_attend (a := 256) (b := 2048) (c := 2048) (by decide) (by decide) (by decide) (by decide) σ]
  have e₀ (j : Fin 256) : σ ⟨j.val, by omega⟩ = (∑ d, q' (ix4 b i h d) * kc' (ix4 b j h d)) * κ' := by
    simp only [σ, kk, dif_pos j.isLt]
  have e₁ (j : Fin 2048) : σ ⟨256 + j.val, by omega⟩ = (∑ d, q' (ix4 b i h d) * k' (ix4 b (⟨j.val, by omega⟩ : Fin 4096) h d)) * κ' := by
    simp only [σ, kk]
    refine congrArg (· * κ') (Finset.sum_congr rfl fun d _ => ?_)
    rw [dif_neg (by omega)]
    simp only [Nat.add_sub_cancel_left]
  have e₂ (j : Fin 2048) : σ ⟨256 + 2048 + j.val, by omega⟩ = (∑ d, q' (ix4 b i h d) * k' (ix4 b (⟨2048 + j.val, by omega⟩ : Fin 4096) h d)) * κ' := by
    simp only [σ, kk]
    refine congrArg (· * κ') (Finset.sum_congr rfl fun d _ => ?_)
    rw [dif_neg (by omega)]
    simp only [Nat.add_assoc, Nat.add_sub_cancel_left]
  have f₀ (j : Fin 256) : vals v vc (ix4 b (⟨j.val, by omega⟩ : Fin 4352) h l) = vc (ix4 b j h l) := by
    rw [vals_apply, dif_pos j.isLt]
  have f₁ (j : Fin 2048) : vals v vc (ix4 b (⟨256 + j.val, by omega⟩ : Fin 4352) h l) = v (ix4 b (⟨j.val, by omega⟩ : Fin 4096) h l) := by
    rw [vals_apply, dif_neg (by simp)]
    simp only [Nat.add_sub_cancel_left]
  have f₂ (j : Fin 2048) : vals v vc (ix4 b (⟨256 + 2048 + j.val, by omega⟩ : Fin 4352) h l) = v (ix4 b (⟨2048 + j.val, by omega⟩ : Fin 4096) h l) := by
    rw [vals_apply, dif_neg (by show ¬ 256 + 2048 + j.val < 256; omega)]
    simp only [Nat.add_assoc, Nat.add_sub_cancel_left]
  simp only [e₀, e₁, e₂, f₀, f₁, f₂, ← dot_padded, ← hκ, hq', hk', hkc']

/-- The reference's result at the row of a position of a batch element and the column of a lane of a head. -/
theorem result_at (b : Fin 8) (h : Fin 4) (i : Fin 4096) (l : Fin 128) (R : Fin 32768) (C : Fin 512)
    (hR : R.val = b.val * 4096 + i.val) (hC : C.val = h.val * 128 + l.val) :
    result q k v kc vc (ix2 R C)
      = ∑ j : Fin 4352, vals v vc (ix4 b j h l)
          * Ideal.div (Ideal.exp (scores q (keys k kc) (ix4 b h i j) - rowMax (scores q (keys k kc)) (ix3 b h i)))
            (∑ j' : Fin 4352, Ideal.exp (scores q (keys k kc) (ix4 b h i j') - rowMax (scores q (keys k kc)) (ix3 b h i))) := by
  rw [result_apply]
  have e₁ : (⟨R.val / 4096, by omega⟩ : Fin 8) = b := Fin.ext (by show R.val / 4096 = b.val; omega)
  have e₂ : (⟨R.val % 4096, by omega⟩ : Fin 4096) = i := Fin.ext (by show R.val % 4096 = i.val; omega)
  have e₃ : (⟨C.val / 128, by omega⟩ : Fin 4) = h := Fin.ext (by show C.val / 128 = h.val; omega)
  have e₄ : (⟨C.val % 128, by omega⟩ : Fin 128) = l := Fin.ext (by show C.val % 128 = l.val; omega)
  rw [e₁, e₂, e₃, e₄]

end Cert.Equation

end
-- ==== Proof.Final.lean ====
/- The attention's array after the run: the reference's result of the kernel's own arguments. -/
module

public import proofs.«01_k».proof.Proof.Gen.KernelIdeal.Value
public import proofs.«01_k».proof.Proof.BlockRow
public import proofs.«01_k».proof.Proof.Entry
public import proofs.«01_k».proof.Proof.Equation
public import Idealize.ShloMosaic.Lib.Pipeline.ValueKit

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Entry

variable (m : (ℓ : Loc nD τ sig) → Buf (Elt Ideal) ℓ) (c : Dev nD)

/-- The reference's result of the arguments. -/
abbrev target : FVec Ideal Cert.ReferenceIdeal.S32768x512 .bf16 :=
  Cert.ReferenceIdeal.Row.result (Q m c) (K m c) (W m c) (Kc m c) (Wc m c)

/-- The reference's result at the place where a grid point's block is written. -/
theorem place (t : Fin cfg0.N) (r : Fin 256) (l : Fin 128) :
    target m c ((win0_5.blk t).view.emb (ix2 r l))
      = ∑ j : Fin 4352, Cert.ReferenceIdeal.Row.vals (W m c) (Wc m c) (ix4 (bat t) j (head t) l)
          * Ideal.div (Ideal.exp (Cert.ReferenceIdeal.Row.scores (Q m c) (Cert.ReferenceIdeal.Row.keys (K m c) (Kc m c)) (ix4 (bat t) (head t) (row t r) j)
              - Cert.ReferenceIdeal.Row.rowMax (Cert.ReferenceIdeal.Row.scores (Q m c) (Cert.ReferenceIdeal.Row.keys (K m c) (Kc m c))) (ix3 (bat t) (head t) (row t r))))
            (∑ j' : Fin 4352, Ideal.exp (Cert.ReferenceIdeal.Row.scores (Q m c) (Cert.ReferenceIdeal.Row.keys (K m c) (Kc m c)) (ix4 (bat t) (head t) (row t r) j')
              - Cert.ReferenceIdeal.Row.rowMax (Cert.ReferenceIdeal.Row.scores (Q m c) (Cert.ReferenceIdeal.Row.keys (K m c) (Kc m c))) (ix3 (bat t) (head t) (row t r)))) := by
  have hb := (bat t).isLt
  simp only [bat] at hb
  have e : (win0_5.blk t).view.emb (ix2 r l)
      = ix2 (⟨(t.val / 64 * 16 + t.val % 16) * 256 + r.val, by omega⟩ : Fin 32768) (⟨t.val / 16 % 4 * 128 + l.val, by omega⟩ : Fin 512) := by
    blk_ext [idx t]
  rw [e]
  exact Equation.result_at (Q m c) (K m c) (W m c) (Kc m c) (Wc m c) (bat t) (head t) (row t r) l _ _
    (by simp only [bat, row]; omega) (by simp only [head])

/-- On real queries and keys, the output array after the run is the reference's result. -/
theorem array (hq : ∀ i, ∃ y : ℝ, Q m c i = (y : EReal)) (hk : ∀ i, ∃ y : ℝ, K m c i = (y : EReal))
    (hkc : ∀ i, ∃ y : ℝ, Kc m c i = (y : EReal)) :
    (dats m 0 c).arrAt 5 cfg0.N = target m c := by
  refine (dats m 0 c).arrAt_eq_of_covers 5 _ (by decide +kernel) fun t hf y => ?_
  have hb := (bat t).isLt
  simp only [bat] at hb
  blk_simp
  rw [after0_5]
  frame_out
  idx_vars y
  refine (Block.block _ _ _ _ _ y0 y1).trans ?_
  simp only [q_block, k_block, v_block, kc_block, vc_block]
  refine (Equation.row (Q m c) (K m c) (W m c) (Kc m c) (Wc m c) hq hk hkc (bat t) (head t) (row t y0) y1).trans ?_
  exact (place m c t y0 y1).symm

end Cert.KernelIdeal.Final

end
-- ==== Proof.ResidualFinal.lean ====
/- The prompt's residual: the kernel's array after the run is the reference's result, a row plus the modulated row of
   the experts' sums. -/
module

public import proofs.«01_k».proof.Proof.Gen.ResidualIdeal.Frame
public import proofs.«01_k».proof.Proof.Gen.ResidualReferenceIdeal.Run
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.ResidualReferenceIdeal.Row

open Cert.ResidualReferenceIdeal Cert.ResidualReferenceIdeal.Gen

variable (x : FVec Ideal S4096x1024 .f32) (e : FVec Ideal S17792x1024 .f32) (md : FVec Ideal S6144 .f32)

/-- The result: the rows plus the sixth modulation vector times the first 4096 rows of the experts' sums. -/
def result : FVec Ideal S4096x1024 .f32 :=
  addf x (mulf (broadcastInDim S4096x1024 ![0, 1] bcast_S1x1024_S4096x1024_0_1 (broadcastInDim S1x1024 ![1] bcast_S1024_S1x1024_1
    (extractStridedSlice S1024 ![5120] md slices_S6144_S1024_5120))) (extractStridedSlice S4096x1024 ![0, 0] e slices_S17792x1024_S4096x1024_0_0))

/-- The result at an index. -/
theorem result_apply (R : Fin 4096) (k : Fin 1024) :
    result x e md (ix2 R k) = x (ix2 R k) + md (ix1 (⟨5120 + k.val, by omega⟩ : Fin 6144)) * e (ix2 (⟨R.val, by omega⟩ : Fin 17792) k) := by
  pointwise [result]

end Cert.ResidualReferenceIdeal.Row

namespace Cert.ResidualReferenceIdeal.Results

open Cert.ResidualReferenceIdeal Cert.ResidualReferenceIdeal.Gen

variable (m : (ℓ : Loc nD τ sig) → Buf (Elt Ideal) ℓ) (ρ : Dev nD → PrngReg)

/-- The reference's run. -/
theorem run : θ_run defs (onTc (τ := τ) (main (F := Ideal))) ⟨m, fun _ => 0, ρ⟩ fun r => ∀ c : Dev nD,
    r.2.mem ((c.tc : Thread nD τ).loc main_v10)
      = Row.result (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run _ _ _).mono (fun r h c => ?_) (Value.run (F := Ideal) m ρ)
  obtain ⟨h₀, h⟩ := h c
  exact ⟨h₀.trans rfl, h⟩

end Cert.ResidualReferenceIdeal.Results

namespace Cert.ResidualIdeal.Final

open Cert.ResidualIdeal Cert.ResidualIdeal.Gen

variable (m : (ℓ : Loc nD τ sig) → Buf (Elt Ideal) ℓ) (ρ : Dev nD → PrngReg) (c : Dev nD)

/-- The block indices at a grid point. -/
theorem idx : ∀ t : Fin cfg0.N, win0_0.index t = ![t.val, 0] ∧ win0_1.index t = ![t.val, 0] ∧ win0_2.index t = ![t.val / 2, 0, 0]
    ∧ win0_3.index t = ![t.val, 0] ∧ t.val < 32 :=
  (by decide +kernel : ∀ t : Fin grid0.N, _)

/-- The rows, on device `c`. -/
abbrev X : FVec Ideal S4096x1024 .f32 := m ((c : Thread nD τ).loc main_arg0)
/-- The experts' sums. -/
abbrev E : FVec Ideal S17792x1024 .f32 := m ((c : Thread nD τ).loc main_arg1)
/-- The modulation. -/
abbrev M : FVec Ideal S6144 .f32 := m ((c : Thread nD τ).loc main_arg2)

/-- The modulation operand: the six vectors, the same for every batch element. -/
theorem m_entry (b : Fin 16) (i : Fin 6) (k : Fin 1024) :
    V m c main_v1 (ix3 b i k) = M m c (ix1 (⟨i.val * 1024 + k.val, by omega⟩ : Fin 6144)) := by
  unfold V
  after_reads_at

variable (t : Fin cfg0.N)

/-- A grid point's block of rows. -/
theorem x_block (r : Fin 128) (k : Fin 1024) :
    iblk m c 0 t (ix2 r k) = X m c (ix2 (⟨t.val * 128 + r.val, by have := (idx t).2.2.2.2; omega⟩ : Fin 4096) k) := by
  have ht := (idx t).2.2.2.2
  blk_simp [iblk, idx t]
  have e : (win0_0.blk t).view.emb (ix2 r k) = ix2 (⟨t.val * 128 + r.val, by omega⟩ : Fin 4096) k := by
    blk_ext [idx t]
  rw [e, V_main_arg0]

/-- A grid point's block of the experts' sums. -/
theorem e_block (r : Fin 128) (k : Fin 1024) :
    iblk m c 1 t (ix2 r k) = E m c (ix2 (⟨t.val * 128 + r.val, by have := (idx t).2.2.2.2; omega⟩ : Fin 17792) k) := by
  have ht := (idx t).2.2.2.2
  blk_simp [iblk, idx t]
  have e : (win0_1.blk t).view.emb (ix2 r k) = ix2 (⟨t.val * 128 + r.val, by omega⟩ : Fin 17792) k := by
    blk_ext [idx t]
  rw [e, V_main_arg1]

/-- A grid point's block of the modulation. -/
theorem m_block (i : Fin 6) (k : Fin 1024) :
    iblk m c 2 t (ix3 (0 : Fin 1) i k) = M m c (ix1 (⟨i.val * 1024 + k.val, by omega⟩ : Fin 6144)) := by
  have ht := (idx t).2.2.2.2
  blk_simp [iblk, idx t]
  have e : (win0_2.blk t).view.emb (ix3 (0 : Fin 1) i k) = ix3 (⟨t.val / 2, by omega⟩ : Fin 16) i k := by
    blk_ext [idx t]
  rw [e, m_entry]

/-- What a grid point computes, at a lane. -/
theorem point (x e : FVec Ideal S128x1024 .f32) (md : FVec Ideal S1x6x1024 .f32) (r : Fin 128) (k : Fin 1024) :
    k0_pay1 (F := Ideal) x md e (ix2 r k) = x (ix2 r k) + md (ix3 (0 : Fin 1) (5 : Fin 6) k) * e (ix2 r k) := by
  pointwise [k0_pay1]

/-- The array after the run. -/
theorem array : (dats m 0 c).arrAt 3 cfg0.N = Cert.ResidualReferenceIdeal.Row.result (X m c) (E m c) (M m c) := by
  refine (dats m 0 c).arrAt_eq_of_covers 3 _ (by decide +kernel) fun t hf y => ?_
  have ht := (idx t).2.2.2.2
  blk_simp
  rw [after0_3]
  frame_out
  idx_vars y
  refine (point _ _ _ y0 y1).trans ?_
  have e : (win0_3.blk t).view.emb (ix2 y0 y1) = ix2 (⟨t.val * 128 + y0.val, by omega⟩ : Fin 4096) y1 := by
    blk_ext [idx t]
  rw [e, x_block, e_block, m_block]
  exact (Cert.ResidualReferenceIdeal.Row.result_apply _ _ _ _ _).symm

/-- The kernel's run. -/
theorem run : θ_run defs (onTc (τ := τ) (main (F := Ideal))) ⟨m, fun _ => 0, ρ⟩ fun r => ∀ c : Dev nD,
    r.2.mem ((c : Thread nD τ).loc main_v2) = Cert.ResidualReferenceIdeal.Row.result (X m c) (E m c) (M m c) :=
  (θ_run _ _ _).mono (fun _ h c => ((h c).1 3).trans (array m c)) (run_main m ρ)

end Cert.ResidualIdeal.Final

end
-- ==== Proof.TailFinal.lean ====
/- The residual of the latents' last rows, written into the array of the rows before them: the kernel's array after the
   run is the reference's result. -/
module

public import proofs.«01_k».proof.Proof.Gen.TailIdeal.Frame
public import proofs.«01_k».proof.Proof.Gen.TailReferenceIdeal.Run
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.UnfoldOut

@[expose] public section

set_option maxRecDepth 16384

noncomputable section

open Idealize.ShloMosaic Idealize.ShloMosaic.TcCoe Idealize.SL.Sem

namespace Cert.TailReferenceIdeal.Row

open Cert.TailReferenceIdeal Cert.TailReferenceIdeal.Gen

variable (x : FVec Ideal S32768x1024 .f32) (e : FVec Ideal S17792x1024 .f32) (md : FVec Ideal S8x6144 .f32) (y : FVec Ideal S32768x1024 .f32)

/-- The rows from 19072 on: each plus the sixth modulation vector of its batch element times its row of the experts' sums. -/
def tail : FVec Ideal S13696x1024 .f32 :=
  addf (extractStridedSlice S13696x1024 ![19072, 0] x slices_S32768x1024_S13696x1024_19072_0)
    (mulf (extractStridedSlice S13696x1024 ![19072, 0] (shapeCast S32768x1024 (broadcastInDim S8x4096x1024 ![0, 2] bcast_S8x1024_S8x4096x1024_0_2
        (extractStridedSlice S8x1024 ![0, 5120] md slices_S8x6144_S8x1024_0_5120)) shapeCasts_S8x4096x1024_S32768x1024) slices_S32768x1024_S13696x1024_19072_0)
      (extractStridedSlice S13696x1024 ![4096, 0] e slices_S17792x1024_S13696x1024_4096_0))

/-- The result: the rows before 19072 as given, and those from there on. -/
def result : FVec Ideal S32768x1024 .f32 :=
  concatenate S32768x1024 0 [⟨S19072x1024, extractStridedSlice S19072x1024 ![0, 0] y slices_S32768x1024_S19072x1024_0_0⟩,
    ⟨S13696x1024, tail x e md⟩] concatenates_S19072x1024_S13696x1024_S32768x1024_d0

/-- One of the last rows at a lane. -/
theorem tail_apply (r : Fin 13696) (k : Fin 1024) :
    tail x e md (ix2 r k) = x (ix2 (⟨19072 + r.val, by omega⟩ : Fin 32768) k)
      + md (ix2 (⟨(19072 + r.val) / 4096, by omega⟩ : Fin 8) (⟨5120 + k.val, by omega⟩ : Fin 6144)) * e (ix2 (⟨4096 + r.val, by omega⟩ : Fin 17792) k) := by
  pointwise [tail]

/-- The result at an index. -/
theorem result_apply (R : Fin 32768) (k : Fin 1024) :
    result x e md y (ix2 R k) = if h : R.val < 19072 then y (ix2 R k) else tail x e md (ix2 (⟨R.val - 19072, by omega⟩ : Fin 13696) k) := by
  pointwise [result]

end Cert.TailReferenceIdeal.Row

namespace Cert.TailReferenceIdeal.Results

open Cert.TailReferenceIdeal Cert.TailReferenceIdeal.Gen

variable (m : (ℓ : Loc nD τ sig) → Buf (Elt Ideal) ℓ) (ρ : Dev nD → PrngReg)

/-- The reference's run. -/
theorem run : θ_run defs (onTc (τ := τ) (main (F := Ideal))) ⟨m, fun _ => 0, ρ⟩ fun r => ∀ c : Dev nD,
    r.2.mem ((c.tc : Thread nD τ).loc main_v14)
      = Row.result (m ((c.tc : Thread nD τ).loc main_arg0)) (m ((c.tc : Thread nD τ).loc main_arg1)) (m ((c.tc : Thread nD τ).loc main_arg2))
        (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run _ _ _).mono (fun r h c => ?_) (Value.run (F := Ideal) m ρ)
  obtain ⟨h₀, h⟩ := h c
  exact ⟨h₀.trans rfl, h⟩

end Cert.TailReferenceIdeal.Results

namespace Cert.TailIdeal.Final

open Cert.TailIdeal Cert.TailIdeal.Gen

variable (m : (ℓ : Loc nD τ sig) → Buf (Elt Ideal) ℓ) (ρ : Dev nD → PrngReg) (c : Dev nD)

/-- The block indices at a grid point. -/
theorem idx : ∀ t : Fin cfg0.N, win0_0.index t = ![149 + t.val, 0] ∧ win0_1.index t = ![32 + t.val, 0] ∧ win0_2.index t = ![(149 + t.val) / 32, 0, 0]
    ∧ win0_3.index t = ![149 + t.val, 0] ∧ t.val < 107 :=
  (by decide +kernel : ∀ t : Fin grid0.N, _)

/-- The rows, on device `c`. -/
abbrev X : FVec Ideal S32768x1024 .f32 := m ((c : Thread nD τ).loc main_arg0)
/-- The experts' sums. -/
abbrev E : FVec Ideal S17792x1024 .f32 := m ((c : Thread nD τ).loc main_arg1)
/-- The modulation. -/
abbrev M : FVec Ideal S8x6144 .f32 := m ((c : Thread nD τ).loc main_arg2)
/-- The rows made before. -/
abbrev Y : FVec Ideal S32768x1024 .f32 := m ((c : Thread nD τ).loc main_arg3)

/-- The modulation operand: the six vectors of each batch element. -/
theorem m_entry (b : Fin 8) (i : Fin 6) (k : Fin 1024) :
    V m c main_v0 (ix3 b i k) = M m c (ix2 b (⟨i.val * 1024 + k.val, by omega⟩ : Fin 6144)) := by
  unfold V
  after_reads_at

/-- The result's array starts as a copy of the rows made before. -/
theorem y_entry (R : Fin 32768) (k : Fin 1024) : V m c main_v1 (ix2 R k) = Y m c (ix2 R k) := by
  unfold V
  after_reads_at
  rfl

variable (t : Fin cfg0.N)

/-- A grid point's block of rows. -/
theorem x_block (r : Fin 128) (k : Fin 1024) :
    iblk m c 0 t (ix2 r k) = X m c (ix2 (⟨(149 + t.val) * 128 + r.val, by have := (idx t).2.2.2.2; omega⟩ : Fin 32768) k) := by
  have ht := (idx t).2.2.2.2
  blk_simp [iblk, idx t]
  have e : (win0_0.blk t).view.emb (ix2 r k) = ix2 (⟨(149 + t.val) * 128 + r.val, by omega⟩ : Fin 32768) k := by
    blk_ext [idx t]
  rw [e, V_main_arg0]

/-- A grid point's block of the experts' sums. -/
theorem e_block (r : Fin 128) (k : Fin 1024) :
    iblk m c 1 t (ix2 r k) = E m c (ix2 (⟨(32 + t.val) * 128 + r.val, by have := (idx t).2.2.2.2; omega⟩ : Fin 17792) k) := by
  have ht := (idx t).2.2.2.2
  blk_simp [iblk, idx t]
  have e : (win0_1.blk t).view.emb (ix2 r k) = ix2 (⟨(32 + t.val) * 128 + r.val, by omega⟩ : Fin 17792) k := by
    blk_ext [idx t]
  rw [e, V_main_arg1]

/-- A grid point's block of the modulation. -/
theorem m_block (i : Fin 6) (k : Fin 1024) :
    iblk m c 2 t (ix3 (0 : Fin 1) i k)
      = M m c (ix2 (⟨(149 + t.val) / 32, by have := (idx t).2.2.2.2; omega⟩ : Fin 8) (⟨i.val * 1024 + k.val, by omega⟩ : Fin 6144)) := by
  have ht := (idx t).2.2.2.2
  blk_simp [iblk, idx t]
  have e : (win0_2.blk t).view.emb (ix3 (0 : Fin 1) i k) = ix3 (⟨(149 + t.val) / 32, by omega⟩ : Fin 8) i k := by
    blk_ext [idx t]
  rw [e, m_entry]

/-- What a grid point computes, at a lane. -/
theorem point (x e : FVec Ideal S128x1024 .f32) (md : FVec Ideal S1x6x1024 .f32) (r : Fin 128) (k : Fin 1024) :
    k0_pay1 (F := Ideal) x md e (ix2 r k) = x (ix2 r k) + md (ix3 (0 : Fin 1) (5 : Fin 6) k) * e (ix2 r k) := by
  pointwise [k0_pay1]

/-- What a grid point leaves in its block of the result, at a lane. -/
theorem outs (y0 : Fin 128) (y1 : Fin 1024) :
    outsAt0 m c t (ix2 y0 y1) = k0_pay1 (F := Ideal) (iblk m c 0 t) (iblk m c 2 t) (iblk m c 1 t) (ix2 y0 y1) := by
  unfold outsAt0
  frame_out

/-- The array after the run. -/
theorem array : (dats m 0 c).arrAt 3 cfg0.N = Cert.TailReferenceIdeal.Row.result (X m c) (E m c) (M m c) (Y m c) := by
  refine (dats m 0 c).arrAt_eq_of_coversWhere_of_agree 3 _ (fun β => 149 ≤ β 0) (by decide +kernel) (fun t hf y => ?_) (fun j hj => ?_)
  · have ht := (idx t).2.2.2.2
    blk_simp
    rw [after0_3]
    idx_vars y
    refine ((outs m c t y0 y1).trans (point _ _ _ y0 y1)).trans ?_
    have e : (win0_3.blk t).view.emb (ix2 y0 y1) = ix2 (⟨(149 + t.val) * 128 + y0.val, by omega⟩ : Fin 32768) y1 := by
      blk_ext [idx t]
    rw [e, x_block, e_block, m_block]
    refine Eq.trans ?_ (Cert.TailReferenceIdeal.Row.result_apply _ _ _ _ _ _).symm
    rw [dif_neg (show ¬ (149 + t.val) * 128 + y0.val < 19072 by omega), Cert.TailReferenceIdeal.Row.tail_apply]
    have e₁ : (⟨19072 + ((149 + t.val) * 128 + y0.val - 19072), by omega⟩ : Fin 32768) = ⟨(149 + t.val) * 128 + y0.val, by omega⟩ := Fin.ext (by simp only; omega)
    have e₂ : (⟨(19072 + ((149 + t.val) * 128 + y0.val - 19072)) / 4096, by omega⟩ : Fin 8) = ⟨(149 + t.val) / 32, by omega⟩ := Fin.ext (by simp only; omega)
    have e₃ : (⟨4096 + ((149 + t.val) * 128 + y0.val - 19072), by omega⟩ : Fin 17792) = ⟨(32 + t.val) * 128 + y0.val, by omega⟩ := Fin.ext (by simp only; omega)
    rw [e₁, e₂, e₃]
    rfl
  · blk_simp [Pipeline.Window.cell_apply] at hj
    idx_vars j
    rw [A_eq]
    refine (y_entry m c j0 j1).trans ?_
    refine Eq.trans ?_ (Cert.TailReferenceIdeal.Row.result_apply _ _ _ _ _ _).symm
    rw [dif_pos (show j0.val < 19072 by omega)]

/-- The kernel's run. -/
theorem run : θ_run defs (onTc (τ := τ) (main (F := Ideal))) ⟨m, fun _ => 0, ρ⟩ fun r => ∀ c : Dev nD,
    r.2.mem ((c : Thread nD τ).loc main_v1) = Cert.TailReferenceIdeal.Row.result (X m c) (E m c) (M m c) (Y m c) :=
  (θ_run _ _ _).mono (fun _ h c => ((h c).1 3).trans (array m c)) (run_main m ρ)

end Cert.TailIdeal.Final

end
-- ==== Proof.Finite.lean ====
/- The precondition read: the queries and the keys are real numbers. -/
module

public import proofs.«01_k».proof.Pre_finite_scores
public import Idealize.ShloMosaic.Lib.ReduceAll
public import Idealize.ShloMosaic.Lib.Pointwise
public import Idealize.ShloMosaic.Lib.WordCmp

@[expose] public section

set_option maxRecDepth 16384

noncomputable section

open Idealize.ShloMosaic

namespace Cert.Pre_finite_scores

/-- The precondition's side conditions hold. -/
instance facts : Facts where
  bcast_S_S8x4096x4x192 := by decide
  reducesTo_S8x4096x4x192_S_d0_1_2_3 := by decide
  h_S_ := by decide
  bcast_S_S8x256x4x192 := by decide
  reducesTo_S8x256x4x192_S_d0_1_2_3 := by decide

instance : Subsingleton S_.Idx := ⟨fun a b => funext fun i => i.elim0⟩

/-- The word of a negative infinity is `⊥`. -/
theorem ofBits_neg_inf : Ideal.ofBits .f32 0xFF800000#32 = ⊥ := by simp [Ideal.ofBits, Ideal.ieee]

/-- The word of a positive infinity is `⊤`. -/
theorem ofBits_pos_inf : Ideal.ofBits .f32 0x7F800000#32 = ⊤ := by simp [Ideal.ofBits, Ideal.ieee]

/-- An array whose every entry compares between the infinities holds real numbers. -/
theorem real_of_all {s : Shape} (x : FVec Ideal s .f32) (hb : S_.BroadcastsInDim s ![]) {axes : List (Fin s.rank)}
    (hr : s.ReducesTo axes S_)
    (e : Host.reduce IntOp.andi
      (andi (cmpf .ogt x (broadcastInDim s ![] hb (constant S_ .f32 0xFF800000#32)))
        (cmpf .olt x (broadcastInDim s ![] hb (constant S_ .f32 0x7F800000#32))))
      (constantI S_ 1 1#1) hr Facts.h_S_ (fun i => i.elim0) = 1#1) (i : s.Idx) :
    ∃ y : ℝ, x i = (y : EReal) := by
  have h := Host.reduce_andi_all _ _ _ _ _ e i
  obtain ⟨h1, h2⟩ := IntOp.andi_eq_one.1 h
  have hm : (⊥ : EReal) < x i := by
    have h : Ideal.ofBits .f32 0xFF800000#32 < x i := by
      have h : Ideal.cmp .ogt (x i) (Ideal.ofBits .f32 0xFF800000#32) = 1#1 := h1
      simpa [Ideal.cmp, hlo_ix] using h
    rwa [ofBits_neg_inf] at h
  have hp : x i < (⊤ : EReal) := by
    have h : x i < Ideal.ofBits .f32 0x7F800000#32 := by
      have h : Ideal.cmp .olt (x i) (Ideal.ofBits .f32 0x7F800000#32) = 1#1 := h2
      simpa [Ideal.cmp, hlo_ix] using h
    rwa [ofBits_pos_inf] at h
  exact ⟨EReal.toReal (x i), (EReal.coe_toReal hp.ne hm.ne').symm⟩

/-- The precondition says that the queries, the latents' keys and the context's keys are real numbers. -/
theorem real {q k : FVec Ideal S8x4096x4x192 .f32} {v : FVec Ideal S8x4096x4x128 .f32} {kc : FVec Ideal S8x256x4x192 .f32}
    {vc : FVec Ideal S8x256x4x128 .f32} (e : fn (F := Ideal) q k v kc vc = fun _ => 1#1) :
    (∀ i, ∃ y : ℝ, q i = (y : EReal)) ∧ (∀ i, ∃ y : ℝ, k i = (y : EReal)) ∧ ∀ i, ∃ y : ℝ, kc i = (y : EReal) := by
  have e₀ := congrFun e fun i => i.elim0
  obtain ⟨e₁, e₂⟩ := IntOp.andi_eq_one.1 e₀
  obtain ⟨e₃, e₄⟩ := IntOp.andi_eq_one.1 e₁
  exact ⟨real_of_all q _ _ e₃, real_of_all k _ _ e₄, real_of_all kc _ _ e₂⟩

end Cert.Pre_finite_scores

end
-- ==== Proof.Projection.lean ====
/- The input projection of one token, as a function of its row of numbers: the modulated row, its projection, and the
   latent, query, key, value and rotary rows made from it. Both the kernel and the reference are read as these. -/
module

public import Idealize.ShloMosaic.Lib.Pipeline.ValueKit
public import Idealize.ShloMosaic.Lib.Pointwise

@[expose] public section

noncomputable section

open Idealize.ShloMosaic
open scoped BigOperators

namespace Cert.Projection

/-- The reciprocal of the root of a mean square: the sum `s` of the squares divided by their number `n`, the small
    constant added. -/
def scale (n s : EReal) : EReal := Ideal.rsqrt (Ideal.div s n + Ideal.ofBits .f32 0x358637BD#32)

/-- A row divided by the root of its mean square and multiplied by the weights. -/
def normed {d : ℕ} (n : EReal) (x w : Fin d → EReal) (k : Fin d) : EReal := x k * scale n (∑ i, x i * x i) * w k

/-- The numbers of lanes the means are taken over, as the literals both programs print: 1024, 512, 256 and 192. -/
abbrev n1024 : EReal := Ideal.ofBits .f32 0x44800000#32
/-- The literal 512. -/
abbrev n512 : EReal := Ideal.ofBits .f32 0x44000000#32
/-- The literal 256. -/
abbrev n256 : EReal := Ideal.ofBits .f32 0x43800000#32
/-- The literal 192. -/
abbrev n192 : EReal := Ideal.ofBits .f32 0x43400000#32
/-- The literal one. -/
abbrev one : EReal := Ideal.ofBits .f32 0x3F800000#32
/-- The scale of the queries, as the literal both programs print. -/
abbrev κ : EReal := Ideal.ofBits .f32 0x3D93CD3A#32

/-- The modulated row: the normalised row times one plus the scale, plus the shift. -/
def modulated (x w shift scal : Fin 1024 → EReal) (k : Fin 1024) : EReal := normed n1024 x w k * (one + scal k) + shift k

/-- A row times a matrix. -/
def times {d e : ℕ} (x : Fin d → EReal) (w : Fin d → Fin e → EReal) (j : Fin e) : EReal := ∑ k, x k * w k j

/-- The factor of a head of 256 lanes, the squares of its two halves summed apart. -/
def headScale (v : Fin 256 → EReal) : EReal :=
  scale n192 ((∑ i : Fin 128, v ⟨i, by omega⟩ * v ⟨i, by omega⟩) + ∑ i : Fin 128, v ⟨128 + i, by omega⟩ * v ⟨128 + i, by omega⟩)

/-- A head's lower half: the factor first, then the weights. -/
def lower (v w : Fin 256 → EReal) (l : Fin 128) : EReal := v ⟨l, by omega⟩ * headScale v * w ⟨l, by omega⟩

/-- A head's upper half: the weights first, then the factor. -/
def upper (v w : Fin 256 → EReal) (l : Fin 128) : EReal := v ⟨128 + l, by omega⟩ * w ⟨128 + l, by omega⟩ * headScale v

/-! ## The rows of a token -/

section Rows

variable (x n shift scal : Fin 1024 → EReal) (win : Fin 1024 → Fin 2880 → EReal) (qn : Fin 512 → EReal)
  (wq : Fin 512 → Fin 768 → EReal) (kn : Fin 256 → EReal) (wkv : Fin 256 → Fin 1024 → EReal) (qh kh : Fin 192 → EReal)

/-- The projected row. -/
def proj : Fin 2880 → EReal := times (modulated x n shift scal) win

variable (z : Fin 2880 → EReal)

/-- The normalised latent row. -/
def latent : Fin 256 → EReal := normed n256 (fun j => z ⟨512 + j, by omega⟩) kn

/-- A head of the queries before it is normalised. -/
def qraw (h : Fin 4) (d : Fin 192) : EReal :=
  times (normed n512 (fun k => z ⟨k, by omega⟩) qn) wq ⟨h * 192 + d, by omega⟩

/-- A head of the queries, normalised. -/
def query (h : Fin 4) : Fin 192 → EReal := normed n192 (qraw qn wq z h) qh

/-- A head of the keys before it is normalised: its own part, then the shared rotary part. -/
def kraw (h : Fin 4) (d : Fin 192) : EReal :=
  if t : d.val < 128 then times (latent kn z) wkv ⟨h * 256 + d, by omega⟩ else z ⟨768 + (d - 128), by omega⟩

/-- A head of the keys, normalised. -/
def key (h : Fin 4) : Fin 192 → EReal := normed n192 (kraw kn wkv z h) kh

/-- A head of the values. -/
def value (h : Fin 4) (d : Fin 128) : EReal := times (latent kn z) wkv ⟨h * 256 + (128 + d), by omega⟩

end Rows

/-! ## Padding with zeros -/

/-- A row times a matrix with columns of zeros. -/
theorem times_zero {d e : ℕ} (x : Fin d → EReal) (w : Fin d → Fin e → EReal) (j : Fin e) (h : ∀ k, w k j = 0) : times x w j = 0 := by
  unfold times
  exact Finset.sum_eq_zero fun k _ => by rw [h k, mul_zero]

/-- A row times a matrix, at a column that two matrices share. -/
theorem times_col {d e e' : ℕ} (x : Fin d → EReal) (w : Fin d → Fin e → EReal) (w' : Fin d → Fin e' → EReal) (j : Fin e) (j' : Fin e')
    (h : ∀ k, w k j = w' k j') : times x w j = times x w' j' := by
  unfold times
  exact Finset.sum_congr rfl fun k _ => by rw [h k]

section Heads

variable (V W : Fin 256 → EReal) (v w : Fin 192 → EReal)
  (hV : ∀ d : Fin 256, V d = if h : d.val < 192 then v ⟨d, h⟩ else 0)

include hV in
/-- The squares of a padded head, summed by halves, are the squares of the head. -/
theorem headScale_pad : headScale V = scale n192 (∑ i, v i * v i) := by
  have e₁ : (∑ i : Fin 192, v i * v i)
      = (∑ i : Fin 128, v ⟨i, by omega⟩ * v ⟨i, by omega⟩) + ∑ i : Fin 64, v ⟨128 + i, by omega⟩ * v ⟨128 + i, by omega⟩ :=
    Fin.sum_univ_add (a := 128) (b := 64) fun i : Fin (128 + 64) => v i * v i
  have e₂ : (∑ i : Fin 128, V ⟨128 + i, by omega⟩ * V ⟨128 + i, by omega⟩)
      = (∑ i : Fin 64, V ⟨128 + i, by omega⟩ * V ⟨128 + i, by omega⟩) + ∑ i : Fin 64, V ⟨128 + (64 + i), by omega⟩ * V ⟨128 + (64 + i), by omega⟩ :=
    Fin.sum_univ_add (a := 64) (b := 64) fun i : Fin (64 + 64) => V ⟨128 + i, by omega⟩ * V ⟨128 + i, by omega⟩
  unfold headScale
  rw [e₁, e₂]
  have a (i : Fin 128) : V ⟨i, by omega⟩ = v ⟨i, by omega⟩ := by
    rw [hV, dif_pos (show i.val < 192 by omega)]
  have b (i : Fin 64) : V ⟨128 + i, by omega⟩ = v ⟨128 + i, by omega⟩ := by
    rw [hV, dif_pos (show 128 + i.val < 192 by omega)]
  have z (i : Fin 64) : V ⟨128 + (64 + i), by omega⟩ = 0 := by
    rw [hV, dif_neg (show ¬ 128 + (64 + i.val) < 192 by omega)]
  simp only [a, b, z, mul_zero, Finset.sum_const_zero, add_zero]

variable (hW : ∀ d : Fin 256, W d = if h : d.val < 192 then w ⟨d, h⟩ else 0)

include hV hW in
/-- The lower half of a padded head is the normalised head's. -/
theorem lower_pad (l : Fin 128) : lower V W l = normed n192 v w ⟨l, by omega⟩ := by
  unfold lower normed
  rw [headScale_pad V v hV, hV, hW, dif_pos (show l.val < 192 by omega), dif_pos (show l.val < 192 by omega)]

include hV hW in
/-- The upper half of a padded head is the normalised head's, with zeros after it. -/
theorem upper_pad (l : Fin 128) : upper V W l = if h : l.val < 64 then normed n192 v w ⟨128 + l, by omega⟩ else 0 := by
  unfold upper normed
  rw [headScale_pad V v hV, hV, hW]
  by_cases h : l.val < 64
  · rw [dif_pos h, dif_pos (show 128 + l.val < 192 by omega), dif_pos (show 128 + l.val < 192 by omega)]
    exact mul_right_comm _ _ _
  · rw [dif_neg h, dif_neg (show ¬ 128 + l.val < 192 by omega)]
    simp only [zero_mul]

include hV hW in
/-- A column of the padded heads. -/
theorem halves_pad (p : ℕ) (l : Fin 128) :
    (if p % 2 = 0 then lower else upper) V W l
      = if h : p % 2 * 128 + l < 192 then normed n192 v w ⟨p % 2 * 128 + l, h⟩ else 0 := by
  rcases Nat.mod_two_eq_zero_or_one p with e | e
  · rw [if_pos e, lower_pad V W v w hV hW]
    simp only [e, Nat.zero_mul, Nat.zero_add]
    rw [dif_pos (show l.val < 192 by omega)]
  · rw [if_neg (by omega), upper_pad V W v w hV hW]
    simp only [e, Nat.one_mul]
    by_cases h : l.val < 64
    · rw [dif_pos h, dif_pos (show 128 + l.val < 192 by omega)]
    · rw [dif_neg h, dif_neg (show ¬ 128 + l.val < 192 by omega)]

end Heads

end Cert.Projection

end
-- ==== Proof.PromptBlock.lean ====
/- What one grid point of the prompt's input projection computes, read at an index of its output blocks. -/
module

public import proofs.«01_k».proof.Proof.Gen.PromptIdeal.Value
public import proofs.«01_k».proof.Proof.Projection
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.PromptIdeal.Block

open Cert.PromptIdeal Cert.PromptIdeal.Gen Cert.Projection

variable (x : FVec Ideal S256x1024 .f32) (md : FVec Ideal S1x6x1024 .f32) (w₁ : FVec Ideal S1x1024 .f32)
  (win : FVec Ideal S1024x2944 .bf16)

/-- The projected row at a lane. -/
theorem z (r : Fin 256) (j : Fin 2944) :
    k0_pay3 (F := Ideal) md x w₁ win (ix2 r j)
      = times (modulated (fun k => x (ix2 r k)) (fun k => w₁ (ix2 0 k)) (fun k => md (ix3 0 0 k)) (fun k => md (ix3 0 1 k))) (fun k j => win (ix2 k j)) j := by
  unfold times modulated normed scale
  pointwise [k0_pay3]

variable (r : Fin 256)

/-- The projected row of a block, as a function of its lane. -/
abbrev zrow (j : Fin 2944) : EReal := k0_pay3 (F := Ideal) md x w₁ win (ix2 r j)

variable (qw : FVec Ideal S1x512 .f32) (kw : FVec Ideal S1x256 .f32) (wq : FVec Ideal S512x1024 .bf16)
  (wkv : FVec Ideal S256x1024 .bf16) (hw : FVec Ideal S1x256 .f32)

/-- The normalised latent row. -/
theorem ckv (j : Fin 256) :
    k0_pay9 (F := Ideal) (k0_pay6 md x w₁ win) (k0_pay7 kw) (k0_pay8 md x w₁ win) (ix2 r j)
      = normed n256 (fun j => zrow x md w₁ win r ⟨512 + j, by omega⟩) (fun j => kw (ix2 0 j)) j := by
  unfold normed scale
  pointwise [k0_pay9, k0_pay6, k0_pay7, k0_pay8]

/-- The shared rotary row. -/
theorem krope (j : Fin 64) :
    k0_pay10 (F := Ideal) (k0_pay4 md x w₁ win) (ix2 r j) = zrow x md w₁ win r ⟨768 + j, by omega⟩ := by
  pointwise [k0_pay10, k0_pay4]

/-- The retention's columns. -/
theorem ret (j : Fin 2048) : k0_pay5 (F := Ideal) md x w₁ win (ix2 r j) = zrow x md w₁ win r ⟨896 + j, by omega⟩ := by
  pointwise [k0_pay5]

/-- The queries before their heads are normalised. -/
theorem qlin (Z : FVec Ideal S256x2944 .f32) (c : Fin 1024) :
    k0_pay11 (F := Ideal) Z qw wq (ix2 r c)
      = times (normed n512 (fun k => Z (ix2 r ⟨k, by omega⟩)) (fun k => qw (ix2 0 k))) (fun k c => wq (ix2 k c)) c := by
  unfold times normed scale
  pointwise [k0_pay11]

/-- The keys and values before their heads are normalised. -/
theorem kvlin (C : FVec Ideal S256x256 .f32) (c : Fin 1024) :
    k0_pay30 (F := Ideal) C wkv (ix2 r c) = times (fun k => C (ix2 r k)) (fun k c => wkv (ix2 k c)) c := by
  unfold times
  pointwise [k0_pay30]

/-- A half of a head of the queries. -/
theorem qcat (n : Fin 8) (l : Fin 128) :
    Value.Cat14_0 (F := Ideal) md x w₁ win qw wq hw n (ix2 r l)
      = (if n.val % 2 = 0 then lower else upper)
          (fun d => if h : d.val < 128 then k0_pay11 (F := Ideal) (k0_pay3 md x w₁ win) qw wq (ix2 r ⟨256 * (n.val / 2) + d, by omega⟩)
            else k0_pay11 (F := Ideal) (k0_pay3 md x w₁ win) qw wq (ix2 r ⟨256 * (n.val / 2) + 128 + (d - 128), by omega⟩)) (fun d => hw (ix2 0 d)) l := by
  match n with
  | ⟨0, _⟩ =>
    unfold lower headScale scale
    pointwise [Value.Cat14_0, k0_pay28]
  | ⟨1, _⟩ =>
    unfold upper headScale scale
    pointwise [Value.Cat14_0, k0_pay28]
  | ⟨2, _⟩ =>
    unfold lower headScale scale
    pointwise [Value.Cat14_0, k0_pay28]
  | ⟨3, _⟩ =>
    unfold upper headScale scale
    pointwise [Value.Cat14_0, k0_pay28]
  | ⟨4, _⟩ =>
    unfold lower headScale scale
    pointwise [Value.Cat14_0, k0_pay28]
  | ⟨5, _⟩ =>
    unfold upper headScale scale
    pointwise [Value.Cat14_0, k0_pay28]
  | ⟨6, _⟩ =>
    unfold lower headScale scale
    pointwise [Value.Cat14_0, k0_pay28]
  | ⟨7, _⟩ =>
    unfold upper headScale scale
    pointwise [Value.Cat14_0, k0_pay28]

/-- The queries' columns after their heads are normalised and scaled. -/
theorem qout (C : Fin 1024) :
    k0_pay29 (F := Ideal) (k0_pay11 (k0_pay3 md x w₁ win) qw wq) (k0_pay12 hw)
        (k0_pay18 (k0_pay12 hw) (k0_pay13 (k0_pay3 md x w₁ win) qw wq) (k0_pay15 (k0_pay3 md x w₁ win) qw wq) (k0_pay16 (k0_pay3 md x w₁ win) qw wq))
        (k0_pay19 (k0_pay12 hw) (k0_pay14 (k0_pay3 md x w₁ win) qw wq) (k0_pay15 (k0_pay3 md x w₁ win) qw wq) (k0_pay16 (k0_pay3 md x w₁ win) qw wq))
        (k0_pay23 (k0_pay11 (k0_pay3 md x w₁ win) qw wq) (k0_pay12 hw)) (k0_pay24 (k0_pay11 (k0_pay3 md x w₁ win) qw wq) (k0_pay12 hw))
        (k0_pay25 (k0_pay11 (k0_pay3 md x w₁ win) qw wq)) (k0_pay26 (k0_pay11 (k0_pay3 md x w₁ win) qw wq))
        (k0_pay27 (k0_pay11 (k0_pay3 md x w₁ win) qw wq)) k0_pay28 (ix2 r C)
      = (if C.val / 128 % 2 = 0 then lower else upper)
          (fun d => if h : d.val < 128 then k0_pay11 (F := Ideal) (k0_pay3 md x w₁ win) qw wq (ix2 r ⟨256 * (C.val / 128 / 2) + d, by omega⟩)
            else k0_pay11 (F := Ideal) (k0_pay3 md x w₁ win) qw wq (ix2 r ⟨256 * (C.val / 128 / 2) + 128 + (d - 128), by omega⟩)) (fun d => hw (ix2 0 d)) ⟨C.val % 128, by omega⟩ * κ := by
  have e := concatenate_ofFn_apply (t := S256x1024) (s₁ := S256x128) (1 : Fin 2) (Value.Cat14_0 (F := Ideal) md x w₁ win qw wq hw)
    concatenates_S256x128_S256x128_S256x128_S256x128_S256x128_S256x128_S256x128_S256x128_S256x1024_d1 rfl 128 rfl (ix2 r C) ⟨C.val / 128, by omega⟩ rfl
    (ix2 r (⟨C.val % 128, by omega⟩ : Fin 128)) rfl (fun b hb => by fin_cases b <;> first | rfl | exact absurd rfl hb)
  rw [qcat] at e
  exact congrArg (fun a : EReal => a * κ) e

variable (kv : FVec Ideal S256x1024 .f32) (kr : FVec Ideal S256x128 .f32)

/-- The halves of the heads of the keys. -/
def kfam : Fin 8 → FVec Ideal S256x128 .f32 := fun n => match n with
  | ⟨0, _⟩ => k0_pay36 kr kv hw
  | ⟨1, _⟩ => k0_pay37 kr kv hw
  | ⟨2, _⟩ => k0_pay41 kr kv hw
  | ⟨3, _⟩ => k0_pay42 kr kv hw
  | ⟨4, _⟩ => mulf (mulf (k0_pay44 kv) (broadcastTo S256x128 (rsqrt (addf (divf (k0_pay45 kr kv) k0_pay46) (broadcast S256x1 (Scalar.ofBits .f32 0x358637BD#32)))) broadcasts_S256x1_S256x128))
      (broadcastTo S256x128 (extractStridedSlice S1x128 ![0, 0] (k0_pay31 hw) slices_S1x256_o0_0_S1x128) broadcasts_S1x128_S256x128)
  | ⟨5, _⟩ => mulf (k0_pay32 kr hw) (broadcastTo S256x128 (rsqrt (addf (divf (k0_pay45 kr kv) k0_pay46) (broadcast S256x1 (Scalar.ofBits .f32 0x358637BD#32)))) broadcasts_S256x1_S256x128)
  | ⟨6, _⟩ => mulf (mulf (extractStridedSlice S256x128 ![0, 768] kv slices_S256x1024_o0_768_S256x128)
      (broadcastTo S256x128 (rsqrt (addf (divf (addf (shapeCast S256x1 (multiReduction .add [1] S256 (mulf (extractStridedSlice S256x128 ![0, 768] kv slices_S256x1024_o0_768_S256x128) (extractStridedSlice S256x128 ![0, 768] kv slices_S256x1024_o0_768_S256x128)) 0x00000000#32 reduces_S256x128_S256 (.inl rfl) rfl) shapeCasts_S256_S256x1) (k0_pay33 kr))
      (broadcast S256x1 (Scalar.ofBits .f32 0x43400000#32))) (broadcast S256x1 (Scalar.ofBits .f32 0x358637BD#32)))) broadcasts_S256x1_S256x128))
      (broadcastTo S256x128 (extractStridedSlice S1x128 ![0, 0] (k0_pay31 hw) slices_S1x256_o0_0_S1x128) broadcasts_S1x128_S256x128)
  | ⟨7, _⟩ => mulf (k0_pay32 kr hw)
      (broadcastTo S256x128 (rsqrt (addf (divf (addf (shapeCast S256x1 (multiReduction .add [1] S256 (mulf (extractStridedSlice S256x128 ![0, 768] kv slices_S256x1024_o0_768_S256x128) (extractStridedSlice S256x128 ![0, 768] kv slices_S256x1024_o0_768_S256x128)) 0x00000000#32 reduces_S256x128_S256 (.inl rfl) rfl) shapeCasts_S256_S256x1) (k0_pay33 kr))
      (broadcast S256x1 (Scalar.ofBits .f32 0x43400000#32))) (broadcast S256x1 (Scalar.ofBits .f32 0x358637BD#32)))) broadcasts_S256x1_S256x128)

/-- A half of a head of the keys. -/
theorem kcat (n : Fin 8) (l : Fin 128) :
    kfam hw kv kr n (ix2 r l)
      = (if n.val % 2 = 0 then lower else upper)
          (fun d => if h : d.val < 128 then kv (ix2 r ⟨256 * (n.val / 2) + d, by omega⟩) else kr (ix2 r ⟨d - 128, by omega⟩))
          (fun d => hw (ix2 0 d)) l := by
  match n with
  | ⟨0, _⟩ =>
    unfold lower headScale scale
    pointwise [kfam, k0_pay31, k0_pay32, k0_pay33, k0_pay34, k0_pay35, k0_pay36, k0_pay37, k0_pay39, k0_pay40, k0_pay41, k0_pay42, k0_pay44, k0_pay45, k0_pay46]
  | ⟨1, _⟩ =>
    unfold upper headScale scale
    pointwise [kfam, k0_pay31, k0_pay32, k0_pay33, k0_pay34, k0_pay35, k0_pay36, k0_pay37, k0_pay39, k0_pay40, k0_pay41, k0_pay42, k0_pay44, k0_pay45, k0_pay46]
  | ⟨2, _⟩ =>
    unfold lower headScale scale
    pointwise [kfam, k0_pay31, k0_pay32, k0_pay33, k0_pay34, k0_pay35, k0_pay36, k0_pay37, k0_pay39, k0_pay40, k0_pay41, k0_pay42, k0_pay44, k0_pay45, k0_pay46]
  | ⟨3, _⟩ =>
    unfold upper headScale scale
    pointwise [kfam, k0_pay31, k0_pay32, k0_pay33, k0_pay34, k0_pay35, k0_pay36, k0_pay37, k0_pay39, k0_pay40, k0_pay41, k0_pay42, k0_pay44, k0_pay45, k0_pay46]
  | ⟨4, _⟩ =>
    unfold lower headScale scale
    pointwise [kfam, k0_pay31, k0_pay32, k0_pay33, k0_pay34, k0_pay35, k0_pay36, k0_pay37, k0_pay39, k0_pay40, k0_pay41, k0_pay42, k0_pay44, k0_pay45, k0_pay46]
  | ⟨5, _⟩ =>
    unfold upper headScale scale
    pointwise [kfam, k0_pay31, k0_pay32, k0_pay33, k0_pay34, k0_pay35, k0_pay36, k0_pay37, k0_pay39, k0_pay40, k0_pay41, k0_pay42, k0_pay44, k0_pay45, k0_pay46]
  | ⟨6, _⟩ =>
    unfold lower headScale scale
    pointwise [kfam, k0_pay31, k0_pay32, k0_pay33, k0_pay34, k0_pay35, k0_pay36, k0_pay37, k0_pay39, k0_pay40, k0_pay41, k0_pay42, k0_pay44, k0_pay45, k0_pay46]
  | ⟨7, _⟩ =>
    unfold upper headScale scale
    pointwise [kfam, k0_pay31, k0_pay32, k0_pay33, k0_pay34, k0_pay35, k0_pay36, k0_pay37, k0_pay39, k0_pay40, k0_pay41, k0_pay42, k0_pay44, k0_pay45, k0_pay46]

/-- The keys' columns after their heads are normalised. -/
theorem kout (C : Fin 1024) :
    k0_pay1 (F := Ideal) kv (k0_pay31 hw) (k0_pay32 kr hw) (k0_pay33 kr) (k0_pay36 kr kv hw) (k0_pay37 kr kv hw) (k0_pay41 kr kv hw) (k0_pay42 kr kv hw)
        (k0_pay44 kv) (k0_pay45 kr kv) k0_pay46 (ix2 r C)
      = (if C.val / 128 % 2 = 0 then lower else upper)
          (fun d => if h : d.val < 128 then kv (ix2 r ⟨256 * (C.val / 128 / 2) + d, by omega⟩) else kr (ix2 r ⟨d - 128, by omega⟩))
          (fun d => hw (ix2 0 d)) ⟨C.val % 128, by omega⟩ := by
  have e := concatenate_ofFn_apply (t := S256x1024) (s₁ := S256x128) (1 : Fin 2) (kfam hw kv kr)
    concatenates_S256x128_S256x128_S256x128_S256x128_S256x128_S256x128_S256x128_S256x128_S256x1024_d1 rfl 128 rfl (ix2 r C) ⟨C.val / 128, by omega⟩ rfl
    (ix2 r (⟨C.val % 128, by omega⟩ : Fin 128)) rfl (fun b hb => by fin_cases b <;> first | rfl | exact absurd rfl hb)
  rw [kcat] at e
  exact e

/-- The values of the heads. -/
def vfam : Fin 4 → FVec Ideal S256x128 .f32 := fun n => match n with
  | ⟨0, _⟩ => k0_pay38 kv
  | ⟨1, _⟩ => k0_pay43 kv
  | ⟨2, _⟩ => extractStridedSlice S256x128 ![0, 640] kv slices_S256x1024_o0_640_S256x128
  | ⟨3, _⟩ => extractStridedSlice S256x128 ![0, 896] kv slices_S256x1024_o0_896_S256x128

/-- A head of the values. -/
theorem vcat (n : Fin 4) (l : Fin 128) : vfam kv n (ix2 r l) = kv (ix2 r ⟨256 * n.val + 128 + l, by omega⟩) := by
  match n with
  | ⟨0, _⟩ => pointwise [vfam, k0_pay38, k0_pay43]
  | ⟨1, _⟩ => pointwise [vfam, k0_pay38, k0_pay43]
  | ⟨2, _⟩ => pointwise [vfam, k0_pay38, k0_pay43]
  | ⟨3, _⟩ => pointwise [vfam, k0_pay38, k0_pay43]

/-- The values' columns. -/
theorem vout (C : Fin 512) :
    k0_pay2 (F := Ideal) kv (k0_pay38 kv) (k0_pay43 kv) (ix2 r C) = kv (ix2 r ⟨256 * (C.val / 128) + 128 + C.val % 128, by omega⟩) := by
  have e := concatenate_ofFn_apply (t := S256x512) (s₁ := S256x128) (1 : Fin 2) (vfam kv)
    concatenates_S256x128_S256x128_S256x128_S256x128_S256x512_d1 rfl 128 rfl (ix2 r C) ⟨C.val / 128, by omega⟩ rfl
    (ix2 r (⟨C.val % 128, by omega⟩ : Fin 128)) rfl (fun b hb => by fin_cases b <;> first | rfl | exact absurd rfl hb)
  rw [vcat] at e
  exact e

end Cert.PromptIdeal.Block

end
-- ==== Proof.PromptEntry.lean ====
/- What the host leaves in the operands of the prompt's input projection, and what a grid point's blocks of them hold. -/
module

public import proofs.«01_k».proof.Proof.Gen.PromptIdeal.Frame
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.PromptIdeal.Entry

open Cert.PromptIdeal Cert.PromptIdeal.Gen

variable (m : (ℓ : Loc nD τ sig) → Buf (Elt Ideal) ℓ) (c : Dev nD)

/-- The block indices of the windows that move with the grid point. -/
theorem idx : ∀ t : Fin cfg0.N, win0_0.index t = ![t.val, 0] ∧ win0_1.index t = ![t.val, 0, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ t.val < 16 :=
  (by decide +kernel : ∀ t : Fin grid0.N, _)

/-- The block indices of the windows that stay. -/
theorem still : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The prompt's rows, on device `c`. -/
abbrev X : FVec Ideal S16x256x1024 .f32 := m ((c : Thread nD τ).loc main_arg0)
/-- The modulation. -/
abbrev M : FVec Ideal S6144 .f32 := m ((c : Thread nD τ).loc main_arg1)
/-- The first norm's weights. -/
abbrev N : FVec Ideal S1024 .f32 := m ((c : Thread nD τ).loc main_arg2)
/-- The input projection. -/
abbrev Win : FVec Ideal S1024x2880 .f32 := m ((c : Thread nD τ).loc main_arg3)
/-- The query latent's norm weights. -/
abbrev Qn : FVec Ideal S512 .f32 := m ((c : Thread nD τ).loc main_arg4)
/-- The query up-projection. -/
abbrev Wq : FVec Ideal S512x768 .f32 := m ((c : Thread nD τ).loc main_arg5)
/-- The key latent's norm weights. -/
abbrev Kn : FVec Ideal S256 .f32 := m ((c : Thread nD τ).loc main_arg6)
/-- The key and value up-projection. -/
abbrev Wkv : FVec Ideal S256x1024 .f32 := m ((c : Thread nD τ).loc main_arg7)
/-- The query heads' norm weights. -/
abbrev Qh : FVec Ideal S192 .f32 := m ((c : Thread nD τ).loc main_arg8)
/-- The key heads' norm weights. -/
abbrev Kh : FVec Ideal S192 .f32 := m ((c : Thread nD τ).loc main_arg9)

/-- The integer zero converted to a float is zero. -/
theorem sitofp_zero : FloatOps.sitofp (F := Ideal) FTy.f32 0#32 = (0 : EReal) := by
  show (((0#32 : BitVec 32).toInt : ℝ) : EReal) = 0
  simp

/-- The row operand. -/
theorem x_entry (R : Fin 4096) (k : Fin 1024) :
    V m c main_v20 (ix2 R k) = X m c (ix3 (⟨R.val / 256, by omega⟩ : Fin 16) (⟨R.val % 256, by omega⟩ : Fin 256) k) := by
  unfold V
  after_reads_at

/-- The modulation operand: the six vectors, the same for every batch element. -/
theorem m_entry (b : Fin 16) (i : Fin 6) (k : Fin 1024) :
    V m c main_v1 (ix3 b i k) = M m c (ix1 (⟨i.val * 1024 + k.val, by omega⟩ : Fin 6144)) := by
  unfold V
  after_reads_at

/-- The padded query up-projection. -/
theorem wq_entry (k : Fin 512) (C : Fin 1024) :
    V m c main_v13 (ix2 k C)
      = if h : C.val % 256 < 192 then Wq m c (ix2 k (⟨C.val / 256 * 192 + C.val % 256, by omega⟩ : Fin 768)) else 0 := by
  unfold V
  after_reads_at
  by_cases h : C.val % 256 < 192
  · have h' : C.val / 256 < 4 ∧ C.val % 256 < 192 := ⟨by omega, h⟩
    simp only [dif_pos h', dif_pos h]
  · have h' : ¬ (C.val / 256 < 4 ∧ C.val % 256 < 192) := fun k => h k.2
    simp only [dif_neg h', dif_neg h, sitofp_zero]

/-- The padded query heads' weights. -/
theorem qh_entry (d : Fin 256) :
    V m c main_v16 (ix2 (0 : Fin 1) d) = if h : d.val < 192 then Qh m c (ix1 (⟨d.val, h⟩ : Fin 192)) else 0 := by
  unfold V
  after_reads_at
  simp only [sitofp_zero]

/-- The padded key heads' weights. -/
theorem kh_entry (d : Fin 256) :
    V m c main_v18 (ix2 (0 : Fin 1) d) = if h : d.val < 192 then Kh m c (ix1 (⟨d.val, h⟩ : Fin 192)) else 0 := by
  unfold V
  after_reads_at
  simp only [sitofp_zero]

/-- The first norm's operand. -/
theorem n_entry (k : Fin 1024) : V m c main_v9 (ix2 (0 : Fin 1) k) = N m c (ix1 k) := by
  unfold V
  after_reads_at

/-- The query latent's norm operand. -/
theorem qn_entry (k : Fin 512) : V m c main_v11 (ix2 (0 : Fin 1) k) = Qn m c (ix1 k) := by
  unfold V
  after_reads_at

/-- The key latent's norm operand. -/
theorem kn_entry (k : Fin 256) : V m c main_v12 (ix2 (0 : Fin 1) k) = Kn m c (ix1 k) := by
  unfold V
  after_reads_at

/-- The key and value up-projection's operand. -/
theorem wkv_entry (k : Fin 256) (C : Fin 1024) : V m c main_v14 (ix2 k C) = Wkv m c (ix2 k C) := by
  unfold V
  after_reads_at

/-- The widened input projection: 64 columns of zeros after the rotary columns. -/
theorem win_entry (k : Fin 1024) (j : Fin 2944) :
    V m c main_v10 (ix2 k j)
      = if h : j.val < 832 then Win m c (ix2 k (⟨j.val, by omega⟩ : Fin 2880)) else if h' : j.val < 896 then 0
        else Win m c (ix2 k (⟨j.val - 64, by omega⟩ : Fin 2880)) := by
  unfold V
  after_reads_at
  by_cases h : j.val < 832
  · simp only [dif_pos h]
    after_reads_at
  · simp only [dif_neg h]
    by_cases h' : j.val < 896
    · have h₁ : j.val - 832 < 64 := by omega
      simp only [dif_pos h', dif_pos h₁]
      after_reads_at
    · have h₁ : ¬ j.val - 832 < 64 := by omega
      simp only [dif_neg h', dif_neg h₁]
      after_reads_at
      have e : 832 + (j.val - 832 - 64) = j.val - 64 := by omega
      simp only [e]

variable (t : Fin cfg0.N)

/-- The batch element a grid point works on. -/
def bat (t : Fin cfg0.N) : Fin 16 := ⟨t.val, (idx t).2.2.2.2.2.2.2.2⟩

/-- A grid point's block of rows. -/
theorem x_block (r : Fin 256) (k : Fin 1024) : iblk m c 0 t (ix2 r k) = X m c (ix3 (bat t) r k) := by
  have hb := (bat t).isLt
  simp only [bat] at hb
  blk_simp [iblk, idx t]
  have e : (win0_0.blk t).view.emb (ix2 r k) = ix2 (⟨t.val * 256 + r.val, by omega⟩ : Fin 4096) k := by
    blk_ext [idx t]
  rw [e, x_entry]
  blk_ext [bat]

/-- A grid point's block of the modulation. -/
theorem m_block (i : Fin 6) (k : Fin 1024) :
    iblk m c 1 t (ix3 (0 : Fin 1) i k) = M m c (ix1 (⟨i.val * 1024 + k.val, by omega⟩ : Fin 6144)) := by
  have hb := (bat t).isLt
  simp only [bat] at hb
  blk_simp [iblk, idx t]
  have e : (win0_1.blk t).view.emb (ix3 (0 : Fin 1) i k) = ix3 (⟨t.val, by omega⟩ : Fin 16) i k := by
    blk_ext [idx t]
  rw [e, m_entry]

/-- The first norm's weights in a block. -/
theorem n_block (k : Fin 1024) : iblk m c 2 t (ix2 (0 : Fin 1) k) = N m c (ix1 k) := by
  blk_simp [iblk, still t]
  have e : (win0_2.blk t).view.emb (ix2 (0 : Fin 1) k) = ix2 (0 : Fin 1) k := by
    blk_ext [still t]
  rw [e, n_entry]

/-- The widened input projection in a block. -/
theorem win_block (k : Fin 1024) (j : Fin 2944) :
    iblk m c 3 t (ix2 k j)
      = if h : j.val < 832 then Win m c (ix2 k (⟨j.val, by omega⟩ : Fin 2880)) else if h' : j.val < 896 then 0
        else Win m c (ix2 k (⟨j.val - 64, by omega⟩ : Fin 2880)) := by
  blk_simp [iblk, still t]
  have e : (win0_3.blk t).view.emb (ix2 k j) = ix2 k j := by
    blk_ext [still t]
  rw [e, win_entry]

/-- The query latent's norm weights in a block. -/
theorem qn_block (k : Fin 512) : iblk m c 4 t (ix2 (0 : Fin 1) k) = Qn m c (ix1 k) := by
  blk_simp [iblk, still t]
  have e : (win0_4.blk t).view.emb (ix2 (0 : Fin 1) k) = ix2 (0 : Fin 1) k := by
    blk_ext [still t]
  rw [e, qn_entry]

/-- The key latent's norm weights in a block. -/
theorem kn_block (k : Fin 256) : iblk m c 5 t (ix2 (0 : Fin 1) k) = Kn m c (ix1 k) := by
  blk_simp [iblk, still t]
  have e : (win0_5.blk t).view.emb (ix2 (0 : Fin 1) k) = ix2 (0 : Fin 1) k := by
    blk_ext [still t]
  rw [e, kn_entry]

/-- The padded query up-projection in a block. -/
theorem wq_block (k : Fin 512) (C : Fin 1024) :
    iblk m c 6 t (ix2 k C)
      = if h : C.val % 256 < 192 then Wq m c (ix2 k (⟨C.val / 256 * 192 + C.val % 256, by omega⟩ : Fin 768)) else 0 := by
  blk_simp [iblk, still t]
  have e : (win0_6.blk t).view.emb (ix2 k C) = ix2 k C := by
    blk_ext [still t]
  rw [e, wq_entry]

/-- The key and value up-projection in a block. -/
theorem wkv_block (k : Fin 256) (C : Fin 1024) : iblk m c 7 t (ix2 k C) = Wkv m c (ix2 k C) := by
  blk_simp [iblk, still t]
  have e : (win0_7.blk t).view.emb (ix2 k C) = ix2 k C := by
    blk_ext [still t]
  rw [e, wkv_entry]

/-- The padded query heads' weights in a block. -/
theorem qh_block (d : Fin 256) :
    iblk m c 8 t (ix2 (0 : Fin 1) d) = if h : d.val < 192 then Qh m c (ix1 (⟨d.val, h⟩ : Fin 192)) else 0 := by
  blk_simp [iblk, still t]
  have e : (win0_8.blk t).view.emb (ix2 (0 : Fin 1) d) = ix2 (0 : Fin 1) d := by
    blk_ext [still t]
  rw [e, qh_entry]

/-- The padded key heads' weights in a block. -/
theorem kh_block (d : Fin 256) :
    iblk m c 9 t (ix2 (0 : Fin 1) d) = if h : d.val < 192 then Kh m c (ix1 (⟨d.val, h⟩ : Fin 192)) else 0 := by
  blk_simp [iblk, still t]
  have e : (win0_9.blk t).view.emb (ix2 (0 : Fin 1) d) = ix2 (0 : Fin 1) d := by
    blk_ext [still t]
  rw [e, kh_entry]

end Cert.PromptIdeal.Entry

end
-- ==== Proof.PromptReference.lean ====
/- The reference of the prompt's input projection read at an index: each of its rows is the projection of its token. -/
module

public import proofs.«01_k».proof.Proof.Gen.PromptReferenceIdeal
public import proofs.«01_k».proof.Proof.Projection
public import Idealize.ShloMosaic.Lib.Pointwise

@[expose] public section

set_option maxRecDepth 16384

noncomputable section

open Idealize.ShloMosaic
open scoped BigOperators

namespace Cert.PromptReferenceIdeal.Row

open Cert.PromptReferenceIdeal Cert.PromptReferenceIdeal.Gen Cert.Projection

variable (x : FVec Ideal S16x256x1024 .f32) (md : FVec Ideal S6144 .f32) (n : FVec Ideal S1024 .f32)
  (win : FVec Ideal S1024x2880 .f32) (qn : FVec Ideal S512 .f32) (wq : FVec Ideal S512x768 .f32) (kn : FVec Ideal S256 .f32)
  (wkv : FVec Ideal S256x1024 .f32) (qh kh : FVec Ideal S192 .f32)

/-- The modulated rows. -/
def rows : FVec Ideal S16x256x1024 .f32 :=
  addf (mulf (mulf (mulf x (broadcastInDim S16x256x1024 ![0, 1, 2] bcast_S16x256x1_S16x256x1024_0_1_2
      (Host.rsqrt (addf (Host.divf (broadcastInDim S16x256x1 ![0, 1] bcast_S16x256_S16x256x1_0_1
          (Host.reduceAdd (mulf x x) (constant S_ .f32 0x00000000#32) reducesTo_S16x256x1024_S16x256_d2 h_S_))
        (broadcastInDim S16x256x1 ![] bcast_S_S16x256x1 (constant S_ .f32 0x44800000#32)))
        (broadcastInDim S16x256x1 ![] bcast_S_S16x256x1 (constant S_ .f32 0x358637BD#32))))))
      (broadcastInDim S16x256x1024 ![0, 1, 2] bcast_S1x1x1024_S16x256x1024_0_1_2 (broadcastInDim S1x1x1024 ![2] bcast_S1024_S1x1x1024_2 n)))
    (broadcastInDim S16x256x1024 ![0, 1, 2] bcast_S1x1x1024_S16x256x1024_0_1_2
      (addf (broadcastInDim S1x1x1024 ![] bcast_S_S1x1x1024 (constant S_ .f32 0x3F800000#32))
        (extractStridedSlice S1x1x1024 ![0, 0, 1024] (broadcastInDim S1x1x6144 ![2] bcast_S6144_S1x1x6144_2 md) slices_S1x1x6144_S1x1x1024_0_0_1024))))
    (broadcastInDim S16x256x1024 ![0, 1, 2] bcast_S1x1x1024_S16x256x1024_0_1_2
      (extractStridedSlice S1x1x1024 ![0, 0, 0] (broadcastInDim S1x1x6144 ![2] bcast_S6144_S1x1x6144_2 md) slices_S1x1x6144_S1x1x1024_0_0_0))

/-- The projected rows. -/
def projected : FVec Ideal S16x256x2880 .f32 :=
  Host.dotGeneral dot_S16x256x1024_S1024x2880_S16x256x2880_2_0_01_1_n_n none (rows x md n) win

variable (z : FVec Ideal S16x256x2880 .f32)

/-- The normalised latents, of the columns 512 to 767 of the projected rows. -/
def latents : FVec Ideal S16x256x256 .f32 :=
  let c : FVec Ideal S16x256x256 .f32 := extractStridedSlice S16x256x256 ![0, 0, 512] z slices_S16x256x2880_S16x256x256_0_0_512
  mulf (mulf c (broadcastInDim S16x256x256 ![0, 1, 2] bcast_S16x256x1_S16x256x256_0_1_2
      (Host.rsqrt (addf (Host.divf (broadcastInDim S16x256x1 ![0, 1] bcast_S16x256_S16x256x1_0_1
          (Host.reduceAdd (mulf c c) (constant S_ .f32 0x00000000#32) reducesTo_S16x256x256_S16x256_d2 h_S_))
        (broadcastInDim S16x256x1 ![] bcast_S_S16x256x1 (constant S_ .f32 0x43800000#32)))
        (broadcastInDim S16x256x1 ![] bcast_S_S16x256x1 (constant S_ .f32 0x358637BD#32))))))
      (broadcastInDim S16x256x256 ![0, 1, 2] bcast_S1x1x256_S16x256x256_0_1_2 (broadcastInDim S1x1x256 ![2] bcast_S256_S1x1x256_2 kn))

/-- The normalised query latents, of the first 512 columns. -/
def qlatents : FVec Ideal S16x256x512 .f32 :=
  let c : FVec Ideal S16x256x512 .f32 := extractStridedSlice S16x256x512 ![0, 0, 0] z slices_S16x256x2880_S16x256x512_0_0_0
  mulf (mulf c (broadcastInDim S16x256x512 ![0, 1, 2] bcast_S16x256x1_S16x256x512_0_1_2
      (Host.rsqrt (addf (Host.divf (broadcastInDim S16x256x1 ![0, 1] bcast_S16x256_S16x256x1_0_1
          (Host.reduceAdd (mulf c c) (constant S_ .f32 0x00000000#32) reducesTo_S16x256x512_S16x256_d2 h_S_))
        (broadcastInDim S16x256x1 ![] bcast_S_S16x256x1 (constant S_ .f32 0x44000000#32)))
        (broadcastInDim S16x256x1 ![] bcast_S_S16x256x1 (constant S_ .f32 0x358637BD#32))))))
      (broadcastInDim S16x256x512 ![0, 1, 2] bcast_S1x1x512_S16x256x512_0_1_2 (broadcastInDim S1x1x512 ![2] bcast_S512_S1x1x512_2 qn))

/-- Heads of 192 lanes, each normalised. -/
def heads (a : FVec Ideal S16x256x4x192 .f32) (w : FVec Ideal S192 .f32) : FVec Ideal S16x256x4x192 .f32 :=
  mulf (mulf a (broadcastInDim S16x256x4x192 ![0, 1, 2, 3] bcast_S16x256x4x1_S16x256x4x192_0_1_2_3
      (Host.rsqrt (addf (Host.divf (broadcastInDim S16x256x4x1 ![0, 1, 2] bcast_S16x256x4_S16x256x4x1_0_1_2
          (Host.reduceAdd (mulf a a) (constant S_ .f32 0x00000000#32) reducesTo_S16x256x4x192_S16x256x4_d3 h_S_))
        (broadcastInDim S16x256x4x1 ![] bcast_S_S16x256x4x1 (constant S_ .f32 0x43400000#32)))
        (broadcastInDim S16x256x4x1 ![] bcast_S_S16x256x4x1 (constant S_ .f32 0x358637BD#32))))))
      (broadcastInDim S16x256x4x192 ![0, 1, 2, 3] bcast_S1x1x1x192_S16x256x4x192_0_1_2_3 (broadcastInDim S1x1x1x192 ![3] bcast_S192_S1x1x1x192_3 w))

/-- The queries before their heads are normalised. -/
def qraws (c : FVec Ideal S16x256x512 .f32) : FVec Ideal S16x256x4x192 .f32 :=
  shapeCast S16x256x4x192 (Host.dotGeneral dot_S16x256x512_S512x768_S16x256x768_2_0_01_1_n_n none c wq : FVec Ideal S16x256x768 .f32)
    shapeCasts_S16x256x768_S16x256x4x192

/-- The latents' keys and values. -/
def kvs (c : FVec Ideal S16x256x256 .f32) : FVec Ideal S16x256x4x256 .f32 :=
  shapeCast S16x256x4x256 (Host.dotGeneral dot_S16x256x256_S256x1024_S16x256x1024_2_0_01_1_n_n none c wkv : FVec Ideal S16x256x1024 .f32)
    shapeCasts_S16x256x1024_S16x256x4x256

/-- The rotary columns. -/
def rotary : FVec Ideal S16x256x64 .f32 := extractStridedSlice S16x256x64 ![0, 0, 768] z slices_S16x256x2880_S16x256x64_0_0_768

/-- The keys before their heads are normalised: a head's own part and the shared rotary part. -/
def kraws (kv : FVec Ideal S16x256x4x256 .f32) (kr : FVec Ideal S16x256x64 .f32) : FVec Ideal S16x256x4x192 .f32 :=
  concatenate S16x256x4x192 3 [⟨S16x256x4x128, extractStridedSlice S16x256x4x128 ![0, 0, 0, 0] kv slices_S16x256x4x256_S16x256x4x128_0_0_0_0⟩,
    ⟨S16x256x4x64, broadcastInDim S16x256x4x64 ![0, 1, 2, 3] bcast_S16x256x1x64_S16x256x4x64_0_1_2_3
      (broadcastInDim S16x256x1x64 ![0, 1, 3] bcast_S16x256x64_S16x256x1x64_0_1_3 kr)⟩] concatenates_S16x256x4x128_S16x256x4x64_S16x256x4x192_d3

/-- Heads padded to 256 lanes with zeros and laid side by side. -/
def widened (a : FVec Ideal S16x256x4x192 .f32) : FVec Ideal S4096x1024 .bf16 :=
  truncf .bf16 (shapeCast S4096x1024 (pad S16x256x4x256 ![0, 0, 0, 0] ![0, 0, 0, 64] ![0, 0, 0, 0] a (sitofp .f32 (constantI S_ 32 0#32) : FVec Ideal S_ .f32)
    pads_S16x256x4x192_S16x256x4x256_000_000_000_0640 h_S_ : FVec Ideal S16x256x4x256 .f32) shapeCasts_S16x256x4x256_S4096x1024) bitsLt_bf16_f32

/-- The first result: the latents. -/
def ckv : FVec Ideal S4096x256 .f32 := shapeCast S4096x256 (latents kn z) shapeCasts_S16x256x256_S4096x256
/-- The second result: the rotary columns. -/
def krope : FVec Ideal S4096x64 .f32 := shapeCast S4096x64 (rotary z) shapeCasts_S16x256x64_S4096x64
/-- The third result: the scaled queries. -/
def queries : FVec Ideal S4096x1024 .bf16 :=
  widened (mulf (heads (qraws wq (qlatents qn z)) qh) (broadcastInDim S16x256x4x192 ![] bcast_S_S16x256x4x192 (constant S_ .f32 0x3D93CD3A#32)))
/-- The fourth result: the keys. -/
def keys : FVec Ideal S4096x1024 .bf16 := widened (heads (kraws (kvs wkv (latents kn z)) (rotary z)) kh)
/-- The fifth result: the values. -/
def values : FVec Ideal S4096x512 .bf16 :=
  truncf .bf16 (shapeCast S4096x512 (extractStridedSlice S16x256x4x128 ![0, 0, 0, 128] (kvs wkv (latents kn z)) slices_S16x256x4x256_S16x256x4x128_0_0_0_128)
    shapeCasts_S16x256x4x128_S4096x512) bitsLt_bf16_f32
/-- The sixth result: the retention's columns. -/
def ret : FVec Ideal S4096x2048 .f32 :=
  shapeCast S4096x2048 (extractStridedSlice S16x256x2048 ![0, 0, 832] z slices_S16x256x2880_S16x256x2048_0_0_832) shapeCasts_S16x256x2048_S4096x2048

variable (b : Fin 16) (s : Fin 256) (h : Fin 4)

/-- The projected row of a token. -/
abbrev zrow : Fin 2880 → EReal := fun j => z (ix3 b s j)

/-- A modulated row at a lane. -/
theorem rows_apply (k : Fin 1024) :
    rows x md n (ix3 b s k) = modulated (fun k => x (ix3 b s k)) (fun k => n (ix1 k)) (fun k => md (ix1 ⟨k, by omega⟩)) (fun k => md (ix1 ⟨1024 + k, by omega⟩)) k := by
  unfold modulated normed scale
  pointwise [rows]

/-- A projected row is the projection of its token. -/
theorem projected_apply (j : Fin 2880) :
    projected x md n win (ix3 b s j)
      = proj (fun k => x (ix3 b s k)) (fun k => n (ix1 k)) (fun k => md (ix1 ⟨k, by omega⟩)) (fun k => md (ix1 ⟨1024 + k, by omega⟩)) (fun k j => win (ix2 k j)) j := by
  unfold proj times
  simp only [← rows_apply]
  pointwise [projected]

/-- The latents at a lane. -/
theorem latents_apply (j : Fin 256) : latents kn z (ix3 b s j) = latent (fun j => kn (ix1 j)) (zrow z b s) j := by
  unfold latent normed scale
  pointwise [latents]

/-- The query latents at a lane. -/
theorem qlatents_apply (k : Fin 512) :
    qlatents qn z (ix3 b s k) = normed n512 (fun k => zrow z b s ⟨k, by omega⟩) (fun k => qn (ix1 k)) k := by
  unfold normed scale
  pointwise [qlatents]

/-- A normalised head at a lane. -/
theorem heads_apply (a : FVec Ideal S16x256x4x192 .f32) (w : FVec Ideal S192 .f32) (d : Fin 192) :
    heads a w (ix4 b s h d) = normed n192 (fun d => a (ix4 b s h d)) (fun d => w (ix1 d)) d := by
  unfold normed scale
  pointwise [heads]

/-- The queries before their heads are normalised, at a lane. -/
theorem qraws_apply (c : FVec Ideal S16x256x512 .f32) (d : Fin 192) :
    qraws wq c (ix4 b s h d) = times (fun k => c (ix3 b s k)) (fun k j => wq (ix2 k j)) ⟨h * 192 + d, by omega⟩ := by
  unfold times
  pointwise [qraws]

/-- The keys and values at a lane. -/
theorem kvs_apply (c : FVec Ideal S16x256x256 .f32) (d : Fin 256) :
    kvs wkv c (ix4 b s h d) = times (fun k => c (ix3 b s k)) (fun k j => wkv (ix2 k j)) ⟨h * 256 + d, by omega⟩ := by
  unfold times
  pointwise [kvs]

/-- The rotary columns at a lane. -/
theorem rotary_apply (j : Fin 64) : rotary z (ix3 b s j) = zrow z b s ⟨768 + j, by omega⟩ := by
  pointwise [rotary]

/-- The keys before their heads are normalised, at a lane. -/
theorem kraws_apply (kv : FVec Ideal S16x256x4x256 .f32) (kr : FVec Ideal S16x256x64 .f32) (d : Fin 192) :
    kraws kv kr (ix4 b s h d) = if t : d.val < 128 then kv (ix4 b s h (⟨d.val, by omega⟩ : Fin 256)) else kr (ix3 b s (⟨d.val - 128, by omega⟩ : Fin 64)) := by
  pointwise [kraws]

/-- A padded head at a lane. -/
theorem widened_apply (a : FVec Ideal S16x256x4x192 .f32) (R : Fin 4096) (C : Fin 1024) :
    widened a (ix2 R C) = if t : C.val % 256 < 192 then
        a (ix4 (⟨R.val / 256, by omega⟩ : Fin 16) (⟨R.val % 256, by omega⟩ : Fin 256) (⟨C.val / 256, by omega⟩ : Fin 4) (⟨C.val % 256, t⟩ : Fin 192)) else 0 := by
  pointwise [widened]
  have hz : (FloatOps.sitofp (F := Ideal) .f32 (0#32 : BitVec 32) : EReal) = 0 := by
    show (((0#32 : BitVec 32).toInt : ℝ) : EReal) = 0
    simp
  rw [hz]
  by_cases t : C.val % 256 < 192
  · have t' : R.val / 256 < 16 ∧ R.val % 256 < 256 ∧ C.val / 256 < 4 ∧ C.val % 256 < 192 := ⟨by omega, by omega, by omega, t⟩
    simp only [dif_pos t', dif_pos t]
  · have t' : ¬ (R.val / 256 < 16 ∧ R.val % 256 < 256 ∧ C.val / 256 < 4 ∧ C.val % 256 < 192) := fun q => t q.2.2.2
    simp only [dif_neg t', dif_neg t]

variable (R : Fin 4096)

/-- The projected row of a token in the order of the results. -/
abbrev zflat : Fin 2880 → EReal := zrow z ⟨R / 256, by omega⟩ ⟨R % 256, by omega⟩

/-- The first result at an index. -/
theorem ckv_apply (j : Fin 256) : ckv kn z (ix2 R j) = latent (fun j => kn (ix1 j)) (zflat z R) j := by
  unfold zflat
  rw [← latents_apply]
  pointwise [ckv]

/-- The second result at an index. -/
theorem krope_apply (j : Fin 64) : krope z (ix2 R j) = zflat z R ⟨768 + j, by omega⟩ := by
  unfold zflat
  rw [← rotary_apply]
  pointwise [krope]

/-- The sixth result at an index. -/
theorem ret_apply (j : Fin 2048) : ret z (ix2 R j) = zflat z R ⟨832 + j, by omega⟩ := by
  pointwise [ret]

/-- The raw queries of a token. -/
theorem qraws_row (d : Fin 192) :
    qraws wq (qlatents qn z) (ix4 b s h d) = qraw (fun k => qn (ix1 k)) (fun k j => wq (ix2 k j)) (zrow z b s) h d := by
  rw [qraws_apply]
  simp only [qlatents_apply]
  rfl

/-- The raw keys of a token. -/
theorem kraws_row (d : Fin 192) :
    kraws (kvs wkv (latents kn z)) (rotary z) (ix4 b s h d) = kraw (fun k => kn (ix1 k)) (fun k j => wkv (ix2 k j)) (zrow z b s) h d := by
  rw [kraws_apply]
  simp only [kvs_apply, latents_apply, rotary_apply]
  rfl

/-- The third result at an index. -/
theorem queries_apply (C : Fin 1024) :
    queries qn wq qh z (ix2 R C) = if t : C.val % 256 < 192 then
      query (fun k => qn (ix1 k)) (fun k j => wq (ix2 k j)) (fun d => qh (ix1 d)) (zflat z R) ⟨C / 256, by omega⟩ ⟨C % 256, t⟩ * κ else 0 := by
  unfold queries
  rw [widened_apply]
  by_cases t : C.val % 256 < 192
  · rw [dif_pos t, dif_pos t]
    pointwise
    rw [heads_apply]
    simp only [qraws_row]
    rfl
  · rw [dif_neg t, dif_neg t]

/-- The fourth result at an index. -/
theorem keys_apply (C : Fin 1024) :
    keys kn wkv kh z (ix2 R C) = if t : C.val % 256 < 192 then
      key (fun k => kn (ix1 k)) (fun k j => wkv (ix2 k j)) (fun d => kh (ix1 d)) (zflat z R) ⟨C / 256, by omega⟩ ⟨C % 256, t⟩ else 0 := by
  unfold keys
  rw [widened_apply]
  by_cases t : C.val % 256 < 192
  · rw [dif_pos t, dif_pos t, heads_apply]
    simp only [kraws_row]
    rfl
  · rw [dif_neg t, dif_neg t]

/-- The fifth result at an index. -/
theorem values_apply (C : Fin 512) :
    values kn wkv z (ix2 R C)
      = value (fun k => kn (ix1 k)) (fun k j => wkv (ix2 k j)) (zflat z R) ⟨C / 128, by omega⟩ ⟨C % 128, by omega⟩ := by
  have e : values kn wkv z (ix2 R C) = kvs wkv (latents kn z) (ix4 (⟨R / 256, by omega⟩ : Fin 16) (⟨R % 256, by omega⟩ : Fin 256)
      (⟨C / 128, by omega⟩ : Fin 4) (⟨128 + C % 128, by omega⟩ : Fin 256)) := by
    pointwise [values]
  rw [e, kvs_apply]
  simp only [latents_apply]
  rfl

end Cert.PromptReferenceIdeal.Row

end
-- ==== Proof.PromptFinal.lean ====
/- The arrays of the prompt's input projection after the run: the reference's results of the kernel's own arguments. -/
module

public import proofs.«01_k».proof.Proof.PromptBlock
public import proofs.«01_k».proof.Proof.PromptEntry
public import proofs.«01_k».proof.Proof.PromptReference
public import Idealize.ShloMosaic.Lib.Pipeline.ValueKit

@[expose] public section

set_option maxRecDepth 16384

noncomputable section

open Idealize.ShloMosaic Idealize.ShloMosaic.TcCoe Idealize.SL.Sem

namespace Cert.PromptIdeal.Final

open Cert.PromptIdeal Cert.PromptIdeal.Gen Cert.PromptIdeal.Entry Cert.Projection

variable (m : (ℓ : Loc nD τ sig) → Buf (Elt Ideal) ℓ) (c : Dev nD)

/-- The reference's projected rows. -/
abbrev P : FVec Ideal Cert.PromptReferenceIdeal.S16x256x2880 .f32 := Cert.PromptReferenceIdeal.Row.projected (X m c) (M m c) (N m c) (Win m c)

/-- The projected row of a token. -/
abbrev row (t : Fin cfg0.N) (r : Fin 256) : Fin 2880 → EReal := Cert.PromptReferenceIdeal.Row.zrow (P m c) (bat t) r

variable (t : Fin cfg0.N) (r : Fin 256)

/-- A block's shift. -/
theorem shift_block (k : Fin 1024) : iblk m c 1 t (ix3 (0 : Fin 1) (0 : Fin 6) k) = M m c (ix1 (⟨k.val, by omega⟩ : Fin 6144)) := by
  rw [m_block]
  simp only [Fin.val_zero, Nat.zero_mul, Nat.zero_add]

/-- A block's scale. -/
theorem scale_block (k : Fin 1024) : iblk m c 1 t (ix3 (0 : Fin 1) (1 : Fin 6) k) = M m c (ix1 (⟨1024 + k.val, by omega⟩ : Fin 6144)) := by
  rw [m_block]
  simp only [Fin.val_one, Nat.one_mul]

/-- A block's projected row. -/
abbrev Z : Fin 2944 → EReal := Block.zrow (iblk m c 0 t) (iblk m c 1 t) (iblk m c 2 t) (iblk m c 3 t) r

/-- A block's projected row is the token's, with 64 zeros put in after the rotary columns. -/
theorem Z_eq (j : Fin 2944) :
    Z m c t r j = if h : j.val < 832 then row m c t r ⟨j, by omega⟩ else if h' : j.val < 896 then 0 else row m c t r ⟨j - 64, by omega⟩ := by
  unfold Z Block.zrow
  rw [Block.z]
  simp only [row, Cert.PromptReferenceIdeal.Row.zrow, Cert.PromptReferenceIdeal.Row.projected_apply, proj, x_block, shift_block, scale_block, n_block, win_block]
  by_cases h : j.val < 832
  · rw [dif_pos h]
    refine times_col _ _ _ _ _ fun k => ?_
    rw [dif_pos h]
  · rw [dif_neg h]
    by_cases h' : j.val < 896
    · rw [dif_pos h']
      refine times_zero _ _ _ fun k => ?_
      rw [dif_neg h, dif_pos h']
    · rw [dif_neg h']
      refine times_col _ _ _ _ _ fun k => ?_
      rw [dif_neg h, dif_neg h']

/-- The columns before the zeros. -/
theorem Z_low (j : ℕ) (h : j < 832) : Z m c t r ⟨j, by omega⟩ = row m c t r ⟨j, by omega⟩ := by
  rw [Z_eq, dif_pos h]

/-- The columns after the zeros. -/
theorem Z_high (j : ℕ) (h : j < 2048) : Z m c t r ⟨896 + j, by omega⟩ = row m c t r ⟨832 + j, by omega⟩ := by
  rw [Z_eq, dif_neg (show ¬ 896 + j < 832 by omega), dif_neg (show ¬ 896 + j < 896 by omega)]
  have e : (⟨896 + j - 64, by omega⟩ : Fin 2880) = ⟨832 + j, by omega⟩ := Fin.ext (by show 896 + j - 64 = 832 + j; omega)
  rw [e]

/-- A block's raw queries: every head padded with zeros. -/
theorem qlin (h : Fin 4) (d : Fin 256) (j : Fin 1024) (hj : j.val = h.val * 256 + d.val) :
    k0_pay11 (F := Ideal) (k0_pay3 (iblk m c 1 t) (iblk m c 0 t) (iblk m c 2 t) (iblk m c 3 t)) (iblk m c 4 t) (iblk m c 6 t) (ix2 r j)
      = if e : d.val < 192 then qraw (fun k => Qn m c (ix1 k)) (fun k j => Wq m c (ix2 k j)) (row m c t r) h ⟨d, e⟩ else 0 := by
  have z (k : Fin 512) : k0_pay3 (F := Ideal) (iblk m c 1 t) (iblk m c 0 t) (iblk m c 2 t) (iblk m c 3 t) (ix2 r (⟨k, by omega⟩ : Fin 2944))
      = row m c t r ⟨k, by omega⟩ := Z_low m c t r k (by omega)
  rw [Block.qlin]
  simp only [z, qn_block, wq_block]
  by_cases e : d.val < 192
  · rw [dif_pos e]
    refine times_col _ _ _ _ _ fun k => ?_
    rw [dif_pos (show j.val % 256 < 192 by omega)]
    have ej : (⟨j.val / 256 * 192 + j.val % 256, by omega⟩ : Fin 768) = ⟨h.val * 192 + d.val, by omega⟩ := Fin.ext (by show j.val / 256 * 192 + j.val % 256 = h.val * 192 + d.val; omega)
    rw [ej]
  · rw [dif_neg e]
    refine times_zero _ _ _ fun k => ?_
    rw [dif_neg (show ¬ j.val % 256 < 192 by omega)]

/-- A block's latents. -/
theorem ckv (j : Fin 256) :
    k0_pay9 (F := Ideal) (k0_pay6 (iblk m c 1 t) (iblk m c 0 t) (iblk m c 2 t) (iblk m c 3 t)) (k0_pay7 (iblk m c 5 t))
        (k0_pay8 (iblk m c 1 t) (iblk m c 0 t) (iblk m c 2 t) (iblk m c 3 t)) (ix2 r j)
      = latent (fun j => Kn m c (ix1 j)) (row m c t r) j := by
  have z (j : Fin 256) : Z m c t r ⟨512 + j, by omega⟩ = row m c t r ⟨512 + j, by omega⟩ := Z_low m c t r (512 + j) (by omega)
  rw [Block.ckv]
  simp only [z, kn_block]
  rfl

/-- A block's rotary rows, with zeros after them. -/
theorem kr (i : Fin 128) :
    k0_pay4 (F := Ideal) (iblk m c 1 t) (iblk m c 0 t) (iblk m c 2 t) (iblk m c 3 t) (ix2 r i)
      = if h : i.val < 64 then row m c t r ⟨768 + i, by omega⟩ else 0 := by
  have e : k0_pay4 (F := Ideal) (iblk m c 1 t) (iblk m c 0 t) (iblk m c 2 t) (iblk m c 3 t) (ix2 r i) = Z m c t r ⟨768 + i, by omega⟩ := by
    unfold Z Block.zrow
    pointwise [k0_pay4]
  rw [e, Z_eq]
  by_cases h : i.val < 64
  · rw [dif_pos h, dif_pos (show 768 + i.val < 832 by omega)]
  · rw [dif_neg h, dif_neg (show ¬ 768 + i.val < 832 by omega), dif_pos (show 768 + i.val < 896 by omega)]

/-- A block's keys and values. -/
abbrev kv : FVec Ideal S256x1024 .f32 :=
  k0_pay30 (k0_pay9 (k0_pay6 (iblk m c 1 t) (iblk m c 0 t) (iblk m c 2 t) (iblk m c 3 t)) (k0_pay7 (iblk m c 5 t))
    (k0_pay8 (iblk m c 1 t) (iblk m c 0 t) (iblk m c 2 t) (iblk m c 3 t))) (iblk m c 7 t)

/-- A block's keys and values at a column. -/
theorem kv_apply (j : Fin 1024) :
    kv m c t (ix2 r j) = times (latent (fun j => Kn m c (ix1 j)) (row m c t r)) (fun k j => Wkv m c (ix2 k j)) j := by
  unfold kv
  rw [Block.kvlin]
  simp only [ckv, wkv_block]

/-- A block's raw keys: every head padded with zeros. -/
theorem kcols (h : Fin 4) (g : ℕ) (hg : g = h.val) (d : Fin 256) :
    (if e : d.val < 128 then kv m c t (ix2 r (⟨256 * g + d, by omega⟩ : Fin 1024))
        else k0_pay4 (F := Ideal) (iblk m c 1 t) (iblk m c 0 t) (iblk m c 2 t) (iblk m c 3 t) (ix2 r (⟨d - 128, by omega⟩ : Fin 128)))
      = if e : d.val < 192 then kraw (fun k => Kn m c (ix1 k)) (fun k j => Wkv m c (ix2 k j)) (row m c t r) h ⟨d, e⟩ else 0 := by
  subst hg
  by_cases e : d.val < 128
  · rw [dif_pos e, dif_pos (show d.val < 192 by omega), kv_apply]
    unfold kraw
    rw [dif_pos e]
    refine times_col _ _ _ _ _ fun k => ?_
    have ej : (⟨256 * h.val + d.val, by omega⟩ : Fin 1024) = ⟨h.val * 256 + d.val, by omega⟩ := Fin.ext (by show 256 * h.val + d.val = h.val * 256 + d.val; omega)
    rw [ej]
  · rw [dif_neg e, kr]
    by_cases e' : d.val < 192
    · rw [dif_pos e', dif_pos (show d.val - 128 < 64 by omega)]
      unfold kraw
      rw [dif_neg e]
    · rw [dif_neg e', dif_neg (show ¬ d.val - 128 < 64 by omega)]

/-- A block's raw queries by halves. -/
theorem qcols (h : Fin 4) (g : ℕ) (hg : g = h.val) (d : Fin 256) :
    (if e : d.val < 128 then k0_pay11 (F := Ideal) (k0_pay3 (iblk m c 1 t) (iblk m c 0 t) (iblk m c 2 t) (iblk m c 3 t)) (iblk m c 4 t) (iblk m c 6 t) (ix2 r (⟨256 * g + d, by omega⟩ : Fin 1024))
        else k0_pay11 (F := Ideal) (k0_pay3 (iblk m c 1 t) (iblk m c 0 t) (iblk m c 2 t) (iblk m c 3 t)) (iblk m c 4 t) (iblk m c 6 t) (ix2 r (⟨256 * g + 128 + (d - 128), by omega⟩ : Fin 1024)))
      = if e : d.val < 192 then qraw (fun k => Qn m c (ix1 k)) (fun k j => Wq m c (ix2 k j)) (row m c t r) h ⟨d, e⟩ else 0 := by
  subst hg
  by_cases e : d.val < 128
  · rw [dif_pos e]
    exact qlin m c t r h d _ (by show 256 * h.val + d.val = h.val * 256 + d.val; omega)
  · rw [dif_neg e]
    exact qlin m c t r h d _ (by show 256 * h.val + 128 + (d.val - 128) = h.val * 256 + d.val; omega)

/-- The token of a block's row, in the order of the results. -/
theorem token (R : Fin 4096) (hR : R.val = t.val * 256 + r.val) : Cert.PromptReferenceIdeal.Row.zflat (P m c) R = row m c t r := by
  have e₁ : (⟨R.val / 256, by omega⟩ : Fin 16) = bat t := Fin.ext (by show R.val / 256 = t.val; omega)
  have e₂ : (⟨R.val % 256, by omega⟩ : Fin 256) = r := Fin.ext (by show R.val % 256 = r.val; omega)
  unfold Cert.PromptReferenceIdeal.Row.zflat
  rw [e₁, e₂]

/-- The latents after the run. -/
theorem array12 : (dats m 0 c).arrAt 12 cfg0.N = Cert.PromptReferenceIdeal.Row.ckv (Kn m c) (P m c) := by
  refine (dats m 0 c).arrAt_eq_of_covers 12 _ (by decide +kernel) fun t hf y => ?_
  have hb := (bat t).isLt
  simp only [bat] at hb
  blk_simp
  rw [after0_12]
  unfold_out out0_12
  frame_out
  idx_vars y
  refine (ckv m c t y0 y1).trans ?_
  have e : (win0_12.blk t).view.emb (ix2 y0 y1) = ix2 (⟨t.val * 256 + y0.val, by omega⟩ : Fin 4096) y1 := by
    blk_ext [idx t]
  rw [e, Cert.PromptReferenceIdeal.Row.ckv_apply, token m c t y0 _ rfl]

/-- The rotary rows after the run. -/
theorem array13 : (dats m 0 c).arrAt 13 cfg0.N = Cert.PromptReferenceIdeal.Row.krope (P m c) := by
  refine (dats m 0 c).arrAt_eq_of_covers 13 _ (by decide +kernel) fun t hf y => ?_
  have hb := (bat t).isLt
  simp only [bat] at hb
  blk_simp
  rw [after0_13]
  unfold_out out0_13
  frame_out
  idx_vars y
  refine ((Block.krope _ _ _ _ y0 y1).trans (Z_low m c t y0 (768 + y1) (by omega))).trans ?_
  have e : (win0_13.blk t).view.emb (ix2 y0 y1) = ix2 (⟨t.val * 256 + y0.val, by omega⟩ : Fin 4096) y1 := by
    blk_ext [idx t]
  rw [e, Cert.PromptReferenceIdeal.Row.krope_apply, token m c t y0 _ rfl]

/-- The retention's columns after the run. -/
theorem array17 : (dats m 0 c).arrAt 17 cfg0.N = Cert.PromptReferenceIdeal.Row.ret (P m c) := by
  refine (dats m 0 c).arrAt_eq_of_covers 17 _ (by decide +kernel) fun t hf y => ?_
  have hb := (bat t).isLt
  simp only [bat] at hb
  blk_simp
  rw [after0_17]
  frame_out
  idx_vars y
  refine ((Block.ret _ _ _ _ y0 y1).trans (Z_high m c t y0 y1 (by omega))).trans ?_
  have e : (win0_17.blk t).view.emb (ix2 y0 y1) = ix2 (⟨t.val * 256 + y0.val, by omega⟩ : Fin 4096) y1 := by
    blk_ext [idx t]
  rw [e, Cert.PromptReferenceIdeal.Row.ret_apply, token m c t y0 _ rfl]

/-- The values after the run. -/
theorem array16 : (dats m 0 c).arrAt 16 cfg0.N = Cert.PromptReferenceIdeal.Row.values (Kn m c) (Wkv m c) (P m c) := by
  refine (dats m 0 c).arrAt_eq_of_covers 16 _ (by decide +kernel) fun t hf y => ?_
  have hb := (bat t).isLt
  simp only [bat] at hb
  blk_simp
  rw [after0_16]
  unfold_out out0_16
  frame_out
  idx_vars y
  refine ((Block.vout y0 (kv m c t) y1).trans (kv_apply m c t y0 _)).trans ?_
  have e : (win0_16.blk t).view.emb (ix2 y0 y1) = ix2 (⟨t.val * 256 + y0.val, by omega⟩ : Fin 4096) y1 := by
    blk_ext [idx t]
  rw [e, Cert.PromptReferenceIdeal.Row.values_apply, token m c t y0 _ rfl]
  refine times_col _ _ _ _ _ fun k => ?_
  have ej : (⟨256 * (y1.val / 128) + 128 + y1.val % 128, by omega⟩ : Fin 1024) = ⟨y1.val / 128 * 256 + (128 + y1.val % 128), by omega⟩ :=
    Fin.ext (by show 256 * (y1.val / 128) + 128 + y1.val % 128 = y1.val / 128 * 256 + (128 + y1.val % 128); omega)
  rw [ej]

/-- The keys after the run. -/
theorem array15 : (dats m 0 c).arrAt 15 cfg0.N = Cert.PromptReferenceIdeal.Row.keys (Kn m c) (Wkv m c) (Kh m c) (P m c) := by
  refine (dats m 0 c).arrAt_eq_of_covers 15 _ (by decide +kernel) fun t hf y => ?_
  have hb := (bat t).isLt
  simp only [bat] at hb
  blk_simp
  rw [after0_15]
  unfold_out out0_15
  frame_out
  idx_vars y
  refine (Block.kout y0 _ (kv m c t) _ y1).trans ?_
  rw [halves_pad _ _ _ (fun d => Kh m c (ix1 d)) (kcols m c t y0 ⟨y1.val / 256, by omega⟩ (y1.val / 128 / 2) (by show y1.val / 128 / 2 = y1.val / 256; omega)) (kh_block m c t)]
  have e : (win0_15.blk t).view.emb (ix2 y0 y1) = ix2 (⟨t.val * 256 + y0.val, by omega⟩ : Fin 4096) y1 := by
    blk_ext [idx t]
  rw [e, Cert.PromptReferenceIdeal.Row.keys_apply, token m c t y0 _ rfl]
  have el : y1.val / 128 % 2 * 128 + y1.val % 128 = y1.val % 256 := by omega
  simp only [el]
  rfl

/-- The queries after the run. -/
theorem array14 : (dats m 0 c).arrAt 14 cfg0.N = Cert.PromptReferenceIdeal.Row.queries (Qn m c) (Wq m c) (Qh m c) (P m c) := by
  refine (dats m 0 c).arrAt_eq_of_covers 14 _ (by decide +kernel) fun t hf y => ?_
  have hb := (bat t).isLt
  simp only [bat] at hb
  blk_simp
  rw [after0_14]
  unfold_out out0_14
  frame_out
  idx_vars y
  refine (Block.qout _ _ _ _ y0 _ _ _ y1).trans ?_
  rw [halves_pad _ _ _ (fun d => Qh m c (ix1 d)) (qcols m c t y0 ⟨y1.val / 256, by omega⟩ (y1.val / 128 / 2) (by show y1.val / 128 / 2 = y1.val / 256; omega)) (qh_block m c t)]
  have e : (win0_14.blk t).view.emb (ix2 y0 y1) = ix2 (⟨t.val * 256 + y0.val, by omega⟩ : Fin 4096) y1 := by
    blk_ext [idx t]
  rw [e, Cert.PromptReferenceIdeal.Row.queries_apply, token m c t y0 _ rfl]
  have el : y1.val / 128 % 2 * 128 + y1.val % 128 = y1.val % 256 := by omega
  simp only [el]
  by_cases h : y1.val % 256 < 192
  · rw [dif_pos h, dif_pos h]
    rfl
  · rw [dif_neg h, dif_neg h, zero_mul]

end Cert.PromptIdeal.Final

end
-- ==== Proof.PromptRun.lean ====
/- The results of a run of the reference of the prompt's input projection, in the terms of Proof/PromptReference.lean. -/
module

public import proofs.«01_k».proof.Proof.Gen.PromptReferenceIdeal.Run
public import proofs.«01_k».proof.Proof.PromptReference

@[expose] public section

set_option maxRecDepth 16384

noncomputable section

open Idealize.ShloMosaic Idealize.ShloMosaic.TcCoe Idealize.SL.Sem

namespace Cert.PromptReferenceIdeal.Results

open Cert.PromptReferenceIdeal Cert.PromptReferenceIdeal.Gen

variable (m : (ℓ : Loc nD τ sig) → Buf (Elt Ideal) ℓ) (ρ : Dev nD → PrngReg)

/-- The projected rows of the reference's own arguments. -/
abbrev P (c : Dev nD) : FVec Ideal S16x256x2880 .f32 :=
  Row.projected (m ((c.tc : Thread nD τ).loc main_arg0)) (m ((c.tc : Thread nD τ).loc main_arg1)) (m ((c.tc : Thread nD τ).loc main_arg2))
    (m ((c.tc : Thread nD τ).loc main_arg3))

/-- The reference's run. -/
theorem run : θ_run defs (onTc (τ := τ) (main (F := Ideal))) ⟨m, fun _ => 0, ρ⟩ fun r => ∀ c : Dev nD,
    r.2.mem ((c.tc : Thread nD τ).loc main_v94) = Row.ckv (m ((c.tc : Thread nD τ).loc main_arg6)) (P m c)
    ∧ r.2.mem ((c.tc : Thread nD τ).loc main_v95) = Row.krope (P m c)
    ∧ r.2.mem ((c.tc : Thread nD τ).loc main_v98)
        = Row.queries (m ((c.tc : Thread nD τ).loc main_arg4)) (m ((c.tc : Thread nD τ).loc main_arg5)) (m ((c.tc : Thread nD τ).loc main_arg8)) (P m c)
    ∧ r.2.mem ((c.tc : Thread nD τ).loc main_v101)
        = Row.keys (m ((c.tc : Thread nD τ).loc main_arg6)) (m ((c.tc : Thread nD τ).loc main_arg7)) (m ((c.tc : Thread nD τ).loc main_arg9)) (P m c)
    ∧ r.2.mem ((c.tc : Thread nD τ).loc main_v103) = Row.values (m ((c.tc : Thread nD τ).loc main_arg6)) (m ((c.tc : Thread nD τ).loc main_arg7)) (P m c)
    ∧ r.2.mem ((c.tc : Thread nD τ).loc main_v104) = Row.ret (P m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  refine (θ_run _ _ _).mono (fun r h c => ?_) (Value.run (F := Ideal) m ρ)
  obtain ⟨h₀, h₁, h₂, h₃, h₄, h₅, h⟩ := h c
  exact ⟨h₀.trans rfl, h₁.trans rfl, h₂.trans rfl, h₃.trans rfl, h₄.trans rfl, h₅.trans rfl, h⟩

end Cert.PromptReferenceIdeal.Results

end
-- ==== Proof.Turning.lean ====
/- The rotary embedding of a head over the extended reals: lane by lane as the reference turns it, and as the kernel turns
   the upper half of a padded head before it scales it. -/
module

public import proofs.«01_k».proof.Proof.Projection

@[expose] public section

noncomputable section

open Idealize.ShloMosaic
open scoped BigOperators

namespace Cert.Turning

open Cert.Projection

/-- A head whose last 64 lanes are turned in pairs of lanes sixteen apart, the first 32 of them by the angles of the first
    axis and the others by those of the second; `c` and `s` hold the angles' cosines and sines. -/
def turn (v : Fin 192 → EReal) (c s : Fin 2 → Fin 16 → EReal) (d : Fin 192) : EReal :=
  if h : d.val < 128 then v d
  else if h' : (d.val - 128) % 32 < 16 then
    v d * c ⟨(d.val - 128) / 32, by omega⟩ ⟨(d.val - 128) % 16, by omega⟩ - v ⟨d.val + 16, by omega⟩ * s ⟨(d.val - 128) / 32, by omega⟩ ⟨(d.val - 128) % 16, by omega⟩
  else
    v d * c ⟨(d.val - 128) / 32, by omega⟩ ⟨(d.val - 128) % 16, by omega⟩ + v ⟨d.val - 16, by omega⟩ * s ⟨(d.val - 128) / 32, by omega⟩ ⟨(d.val - 128) % 16, by omega⟩

/-- The lane a lane is turned with. -/
def partner (l : Fin 128) : Fin 128 := if h : l.val % 32 < 16 then ⟨l.val + 16, by omega⟩ else ⟨l.val - 16, by omega⟩

/-- The upper half of a padded head: weighted, turned by tables over 128 lanes, then scaled. -/
def turnedUpper (v w : Fin 256 → EReal) (C S : Fin 128 → EReal) (l : Fin 128) : EReal :=
  (v ⟨128 + l, by omega⟩ * w ⟨128 + l, by omega⟩ * C l
    + v ⟨128 + (partner l).val, by omega⟩ * w ⟨128 + (partner l).val, by omega⟩ * S l) * headScale v

/-- A square is not negative. -/
theorem square_nonneg (a : EReal) : 0 ≤ a * a := by
  rcases le_total 0 a with h | h
  · exact mul_nonneg h h
  · have := mul_nonneg (EReal.neg_nonneg.2 h) (EReal.neg_nonneg.2 h)
    rwa [neg_mul_neg] at this

/-- The reciprocal root of a positive number is not negative. -/
theorem rsqrt_nonneg (a : EReal) (h : 0 < a) : 0 ≤ Ideal.rsqrt a := by
  induction a with
  | bot => exact absurd h (by simp)
  | top => exact le_refl _
  | coe r =>
    have hr : 0 < r := EReal.coe_pos.1 h
    rw [Ideal.rsqrt_coe, if_neg (not_lt.2 hr.le), if_neg hr.ne']
    exact EReal.coe_nonneg.2 (inv_nonneg.2 (Real.sqrt_nonneg r))

/-- The reciprocal root of a positive number is not infinite. -/
theorem rsqrt_ne_top (a : EReal) (h : 0 < a) : Ideal.rsqrt a ≠ ⊤ := by
  induction a with
  | bot => exact absurd h (by simp)
  | top => exact EReal.zero_ne_top
  | coe r =>
    have hr : 0 < r := EReal.coe_pos.1 h
    rw [Ideal.rsqrt_coe, if_neg (not_lt.2 hr.le), if_neg hr.ne']
    exact EReal.coe_ne_top _

/-- A product with the sum of two numbers, by a factor that is neither negative nor infinite. -/
theorem scaled_sum (a b r : EReal) (h : 0 ≤ r) (h' : r ≠ ⊤) : (a + b) * r = a * r + b * r :=
  EReal.right_distrib_of_nonneg_of_ne_top h h' a b

/-- The number of lanes of a head is a positive real. -/
theorem n192_pos : ∃ q : ℝ, 0 < q ∧ n192 = (q : EReal) := by
  refine ⟨192, by norm_num, ?_⟩
  simp [n192, Ideal.ofBits, Ideal.ieee]
  norm_num
  rw [← EReal.coe_mul]
  exact congrArg _ (by norm_num)

/-- The small constant is positive. -/
theorem small_pos : 0 < Ideal.ofBits .f32 0x358637BD#32 := by
  simp [Ideal.ofBits, Ideal.ieee]
  norm_num
  rw [← EReal.coe_mul, EReal.coe_pos]
  norm_num

/-- The argument of a head's reciprocal root is positive. -/
theorem scale_pos (s : EReal) (h : 0 ≤ s) : 0 < Ideal.div s n192 + Ideal.ofBits .f32 0x358637BD#32 := by
  obtain ⟨q, hq, e⟩ := n192_pos
  have hd : 0 ≤ Ideal.div s n192 := by
    rw [e]
    unfold Ideal.div
    rw [if_neg (by exact_mod_cast hq.ne')]
    exact mul_nonneg h (EReal.inv_nonneg_of_nonneg (by exact_mod_cast hq.le))
  exact lt_of_lt_of_le small_pos (le_add_of_nonneg_left hd)

/-- A head's factor is not negative. -/
theorem headScale_nonneg (v : Fin 256 → EReal) : 0 ≤ headScale v :=
  rsqrt_nonneg _ (scale_pos _ (add_nonneg (Finset.sum_nonneg fun _ _ => square_nonneg _) (Finset.sum_nonneg fun _ _ => square_nonneg _)))

/-- A head's factor is not infinite. -/
theorem headScale_ne_top (v : Fin 256 → EReal) : headScale v ≠ ⊤ :=
  rsqrt_ne_top _ (scale_pos _ (add_nonneg (Finset.sum_nonneg fun _ _ => square_nonneg _) (Finset.sum_nonneg fun _ _ => square_nonneg _)))

/-- The axis whose angles turn a lane. -/
abbrev axisOf (l : Fin 128) (h : l.val < 64) : Fin 2 := ⟨l.val / 32, by omega⟩
/-- The frequency of the angle that turns a lane. -/
abbrev freqOf (l : Fin 128) : Fin 16 := ⟨l.val % 16, by omega⟩

section Heads

variable (V W : Fin 256 → EReal) (v w : Fin 192 → EReal)
  (hV : ∀ d : Fin 256, V d = if h : d.val < 192 then v ⟨d, h⟩ else 0)
  (hW : ∀ d : Fin 256, W d = if h : d.val < 192 then w ⟨d, h⟩ else 0)
  (C S : Fin 128 → EReal) (co si : Fin 2 → Fin 16 → EReal)
  (hC : ∀ l : Fin 128, C l = if h : l.val < 64 then co (axisOf l h) (freqOf l) else 0)
  (hS : ∀ l : Fin 128, S l = if h : l.val < 64 then
    (if l.val % 32 < 16 then -si (axisOf l h) (freqOf l) else si (axisOf l h) (freqOf l)) else 0)

include hV hW hC hS in
/-- The turned upper half of a padded head is the turned head's, with zeros after it. -/
theorem turnedUpper_pad (l : Fin 128) :
    turnedUpper V W C S l = if h : l.val < 64 then turn (normed n192 v w) co si ⟨128 + l, by omega⟩ else 0 := by
  unfold turnedUpper
  rw [hC, hS]
  by_cases h : l.val < 64
  · rw [dif_pos h, dif_pos h, dif_pos h, scaled_sum _ _ _ (headScale_nonneg V) (headScale_ne_top V), headScale_pad V v hV]
    have g : (⟨(128 + l.val - 128) / 32, by omega⟩ : Fin 2) = ⟨l.val / 32, by omega⟩ := Fin.ext (by simp only; omega)
    have f : (⟨(128 + l.val - 128) % 16, by omega⟩ : Fin 16) = ⟨l.val % 16, by omega⟩ := Fin.ext (by simp only; omega)
    unfold turn normed
    rw [dif_neg (show ¬ 128 + l.val < 128 by omega)]
    simp only [g, f]
    rw [hV, hW, dif_pos (show 128 + l.val < 192 by omega), dif_pos (show 128 + l.val < 192 by omega)]
    by_cases t : l.val % 32 < 16
    · have p : partner l = ⟨l.val + 16, by omega⟩ := dif_pos t
      rw [if_pos t, dif_pos (show (128 + l.val - 128) % 32 < 16 by omega)]
      simp only [p]
      rw [hV ⟨128 + (l.val + 16), by omega⟩, hW ⟨128 + (l.val + 16), by omega⟩]
      rw [dif_pos (show 128 + (l.val + 16) < 192 by omega), dif_pos (show 128 + (l.val + 16) < 192 by omega), mul_neg, neg_mul, sub_eq_add_neg]
      have e : (⟨128 + (l.val + 16), by omega⟩ : Fin 192) = ⟨128 + l.val + 16, by omega⟩ := Fin.ext (by simp only; omega)
      rw [e]
      refine congrArg₂ (· + ·) ?_ (congrArg Neg.neg ?_)
      · rw [mul_right_comm _ (co _ _) _, mul_right_comm _ (w _) _]
      · rw [mul_right_comm _ (si _ _) _, mul_right_comm _ (w _) _]
    · have p : partner l = ⟨l.val - 16, by omega⟩ := dif_neg t
      rw [if_neg t, dif_neg (show ¬ (128 + l.val - 128) % 32 < 16 by omega)]
      simp only [p]
      rw [hV ⟨128 + (l.val - 16), by omega⟩, hW ⟨128 + (l.val - 16), by omega⟩]
      rw [dif_pos (show 128 + (l.val - 16) < 192 by omega), dif_pos (show 128 + (l.val - 16) < 192 by omega)]
      have e : (⟨128 + (l.val - 16), by omega⟩ : Fin 192) = ⟨128 + l.val - 16, by omega⟩ := Fin.ext (by simp only; omega)
      rw [e]
      refine congrArg₂ (· + ·) ?_ ?_
      · rw [mul_right_comm _ (co _ _) _, mul_right_comm _ (w _) _]
      · rw [mul_right_comm _ (si _ _) _, mul_right_comm _ (w _) _]
  · rw [dif_neg h, dif_neg h, dif_neg h, mul_zero, mul_zero, add_zero, zero_mul]

include hV hW hC hS in
/-- A column of the padded, turned heads. -/
theorem halves_turned (p : ℕ) (l : Fin 128) :
    (if p % 2 = 0 then lower V W l else turnedUpper V W C S l)
      = if h : p % 2 * 128 + l < 192 then turn (normed n192 v w) co si ⟨p % 2 * 128 + l, h⟩ else 0 := by
  rcases Nat.mod_two_eq_zero_or_one p with e | e
  · rw [if_pos e, lower_pad V W v w hV hW]
    simp only [e, Nat.zero_mul, Nat.zero_add]
    rw [dif_pos (show l.val < 192 by omega)]
    unfold turn
    rw [dif_pos (show l.val < 128 by omega)]
  · rw [if_neg (by omega), turnedUpper_pad V W v w hV hW C S co si hC hS]
    simp only [e, Nat.one_mul]
    by_cases h : l.val < 64
    · rw [dif_pos h, dif_pos (show 128 + l.val < 192 by omega)]
    · rw [dif_neg h, dif_neg (show ¬ 128 + l.val < 192 by omega)]

end Heads

end Cert.Turning

end
-- ==== Proof.LatentsRope.lean ====
/- The lanes the latents' input projection turns, read at an index: a lane by its table of cosines and its partner by the
   table of sines. -/
module

public import proofs.«01_k».proof.Proof.Gen.LatentsIdeal.Frame
public import proofs.«01_k».proof.Proof.Turning
public import Idealize.ShloMosaic.Lib.KernelVsHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.LatentsIdeal.Rope

open Cert.LatentsIdeal Cert.LatentsIdeal.Gen Cert.Projection Cert.Turning

/-- 128 lanes turned: each times its cosine, plus its partner times its sine. -/
def roped (a c s : FVec Ideal S256x128 .f32) : FVec Ideal S256x128 .f32 :=
  addf (mulf a c) (mulf (select k0_pay45 (dynamicRotate 1 112#32 none a rotates_S256x128_d1) (dynamicRotate 1 16#32 none a rotates_S256x128_d1)) s)

/-- A rotation by 112 lanes brings the lane sixteen after. -/
theorem after_lane (a : FVec Ideal S256x128 .f32) (r : Fin 256) (l : Fin 128) (h : l.val < 112) :
    dynamicRotate 1 112#32 none a rotates_S256x128_d1 (ix2 r l) = a (ix2 r (⟨l.val + 16, by omega⟩ : Fin 128)) := by
  refine dynamicRotate_apply 1 112#32 a rotates_S256x128_d1 (ix2 r l) _ fun b => ?_
  match b with
  | ⟨0, _⟩ => rfl
  | ⟨1, _⟩ =>
    show l.val + 16 = (l.val + 128 - 112) % 128
    omega

/-- A rotation by sixteen lanes brings the lane sixteen before. -/
theorem before_lane (a : FVec Ideal S256x128 .f32) (r : Fin 256) (l : Fin 128) (h : 16 ≤ l.val) :
    dynamicRotate 1 16#32 none a rotates_S256x128_d1 (ix2 r l) = a (ix2 r (⟨l.val - 16, by omega⟩ : Fin 128)) := by
  refine dynamicRotate_apply 1 16#32 a rotates_S256x128_d1 (ix2 r l) _ fun b => ?_
  match b with
  | ⟨0, _⟩ => rfl
  | ⟨1, _⟩ =>
    show l.val - 16 = (l.val + 128 - 16) % 128
    omega

/-- The mask of the first sixteen of every 32 lanes. -/
theorem mask (r : Fin 256) (l : Fin 128) : k0_pay45 (ix2 r l) = if l.val % 32 < 16 then 1#1 else 0#1 := by
  pointwise [k0_pay45]
  revert l
  decide +kernel

/-- The turned lanes at an index. -/
theorem roped_apply (a c s : FVec Ideal S256x128 .f32) (r : Fin 256) (l : Fin 128) :
    roped a c s (ix2 r l) = a (ix2 r l) * c (ix2 r l) + a (ix2 r (partner l)) * s (ix2 r l) := by
  have e : select k0_pay45 (dynamicRotate 1 112#32 none a rotates_S256x128_d1) (dynamicRotate 1 16#32 none a rotates_S256x128_d1) (ix2 r l)
      = a (ix2 r (partner l)) := by
    show Scalar.select (k0_pay45 (ix2 r l)) _ _ = _
    rw [mask]
    unfold partner
    by_cases h : l.val % 32 < 16
    · rw [if_pos h, dif_pos h, after_lane a r l (by omega)]
      rfl
    · rw [if_neg h, dif_neg h, before_lane a r l (by omega)]
      rfl
  exact congrArg (fun q : EReal => a (ix2 r l) * c (ix2 r l) + q * s (ix2 r l)) e

end Cert.LatentsIdeal.Rope

end
-- ==== Proof.LatentsBlock.lean ====
/- What one grid point of the latents' input projection computes, read at an index of its output blocks. -/
module

public import proofs.«01_k».proof.Proof.LatentsRope
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.LatentsIdeal.Block

open Cert.LatentsIdeal Cert.LatentsIdeal.Gen Cert.Projection Cert.Turning Cert.LatentsIdeal.Rope

variable (x : FVec Ideal S256x1024 .f32) (md : FVec Ideal S1x6x1024 .f32) (w₁ : FVec Ideal S1x1024 .f32)
  (win : FVec Ideal S1024x2944 .bf16)

/-- The projected row at a lane. -/
theorem z (r : Fin 256) (j : Fin 2944) :
    k0_pay3 (F := Ideal) md x w₁ win (ix2 r j)
      = times (modulated (fun k => x (ix2 r k)) (fun k => w₁ (ix2 0 k)) (fun k => md (ix3 0 0 k)) (fun k => md (ix3 0 1 k))) (fun k j => win (ix2 k j)) j := by
  unfold times modulated normed scale
  pointwise [k0_pay3]

variable (r : Fin 256)

/-- The projected row of a block, as a function of its lane. -/
abbrev zrow (j : Fin 2944) : EReal := k0_pay3 (F := Ideal) md x w₁ win (ix2 r j)

variable (qw : FVec Ideal S1x512 .f32) (kw : FVec Ideal S1x256 .f32) (wq : FVec Ideal S512x1024 .bf16)
  (wkv : FVec Ideal S256x1024 .bf16) (hw : FVec Ideal S1x256 .f32)

/-- The normalised latent row. -/
theorem ckv (j : Fin 256) :
    k0_pay9 (F := Ideal) (k0_pay6 md x w₁ win) (k0_pay7 kw) (k0_pay8 md x w₁ win) (ix2 r j)
      = normed n256 (fun j => zrow x md w₁ win r ⟨512 + j, by omega⟩) (fun j => kw (ix2 0 j)) j := by
  unfold normed scale
  pointwise [k0_pay9, k0_pay6, k0_pay7, k0_pay8]

/-- The shared rotary row. -/
theorem krope (j : Fin 64) :
    k0_pay10 (F := Ideal) (k0_pay4 md x w₁ win) (ix2 r j) = zrow x md w₁ win r ⟨768 + j, by omega⟩ := by
  pointwise [k0_pay10, k0_pay4]

/-- The retention's columns. -/
theorem ret (j : Fin 2048) : k0_pay5 (F := Ideal) md x w₁ win (ix2 r j) = zrow x md w₁ win r ⟨896 + j, by omega⟩ := by
  pointwise [k0_pay5]

/-- The queries before their heads are normalised. -/
theorem qlin (Z : FVec Ideal S256x2944 .f32) (c : Fin 1024) :
    k0_pay13 (F := Ideal) Z qw wq (ix2 r c)
      = times (normed n512 (fun k => Z (ix2 r ⟨k, by omega⟩)) (fun k => qw (ix2 0 k))) (fun k c => wq (ix2 k c)) c := by
  unfold times normed scale
  pointwise [k0_pay13]

/-- The keys and values before their heads are normalised. -/
theorem kvlin (C : FVec Ideal S256x256 .f32) (c : Fin 1024) :
    k0_pay42 (F := Ideal) C wkv (ix2 r c) = times (fun k => C (ix2 r k)) (fun k c => wkv (ix2 k c)) c := by
  unfold times
  pointwise [k0_pay42]

variable (Z : FVec Ideal S256x2944 .f32) (co si : FVec Ideal S256x128 .f32)

/-- The queries before their heads are normalised, of projected rows `Z`. -/
abbrev Q : FVec Ideal S256x1024 .f32 := k0_pay13 (F := Ideal) Z qw wq

/-- The weighted upper half of a head of the queries, before it is turned. -/
def qup (n : Fin 4) : FVec Ideal S256x128 .f32 := match n with
  | ⟨0, _⟩ => mulf (k0_pay16 (Q qw wq Z)) (broadcastTo S256x128 (extractStridedSlice S1x128 ![0, 128] (k0_pay14 hw) slices_S1x256_o0_128_S1x128) broadcasts_S1x128_S256x128)
  | ⟨1, _⟩ => mulf (k0_pay23 (Q qw wq Z)) (broadcastTo S256x128 (extractStridedSlice S1x128 ![0, 128] (k0_pay14 hw) slices_S1x256_o0_128_S1x128) broadcasts_S1x128_S256x128)
  | ⟨2, _⟩ => mulf (k0_pay31 (Q qw wq Z)) (broadcastTo S256x128 (extractStridedSlice S1x128 ![0, 128] (k0_pay14 hw) slices_S1x256_o0_128_S1x128) broadcasts_S1x128_S256x128)
  | ⟨3, _⟩ => mulf (k0_pay38 (Q qw wq Z)) (broadcastTo S256x128 (extractStridedSlice S1x128 ![0, 128] (k0_pay14 hw) slices_S1x256_o0_128_S1x128) broadcasts_S1x128_S256x128)

/-- The weighted upper half at a lane. -/
theorem qup_apply (n : Fin 4) (l : Fin 128) :
    qup qw wq hw Z n (ix2 r l) = k0_pay13 (F := Ideal) Z qw wq (ix2 r ⟨256 * n.val + 128 + l, by omega⟩) * hw (ix2 0 ⟨128 + l, by omega⟩) := by
  match n with
  | ⟨0, _⟩ => pointwise [qup, Q, k0_pay16, k0_pay14]
  | ⟨1, _⟩ => pointwise [qup, Q, k0_pay23, k0_pay14]
  | ⟨2, _⟩ => pointwise [qup, Q, k0_pay31, k0_pay14]
  | ⟨3, _⟩ => pointwise [qup, Q, k0_pay38, k0_pay14]

/-- The halves of the heads of the queries. -/
def qfam : Fin 8 → FVec Ideal S256x128 .f32 := fun n => match n with
  | ⟨0, _⟩ => k0_pay19 (Q qw wq Z) (k0_pay14 hw) (k0_pay15 Z qw wq)
  | ⟨1, _⟩ => k0_pay21 (k0_pay18 (k0_pay11 co) (k0_pay12 si) (Q qw wq Z) (k0_pay14 hw)) (k0_pay20 (Q qw wq Z) (k0_pay15 Z qw wq))
  | ⟨2, _⟩ => k0_pay28 (k0_pay26 (Q qw wq Z)) (k0_pay27 (k0_pay14 hw))
  | ⟨3, _⟩ => k0_pay29 (k0_pay24 (Q qw wq Z)) (k0_pay25 (k0_pay11 co) (k0_pay12 si) (Q qw wq Z) (k0_pay14 hw))
  | ⟨4, _⟩ => k0_pay35 (k0_pay14 hw) (k0_pay34 (Q qw wq Z))
  | ⟨5, _⟩ => k0_pay36 (k0_pay32 (Q qw wq Z)) (k0_pay33 (k0_pay11 co) (k0_pay12 si) (Q qw wq Z) (k0_pay14 hw))
  | ⟨6, _⟩ => mulf (mulf (k0_pay37 (Q qw wq Z)) (broadcastTo S256x128 (k0_pay39 (Q qw wq Z)) broadcasts_S256x1_S256x128))
      (broadcastTo S256x128 (extractStridedSlice S1x128 ![0, 0] (k0_pay14 hw) slices_S1x256_o0_0_S1x128) broadcasts_S1x128_S256x128)
  | ⟨7, _⟩ => mulf (k0_pay40 (k0_pay11 co) (k0_pay12 si) (Q qw wq Z) (k0_pay14 hw)) (broadcastTo S256x128 (k0_pay39 (Q qw wq Z)) broadcasts_S256x1_S256x128)

/-- A head of 256 lanes of the queries. -/
abbrev qhead (k : Fin 4) (d : Fin 256) : EReal :=
  if h : d.val < 128 then k0_pay13 (F := Ideal) Z qw wq (ix2 r ⟨256 * k.val + d, by omega⟩)
  else k0_pay13 (F := Ideal) Z qw wq (ix2 r ⟨256 * k.val + 128 + (d - 128), by omega⟩)

/-- A half of a head of the queries. -/
theorem qcat (n : Fin 8) (l : Fin 128) :
    qfam qw wq hw Z co si n (ix2 r l)
      = if n.val % 2 = 0 then lower (qhead r qw wq Z ⟨n.val / 2, by omega⟩) (fun d => hw (ix2 0 d)) l
        else turnedUpper (qhead r qw wq Z ⟨n.val / 2, by omega⟩) (fun d => hw (ix2 0 d)) (fun l => co (ix2 r l)) (fun l => si (ix2 r l)) l := by
  match n with
  | ⟨0, _⟩ =>
    refine Eq.trans ?_ (Eq.symm (if_pos ?_))
    swap
    · exact (by decide : (0 : ℕ) % 2 = 0)
    unfold lower headScale scale qhead
    pointwise [qfam, Q, k0_pay19, k0_pay17, k0_pay15, k0_pay14, k0_pay16]
  | ⟨1, _⟩ =>
    refine Eq.trans ?_ (Eq.symm (if_neg ?_))
    swap
    · exact (by decide : ¬ (1 : ℕ) % 2 = 0)
    have e : qfam qw wq hw Z co si ⟨1, by omega⟩ = mulf (roped (qup qw wq hw Z ⟨0, by omega⟩) (k0_pay11 co) (k0_pay12 si)) (k0_pay20 (Q qw wq Z) (k0_pay15 Z qw wq)) := rfl
    rw [e]
    refine (congrArg (fun q : EReal => q * (k0_pay20 (Q qw wq Z) (k0_pay15 Z qw wq)) (ix2 r l)) (roped_apply _ _ _ r l)).trans ?_
    simp only [qup_apply]
    unfold turnedUpper headScale scale qhead
    pointwise [Q, k0_pay11, k0_pay12, k0_pay20, k0_pay17, k0_pay15, k0_pay16]
  | ⟨2, _⟩ =>
    refine Eq.trans ?_ (Eq.symm (if_pos ?_))
    swap
    · exact (by decide : (2 : ℕ) % 2 = 0)
    unfold lower headScale scale qhead
    pointwise [qfam, Q, k0_pay28, k0_pay26, k0_pay27, k0_pay24, k0_pay22, k0_pay23, k0_pay14]
  | ⟨3, _⟩ =>
    refine Eq.trans ?_ (Eq.symm (if_neg ?_))
    swap
    · exact (by decide : ¬ (3 : ℕ) % 2 = 0)
    have e : qfam qw wq hw Z co si ⟨3, by omega⟩ = mulf (roped (qup qw wq hw Z ⟨1, by omega⟩) (k0_pay11 co) (k0_pay12 si)) (broadcastTo S256x128 (k0_pay24 (Q qw wq Z)) broadcasts_S256x1_S256x128) := rfl
    rw [e]
    refine (congrArg (fun q : EReal => q * (broadcastTo S256x128 (k0_pay24 (Q qw wq Z)) broadcasts_S256x1_S256x128) (ix2 r l)) (roped_apply _ _ _ r l)).trans ?_
    simp only [qup_apply]
    unfold turnedUpper headScale scale qhead
    pointwise [Q, k0_pay11, k0_pay12, k0_pay24, k0_pay22, k0_pay23]
  | ⟨4, _⟩ =>
    refine Eq.trans ?_ (Eq.symm (if_pos ?_))
    swap
    · exact (by decide : (4 : ℕ) % 2 = 0)
    unfold lower headScale scale qhead
    pointwise [qfam, Q, k0_pay35, k0_pay34, k0_pay32, k0_pay30, k0_pay31, k0_pay14]
  | ⟨5, _⟩ =>
    refine Eq.trans ?_ (Eq.symm (if_neg ?_))
    swap
    · exact (by decide : ¬ (5 : ℕ) % 2 = 0)
    have e : qfam qw wq hw Z co si ⟨5, by omega⟩ = mulf (roped (qup qw wq hw Z ⟨2, by omega⟩) (k0_pay11 co) (k0_pay12 si)) (broadcastTo S256x128 (k0_pay32 (Q qw wq Z)) broadcasts_S256x1_S256x128) := rfl
    rw [e]
    refine (congrArg (fun q : EReal => q * (broadcastTo S256x128 (k0_pay32 (Q qw wq Z)) broadcasts_S256x1_S256x128) (ix2 r l)) (roped_apply _ _ _ r l)).trans ?_
    simp only [qup_apply]
    unfold turnedUpper headScale scale qhead
    pointwise [Q, k0_pay11, k0_pay12, k0_pay32, k0_pay30, k0_pay31]
  | ⟨6, _⟩ =>
    refine Eq.trans ?_ (Eq.symm (if_pos ?_))
    swap
    · exact (by decide : (6 : ℕ) % 2 = 0)
    unfold lower headScale scale qhead
    pointwise [qfam, Q, k0_pay37, k0_pay38, k0_pay39, k0_pay14]
  | ⟨7, _⟩ =>
    refine Eq.trans ?_ (Eq.symm (if_neg ?_))
    swap
    · exact (by decide : ¬ (7 : ℕ) % 2 = 0)
    have e : qfam qw wq hw Z co si ⟨7, by omega⟩ = mulf (roped (qup qw wq hw Z ⟨3, by omega⟩) (k0_pay11 co) (k0_pay12 si)) (broadcastTo S256x128 (k0_pay39 (Q qw wq Z)) broadcasts_S256x1_S256x128) := rfl
    rw [e]
    refine (congrArg (fun q : EReal => q * (broadcastTo S256x128 (k0_pay39 (Q qw wq Z)) broadcasts_S256x1_S256x128) (ix2 r l)) (roped_apply _ _ _ r l)).trans ?_
    simp only [qup_apply]
    unfold turnedUpper headScale scale qhead
    pointwise [Q, k0_pay11, k0_pay12, k0_pay37, k0_pay38, k0_pay39]

/-- The queries' columns after their heads are normalised, turned and scaled. -/
theorem qout (C : Fin 1024) :
    k0_pay41 (F := Ideal) (k0_pay14 hw) (k0_pay19 (k0_pay13 Z qw wq) (k0_pay14 hw) (k0_pay15 Z qw wq))
        (k0_pay21 (k0_pay18 (k0_pay11 co) (k0_pay12 si) (k0_pay13 Z qw wq) (k0_pay14 hw)) (k0_pay20 (k0_pay13 Z qw wq) (k0_pay15 Z qw wq)))
        (k0_pay28 (k0_pay26 (k0_pay13 Z qw wq)) (k0_pay27 (k0_pay14 hw)))
        (k0_pay29 (k0_pay24 (k0_pay13 Z qw wq)) (k0_pay25 (k0_pay11 co) (k0_pay12 si) (k0_pay13 Z qw wq) (k0_pay14 hw)))
        (k0_pay35 (k0_pay14 hw) (k0_pay34 (k0_pay13 Z qw wq)))
        (k0_pay36 (k0_pay32 (k0_pay13 Z qw wq)) (k0_pay33 (k0_pay11 co) (k0_pay12 si) (k0_pay13 Z qw wq) (k0_pay14 hw)))
        (k0_pay37 (k0_pay13 Z qw wq)) (k0_pay39 (k0_pay13 Z qw wq)) (k0_pay40 (k0_pay11 co) (k0_pay12 si) (k0_pay13 Z qw wq) (k0_pay14 hw)) (ix2 r C)
      = (if C.val / 128 % 2 = 0 then lower (qhead r qw wq Z ⟨C.val / 128 / 2, by omega⟩) (fun d => hw (ix2 0 d)) ⟨C.val % 128, by omega⟩
        else turnedUpper (qhead r qw wq Z ⟨C.val / 128 / 2, by omega⟩) (fun d => hw (ix2 0 d)) (fun l => co (ix2 r l)) (fun l => si (ix2 r l))
          ⟨C.val % 128, by omega⟩) * κ := by
  have e := concatenate_ofFn_apply (t := S256x1024) (s₁ := S256x128) (1 : Fin 2) (qfam qw wq hw Z co si)
    concatenates_S256x128_S256x128_S256x128_S256x128_S256x128_S256x128_S256x128_S256x128_S256x1024_d1 rfl 128 rfl (ix2 r C) ⟨C.val / 128, by omega⟩ rfl
    (ix2 r (⟨C.val % 128, by omega⟩ : Fin 128)) rfl (fun b hb => by fin_cases b <;> first | rfl | exact absurd rfl hb)
  rw [qcat] at e
  exact congrArg (fun a : EReal => a * κ) e

variable (kv : FVec Ideal S256x1024 .f32) (kr : FVec Ideal S256x128 .f32)

/-- The keys' weighted rotary part, turned. -/
abbrev kup : FVec Ideal S256x128 .f32 :=
  k0_pay48 (k0_pay11 co) (k0_pay12 si) (k0_pay44 kr hw) k0_pay45 (k0_pay46 kr hw) (k0_pay47 kr hw)

/-- The keys' weighted rotary part at a lane. -/
theorem kup_apply (l : Fin 128) :
    kup hw co si kr (ix2 r l) = kr (ix2 r l) * hw (ix2 0 ⟨128 + l, by omega⟩) * co (ix2 r l)
      + kr (ix2 r (partner l)) * hw (ix2 0 ⟨128 + (partner l).val, by omega⟩) * si (ix2 r l) := by
  have e : kup hw co si kr = roped (k0_pay44 kr hw) (k0_pay11 co) (k0_pay12 si) := rfl
  have p (l : Fin 128) : k0_pay44 (F := Ideal) kr hw (ix2 r l) = kr (ix2 r l) * hw (ix2 0 ⟨128 + l, by omega⟩) := by
    pointwise [k0_pay44, k0_pay43]
  rw [e, roped_apply, p, p]
  pointwise [k0_pay11, k0_pay12]

/-- The scale of the third head of the keys. -/
abbrev kscale₂ : FVec Ideal S256x1 .f32 := rsqrt (addf (k0_pay61 kr kv) (broadcast S256x1 (Scalar.ofBits .f32 0x358637BD#32)))
/-- The scale of the fourth head of the keys. -/
abbrev kscale₃ : FVec Ideal S256x1 .f32 :=
  rsqrt (addf (divf (addf (shapeCast S256x1 (multiReduction .add [1] S256 (mulf (extractStridedSlice S256x128 ![0, 768] kv slices_S256x1024_o0_768_S256x128) (extractStridedSlice S256x128 ![0, 768] kv slices_S256x1024_o0_768_S256x128)) 0x00000000#32 reduces_S256x128_S256 (.inl rfl) rfl) shapeCasts_S256_S256x1) (k0_pay49 kr))
      (broadcast S256x1 (Scalar.ofBits .f32 0x43400000#32))) (broadcast S256x1 (Scalar.ofBits .f32 0x358637BD#32)))

/-- The halves of the heads of the keys. -/
def kfam : Fin 8 → FVec Ideal S256x128 .f32 := fun n => match n with
  | ⟨0, _⟩ => k0_pay52 kr kv (k0_pay43 hw)
  | ⟨1, _⟩ => k0_pay53 kr (k0_pay11 co) (k0_pay12 si) kv (k0_pay44 kr hw) k0_pay45 (k0_pay46 kr hw) (k0_pay47 kr hw)
  | ⟨2, _⟩ => k0_pay57 kr kv (k0_pay43 hw)
  | ⟨3, _⟩ => k0_pay58 kr (k0_pay11 co) (k0_pay12 si) kv (k0_pay44 kr hw) k0_pay45 (k0_pay46 kr hw) (k0_pay47 kr hw)
  | ⟨4, _⟩ => mulf (mulf (k0_pay60 kv) (broadcastTo S256x128 (kscale₂ kv kr) broadcasts_S256x1_S256x128))
      (broadcastTo S256x128 (extractStridedSlice S1x128 ![0, 0] (k0_pay43 hw) slices_S1x256_o0_0_S1x128) broadcasts_S1x128_S256x128)
  | ⟨5, _⟩ => mulf (kup hw co si kr) (broadcastTo S256x128 (kscale₂ kv kr) broadcasts_S256x1_S256x128)
  | ⟨6, _⟩ => mulf (mulf (extractStridedSlice S256x128 ![0, 768] kv slices_S256x1024_o0_768_S256x128) (broadcastTo S256x128 (kscale₃ kv kr) broadcasts_S256x1_S256x128))
      (broadcastTo S256x128 (extractStridedSlice S1x128 ![0, 0] (k0_pay43 hw) slices_S1x256_o0_0_S1x128) broadcasts_S1x128_S256x128)
  | ⟨7, _⟩ => mulf (kup hw co si kr) (broadcastTo S256x128 (kscale₃ kv kr) broadcasts_S256x1_S256x128)

/-- A head of 256 lanes of the keys. -/
abbrev khead (k : Fin 4) (d : Fin 256) : EReal :=
  if h : d.val < 128 then kv (ix2 r ⟨256 * k.val + d, by omega⟩) else kr (ix2 r ⟨d - 128, by omega⟩)

/-- A half of a head of the keys. -/
theorem kcat (n : Fin 8) (l : Fin 128) :
    kfam hw co si kv kr n (ix2 r l)
      = if n.val % 2 = 0 then lower (khead r kv kr ⟨n.val / 2, by omega⟩) (fun d => hw (ix2 0 d)) l
        else turnedUpper (khead r kv kr ⟨n.val / 2, by omega⟩) (fun d => hw (ix2 0 d)) (fun l => co (ix2 r l)) (fun l => si (ix2 r l)) l := by
  match n with
  | ⟨0, _⟩ =>
    refine Eq.trans ?_ (Eq.symm (if_pos ?_))
    swap
    · exact (by decide : (0 : ℕ) % 2 = 0)
    unfold lower headScale scale khead
    pointwise [kfam, k0_pay52, k0_pay51, k0_pay50, k0_pay49, k0_pay43]
  | ⟨1, _⟩ =>
    refine Eq.trans ?_ (Eq.symm (if_neg ?_))
    swap
    · exact (by decide : ¬ (1 : ℕ) % 2 = 0)
    have e : kfam hw co si kv kr ⟨1, by omega⟩ = mulf (kup hw co si kr) (broadcastTo S256x128 (k0_pay51 kr kv) broadcasts_S256x1_S256x128) := rfl
    rw [e]
    refine (congrArg (fun q : EReal => q * (broadcastTo S256x128 (k0_pay51 kr kv) broadcasts_S256x1_S256x128) (ix2 r l)) (kup_apply r hw co si kr l)).trans ?_
    unfold turnedUpper headScale scale khead
    pointwise [k0_pay51, k0_pay50, k0_pay49]
  | ⟨2, _⟩ =>
    refine Eq.trans ?_ (Eq.symm (if_pos ?_))
    swap
    · exact (by decide : (2 : ℕ) % 2 = 0)
    unfold lower headScale scale khead
    pointwise [kfam, k0_pay57, k0_pay56, k0_pay55, k0_pay49, k0_pay43]
  | ⟨3, _⟩ =>
    refine Eq.trans ?_ (Eq.symm (if_neg ?_))
    swap
    · exact (by decide : ¬ (3 : ℕ) % 2 = 0)
    have e : kfam hw co si kv kr ⟨3, by omega⟩ = mulf (kup hw co si kr) (broadcastTo S256x128 (k0_pay56 kr kv) broadcasts_S256x1_S256x128) := rfl
    rw [e]
    refine (congrArg (fun q : EReal => q * (broadcastTo S256x128 (k0_pay56 kr kv) broadcasts_S256x1_S256x128) (ix2 r l)) (kup_apply r hw co si kr l)).trans ?_
    unfold turnedUpper headScale scale khead
    pointwise [k0_pay56, k0_pay55, k0_pay49]
  | ⟨4, _⟩ =>
    refine Eq.trans ?_ (Eq.symm (if_pos ?_))
    swap
    · exact (by decide : (4 : ℕ) % 2 = 0)
    unfold lower headScale scale khead
    pointwise [kfam, kscale₂, k0_pay61, k0_pay60, k0_pay49, k0_pay43]
  | ⟨5, _⟩ =>
    refine Eq.trans ?_ (Eq.symm (if_neg ?_))
    swap
    · exact (by decide : ¬ (5 : ℕ) % 2 = 0)
    have e : kfam hw co si kv kr ⟨5, by omega⟩ = mulf (kup hw co si kr) (broadcastTo S256x128 (kscale₂ kv kr) broadcasts_S256x1_S256x128) := rfl
    rw [e]
    refine (congrArg (fun q : EReal => q * (broadcastTo S256x128 (kscale₂ kv kr) broadcasts_S256x1_S256x128) (ix2 r l)) (kup_apply r hw co si kr l)).trans ?_
    unfold turnedUpper headScale scale khead
    pointwise [kscale₂, k0_pay61, k0_pay60, k0_pay49]
  | ⟨6, _⟩ =>
    refine Eq.trans ?_ (Eq.symm (if_pos ?_))
    swap
    · exact (by decide : (6 : ℕ) % 2 = 0)
    unfold lower headScale scale khead
    pointwise [kfam, kscale₃, k0_pay49, k0_pay43]
  | ⟨7, _⟩ =>
    refine Eq.trans ?_ (Eq.symm (if_neg ?_))
    swap
    · exact (by decide : ¬ (7 : ℕ) % 2 = 0)
    have e : kfam hw co si kv kr ⟨7, by omega⟩ = mulf (kup hw co si kr) (broadcastTo S256x128 (kscale₃ kv kr) broadcasts_S256x1_S256x128) := rfl
    rw [e]
    refine (congrArg (fun q : EReal => q * (broadcastTo S256x128 (kscale₃ kv kr) broadcasts_S256x1_S256x128) (ix2 r l)) (kup_apply r hw co si kr l)).trans ?_
    unfold turnedUpper headScale scale khead
    pointwise [kscale₃, k0_pay49]

/-- The keys' columns after their heads are normalised and turned. -/
theorem kout (C : Fin 1024) :
    k0_pay1 (F := Ideal) kv (k0_pay43 hw) (k0_pay48 (k0_pay11 co) (k0_pay12 si) (k0_pay44 kr hw) k0_pay45 (k0_pay46 kr hw) (k0_pay47 kr hw)) (k0_pay49 kr)
        (k0_pay52 kr kv (k0_pay43 hw)) (k0_pay53 kr (k0_pay11 co) (k0_pay12 si) kv (k0_pay44 kr hw) k0_pay45 (k0_pay46 kr hw) (k0_pay47 kr hw))
        (k0_pay57 kr kv (k0_pay43 hw)) (k0_pay58 kr (k0_pay11 co) (k0_pay12 si) kv (k0_pay44 kr hw) k0_pay45 (k0_pay46 kr hw) (k0_pay47 kr hw))
        (k0_pay60 kv) (k0_pay61 kr kv) (Scalar.ofBits .f32 0x358637BD#32) (ix2 r C)
      = if C.val / 128 % 2 = 0 then lower (khead r kv kr ⟨C.val / 128 / 2, by omega⟩) (fun d => hw (ix2 0 d)) ⟨C.val % 128, by omega⟩
        else turnedUpper (khead r kv kr ⟨C.val / 128 / 2, by omega⟩) (fun d => hw (ix2 0 d)) (fun l => co (ix2 r l)) (fun l => si (ix2 r l))
          ⟨C.val % 128, by omega⟩ := by
  have e := concatenate_ofFn_apply (t := S256x1024) (s₁ := S256x128) (1 : Fin 2) (kfam hw co si kv kr)
    concatenates_S256x128_S256x128_S256x128_S256x128_S256x128_S256x128_S256x128_S256x128_S256x1024_d1 rfl 128 rfl (ix2 r C) ⟨C.val / 128, by omega⟩ rfl
    (ix2 r (⟨C.val % 128, by omega⟩ : Fin 128)) rfl (fun b hb => by fin_cases b <;> first | rfl | exact absurd rfl hb)
  rw [kcat] at e
  exact e

/-- The values of the heads. -/
def vfam : Fin 4 → FVec Ideal S256x128 .f32 := fun n => match n with
  | ⟨0, _⟩ => k0_pay54 kv
  | ⟨1, _⟩ => k0_pay59 kv
  | ⟨2, _⟩ => extractStridedSlice S256x128 ![0, 640] kv slices_S256x1024_o0_640_S256x128
  | ⟨3, _⟩ => extractStridedSlice S256x128 ![0, 896] kv slices_S256x1024_o0_896_S256x128

/-- A head of the values. -/
theorem vcat (n : Fin 4) (l : Fin 128) : vfam kv n (ix2 r l) = kv (ix2 r ⟨256 * n.val + 128 + l, by omega⟩) := by
  match n with
  | ⟨0, _⟩ => pointwise [vfam, k0_pay54, k0_pay59]
  | ⟨1, _⟩ => pointwise [vfam, k0_pay54, k0_pay59]
  | ⟨2, _⟩ => pointwise [vfam, k0_pay54, k0_pay59]
  | ⟨3, _⟩ => pointwise [vfam, k0_pay54, k0_pay59]

/-- The values' columns. -/
theorem vout (C : Fin 512) :
    k0_pay2 (F := Ideal) kv (k0_pay54 kv) (k0_pay59 kv) (ix2 r C) = kv (ix2 r ⟨256 * (C.val / 128) + 128 + C.val % 128, by omega⟩) := by
  have e := concatenate_ofFn_apply (t := S256x512) (s₁ := S256x128) (1 : Fin 2) (vfam kv)
    concatenates_S256x128_S256x128_S256x128_S256x128_S256x512_d1 rfl 128 rfl (ix2 r C) ⟨C.val / 128, by omega⟩ rfl
    (ix2 r (⟨C.val % 128, by omega⟩ : Fin 128)) rfl (fun b hb => by fin_cases b <;> first | rfl | exact absurd rfl hb)
  rw [vcat] at e
  exact e

end Cert.LatentsIdeal.Block

end
-- ==== Proof.LatentsEntry.lean ====
/- What the host leaves in the operands of the latents' input projection, and what a grid point's blocks of them hold. -/
module

public import proofs.«01_k».proof.Proof.Gen.LatentsIdeal.Frame
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.LatentsIdeal.Entry

open Cert.LatentsIdeal Cert.LatentsIdeal.Gen

variable (m : (ℓ : Loc nD τ sig) → Buf (Elt Ideal) ℓ) (c : Dev nD)

/-- The block indices of the windows that move with the grid point. -/
theorem idx : ∀ t : Fin cfg0.N, win0_0.index t = ![t.val, 0] ∧ win0_1.index t = ![t.val / 16, 0, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_10.index t = ![t.val % 16, 0] ∧ win0_11.index t = ![t.val % 16, 0] ∧ t.val < 128 :=
  (by decide +kernel : ∀ t : Fin grid0.N, _)

/-- The block indices of the windows that stay. -/
theorem still : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The latents' rows, on device `c`. -/
abbrev X : FVec Ideal S8x4096x1024 .f32 := m ((c : Thread nD τ).loc main_arg0)
/-- The modulation. -/
abbrev M : FVec Ideal S8x6144 .f32 := m ((c : Thread nD τ).loc main_arg1)
/-- The first norm's weights. -/
abbrev N : FVec Ideal S1024 .f32 := m ((c : Thread nD τ).loc main_arg2)
/-- The input projection. -/
abbrev Win : FVec Ideal S1024x2880 .f32 := m ((c : Thread nD τ).loc main_arg3)
/-- The query latent's norm weights. -/
abbrev Qn : FVec Ideal S512 .f32 := m ((c : Thread nD τ).loc main_arg4)
/-- The query up-projection. -/
abbrev Wq : FVec Ideal S512x768 .f32 := m ((c : Thread nD τ).loc main_arg5)
/-- The key latent's norm weights. -/
abbrev Kn : FVec Ideal S256 .f32 := m ((c : Thread nD τ).loc main_arg6)
/-- The key and value up-projection. -/
abbrev Wkv : FVec Ideal S256x1024 .f32 := m ((c : Thread nD τ).loc main_arg7)
/-- The query heads' norm weights. -/
abbrev Qh : FVec Ideal S192 .f32 := m ((c : Thread nD τ).loc main_arg8)
/-- The key heads' norm weights. -/
abbrev Kh : FVec Ideal S192 .f32 := m ((c : Thread nD τ).loc main_arg9)

/-- The integer zero converted to a float is zero. -/
theorem sitofp_zero : FloatOps.sitofp (F := Ideal) FTy.f32 0#32 = (0 : EReal) := by
  show (((0#32 : BitVec 32).toInt : ℝ) : EReal) = 0
  simp

/-- The row operand. -/
theorem x_entry (R : Fin 32768) (k : Fin 1024) :
    V m c main_v53 (ix2 R k) = X m c (ix3 (⟨R.val / 4096, by omega⟩ : Fin 8) (⟨R.val % 4096, by omega⟩ : Fin 4096) k) := by
  unfold V
  after_reads_at

/-- The modulation operand: the six vectors of every batch element. -/
theorem m_entry (b : Fin 8) (i : Fin 6) (k : Fin 1024) :
    V m c main_v54 (ix3 b i k) = M m c (ix2 b (⟨i.val * 1024 + k.val, by omega⟩ : Fin 6144)) := by
  unfold V
  after_reads_at

/-- The padded query up-projection. -/
theorem wq_entry (k : Fin 512) (C : Fin 1024) :
    V m c main_v11 (ix2 k C)
      = if h : C.val % 256 < 192 then Wq m c (ix2 k (⟨C.val / 256 * 192 + C.val % 256, by omega⟩ : Fin 768)) else 0 := by
  unfold V
  after_reads_at
  by_cases h : C.val % 256 < 192
  · have h' : C.val / 256 < 4 ∧ C.val % 256 < 192 := ⟨by omega, h⟩
    simp only [dif_pos h', dif_pos h]
  · have h' : ¬ (C.val / 256 < 4 ∧ C.val % 256 < 192) := fun k => h k.2
    simp only [dif_neg h', dif_neg h, sitofp_zero]

/-- The padded query heads' weights. -/
theorem qh_entry (d : Fin 256) :
    V m c main_v14 (ix2 (0 : Fin 1) d) = if h : d.val < 192 then Qh m c (ix1 (⟨d.val, h⟩ : Fin 192)) else 0 := by
  unfold V
  after_reads_at
  simp only [sitofp_zero]

/-- The padded key heads' weights. -/
theorem kh_entry (d : Fin 256) :
    V m c main_v16 (ix2 (0 : Fin 1) d) = if h : d.val < 192 then Kh m c (ix1 (⟨d.val, h⟩ : Fin 192)) else 0 := by
  unfold V
  after_reads_at
  simp only [sitofp_zero]

/-- The first norm's operand. -/
theorem n_entry (k : Fin 1024) : V m c main_v7 (ix2 (0 : Fin 1) k) = N m c (ix1 k) := by
  unfold V
  after_reads_at

/-- The query latent's norm operand. -/
theorem qn_entry (k : Fin 512) : V m c main_v9 (ix2 (0 : Fin 1) k) = Qn m c (ix1 k) := by
  unfold V
  after_reads_at

/-- The key latent's norm operand. -/
theorem kn_entry (k : Fin 256) : V m c main_v10 (ix2 (0 : Fin 1) k) = Kn m c (ix1 k) := by
  unfold V
  after_reads_at

/-- The key and value up-projection's operand. -/
theorem wkv_entry (k : Fin 256) (C : Fin 1024) : V m c main_v12 (ix2 k C) = Wkv m c (ix2 k C) := by
  unfold V
  after_reads_at

/-- The widened input projection: 64 columns of zeros after the rotary columns. -/
theorem win_entry (k : Fin 1024) (j : Fin 2944) :
    V m c main_v8 (ix2 k j)
      = if h : j.val < 832 then Win m c (ix2 k (⟨j.val, by omega⟩ : Fin 2880)) else if h' : j.val < 896 then 0
        else Win m c (ix2 k (⟨j.val - 64, by omega⟩ : Fin 2880)) := by
  unfold V
  after_reads_at
  by_cases h : j.val < 832
  · simp only [dif_pos h]
    after_reads_at
  · simp only [dif_neg h]
    by_cases h' : j.val < 896
    · have h₁ : j.val - 832 < 64 := by omega
      simp only [dif_pos h', dif_pos h₁]
      after_reads_at
    · have h₁ : ¬ j.val - 832 < 64 := by omega
      simp only [dif_neg h', dif_neg h₁]
      after_reads_at
      have e : 832 + (j.val - 832 - 64) = j.val - 64 := by omega
      simp only [e]

variable (t : Fin cfg0.N)

/-- The batch element a grid point works on. -/
def bat (t : Fin cfg0.N) : Fin 8 := ⟨t.val / 16, by have := (idx t).2.2.2.2.2.2.2.2.2.2; omega⟩
/-- The token of a row of a grid point. -/
def tok (t : Fin cfg0.N) (r : Fin 256) : Fin 4096 := ⟨t.val % 16 * 256 + r.val, by omega⟩

/-- A grid point's block of rows. -/
theorem x_block (r : Fin 256) (k : Fin 1024) : iblk m c 0 t (ix2 r k) = X m c (ix3 (bat t) (tok t r) k) := by
  have hb : t.val < 128 := (idx t).2.2.2.2.2.2.2.2.2.2
  blk_simp [iblk, idx t]
  have e : (win0_0.blk t).view.emb (ix2 r k) = ix2 (⟨t.val * 256 + r.val, by omega⟩ : Fin 32768) k := by
    blk_ext [idx t]
  rw [e, x_entry]
  blk_ext [bat, tok]

/-- A grid point's block of the modulation. -/
theorem m_block (i : Fin 6) (k : Fin 1024) :
    iblk m c 1 t (ix3 (0 : Fin 1) i k) = M m c (ix2 (bat t) (⟨i.val * 1024 + k.val, by omega⟩ : Fin 6144)) := by
  have hb : t.val < 128 := (idx t).2.2.2.2.2.2.2.2.2.2
  blk_simp [iblk, idx t]
  have e : (win0_1.blk t).view.emb (ix3 (0 : Fin 1) i k) = ix3 (bat t) i k := by
    blk_ext [idx t, bat]
  rw [e, m_entry]

/-- The first norm's weights in a block. -/
theorem n_block (k : Fin 1024) : iblk m c 2 t (ix2 (0 : Fin 1) k) = N m c (ix1 k) := by
  blk_simp [iblk, still t]
  have e : (win0_2.blk t).view.emb (ix2 (0 : Fin 1) k) = ix2 (0 : Fin 1) k := by
    blk_ext [still t]
  rw [e, n_entry]

/-- The widened input projection in a block. -/
theorem win_block (k : Fin 1024) (j : Fin 2944) :
    iblk m c 3 t (ix2 k j)
      = if h : j.val < 832 then Win m c (ix2 k (⟨j.val, by omega⟩ : Fin 2880)) else if h' : j.val < 896 then 0
        else Win m c (ix2 k (⟨j.val - 64, by omega⟩ : Fin 2880)) := by
  blk_simp [iblk, still t]
  have e : (win0_3.blk t).view.emb (ix2 k j) = ix2 k j := by
    blk_ext [still t]
  rw [e, win_entry]

/-- The query latent's norm weights in a block. -/
theorem qn_block (k : Fin 512) : iblk m c 4 t (ix2 (0 : Fin 1) k) = Qn m c (ix1 k) := by
  blk_simp [iblk, still t]
  have e : (win0_4.blk t).view.emb (ix2 (0 : Fin 1) k) = ix2 (0 : Fin 1) k := by
    blk_ext [still t]
  rw [e, qn_entry]

/-- The key latent's norm weights in a block. -/
theorem kn_block (k : Fin 256) : iblk m c 5 t (ix2 (0 : Fin 1) k) = Kn m c (ix1 k) := by
  blk_simp [iblk, still t]
  have e : (win0_5.blk t).view.emb (ix2 (0 : Fin 1) k) = ix2 (0 : Fin 1) k := by
    blk_ext [still t]
  rw [e, kn_entry]

/-- The padded query up-projection in a block. -/
theorem wq_block (k : Fin 512) (C : Fin 1024) :
    iblk m c 6 t (ix2 k C)
      = if h : C.val % 256 < 192 then Wq m c (ix2 k (⟨C.val / 256 * 192 + C.val % 256, by omega⟩ : Fin 768)) else 0 := by
  blk_simp [iblk, still t]
  have e : (win0_6.blk t).view.emb (ix2 k C) = ix2 k C := by
    blk_ext [still t]
  rw [e, wq_entry]

/-- The key and value up-projection in a block. -/
theorem wkv_block (k : Fin 256) (C : Fin 1024) : iblk m c 7 t (ix2 k C) = Wkv m c (ix2 k C) := by
  blk_simp [iblk, still t]
  have e : (win0_7.blk t).view.emb (ix2 k C) = ix2 k C := by
    blk_ext [still t]
  rw [e, wkv_entry]

/-- The padded query heads' weights in a block. -/
theorem qh_block (d : Fin 256) :
    iblk m c 8 t (ix2 (0 : Fin 1) d) = if h : d.val < 192 then Qh m c (ix1 (⟨d.val, h⟩ : Fin 192)) else 0 := by
  blk_simp [iblk, still t]
  have e : (win0_8.blk t).view.emb (ix2 (0 : Fin 1) d) = ix2 (0 : Fin 1) d := by
    blk_ext [still t]
  rw [e, qh_entry]

/-- The padded key heads' weights in a block. -/
theorem kh_block (d : Fin 256) :
    iblk m c 9 t (ix2 (0 : Fin 1) d) = if h : d.val < 192 then Kh m c (ix1 (⟨d.val, h⟩ : Fin 192)) else 0 := by
  blk_simp [iblk, still t]
  have e : (win0_9.blk t).view.emb (ix2 (0 : Fin 1) d) = ix2 (0 : Fin 1) d := by
    blk_ext [still t]
  rw [e, kh_entry]

/-- A grid point's rows of the table of cosines. -/
theorem cos_block (r : Fin 256) (l : Fin 128) : iblk m c 10 t (ix2 r l) = V m c main_v45 (ix2 (tok t r) l) := by
  blk_simp [iblk, idx t]
  have e : (win0_10.blk t).view.emb (ix2 r l) = ix2 (tok t r) l := by
    blk_ext [idx t, tok]
  rw [e]

/-- A grid point's rows of the table of sinines. -/
theorem sin_block (r : Fin 256) (l : Fin 128) : iblk m c 11 t (ix2 r l) = V m c main_v52 (ix2 (tok t r) l) := by
  blk_simp [iblk, idx t]
  have e : (win0_11.blk t).view.emb (ix2 r l) = ix2 (tok t r) l := by
    blk_ext [idx t, tok]
  rw [e]

end Cert.LatentsIdeal.Entry

end
-- ==== Proof.LatentsReference.lean ====
/- The reference of the latents' input projection read at an index: each of its rows is the projection of its token, the
   rotary lanes of its queries and keys turned by the token's two angles. -/
module

public import proofs.«01_k».proof.Proof.Gen.LatentsReferenceIdeal
public import proofs.«01_k».proof.Proof.Turning
public import Idealize.ShloMosaic.Lib.Pointwise

@[expose] public section

set_option maxRecDepth 16384

noncomputable section

open Idealize.ShloMosaic
open scoped BigOperators

namespace Cert.LatentsReferenceIdeal.Row

open Cert.LatentsReferenceIdeal Cert.LatentsReferenceIdeal.Gen Cert.Projection Cert.Turning

variable (x : FVec Ideal S8x4096x1024 .f32) (md : FVec Ideal S8x6144 .f32) (n : FVec Ideal S1024 .f32)
  (win : FVec Ideal S1024x2880 .f32) (qn : FVec Ideal S512 .f32) (wq : FVec Ideal S512x768 .f32) (kn : FVec Ideal S256 .f32)
  (wkv : FVec Ideal S256x1024 .f32) (qh kh : FVec Ideal S192 .f32)

/-- The modulated rows. -/
def rows : FVec Ideal S8x4096x1024 .f32 :=
  addf (mulf (mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 n)))
    (broadcastInDim S8x4096x1024 ![0, 1, 2] bcast_S8x1x1024_S8x4096x1024_0_1_2
      (addf (broadcastInDim S8x1x1024 ![] bcast_S_S8x1x1024 (constant S_ .f32 0x3F800000#32))
        (extractStridedSlice S8x1x1024 ![0, 0, 1024] (broadcastInDim S8x1x6144 ![0, 2] bcast_S8x6144_S8x1x6144_0_2 md) slices_S8x1x6144_S8x1x1024_0_0_1024))))
    (broadcastInDim S8x4096x1024 ![0, 1, 2] bcast_S8x1x1024_S8x4096x1024_0_1_2
      (extractStridedSlice S8x1x1024 ![0, 0, 0] (broadcastInDim S8x1x6144 ![0, 2] bcast_S8x6144_S8x1x6144_0_2 md) slices_S8x1x6144_S8x1x1024_0_0_0))

/-- The projected rows. -/
def projected : FVec Ideal S8x4096x2880 .f32 :=
  Host.dotGeneral dot_S8x4096x1024_S1024x2880_S8x4096x2880_2_0_01_1_n_n none (rows x md n) win

variable (z : FVec Ideal S8x4096x2880 .f32)

/-- The normalised latents, of the columns 512 to 767 of the projected rows. -/
def latents : FVec Ideal S8x4096x256 .f32 :=
  let c : FVec Ideal S8x4096x256 .f32 := extractStridedSlice S8x4096x256 ![0, 0, 512] z slices_S8x4096x2880_S8x4096x256_0_0_512
  mulf (mulf c (broadcastInDim S8x4096x256 ![0, 1, 2] bcast_S8x4096x1_S8x4096x256_0_1_2
      (Host.rsqrt (addf (Host.divf (broadcastInDim S8x4096x1 ![0, 1] bcast_S8x4096_S8x4096x1_0_1
          (Host.reduceAdd (mulf c c) (constant S_ .f32 0x00000000#32) reducesTo_S8x4096x256_S8x4096_d2 h_S_))
        (broadcastInDim S8x4096x1 ![] bcast_S_S8x4096x1 (constant S_ .f32 0x43800000#32)))
        (broadcastInDim S8x4096x1 ![] bcast_S_S8x4096x1 (constant S_ .f32 0x358637BD#32))))))
      (broadcastInDim S8x4096x256 ![0, 1, 2] bcast_S1x1x256_S8x4096x256_0_1_2 (broadcastInDim S1x1x256 ![2] bcast_S256_S1x1x256_2 kn))

/-- The normalised query latents, of the first 512 columns. -/
def qlatents : FVec Ideal S8x4096x512 .f32 :=
  let c : FVec Ideal S8x4096x512 .f32 := extractStridedSlice S8x4096x512 ![0, 0, 0] z slices_S8x4096x2880_S8x4096x512_0_0_0
  mulf (mulf c (broadcastInDim S8x4096x512 ![0, 1, 2] bcast_S8x4096x1_S8x4096x512_0_1_2
      (Host.rsqrt (addf (Host.divf (broadcastInDim S8x4096x1 ![0, 1] bcast_S8x4096_S8x4096x1_0_1
          (Host.reduceAdd (mulf c c) (constant S_ .f32 0x00000000#32) reducesTo_S8x4096x512_S8x4096_d2 h_S_))
        (broadcastInDim S8x4096x1 ![] bcast_S_S8x4096x1 (constant S_ .f32 0x44000000#32)))
        (broadcastInDim S8x4096x1 ![] bcast_S_S8x4096x1 (constant S_ .f32 0x358637BD#32))))))
      (broadcastInDim S8x4096x512 ![0, 1, 2] bcast_S1x1x512_S8x4096x512_0_1_2 (broadcastInDim S1x1x512 ![2] bcast_S512_S1x1x512_2 qn))

/-- Heads of 192 lanes, each normalised. -/
def heads (a : FVec Ideal S8x4096x4x192 .f32) (w : FVec Ideal S192 .f32) : FVec Ideal S8x4096x4x192 .f32 :=
  mulf (mulf a (broadcastInDim S8x4096x4x192 ![0, 1, 2, 3] bcast_S8x4096x4x1_S8x4096x4x192_0_1_2_3
      (Host.rsqrt (addf (Host.divf (broadcastInDim S8x4096x4x1 ![0, 1, 2] bcast_S8x4096x4_S8x4096x4x1_0_1_2
          (Host.reduceAdd (mulf a a) (constant S_ .f32 0x00000000#32) reducesTo_S8x4096x4x192_S8x4096x4_d3 h_S_))
        (broadcastInDim S8x4096x4x1 ![] bcast_S_S8x4096x4x1 (constant S_ .f32 0x43400000#32)))
        (broadcastInDim S8x4096x4x1 ![] bcast_S_S8x4096x4x1 (constant S_ .f32 0x358637BD#32))))))
      (broadcastInDim S8x4096x4x192 ![0, 1, 2, 3] bcast_S1x1x1x192_S8x4096x4x192_0_1_2_3 (broadcastInDim S1x1x1x192 ![3] bcast_S192_S1x1x1x192_3 w))

/-- The queries before their heads are normalised. -/
def qraws (c : FVec Ideal S8x4096x512 .f32) : FVec Ideal S8x4096x4x192 .f32 :=
  shapeCast S8x4096x4x192 (Host.dotGeneral dot_S8x4096x512_S512x768_S8x4096x768_2_0_01_1_n_n none c wq : FVec Ideal S8x4096x768 .f32)
    shapeCasts_S8x4096x768_S8x4096x4x192

/-- The latents' keys and values. -/
def kvs (c : FVec Ideal S8x4096x256 .f32) : FVec Ideal S8x4096x4x256 .f32 :=
  shapeCast S8x4096x4x256 (Host.dotGeneral dot_S8x4096x256_S256x1024_S8x4096x1024_2_0_01_1_n_n none c wkv : FVec Ideal S8x4096x1024 .f32)
    shapeCasts_S8x4096x1024_S8x4096x4x256

/-- The rotary columns. -/
def rotary : FVec Ideal S8x4096x64 .f32 := extractStridedSlice S8x4096x64 ![0, 0, 768] z slices_S8x4096x2880_S8x4096x64_0_0_768

/-- The keys before their heads are normalised: a head's own part and the shared rotary part. -/
def kraws (kv : FVec Ideal S8x4096x4x256 .f32) (kr : FVec Ideal S8x4096x64 .f32) : FVec Ideal S8x4096x4x192 .f32 :=
  concatenate S8x4096x4x192 3 [⟨S8x4096x4x128, extractStridedSlice S8x4096x4x128 ![0, 0, 0, 0] kv slices_S8x4096x4x256_S8x4096x4x128_0_0_0_0⟩,
    ⟨S8x4096x4x64, broadcastInDim S8x4096x4x64 ![0, 1, 2, 3] bcast_S8x4096x1x64_S8x4096x4x64_0_1_2_3
      (broadcastInDim S8x4096x1x64 ![0, 1, 3] bcast_S8x4096x64_S8x4096x1x64_0_1_3 kr)⟩] concatenates_S8x4096x4x128_S8x4096x4x64_S8x4096x4x192_d3

/-- The rotary frequencies. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The angles of a token's row of the image. -/
def rowAngles : FVec Ideal S4096x16 .f32 :=
  mulf (broadcastInDim S4096x16 ![0, 1] bcast_S4096x1_S4096x16_0_1 (broadcastInDim S4096x1 ![0] bcast_S4096_S4096x1_0
      (shapeCast S4096 (broadcastInDim S64x64 ![0] bcast_S64_S64x64_0 (sitofp .f32 (iotaInDim S64 32 0) : FVec Ideal S64 .f32)) shapeCasts_S64x64_S4096)))
    (broadcastInDim S4096x16 ![0, 1] bcast_S1x16_S4096x16_0_1 (broadcastInDim S1x16 ![1] bcast_S16_S1x16_1 freqs))

/-- The angles of a token's column of the image. -/
def colAngles : FVec Ideal S4096x16 .f32 :=
  mulf (broadcastInDim S4096x16 ![0, 1] bcast_S4096x1_S4096x16_0_1 (broadcastInDim S4096x1 ![0] bcast_S4096_S4096x1_0
      (shapeCast S4096 (broadcastInDim S64x64 ![0, 1] bcast_S1x64_S64x64_0_1
        (shapeCast S1x64 (sitofp .f32 (iotaInDim S64 32 0) : FVec Ideal S64 .f32) shapeCasts_S64_S1x64)) shapeCasts_S64x64_S4096)))
    (broadcastInDim S4096x16 ![0, 1] bcast_S1x16_S4096x16_0_1 (broadcastInDim S1x16 ![1] bcast_S16_S1x16_1 freqs))

/-- 32 lanes turned by the angles of one axis. -/
def turnedAxis (a : FVec Ideal S8x4096x4x32 .f32) (an : FVec Ideal S4096x16 .f32) : FVec Ideal S8x4096x4x32 .f32 :=
  let x₁ : FVec Ideal S8x4096x4x16 .f32 := extractStridedSlice S8x4096x4x16 ![0, 0, 0, 0] a slices_S8x4096x4x32_S8x4096x4x16_0_0_0_0
  let x₂ : FVec Ideal S8x4096x4x16 .f32 := extractStridedSlice S8x4096x4x16 ![0, 0, 0, 16] a slices_S8x4096x4x32_S8x4096x4x16_0_0_0_16
  let co : FVec Ideal S8x4096x4x16 .f32 := broadcastInDim S8x4096x4x16 ![0, 1, 2, 3] bcast_S1x4096x1x16_S8x4096x4x16_0_1_2_3
    (broadcastInDim S1x4096x1x16 ![1, 3] bcast_S4096x16_S1x4096x1x16_1_3 (Host.cos an))
  let si : FVec Ideal S8x4096x4x16 .f32 := broadcastInDim S8x4096x4x16 ![0, 1, 2, 3] bcast_S1x4096x1x16_S8x4096x4x16_0_1_2_3
    (broadcastInDim S1x4096x1x16 ![1, 3] bcast_S4096x16_S1x4096x1x16_1_3 (Host.sin an))
  concatenate S8x4096x4x32 3 [⟨S8x4096x4x16, subf (mulf x₁ co) (mulf x₂ si)⟩, ⟨S8x4096x4x16, addf (mulf x₂ co) (mulf x₁ si)⟩]
    concatenates_S8x4096x4x16_S8x4096x4x16_S8x4096x4x32_d3

/-- Heads with their last 64 lanes turned. -/
def turned (a : FVec Ideal S8x4096x4x192 .f32) : FVec Ideal S8x4096x4x192 .f32 :=
  concatenate S8x4096x4x192 3 [⟨S8x4096x4x128, extractStridedSlice S8x4096x4x128 ![0, 0, 0, 0] a slices_S8x4096x4x192_S8x4096x4x128_0_0_0_0⟩,
    ⟨S8x4096x4x32, turnedAxis (extractStridedSlice S8x4096x4x32 ![0, 0, 0, 128] a slices_S8x4096x4x192_S8x4096x4x32_0_0_0_128) rowAngles⟩,
    ⟨S8x4096x4x32, turnedAxis (extractStridedSlice S8x4096x4x32 ![0, 0, 0, 160] a slices_S8x4096x4x192_S8x4096x4x32_0_0_0_160) colAngles⟩]
    concatenates_S8x4096x4x128_S8x4096x4x32_S8x4096x4x32_S8x4096x4x192_d3

/-- The angles of the two axes. -/
def angles (g : Fin 2) : FVec Ideal S4096x16 .f32 := if g.val = 0 then rowAngles else colAngles
/-- The cosine of a token's angle. -/
def cosAt (s : Fin 4096) (g : Fin 2) (f : Fin 16) : EReal := Host.cos (angles g) (ix2 s f)
/-- The sine of a token's angle. -/
def sinAt (s : Fin 4096) (g : Fin 2) (f : Fin 16) : EReal := Host.sin (angles g) (ix2 s f)

/-- Heads padded to 256 lanes with zeros and laid side by side. -/
def widened (a : FVec Ideal S8x4096x4x192 .f32) : FVec Ideal S32768x1024 .bf16 :=
  truncf .bf16 (shapeCast S32768x1024 (pad S8x4096x4x256 ![0, 0, 0, 0] ![0, 0, 0, 64] ![0, 0, 0, 0] a (sitofp .f32 (constantI S_ 32 0#32) : FVec Ideal S_ .f32)
    pads_S8x4096x4x192_S8x4096x4x256_000_000_000_0640 h_S_ : FVec Ideal S8x4096x4x256 .f32) shapeCasts_S8x4096x4x256_S32768x1024) bitsLt_bf16_f32

/-- The first result: the latents. -/
def ckv : FVec Ideal S32768x256 .f32 := shapeCast S32768x256 (latents kn z) shapeCasts_S8x4096x256_S32768x256
/-- The second result: the rotary columns. -/
def krope : FVec Ideal S32768x64 .f32 := shapeCast S32768x64 (rotary z) shapeCasts_S8x4096x64_S32768x64
/-- The third result: the scaled queries. -/
def queries : FVec Ideal S32768x1024 .bf16 :=
  widened (mulf (turned (heads (qraws wq (qlatents qn z)) qh)) (broadcastInDim S8x4096x4x192 ![] bcast_S_S8x4096x4x192 (constant S_ .f32 0x3D93CD3A#32)))
/-- The fourth result: the keys. -/
def keys : FVec Ideal S32768x1024 .bf16 := widened (turned (heads (kraws (kvs wkv (latents kn z)) (rotary z)) kh))
/-- The fifth result: the values. -/
def values : FVec Ideal S32768x512 .bf16 :=
  truncf .bf16 (shapeCast S32768x512 (extractStridedSlice S8x4096x4x128 ![0, 0, 0, 128] (kvs wkv (latents kn z)) slices_S8x4096x4x256_S8x4096x4x128_0_0_0_128)
    shapeCasts_S8x4096x4x128_S32768x512) bitsLt_bf16_f32
/-- The sixth result: the retention's columns. -/
def ret : FVec Ideal S32768x2048 .f32 :=
  shapeCast S32768x2048 (extractStridedSlice S8x4096x2048 ![0, 0, 832] z slices_S8x4096x2880_S8x4096x2048_0_0_832) shapeCasts_S8x4096x2048_S32768x2048

variable (b : Fin 8) (s : Fin 4096) (h : Fin 4)

/-- The projected row of a token. -/
abbrev zrow : Fin 2880 → EReal := fun j => z (ix3 b s j)

/-- A modulated row at a lane. -/
theorem rows_apply (k : Fin 1024) :
    rows x md n (ix3 b s k) = modulated (fun k => x (ix3 b s k)) (fun k => n (ix1 k)) (fun k => md (ix2 b ⟨k, by omega⟩)) (fun k => md (ix2 b ⟨1024 + k, by omega⟩)) k := by
  unfold modulated normed scale
  pointwise [rows]

/-- A projected row is the projection of its token. -/
theorem projected_apply (j : Fin 2880) :
    projected x md n win (ix3 b s j)
      = proj (fun k => x (ix3 b s k)) (fun k => n (ix1 k)) (fun k => md (ix2 b ⟨k, by omega⟩)) (fun k => md (ix2 b ⟨1024 + k, by omega⟩)) (fun k j => win (ix2 k j)) j := by
  unfold proj times
  simp only [← rows_apply]
  pointwise [projected]

/-- The latents at a lane. -/
theorem latents_apply (j : Fin 256) : latents kn z (ix3 b s j) = latent (fun j => kn (ix1 j)) (zrow z b s) j := by
  unfold latent normed scale
  pointwise [latents]

/-- The query latents at a lane. -/
theorem qlatents_apply (k : Fin 512) :
    qlatents qn z (ix3 b s k) = normed n512 (fun k => zrow z b s ⟨k, by omega⟩) (fun k => qn (ix1 k)) k := by
  unfold normed scale
  pointwise [qlatents]

/-- A normalised head at a lane. -/
theorem heads_apply (a : FVec Ideal S8x4096x4x192 .f32) (w : FVec Ideal S192 .f32) (d : Fin 192) :
    heads a w (ix4 b s h d) = normed n192 (fun d => a (ix4 b s h d)) (fun d => w (ix1 d)) d := by
  unfold normed scale
  pointwise [heads]

/-- The queries before their heads are normalised, at a lane. -/
theorem qraws_apply (c : FVec Ideal S8x4096x512 .f32) (d : Fin 192) :
    qraws wq c (ix4 b s h d) = times (fun k => c (ix3 b s k)) (fun k j => wq (ix2 k j)) ⟨h * 192 + d, by omega⟩ := by
  unfold times
  pointwise [qraws]

/-- The keys and values at a lane. -/
theorem kvs_apply (c : FVec Ideal S8x4096x256 .f32) (d : Fin 256) :
    kvs wkv c (ix4 b s h d) = times (fun k => c (ix3 b s k)) (fun k j => wkv (ix2 k j)) ⟨h * 256 + d, by omega⟩ := by
  unfold times
  pointwise [kvs]

/-- The rotary columns at a lane. -/
theorem rotary_apply (j : Fin 64) : rotary z (ix3 b s j) = zrow z b s ⟨768 + j, by omega⟩ := by
  pointwise [rotary]

/-- The keys before their heads are normalised, at a lane. -/
theorem kraws_apply (kv : FVec Ideal S8x4096x4x256 .f32) (kr : FVec Ideal S8x4096x64 .f32) (d : Fin 192) :
    kraws kv kr (ix4 b s h d) = if t : d.val < 128 then kv (ix4 b s h (⟨d.val, by omega⟩ : Fin 256)) else kr (ix3 b s (⟨d.val - 128, by omega⟩ : Fin 64)) := by
  pointwise [kraws]

/-- 32 turned lanes at a lane. -/
theorem turnedAxis_apply (a : FVec Ideal S8x4096x4x32 .f32) (an : FVec Ideal S4096x16 .f32) (l : Fin 32) :
    turnedAxis a an (ix4 b s h l) = if t : l.val < 16 then
        a (ix4 b s h l) * Host.cos an (ix2 s (⟨l.val, t⟩ : Fin 16)) - a (ix4 b s h (⟨l.val + 16, by omega⟩ : Fin 32)) * Host.sin an (ix2 s (⟨l.val, t⟩ : Fin 16))
      else
        a (ix4 b s h l) * Host.cos an (ix2 s (⟨l.val - 16, by omega⟩ : Fin 16)) + a (ix4 b s h (⟨l.val - 16, by omega⟩ : Fin 32)) * Host.sin an (ix2 s (⟨l.val - 16, by omega⟩ : Fin 16)) := by
  pointwise [turnedAxis]
  by_cases t : l.val < 16
  · rw [dif_pos t, dif_pos t]
    have e : (⟨16 + l.val, by omega⟩ : Fin 32) = ⟨l.val + 16, by omega⟩ := Fin.ext (by simp only; omega)
    rw [e]
  · rw [dif_neg t, dif_neg t]
    have e : (⟨16 + (l.val - 16), by omega⟩ : Fin 32) = l := Fin.ext (by simp only; omega)
    rw [e]

/-- A turned head at a lane. -/
theorem turned_apply (a : FVec Ideal S8x4096x4x192 .f32) (d : Fin 192) :
    turned a (ix4 b s h d) = turn (fun d => a (ix4 b s h d)) (cosAt s) (sinAt s) d := by
  have p (l : Fin 32) : extractStridedSlice S8x4096x4x32 ![0, 0, 0, 128] a slices_S8x4096x4x192_S8x4096x4x32_0_0_0_128 (ix4 b s h l)
      = a (ix4 b s h (⟨128 + l.val, by omega⟩ : Fin 192)) := by
    pointwise
  have q (l : Fin 32) : extractStridedSlice S8x4096x4x32 ![0, 0, 0, 160] a slices_S8x4096x4x192_S8x4096x4x32_0_0_0_160 (ix4 b s h l)
      = a (ix4 b s h (⟨160 + l.val, by omega⟩ : Fin 192)) := by
    pointwise
  have base : turned a (ix4 b s h d) = if t : d.val < 128 then a (ix4 b s h d) else if u : d.val - 128 < 32 then
      turnedAxis (extractStridedSlice S8x4096x4x32 ![0, 0, 0, 128] a slices_S8x4096x4x192_S8x4096x4x32_0_0_0_128) rowAngles (ix4 b s h (⟨d.val - 128, u⟩ : Fin 32))
    else turnedAxis (extractStridedSlice S8x4096x4x32 ![0, 0, 0, 160] a slices_S8x4096x4x192_S8x4096x4x32_0_0_0_160) colAngles
      (ix4 b s h (⟨d.val - 128 - 32, by omega⟩ : Fin 32)) := by
    pointwise [turned]
  rw [base]
  simp only [turnedAxis_apply, p, q]
  unfold turn
  by_cases t : d.val < 128
  · rw [dif_pos t, dif_pos t]
  · rw [dif_neg t, dif_neg t]
    by_cases u : d.val - 128 < 32
    · rw [dif_pos u]
      by_cases w : d.val - 128 < 16
      · rw [dif_pos w, dif_pos (show (d.val - 128) % 32 < 16 by omega)]
        have f : (⟨(d.val - 128) % 16, by omega⟩ : Fin 16) = ⟨d.val - 128, by omega⟩ := Fin.ext (by simp only; omega)
        have co : cosAt s ⟨(d.val - 128) / 32, by omega⟩ ⟨(d.val - 128) % 16, by omega⟩ = Host.cos rowAngles (ix2 s ⟨d.val - 128, by omega⟩) := by
          unfold cosAt angles
          rw [if_pos (show (d.val - 128) / 32 = 0 by omega), f]
        have si : sinAt s ⟨(d.val - 128) / 32, by omega⟩ ⟨(d.val - 128) % 16, by omega⟩ = Host.sin rowAngles (ix2 s ⟨d.val - 128, by omega⟩) := by
          unfold sinAt angles
          rw [if_pos (show (d.val - 128) / 32 = 0 by omega), f]
        have e₁ : (⟨128 + (d.val - 128), by omega⟩ : Fin 192) = d := Fin.ext (by simp only; omega)
        have e₂ : (⟨128 + (d.val - 128 + 16), by omega⟩ : Fin 192) = ⟨d.val + 16, by omega⟩ := Fin.ext (by simp only; omega)
        rw [co, si, e₁, e₂]
      · rw [dif_neg w, dif_neg (show ¬ (d.val - 128) % 32 < 16 by omega)]
        have f : (⟨(d.val - 128) % 16, by omega⟩ : Fin 16) = ⟨d.val - 128 - 16, by omega⟩ := Fin.ext (by simp only; omega)
        have co : cosAt s ⟨(d.val - 128) / 32, by omega⟩ ⟨(d.val - 128) % 16, by omega⟩ = Host.cos rowAngles (ix2 s ⟨d.val - 128 - 16, by omega⟩) := by
          unfold cosAt angles
          rw [if_pos (show (d.val - 128) / 32 = 0 by omega), f]
        have si : sinAt s ⟨(d.val - 128) / 32, by omega⟩ ⟨(d.val - 128) % 16, by omega⟩ = Host.sin rowAngles (ix2 s ⟨d.val - 128 - 16, by omega⟩) := by
          unfold sinAt angles
          rw [if_pos (show (d.val - 128) / 32 = 0 by omega), f]
        have e₁ : (⟨128 + (d.val - 128), by omega⟩ : Fin 192) = d := Fin.ext (by simp only; omega)
        have e₂ : (⟨128 + (d.val - 128 - 16), by omega⟩ : Fin 192) = ⟨d.val - 16, by omega⟩ := Fin.ext (by simp only; omega)
        rw [co, si, e₁, e₂]
    · rw [dif_neg u]
      by_cases w : d.val - 128 - 32 < 16
      · rw [dif_pos w, dif_pos (show (d.val - 128) % 32 < 16 by omega)]
        have f : (⟨(d.val - 128) % 16, by omega⟩ : Fin 16) = ⟨d.val - 128 - 32, by omega⟩ := Fin.ext (by simp only; omega)
        have co : cosAt s ⟨(d.val - 128) / 32, by omega⟩ ⟨(d.val - 128) % 16, by omega⟩ = Host.cos colAngles (ix2 s ⟨d.val - 128 - 32, by omega⟩) := by
          unfold cosAt angles
          rw [if_neg (show ¬ (d.val - 128) / 32 = 0 by omega), f]
        have si : sinAt s ⟨(d.val - 128) / 32, by omega⟩ ⟨(d.val - 128) % 16, by omega⟩ = Host.sin colAngles (ix2 s ⟨d.val - 128 - 32, by omega⟩) := by
          unfold sinAt angles
          rw [if_neg (show ¬ (d.val - 128) / 32 = 0 by omega), f]
        have e₁ : (⟨160 + (d.val - 128 - 32), by omega⟩ : Fin 192) = d := Fin.ext (by simp only; omega)
        have e₂ : (⟨160 + (d.val - 128 - 32 + 16), by omega⟩ : Fin 192) = ⟨d.val + 16, by omega⟩ := Fin.ext (by simp only; omega)
        rw [co, si, e₁, e₂]
      · rw [dif_neg w, dif_neg (show ¬ (d.val - 128) % 32 < 16 by omega)]
        have f : (⟨(d.val - 128) % 16, by omega⟩ : Fin 16) = ⟨d.val - 128 - 32 - 16, by omega⟩ := Fin.ext (by simp only; omega)
        have co : cosAt s ⟨(d.val - 128) / 32, by omega⟩ ⟨(d.val - 128) % 16, by omega⟩ = Host.cos colAngles (ix2 s ⟨d.val - 128 - 32 - 16, by omega⟩) := by
          unfold cosAt angles
          rw [if_neg (show ¬ (d.val - 128) / 32 = 0 by omega), f]
        have si : sinAt s ⟨(d.val - 128) / 32, by omega⟩ ⟨(d.val - 128) % 16, by omega⟩ = Host.sin colAngles (ix2 s ⟨d.val - 128 - 32 - 16, by omega⟩) := by
          unfold sinAt angles
          rw [if_neg (show ¬ (d.val - 128) / 32 = 0 by omega), f]
        have e₁ : (⟨160 + (d.val - 128 - 32), by omega⟩ : Fin 192) = d := Fin.ext (by simp only; omega)
        have e₂ : (⟨160 + (d.val - 128 - 32 - 16), by omega⟩ : Fin 192) = ⟨d.val - 16, by omega⟩ := Fin.ext (by simp only; omega)
        rw [co, si, e₁, e₂]

/-- A padded head at a lane. -/
theorem widened_apply (a : FVec Ideal S8x4096x4x192 .f32) (R : Fin 32768) (C : Fin 1024) :
    widened a (ix2 R C) = if t : C.val % 256 < 192 then
        a (ix4 (⟨R.val / 4096, by omega⟩ : Fin 8) (⟨R.val % 4096, by omega⟩ : Fin 4096) (⟨C.val / 256, by omega⟩ : Fin 4) (⟨C.val % 256, t⟩ : Fin 192)) else 0 := by
  pointwise [widened]
  have hz : (FloatOps.sitofp (F := Ideal) .f32 (0#32 : BitVec 32) : EReal) = 0 := by
    show (((0#32 : BitVec 32).toInt : ℝ) : EReal) = 0
    simp
  rw [hz]
  by_cases t : C.val % 256 < 192
  · have t' : R.val / 4096 < 8 ∧ R.val % 4096 < 4096 ∧ C.val / 256 < 4 ∧ C.val % 256 < 192 := ⟨by omega, by omega, by omega, t⟩
    simp only [dif_pos t', dif_pos t]
  · have t' : ¬ (R.val / 4096 < 8 ∧ R.val % 4096 < 4096 ∧ C.val / 256 < 4 ∧ C.val % 256 < 192) := fun q => t q.2.2.2
    simp only [dif_neg t', dif_neg t]

variable (R : Fin 32768)

/-- The projected row of a token in the order of the results. -/
abbrev zflat : Fin 2880 → EReal := zrow z ⟨R / 4096, by omega⟩ ⟨R % 4096, by omega⟩

/-- The first result at an index. -/
theorem ckv_apply (j : Fin 256) : ckv kn z (ix2 R j) = latent (fun j => kn (ix1 j)) (zflat z R) j := by
  unfold zflat
  rw [← latents_apply]
  pointwise [ckv]

/-- The second result at an index. -/
theorem krope_apply (j : Fin 64) : krope z (ix2 R j) = zflat z R ⟨768 + j, by omega⟩ := by
  unfold zflat
  rw [← rotary_apply]
  pointwise [krope]

/-- The sixth result at an index. -/
theorem ret_apply (j : Fin 2048) : ret z (ix2 R j) = zflat z R ⟨832 + j, by omega⟩ := by
  pointwise [ret]

/-- The raw queries of a token. -/
theorem qraws_row (d : Fin 192) :
    qraws wq (qlatents qn z) (ix4 b s h d) = qraw (fun k => qn (ix1 k)) (fun k j => wq (ix2 k j)) (zrow z b s) h d := by
  rw [qraws_apply]
  simp only [qlatents_apply]
  rfl

/-- The raw keys of a token. -/
theorem kraws_row (d : Fin 192) :
    kraws (kvs wkv (latents kn z)) (rotary z) (ix4 b s h d) = kraw (fun k => kn (ix1 k)) (fun k j => wkv (ix2 k j)) (zrow z b s) h d := by
  rw [kraws_apply]
  simp only [kvs_apply, latents_apply, rotary_apply]
  rfl

/-- The third result at an index. -/
theorem queries_apply (C : Fin 1024) :
    queries qn wq qh z (ix2 R C) = if t : C.val % 256 < 192 then
      turn (query (fun k => qn (ix1 k)) (fun k j => wq (ix2 k j)) (fun d => qh (ix1 d)) (zflat z R) ⟨C / 256, by omega⟩)
        (cosAt ⟨R % 4096, by omega⟩) (sinAt ⟨R % 4096, by omega⟩) ⟨C % 256, t⟩ * κ else 0 := by
  unfold queries
  rw [widened_apply]
  by_cases t : C.val % 256 < 192
  · rw [dif_pos t, dif_pos t]
    pointwise
    rw [turned_apply]
    simp only [heads_apply, qraws_row]
    rfl
  · rw [dif_neg t, dif_neg t]

/-- The fourth result at an index. -/
theorem keys_apply (C : Fin 1024) :
    keys kn wkv kh z (ix2 R C) = if t : C.val % 256 < 192 then
      turn (key (fun k => kn (ix1 k)) (fun k j => wkv (ix2 k j)) (fun d => kh (ix1 d)) (zflat z R) ⟨C / 256, by omega⟩)
        (cosAt ⟨R % 4096, by omega⟩) (sinAt ⟨R % 4096, by omega⟩) ⟨C % 256, t⟩ else 0 := by
  unfold keys
  rw [widened_apply]
  by_cases t : C.val % 256 < 192
  · rw [dif_pos t, dif_pos t, turned_apply]
    simp only [heads_apply, kraws_row]
    rfl
  · rw [dif_neg t, dif_neg t]

/-- The fifth result at an index. -/
theorem values_apply (C : Fin 512) :
    values kn wkv z (ix2 R C)
      = value (fun k => kn (ix1 k)) (fun k j => wkv (ix2 k j)) (zflat z R) ⟨C / 128, by omega⟩ ⟨C % 128, by omega⟩ := by
  have e : values kn wkv z (ix2 R C) = kvs wkv (latents kn z) (ix4 (⟨R / 4096, by omega⟩ : Fin 8) (⟨R % 4096, by omega⟩ : Fin 4096)
      (⟨C / 128, by omega⟩ : Fin 4) (⟨128 + C % 128, by omega⟩ : Fin 256)) := by
    pointwise [values]
  rw [e, kvs_apply]
  simp only [latents_apply]
  rfl

end Cert.LatentsReferenceIdeal.Row

end
-- ==== Proof.LatentsTable.lean ====
/- The tables of cosines and sines the host hands to the latents' input projection. -/
module

public import proofs.«01_k».proof.Proof.Gen.LatentsIdeal.Frame
public import proofs.«01_k».proof.Proof.LatentsReference
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.LatentsIdeal.Table

open Cert.LatentsIdeal Cert.LatentsIdeal.Gen

/-- The angle of the position `p` along an axis at the frequency `f`. -/
def angle (p f : ℕ) : EReal :=
  FloatOps.sitofp (F := Ideal) FTy.f32 (BitVec.ofNat 32 p) * Ideal.pow (Ideal.ofBits FTy.f32 0x461C4000#32)
    (Ideal.div (-FloatOps.sitofp (F := Ideal) FTy.f32 (BitVec.ofNat 32 f)) (Ideal.ofBits FTy.f32 0x41800000#32))

/-- The reference's angles of a token's row. -/
theorem rowAngles_apply (s : Fin 4096) (f : Fin 16) : Cert.LatentsReferenceIdeal.Row.rowAngles (ix2 s f) = angle (s.val / 64) f.val := by
  unfold angle
  pointwise [Cert.LatentsReferenceIdeal.Row.rowAngles, Cert.LatentsReferenceIdeal.Row.freqs]

/-- The reference's angles of a token's column. -/
theorem colAngles_apply (s : Fin 4096) (f : Fin 16) : Cert.LatentsReferenceIdeal.Row.colAngles (ix2 s f) = angle (s.val % 64) f.val := by
  unfold angle
  pointwise [Cert.LatentsReferenceIdeal.Row.colAngles, Cert.LatentsReferenceIdeal.Row.freqs]

/-- The angle of a lane of the tables. -/
theorem lane_angle (s : Fin 4096) (l : Fin 128) (h : l.val < 64) :
    Cert.LatentsReferenceIdeal.Row.angles ⟨l.val / 32, by omega⟩ (ix2 s (⟨l.val % 16, by omega⟩ : Fin 16))
      = angle (if l.val < 32 then s.val / 64 else s.val % 64) (l.val % 16) := by
  unfold Cert.LatentsReferenceIdeal.Row.angles
  by_cases t : l.val < 32
  · rw [if_pos (show l.val / 32 = 0 by omega), if_pos t, rowAngles_apply]
  · rw [if_neg (show ¬ l.val / 32 = 0 by omega), if_neg t, colAngles_apply]

/-- The cosine of a lane of the tables. -/
theorem lane_cos (s : Fin 4096) (l : Fin 128) (h : l.val < 64) :
    Cert.LatentsReferenceIdeal.Row.cosAt s ⟨l.val / 32, by omega⟩ ⟨l.val % 16, by omega⟩
      = Ideal.cos (angle (if l.val < 32 then s.val / 64 else s.val % 64) (l.val % 16)) :=
  congrArg Ideal.cos (lane_angle s l h)

/-- The sine of a lane of the tables. -/
theorem lane_sin (s : Fin 4096) (l : Fin 128) (h : l.val < 64) :
    Cert.LatentsReferenceIdeal.Row.sinAt s ⟨l.val / 32, by omega⟩ ⟨l.val % 16, by omega⟩
      = Ideal.sin (angle (if l.val < 32 then s.val / 64 else s.val % 64) (l.val % 16)) :=
  congrArg Ideal.sin (lane_angle s l h)

variable (m : (ℓ : Loc nD τ sig) → Buf (Elt Ideal) ℓ) (c : Dev nD)

/-- The table of cosines: the angles of a token's row over the first 32 lanes, those of its column over the next 32. -/
theorem cos_entry (s : Fin 4096) (l : Fin 128) :
    V m c main_v45 (ix2 s l) = if h : l.val < 64 then
      Cert.LatentsReferenceIdeal.Row.cosAt s ⟨l.val / 32, by omega⟩ ⟨l.val % 16, by omega⟩ else 0 := by
  unfold V
  after_reads_at
  by_cases h₀ : l.val < 16
  · simp only [dif_pos h₀]
    after_reads_at
    rw [dif_pos (show l.val < 64 by omega), lane_cos s l (by omega), if_pos (show l.val < 32 by omega), show l.val % 16 = l.val by omega]
    rfl
  · simp only [dif_neg h₀]
    by_cases h₁ : l.val - 16 < 16
    · simp only [dif_pos h₁]
      after_reads_at
      rw [dif_pos (show l.val < 64 by omega), lane_cos s l (by omega), if_pos (show l.val < 32 by omega), show l.val % 16 = l.val - 16 by omega]
      rfl
    · simp only [dif_neg h₁]
      by_cases h₂ : l.val - 16 - 16 < 16
      · simp only [dif_pos h₂]
        after_reads_at
        rw [dif_pos (show l.val < 64 by omega), lane_cos s l (by omega), if_neg (show ¬ l.val < 32 by omega), show l.val % 16 = l.val - 16 - 16 by omega]
        rfl
      · simp only [dif_neg h₂]
        by_cases h₃ : l.val - 16 - 16 - 16 < 16
        · simp only [dif_pos h₃]
          after_reads_at
          rw [dif_pos (show l.val < 64 by omega), lane_cos s l (by omega), if_neg (show ¬ l.val < 32 by omega), show l.val % 16 = l.val - 16 - 16 - 16 by omega]
          rfl
        · simp only [dif_neg h₃]
          rw [dif_neg (show ¬ l.val < 64 by omega)]
          after_reads_at

/-- The table of sines, those of the first sixteen of every 32 lanes negated. -/
theorem sin_entry (s : Fin 4096) (l : Fin 128) :
    V m c main_v52 (ix2 s l) = if h : l.val < 64 then
      (if l.val % 32 < 16 then -Cert.LatentsReferenceIdeal.Row.sinAt s ⟨l.val / 32, by omega⟩ ⟨l.val % 16, by omega⟩
        else Cert.LatentsReferenceIdeal.Row.sinAt s ⟨l.val / 32, by omega⟩ ⟨l.val % 16, by omega⟩) else 0 := by
  unfold V
  after_reads_at
  by_cases h₀ : l.val < 16
  · simp only [dif_pos h₀]
    after_reads_at
    rw [dif_pos (show l.val < 64 by omega), if_pos (show l.val % 32 < 16 by omega), lane_sin s l (by omega), if_pos (show l.val < 32 by omega), show l.val % 16 = l.val by omega]
    rfl
  · simp only [dif_neg h₀]
    by_cases h₁ : l.val - 16 < 16
    · simp only [dif_pos h₁]
      after_reads_at
      rw [dif_pos (show l.val < 64 by omega), if_neg (show ¬ l.val % 32 < 16 by omega), lane_sin s l (by omega), if_pos (show l.val < 32 by omega), show l.val % 16 = l.val - 16 by omega]
      rfl
    · simp only [dif_neg h₁]
      by_cases h₂ : l.val - 16 - 16 < 16
      · simp only [dif_pos h₂]
        after_reads_at
        rw [dif_pos (show l.val < 64 by omega), if_pos (show l.val % 32 < 16 by omega), lane_sin s l (by omega), if_neg (show ¬ l.val < 32 by omega), show l.val % 16 = l.val - 16 - 16 by omega]
        rfl
      · simp only [dif_neg h₂]
        by_cases h₃ : l.val - 16 - 16 - 16 < 16
        · simp only [dif_pos h₃]
          after_reads_at
          rw [dif_pos (show l.val < 64 by omega), if_neg (show ¬ l.val % 32 < 16 by omega), lane_sin s l (by omega), if_neg (show ¬ l.val < 32 by omega), show l.val % 16 = l.val - 16 - 16 - 16 by omega]
          rfl
        · simp only [dif_neg h₃]
          rw [dif_neg (show ¬ l.val < 64 by omega)]
          after_reads_at

end Cert.LatentsIdeal.Table

end
-- ==== Proof.LatentsFinal.lean ====
/- The arrays of the latents' input projection after the run: the reference's results of the kernel's own arguments. -/
module

public import proofs.«01_k».proof.Proof.LatentsBlock
public import proofs.«01_k».proof.Proof.LatentsEntry
public import proofs.«01_k».proof.Proof.LatentsReference
public import proofs.«01_k».proof.Proof.LatentsTable
public import Idealize.ShloMosaic.Lib.Pipeline.ValueKit

@[expose] public section

set_option maxRecDepth 16384

noncomputable section

open Idealize.ShloMosaic Idealize.ShloMosaic.TcCoe Idealize.SL.Sem

namespace Cert.LatentsIdeal.Final

open Cert.LatentsIdeal Cert.LatentsIdeal.Gen Cert.LatentsIdeal.Entry Cert.LatentsIdeal.Table Cert.Projection Cert.Turning

variable (m : (ℓ : Loc nD τ sig) → Buf (Elt Ideal) ℓ) (c : Dev nD)

/-- The reference's projected rows. -/
abbrev P : FVec Ideal Cert.LatentsReferenceIdeal.S8x4096x2880 .f32 := Cert.LatentsReferenceIdeal.Row.projected (X m c) (M m c) (N m c) (Win m c)

/-- The projected row of a token. -/
abbrev row (t : Fin cfg0.N) (r : Fin 256) : Fin 2880 → EReal := Cert.LatentsReferenceIdeal.Row.zrow (P m c) (bat t) (tok t r)

variable (t : Fin cfg0.N) (r : Fin 256)

/-- A block's shift. -/
theorem shift_block (k : Fin 1024) : iblk m c 1 t (ix3 (0 : Fin 1) (0 : Fin 6) k) = M m c (ix2 (bat t) (⟨k.val, by omega⟩ : Fin 6144)) := by
  rw [m_block]
  simp only [Fin.val_zero, Nat.zero_mul, Nat.zero_add]

/-- A block's scale. -/
theorem scale_block (k : Fin 1024) : iblk m c 1 t (ix3 (0 : Fin 1) (1 : Fin 6) k) = M m c (ix2 (bat t) (⟨1024 + k.val, by omega⟩ : Fin 6144)) := by
  rw [m_block]
  simp only [Fin.val_one, Nat.one_mul]

/-- A block's projected row. -/
abbrev Z : Fin 2944 → EReal := Block.zrow (iblk m c 0 t) (iblk m c 1 t) (iblk m c 2 t) (iblk m c 3 t) r

/-- A block's projected row is the token's, with 64 zeros put in after the rotary columns. -/
theorem Z_eq (j : Fin 2944) :
    Z m c t r j = if h : j.val < 832 then row m c t r ⟨j, by omega⟩ else if h' : j.val < 896 then 0 else row m c t r ⟨j - 64, by omega⟩ := by
  unfold Z Block.zrow
  rw [Block.z]
  simp only [row, Cert.LatentsReferenceIdeal.Row.zrow, Cert.LatentsReferenceIdeal.Row.projected_apply, proj, x_block, shift_block, scale_block, n_block, win_block]
  by_cases h : j.val < 832
  · rw [dif_pos h]
    refine times_col _ _ _ _ _ fun k => ?_
    rw [dif_pos h]
  · rw [dif_neg h]
    by_cases h' : j.val < 896
    · rw [dif_pos h']
      refine times_zero _ _ _ fun k => ?_
      rw [dif_neg h, dif_pos h']
    · rw [dif_neg h']
      refine times_col _ _ _ _ _ fun k => ?_
      rw [dif_neg h, dif_neg h']

/-- The columns before the zeros. -/
theorem Z_low (j : ℕ) (h : j < 832) : Z m c t r ⟨j, by omega⟩ = row m c t r ⟨j, by omega⟩ := by
  rw [Z_eq, dif_pos h]

/-- The columns after the zeros. -/
theorem Z_high (j : ℕ) (h : j < 2048) : Z m c t r ⟨896 + j, by omega⟩ = row m c t r ⟨832 + j, by omega⟩ := by
  rw [Z_eq, dif_neg (show ¬ 896 + j < 832 by omega), dif_neg (show ¬ 896 + j < 896 by omega)]
  have e : (⟨896 + j - 64, by omega⟩ : Fin 2880) = ⟨832 + j, by omega⟩ := Fin.ext (by show 896 + j - 64 = 832 + j; omega)
  rw [e]

/-- A block's raw queries: every head padded with zeros. -/
theorem qlin (h : Fin 4) (d : Fin 256) (j : Fin 1024) (hj : j.val = h.val * 256 + d.val) :
    k0_pay13 (F := Ideal) (k0_pay3 (iblk m c 1 t) (iblk m c 0 t) (iblk m c 2 t) (iblk m c 3 t)) (iblk m c 4 t) (iblk m c 6 t) (ix2 r j)
      = if e : d.val < 192 then qraw (fun k => Qn m c (ix1 k)) (fun k j => Wq m c (ix2 k j)) (row m c t r) h ⟨d, e⟩ else 0 := by
  have z (k : Fin 512) : k0_pay3 (F := Ideal) (iblk m c 1 t) (iblk m c 0 t) (iblk m c 2 t) (iblk m c 3 t) (ix2 r (⟨k, by omega⟩ : Fin 2944))
      = row m c t r ⟨k, by omega⟩ := Z_low m c t r k (by omega)
  rw [Block.qlin]
  simp only [z, qn_block, wq_block]
  by_cases e : d.val < 192
  · rw [dif_pos e]
    refine times_col _ _ _ _ _ fun k => ?_
    rw [dif_pos (show j.val % 256 < 192 by omega)]
    have ej : (⟨j.val / 256 * 192 + j.val % 256, by omega⟩ : Fin 768) = ⟨h.val * 192 + d.val, by omega⟩ := Fin.ext (by show j.val / 256 * 192 + j.val % 256 = h.val * 192 + d.val; omega)
    rw [ej]
  · rw [dif_neg e]
    refine times_zero _ _ _ fun k => ?_
    rw [dif_neg (show ¬ j.val % 256 < 192 by omega)]

/-- A block's latents. -/
theorem ckv (j : Fin 256) :
    k0_pay9 (F := Ideal) (k0_pay6 (iblk m c 1 t) (iblk m c 0 t) (iblk m c 2 t) (iblk m c 3 t)) (k0_pay7 (iblk m c 5 t))
        (k0_pay8 (iblk m c 1 t) (iblk m c 0 t) (iblk m c 2 t) (iblk m c 3 t)) (ix2 r j)
      = latent (fun j => Kn m c (ix1 j)) (row m c t r) j := by
  have z (j : Fin 256) : Z m c t r ⟨512 + j, by omega⟩ = row m c t r ⟨512 + j, by omega⟩ := Z_low m c t r (512 + j) (by omega)
  rw [Block.ckv]
  simp only [z, kn_block]
  rfl

/-- A block's rotary rows, with zeros after them. -/
theorem kr (i : Fin 128) :
    k0_pay4 (F := Ideal) (iblk m c 1 t) (iblk m c 0 t) (iblk m c 2 t) (iblk m c 3 t) (ix2 r i)
      = if h : i.val < 64 then row m c t r ⟨768 + i, by omega⟩ else 0 := by
  have e : k0_pay4 (F := Ideal) (iblk m c 1 t) (iblk m c 0 t) (iblk m c 2 t) (iblk m c 3 t) (ix2 r i) = Z m c t r ⟨768 + i, by omega⟩ := by
    unfold Z Block.zrow
    pointwise [k0_pay4]
  rw [e, Z_eq]
  by_cases h : i.val < 64
  · rw [dif_pos h, dif_pos (show 768 + i.val < 832 by omega)]
  · rw [dif_neg h, dif_neg (show ¬ 768 + i.val < 832 by omega), dif_pos (show 768 + i.val < 896 by omega)]

/-- A block's keys and values. -/
abbrev kv : FVec Ideal S256x1024 .f32 :=
  k0_pay42 (k0_pay9 (k0_pay6 (iblk m c 1 t) (iblk m c 0 t) (iblk m c 2 t) (iblk m c 3 t)) (k0_pay7 (iblk m c 5 t))
    (k0_pay8 (iblk m c 1 t) (iblk m c 0 t) (iblk m c 2 t) (iblk m c 3 t))) (iblk m c 7 t)

/-- A block's keys and values at a column. -/
theorem kv_apply (j : Fin 1024) :
    kv m c t (ix2 r j) = times (latent (fun j => Kn m c (ix1 j)) (row m c t r)) (fun k j => Wkv m c (ix2 k j)) j := by
  unfold kv
  rw [Block.kvlin]
  simp only [ckv, wkv_block]

/-- A block's raw keys: every head padded with zeros. -/
theorem kcols (h : Fin 4) (g : ℕ) (hg : g = h.val) (d : Fin 256) :
    (if e : d.val < 128 then kv m c t (ix2 r (⟨256 * g + d, by omega⟩ : Fin 1024))
        else k0_pay4 (F := Ideal) (iblk m c 1 t) (iblk m c 0 t) (iblk m c 2 t) (iblk m c 3 t) (ix2 r (⟨d - 128, by omega⟩ : Fin 128)))
      = if e : d.val < 192 then kraw (fun k => Kn m c (ix1 k)) (fun k j => Wkv m c (ix2 k j)) (row m c t r) h ⟨d, e⟩ else 0 := by
  subst hg
  by_cases e : d.val < 128
  · rw [dif_pos e, dif_pos (show d.val < 192 by omega), kv_apply]
    unfold kraw
    rw [dif_pos e]
    refine times_col _ _ _ _ _ fun k => ?_
    have ej : (⟨256 * h.val + d.val, by omega⟩ : Fin 1024) = ⟨h.val * 256 + d.val, by omega⟩ := Fin.ext (by show 256 * h.val + d.val = h.val * 256 + d.val; omega)
    rw [ej]
  · rw [dif_neg e, kr]
    by_cases e' : d.val < 192
    · rw [dif_pos e', dif_pos (show d.val - 128 < 64 by omega)]
      unfold kraw
      rw [dif_neg e]
    · rw [dif_neg e', dif_neg (show ¬ d.val - 128 < 64 by omega)]

/-- A block's raw queries by halves. -/
theorem qcols (h : Fin 4) (g : ℕ) (hg : g = h.val) (d : Fin 256) :
    (if e : d.val < 128 then k0_pay13 (F := Ideal) (k0_pay3 (iblk m c 1 t) (iblk m c 0 t) (iblk m c 2 t) (iblk m c 3 t)) (iblk m c 4 t) (iblk m c 6 t) (ix2 r (⟨256 * g + d, by omega⟩ : Fin 1024))
        else k0_pay13 (F := Ideal) (k0_pay3 (iblk m c 1 t) (iblk m c 0 t) (iblk m c 2 t) (iblk m c 3 t)) (iblk m c 4 t) (iblk m c 6 t) (ix2 r (⟨256 * g + 128 + (d - 128), by omega⟩ : Fin 1024)))
      = if e : d.val < 192 then qraw (fun k => Qn m c (ix1 k)) (fun k j => Wq m c (ix2 k j)) (row m c t r) h ⟨d, e⟩ else 0 := by
  subst hg
  by_cases e : d.val < 128
  · rw [dif_pos e]
    exact qlin m c t r h d _ (by show 256 * h.val + d.val = h.val * 256 + d.val; omega)
  · rw [dif_neg e]
    exact qlin m c t r h d _ (by show 256 * h.val + 128 + (d.val - 128) = h.val * 256 + d.val; omega)

/-- The token of a block's row, in the order of the results. -/
theorem token (R : Fin 32768) (hR : R.val = t.val * 256 + r.val) : Cert.LatentsReferenceIdeal.Row.zflat (P m c) R = row m c t r := by
  have e₁ : (⟨R.val / 4096, by omega⟩ : Fin 8) = bat t := Fin.ext (by show R.val / 4096 = t.val / 16; omega)
  have e₂ : (⟨R.val % 4096, by omega⟩ : Fin 4096) = tok t r := Fin.ext (by show R.val % 4096 = t.val % 16 * 256 + r.val; omega)
  unfold Cert.LatentsReferenceIdeal.Row.zflat
  rw [e₁, e₂]

/-- The place of a block's row among its batch element's tokens. -/
theorem place (R : ℕ) (hR : R = t.val * 256 + r.val) : (⟨R % 4096, by omega⟩ : Fin 4096) = tok t r :=
  Fin.ext (by show R % 4096 = t.val % 16 * 256 + r.val; omega)

/-- A block's row of cosines. -/
theorem cos_row (l : Fin 128) : iblk m c 10 t (ix2 r l) = if h : l.val < 64 then
    Cert.LatentsReferenceIdeal.Row.cosAt (tok t r) ⟨l.val / 32, by omega⟩ ⟨l.val % 16, by omega⟩ else 0 := by
  rw [cos_block, cos_entry]

/-- A block's row of sines. -/
theorem sin_row (l : Fin 128) : iblk m c 11 t (ix2 r l) = if h : l.val < 64 then
    (if l.val % 32 < 16 then -Cert.LatentsReferenceIdeal.Row.sinAt (tok t r) ⟨l.val / 32, by omega⟩ ⟨l.val % 16, by omega⟩
      else Cert.LatentsReferenceIdeal.Row.sinAt (tok t r) ⟨l.val / 32, by omega⟩ ⟨l.val % 16, by omega⟩) else 0 := by
  rw [sin_block, sin_entry]

/-- The latents after the run. -/
theorem array12 : (dats m 0 c).arrAt 12 cfg0.N = Cert.LatentsReferenceIdeal.Row.ckv (Kn m c) (P m c) := by
  refine (dats m 0 c).arrAt_eq_of_covers 12 _ (by decide +kernel) fun t hf y => ?_
  have hb : t.val < 128 := (idx t).2.2.2.2.2.2.2.2.2.2
  blk_simp
  rw [after0_12]
  unfold_out out0_12
  frame_out
  idx_vars y
  refine (ckv m c t y0 y1).trans ?_
  have e : (win0_12.blk t).view.emb (ix2 y0 y1) = ix2 (⟨t.val * 256 + y0.val, by omega⟩ : Fin 32768) y1 := by
    blk_ext [idx t]
  rw [e, Cert.LatentsReferenceIdeal.Row.ckv_apply, token m c t y0 _ rfl]

/-- The rotary rows after the run. -/
theorem array13 : (dats m 0 c).arrAt 13 cfg0.N = Cert.LatentsReferenceIdeal.Row.krope (P m c) := by
  refine (dats m 0 c).arrAt_eq_of_covers 13 _ (by decide +kernel) fun t hf y => ?_
  have hb : t.val < 128 := (idx t).2.2.2.2.2.2.2.2.2.2
  blk_simp
  rw [after0_13]
  unfold_out out0_13
  frame_out
  idx_vars y
  refine ((Block.krope _ _ _ _ y0 y1).trans (Z_low m c t y0 (768 + y1) (by omega))).trans ?_
  have e : (win0_13.blk t).view.emb (ix2 y0 y1) = ix2 (⟨t.val * 256 + y0.val, by omega⟩ : Fin 32768) y1 := by
    blk_ext [idx t]
  rw [e, Cert.LatentsReferenceIdeal.Row.krope_apply, token m c t y0 _ rfl]

/-- The retention's columns after the run. -/
theorem array17 : (dats m 0 c).arrAt 17 cfg0.N = Cert.LatentsReferenceIdeal.Row.ret (P m c) := by
  refine (dats m 0 c).arrAt_eq_of_covers 17 _ (by decide +kernel) fun t hf y => ?_
  have hb : t.val < 128 := (idx t).2.2.2.2.2.2.2.2.2.2
  blk_simp
  rw [after0_17]
  frame_out
  idx_vars y
  refine ((Block.ret _ _ _ _ y0 y1).trans (Z_high m c t y0 y1 (by omega))).trans ?_
  have e : (win0_17.blk t).view.emb (ix2 y0 y1) = ix2 (⟨t.val * 256 + y0.val, by omega⟩ : Fin 32768) y1 := by
    blk_ext [idx t]
  rw [e, Cert.LatentsReferenceIdeal.Row.ret_apply, token m c t y0 _ rfl]

/-- The values after the run. -/
theorem array16 : (dats m 0 c).arrAt 16 cfg0.N = Cert.LatentsReferenceIdeal.Row.values (Kn m c) (Wkv m c) (P m c) := by
  refine (dats m 0 c).arrAt_eq_of_covers 16 _ (by decide +kernel) fun t hf y => ?_
  have hb : t.val < 128 := (idx t).2.2.2.2.2.2.2.2.2.2
  blk_simp
  rw [after0_16]
  unfold_out out0_16
  frame_out
  idx_vars y
  refine ((Block.vout y0 (kv m c t) y1).trans (kv_apply m c t y0 _)).trans ?_
  have e : (win0_16.blk t).view.emb (ix2 y0 y1) = ix2 (⟨t.val * 256 + y0.val, by omega⟩ : Fin 32768) y1 := by
    blk_ext [idx t]
  rw [e, Cert.LatentsReferenceIdeal.Row.values_apply, token m c t y0 _ rfl]
  refine times_col _ _ _ _ _ fun k => ?_
  have ej : (⟨256 * (y1.val / 128) + 128 + y1.val % 128, by omega⟩ : Fin 1024) = ⟨y1.val / 128 * 256 + (128 + y1.val % 128), by omega⟩ :=
    Fin.ext (by show 256 * (y1.val / 128) + 128 + y1.val % 128 = y1.val / 128 * 256 + (128 + y1.val % 128); omega)
  rw [ej]

/-- The keys after the run. -/
theorem array15 : (dats m 0 c).arrAt 15 cfg0.N = Cert.LatentsReferenceIdeal.Row.keys (Kn m c) (Wkv m c) (Kh m c) (P m c) := by
  refine (dats m 0 c).arrAt_eq_of_covers 15 _ (by decide +kernel) fun t hf y => ?_
  have hb : t.val < 128 := (idx t).2.2.2.2.2.2.2.2.2.2
  blk_simp
  rw [after0_15]
  unfold_out out0_15
  frame_out
  idx_vars y
  refine ((Block.kout y0 _ (iblk m c 10 t) (iblk m c 11 t) (kv m c t) _ y1).trans
    (halves_turned _ _ _ (fun d => Kh m c (ix1 d)) (kcols m c t y0 ⟨y1.val / 256, by omega⟩ (y1.val / 128 / 2) (by show y1.val / 128 / 2 = y1.val / 256; omega)) (kh_block m c t)
      _ _ _ _ (cos_row m c t y0) (sin_row m c t y0) (y1.val / 128) ⟨y1.val % 128, by omega⟩)).trans ?_
  have e : (win0_15.blk t).view.emb (ix2 y0 y1) = ix2 (⟨t.val * 256 + y0.val, by omega⟩ : Fin 32768) y1 := by
    blk_ext [idx t]
  rw [e, Cert.LatentsReferenceIdeal.Row.keys_apply, token m c t y0 _ rfl, place t y0 _ rfl]
  have el : y1.val / 128 % 2 * 128 + y1.val % 128 = y1.val % 256 := by omega
  simp only [el]
  rfl

/-- The queries after the run. -/
theorem array14 : (dats m 0 c).arrAt 14 cfg0.N = Cert.LatentsReferenceIdeal.Row.queries (Qn m c) (Wq m c) (Qh m c) (P m c) := by
  refine (dats m 0 c).arrAt_eq_of_covers 14 _ (by decide +kernel) fun t hf y => ?_
  have hb : t.val < 128 := (idx t).2.2.2.2.2.2.2.2.2.2
  blk_simp
  rw [after0_14]
  unfold_out out0_14
  frame_out
  idx_vars y
  refine ((Block.qout y0 (iblk m c 4 t) (iblk m c 6 t) (iblk m c 8 t) _ (iblk m c 10 t) (iblk m c 11 t) y1).trans (congrArg (fun a : EReal => a * κ)
    (halves_turned _ _ _ (fun d => Qh m c (ix1 d)) (qcols m c t y0 ⟨y1.val / 256, by omega⟩ (y1.val / 128 / 2) (by show y1.val / 128 / 2 = y1.val / 256; omega)) (qh_block m c t)
      _ _ _ _ (cos_row m c t y0) (sin_row m c t y0) (y1.val / 128) ⟨y1.val % 128, by omega⟩))).trans ?_
  have e : (win0_14.blk t).view.emb (ix2 y0 y1) = ix2 (⟨t.val * 256 + y0.val, by omega⟩ : Fin 32768) y1 := by
    blk_ext [idx t]
  rw [e, Cert.LatentsReferenceIdeal.Row.queries_apply, token m c t y0 _ rfl, place t y0 _ rfl]
  have el : y1.val / 128 % 2 * 128 + y1.val % 128 = y1.val % 256 := by omega
  simp only [el]
  by_cases h : y1.val % 256 < 192
  · rw [dif_pos h, dif_pos h]
    rfl
  · rw [dif_neg h, dif_neg h, zero_mul]

end Cert.LatentsIdeal.Final

end
-- ==== Proof.LatentsArrays.lean ====
/- The run of the kernel of the latents' input projection, with the six arrays it ends with. -/
module

public import proofs.«01_k».proof.Proof.LatentsFinal

@[expose] public section

set_option maxRecDepth 16384

noncomputable section

open Idealize.ShloMosaic Idealize.ShloMosaic.TcCoe Idealize.SL.Sem

namespace Cert.LatentsIdeal.Final

open Cert.LatentsIdeal Cert.LatentsIdeal.Gen Cert.LatentsIdeal.Entry

variable (m : (ℓ : Loc nD τ sig) → Buf (Elt Ideal) ℓ)

/-- The run ends with the array of the latent as the pipeline's blocks make it. -/
theorem named12 (ρ : Dev nD → PrngReg) : θ_run defs (onTc (τ := τ) (main (F := Ideal))) ⟨m, fun _ => 0, ρ⟩ fun r => ∀ c : Dev nD,
    r.2.mem ((c : Thread nD τ).loc main_v55_0) = (dats m 0 c).arrAt 12 cfg0.N :=
  (θ_run _ _ _).mono (fun _ h c => (h c).1 12) (run_main m ρ)

/-- The run ends with the reference's latent of the kernel's own arguments. -/
theorem run12 (ρ : Dev nD → PrngReg) : θ_run defs (onTc (τ := τ) (main (F := Ideal))) ⟨m, fun _ => 0, ρ⟩ fun r => ∀ c : Dev nD,
    r.2.mem ((c : Thread nD τ).loc main_v55_0) = Cert.LatentsReferenceIdeal.Row.ckv (Kn m c) (P m c) :=
  (θ_run _ _ _).mono (fun _ h c => (h c).trans (array12 m c)) (named12 m ρ)

/-- The run ends with the array of the rotary key as the pipeline's blocks make it. -/
theorem named13 (ρ : Dev nD → PrngReg) : θ_run defs (onTc (τ := τ) (main (F := Ideal))) ⟨m, fun _ => 0, ρ⟩ fun r => ∀ c : Dev nD,
    r.2.mem ((c : Thread nD τ).loc main_v55_1) = (dats m 0 c).arrAt 13 cfg0.N :=
  (θ_run _ _ _).mono (fun _ h c => (h c).1 13) (run_main m ρ)

/-- The run ends with the reference's rotary key of the kernel's own arguments. -/
theorem run13 (ρ : Dev nD → PrngReg) : θ_run defs (onTc (τ := τ) (main (F := Ideal))) ⟨m, fun _ => 0, ρ⟩ fun r => ∀ c : Dev nD,
    r.2.mem ((c : Thread nD τ).loc main_v55_1) = Cert.LatentsReferenceIdeal.Row.krope (P m c) :=
  (θ_run _ _ _).mono (fun _ h c => (h c).trans (array13 m c)) (named13 m ρ)

/-- The run ends with the array of the queries as the pipeline's blocks make it. -/
theorem named14 (ρ : Dev nD → PrngReg) : θ_run defs (onTc (τ := τ) (main (F := Ideal))) ⟨m, fun _ => 0, ρ⟩ fun r => ∀ c : Dev nD,
    r.2.mem ((c : Thread nD τ).loc main_v55_2) = (dats m 0 c).arrAt 14 cfg0.N :=
  (θ_run _ _ _).mono (fun _ h c => (h c).1 14) (run_main m ρ)

/-- The run ends with the reference's queries of the kernel's own arguments. -/
theorem run14 (ρ : Dev nD → PrngReg) : θ_run defs (onTc (τ := τ) (main (F := Ideal))) ⟨m, fun _ => 0, ρ⟩ fun r => ∀ c : Dev nD,
    r.2.mem ((c : Thread nD τ).loc main_v55_2) = Cert.LatentsReferenceIdeal.Row.queries (Qn m c) (Wq m c) (Qh m c) (P m c) :=
  (θ_run _ _ _).mono (fun _ h c => (h c).trans (array14 m c)) (named14 m ρ)

/-- The run ends with the array of the keys as the pipeline's blocks make it. -/
theorem named15 (ρ : Dev nD → PrngReg) : θ_run defs (onTc (τ := τ) (main (F := Ideal))) ⟨m, fun _ => 0, ρ⟩ fun r => ∀ c : Dev nD,
    r.2.mem ((c : Thread nD τ).loc main_v55_3) = (dats m 0 c).arrAt 15 cfg0.N :=
  (θ_run _ _ _).mono (fun _ h c => (h c).1 15) (run_main m ρ)

/-- The run ends with the reference's keys of the kernel's own arguments. -/
theorem run15 (ρ : Dev nD → PrngReg) : θ_run defs (onTc (τ := τ) (main (F := Ideal))) ⟨m, fun _ => 0, ρ⟩ fun r => ∀ c : Dev nD,
    r.2.mem ((c : Thread nD τ).loc main_v55_3) = Cert.LatentsReferenceIdeal.Row.keys (Kn m c) (Wkv m c) (Kh m c) (P m c) :=
  (θ_run _ _ _).mono (fun _ h c => (h c).trans (array15 m c)) (named15 m ρ)

/-- The run ends with the array of the values as the pipeline's blocks make it. -/
theorem named16 (ρ : Dev nD → PrngReg) : θ_run defs (onTc (τ := τ) (main (F := Ideal))) ⟨m, fun _ => 0, ρ⟩ fun r => ∀ c : Dev nD,
    r.2.mem ((c : Thread nD τ).loc main_v55_4) = (dats m 0 c).arrAt 16 cfg0.N :=
  (θ_run _ _ _).mono (fun _ h c => (h c).1 16) (run_main m ρ)

/-- The run ends with the reference's values of the kernel's own arguments. -/
theorem run16 (ρ : Dev nD → PrngReg) : θ_run defs (onTc (τ := τ) (main (F := Ideal))) ⟨m, fun _ => 0, ρ⟩ fun r => ∀ c : Dev nD,
    r.2.mem ((c : Thread nD τ).loc main_v55_4) = Cert.LatentsReferenceIdeal.Row.values (Kn m c) (Wkv m c) (P m c) :=
  (θ_run _ _ _).mono (fun _ h c => (h c).trans (array16 m c)) (named16 m ρ)

/-- The run ends with the array of the retention's columns as the pipeline's blocks make it. -/
theorem named17 (ρ : Dev nD → PrngReg) : θ_run defs (onTc (τ := τ) (main (F := Ideal))) ⟨m, fun _ => 0, ρ⟩ fun r => ∀ c : Dev nD,
    r.2.mem ((c : Thread nD τ).loc main_v55_5) = (dats m 0 c).arrAt 17 cfg0.N :=
  (θ_run _ _ _).mono (fun _ h c => (h c).1 17) (run_main m ρ)

/-- The run ends with the reference's retention's columns of the kernel's own arguments. -/
theorem run17 (ρ : Dev nD → PrngReg) : θ_run defs (onTc (τ := τ) (main (F := Ideal))) ⟨m, fun _ => 0, ρ⟩ fun r => ∀ c : Dev nD,
    r.2.mem ((c : Thread nD τ).loc main_v55_5) = Cert.LatentsReferenceIdeal.Row.ret (P m c) :=
  (θ_run _ _ _).mono (fun _ h c => (h c).trans (array17 m c)) (named17 m ρ)

/-- The kernel's run ends with the reference's six results of its own arguments. -/
theorem run (ρ : Dev nD → PrngReg) : θ_run defs (onTc (τ := τ) (main (F := Ideal))) ⟨m, fun _ => 0, ρ⟩ fun r => ∀ c : Dev nD,
    r.2.mem ((c : Thread nD τ).loc main_v55_0) = Cert.LatentsReferenceIdeal.Row.ckv (Kn m c) (P m c) ∧
    r.2.mem ((c : Thread nD τ).loc main_v55_1) = Cert.LatentsReferenceIdeal.Row.krope (P m c) ∧
    r.2.mem ((c : Thread nD τ).loc main_v55_2) = Cert.LatentsReferenceIdeal.Row.queries (Qn m c) (Wq m c) (Qh m c) (P m c) ∧
    r.2.mem ((c : Thread nD τ).loc main_v55_3) = Cert.LatentsReferenceIdeal.Row.keys (Kn m c) (Wkv m c) (Kh m c) (P m c) ∧
    r.2.mem ((c : Thread nD τ).loc main_v55_4) = Cert.LatentsReferenceIdeal.Row.values (Kn m c) (Wkv m c) (P m c) ∧
    r.2.mem ((c : Thread nD τ).loc main_v55_5) = Cert.LatentsReferenceIdeal.Row.ret (P m c) :=
  (θ_run _ _ _).mono (fun _ h c => ⟨h.1 c, h.2.1 c, h.2.2.1 c, h.2.2.2.1 c, h.2.2.2.2.1 c, h.2.2.2.2.2 c⟩)
    (θ_run_and (run12 m ρ) (θ_run_and (run13 m ρ) (θ_run_and (run14 m ρ) (θ_run_and (run15 m ρ) (θ_run_and (run16 m ρ) (run17 m ρ))))))

end Cert.LatentsIdeal.Final

end
-- ==== Proof.LatentsRun.lean ====
/- The results of a run of the reference of the latents' input projection, in the terms of Proof/LatentsReference.lean. -/
module

public import proofs.«01_k».proof.Proof.Gen.LatentsReferenceIdeal.Run
public import proofs.«01_k».proof.Proof.LatentsReference

@[expose] public section

set_option maxRecDepth 16384

noncomputable section

open Idealize.ShloMosaic Idealize.ShloMosaic.TcCoe Idealize.SL.Sem

namespace Cert.LatentsReferenceIdeal.Results

open Cert.LatentsReferenceIdeal Cert.LatentsReferenceIdeal.Gen

variable (m : (ℓ : Loc nD τ sig) → Buf (Elt Ideal) ℓ) (ρ : Dev nD → PrngReg)

/-- The projected rows of the reference's own arguments. -/
abbrev P (c : Dev nD) : FVec Ideal S8x4096x2880 .f32 :=
  Row.projected (m ((c.tc : Thread nD τ).loc main_arg0)) (m ((c.tc : Thread nD τ).loc main_arg1)) (m ((c.tc : Thread nD τ).loc main_arg2))
    (m ((c.tc : Thread nD τ).loc main_arg3))

/-- The reference's run. -/
theorem run : θ_run defs (onTc (τ := τ) (main (F := Ideal))) ⟨m, fun _ => 0, ρ⟩ fun r => ∀ c : Dev nD,
    r.2.mem ((c.tc : Thread nD τ).loc main_v193) = Row.ckv (m ((c.tc : Thread nD τ).loc main_arg6)) (P m c)
    ∧ r.2.mem ((c.tc : Thread nD τ).loc main_v194) = Row.krope (P m c)
    ∧ r.2.mem ((c.tc : Thread nD τ).loc main_v197)
        = Row.queries (m ((c.tc : Thread nD τ).loc main_arg4)) (m ((c.tc : Thread nD τ).loc main_arg5)) (m ((c.tc : Thread nD τ).loc main_arg8)) (P m c)
    ∧ r.2.mem ((c.tc : Thread nD τ).loc main_v200)
        = Row.keys (m ((c.tc : Thread nD τ).loc main_arg6)) (m ((c.tc : Thread nD τ).loc main_arg7)) (m ((c.tc : Thread nD τ).loc main_arg9)) (P m c)
    ∧ r.2.mem ((c.tc : Thread nD τ).loc main_v202) = Row.values (m ((c.tc : Thread nD τ).loc main_arg6)) (m ((c.tc : Thread nD τ).loc main_arg7)) (P m c)
    ∧ r.2.mem ((c.tc : Thread nD τ).loc main_v203) = Row.ret (P m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  refine (θ_run _ _ _).mono (fun r h c => ?_) (Value.run (F := Ideal) m ρ)
  obtain ⟨h₀, h₁, h₂, h₃, h₄, h₅, h⟩ := h c
  exact ⟨h₀.trans rfl, h₁.trans rfl, h₂.trans rfl, h₃.trans rfl, h₄.trans rfl, h₅.trans rfl, h⟩

end Cert.LatentsReferenceIdeal.Results

end
-- ==== Proof.Mixing.lean ====
/- The mixing of the attention and the retention for one token, as a function of its rows of numbers: the retention's
   heads brought to mean zero and unit variance and gated, the product with the output projection, the gated residual
   and the second modulated norm. Both the kernel and the reference are read as these. -/
module

public import proofs.«01_k».proof.Proof.Projection

@[expose] public section

noncomputable section

open Idealize.ShloMosaic
open scoped BigOperators

namespace Cert.Mixing

open Cert.Projection

/-- The literal 128. -/
abbrev n128 : EReal := Ideal.ofBits .f32 0x43000000#32

/-- A head less its mean. -/
def centred (x : Fin 128 → EReal) (k : Fin 128) : EReal := x k - Ideal.div (∑ i, x i) n128

/-- A head less its mean, over the root of its variance. -/
def standard (x : Fin 128 → EReal) (k : Fin 128) : EReal := centred x k * scale n128 (∑ i, centred x i * centred x i)

/-- A number times its logistic. -/
def swish (g : EReal) : EReal := g * Ideal.div one (one + Ideal.exp (-g))

/-- The retention's row: each of the four heads standardised and weighted, then gated. -/
def gated (o g w : Fin 512 → EReal) (j : Fin 512) : EReal :=
  swish (g j) * (standard (fun i => o ⟨j / 128 * 128 + i, by omega⟩) ⟨j % 128, by omega⟩ * w j)

/-- The row after the residual: the attention's half and the retention's half of the projection added, and gated. -/
def summed (x gate : Fin 1024 → EReal) (a ρ : Fin 512 → EReal) (lo hi : Fin 512 → Fin 1024 → EReal) (k : Fin 1024) : EReal :=
  x k + gate k * (times a lo k + times ρ hi k)

/-- A row of two halves times a matrix. -/
theorem times_halves (a ρ : Fin 512 → EReal) (w : Fin 1024 → Fin 1024 → EReal) (y : Fin 1024 → EReal)
    (hy : ∀ j : Fin 1024, y j = if h : j.val < 512 then a ⟨j, h⟩ else ρ ⟨j - 512, by omega⟩) (k : Fin 1024) :
    times y w k = times a (fun j => w ⟨j, by omega⟩) k + times ρ (fun j => w ⟨512 + j, by omega⟩) k := by
  have e : times y w k = (∑ j : Fin 512, y ⟨j, by omega⟩ * w ⟨j, by omega⟩ k) + ∑ j : Fin 512, y ⟨512 + j, by omega⟩ * w ⟨512 + j, by omega⟩ k :=
    Fin.sum_univ_add (a := 512) (b := 512) fun j : Fin (512 + 512) => y j * w j k
  rw [e]
  unfold times
  refine congrArg₂ _ (Finset.sum_congr rfl fun j _ => ?_) (Finset.sum_congr rfl fun j _ => ?_)
  · rw [hy, dif_pos (show j.val < 512 by omega)]
  · rw [hy, dif_neg (show ¬ 512 + j.val < 512 by omega)]
    have ej : (⟨512 + j.val - 512, by omega⟩ : Fin 512) = j := Fin.ext (by show 512 + j.val - 512 = j.val; omega)
    rw [ej]

end Cert.Mixing

end
-- ==== Proof.ModulationFinal.lean ====
/- The modulation: the kernel's array after the run is the reference's result, the product of the conditions times their
   logistics with the weight, and the bias. -/
module

public import proofs.«01_k».proof.Proof.Gen.ModulationIdeal.Frame
public import proofs.«01_k».proof.Proof.Gen.ModulationReferenceIdeal
public import proofs.«01_k».proof.Proof.Mixing
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.ModulationReferenceIdeal.Row

open Cert.ModulationReferenceIdeal Cert.ModulationReferenceIdeal.Gen Cert.Mixing

variable (x : FVec Ideal S16x1024 .f32) (w : FVec Ideal S1024x6144 .f32) (b : FVec Ideal S6144 .f32)

/-- The conditions times their logistics. -/
def swished : FVec Ideal S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

/-- The result: their product with the weight, and the bias. -/
def result : FVec Ideal S16x6144 .f32 :=
  addf (Host.dotGeneral dot_S16x1024_S1024x6144_S16x6144_1_0_0_1_n_n none (swished x) w)
    (broadcastInDim S16x6144 ![0, 1] bcast_S1x6144_S16x6144_0_1 (broadcastInDim S1x6144 ![1] bcast_S6144_S1x6144_1 b))

/-- A condition times its logistic. -/
theorem swished_apply (r : Fin 16) (i : Fin 1024) : swished x (ix2 r i) = swish (x (ix2 r i)) := by
  unfold swish
  pointwise [swished]

/-- The result at an index. -/
theorem result_apply (r : Fin 16) (k : Fin 6144) :
    result x w b (ix2 r k) = (∑ i : Fin 1024, swish (x (ix2 r i)) * w (ix2 i k)) + b (ix1 k) := by
  simp only [← swished_apply]
  pointwise [result]

end Cert.ModulationReferenceIdeal.Row

namespace Cert.ModulationIdeal.Final

open Cert.ModulationIdeal Cert.ModulationIdeal.Gen Cert.ModulationReferenceIdeal.Row Cert.Mixing

variable (m : (ℓ : Loc nD τ sig) → Buf (Elt Ideal) ℓ) (ρ : Dev nD → PrngReg) (c : Dev nD)

/-- The block indices at a grid point. -/
theorem idx : ∀ t : Fin cfg0.N, win0_0.index t = ![0, 0] ∧ win0_1.index t = ![0, t.val] ∧ win0_2.index t = ![0, t.val]
    ∧ win0_3.index t = ![0, t.val] ∧ t.val < 4 :=
  (by decide +kernel : ∀ t : Fin grid0.N, _)

/-- The conditions, on device `c`. -/
abbrev X : FVec Ideal S16x1024 .f32 := m ((c : Thread nD τ).loc main_arg0)
/-- The weight. -/
abbrev W : FVec Ideal S1024x6144 .f32 := m ((c : Thread nD τ).loc main_arg1)
/-- The bias. -/
abbrev B : FVec Ideal S6144 .f32 := m ((c : Thread nD τ).loc main_arg2)

/-- The bias operand: the bias as one row. -/
theorem b_entry (k : Fin 6144) : V m c main_v0 (ix2 (0 : Fin 1) k) = B m c (ix1 k) := by
  unfold V
  after_reads_at

variable (t : Fin cfg0.N)

/-- A grid point's conditions are all of them. -/
theorem x_block (r : Fin 16) (i : Fin 1024) : iblk m c 0 t (ix2 r i) = X m c (ix2 r i) := by
  have ht := (idx t).2.2.2.2
  blk_simp [iblk, idx t]
  have e : (win0_0.blk t).view.emb (ix2 r i) = ix2 r i := by
    blk_ext [idx t]
  rw [e, V_main_arg0]

/-- A grid point's block of the weight. -/
theorem w_block (i : Fin 1024) (k : Fin 1536) :
    iblk m c 1 t (ix2 i k) = W m c (ix2 i (⟨t.val * 1536 + k.val, by have := (idx t).2.2.2.2; omega⟩ : Fin 6144)) := by
  have ht := (idx t).2.2.2.2
  blk_simp [iblk, idx t]
  have e : (win0_1.blk t).view.emb (ix2 i k) = ix2 i (⟨t.val * 1536 + k.val, by omega⟩ : Fin 6144) := by
    blk_ext [idx t]
  rw [e, V_main_arg1]

/-- A grid point's block of the bias. -/
theorem b_block (k : Fin 1536) :
    iblk m c 2 t (ix2 (0 : Fin 1) k) = B m c (ix1 (⟨t.val * 1536 + k.val, by have := (idx t).2.2.2.2; omega⟩ : Fin 6144)) := by
  have ht := (idx t).2.2.2.2
  blk_simp [iblk, idx t]
  have e : (win0_2.blk t).view.emb (ix2 (0 : Fin 1) k) = ix2 (0 : Fin 1) (⟨t.val * 1536 + k.val, by omega⟩ : Fin 6144) := by
    blk_ext [idx t]
  rw [e, b_entry]

/-- What a grid point computes, at a lane. -/
theorem point (x : FVec Ideal S16x1024 .f32) (w : FVec Ideal S1024x1536 .f32) (b : FVec Ideal S1x1536 .f32) (r : Fin 16) (k : Fin 1536) :
    k0_pay1 (F := Ideal) x w b (ix2 r k) = (∑ i : Fin 1024, swish (x (ix2 r i)) * w (ix2 i k)) + b (ix2 (0 : Fin 1) k) := by
  have s : ∀ i : Fin 1024, swish (x (ix2 r i)) = mulf x (logistic x) (ix2 r i) := fun i => by
    unfold swish
    pointwise
    rfl
  simp only [s]
  pointwise [k0_pay1]

/-- The array after the run. -/
theorem array : (dats m 0 c).arrAt 3 cfg0.N = result (X m c) (W m c) (B m c) := by
  refine (dats m 0 c).arrAt_eq_of_covers 3 _ (by decide +kernel) fun t hf y => ?_
  have ht := (idx t).2.2.2.2
  blk_simp
  rw [after0_3]
  frame_out
  idx_vars y
  refine (point _ _ _ y0 y1).trans ?_
  have e : (win0_3.blk t).view.emb (ix2 y0 y1) = ix2 y0 (⟨t.val * 1536 + y1.val, by omega⟩ : Fin 6144) := by
    blk_ext [idx t]
  rw [e, b_block]
  simp only [x_block, w_block]
  exact (result_apply _ _ _ _ _).symm

/-- The kernel's run. -/
theorem run : θ_run defs (onTc (τ := τ) (main (F := Ideal))) ⟨m, fun _ => 0, ρ⟩ fun r => ∀ c : Dev nD,
    r.2.mem ((c : Thread nD τ).loc main_v1) = result (X m c) (W m c) (B m c) :=
  (θ_run _ _ _).mono (fun _ h c => ((h c).1 3).trans (array m c)) (run_main m ρ)

end Cert.ModulationIdeal.Final

end
-- ==== Proof.ActivationFinal.lean ====
/- The experts' activation: the kernel's array after the run is the reference's result, a gate times the exact error-linear
   unit of a score. -/
module

public import proofs.«01_k».proof.Proof.Gen.ActivationIdeal.Frame
public import proofs.«01_k».proof.Proof.Gen.ActivationReferenceIdeal
public import Idealize.ShloMosaic.Lib.Claim
public import Idealize.ShloMosaic.Lib.Pipeline.ValueKit
public import Idealize.ShloMosaic.Lib.Pointwise
public import Idealize.ShloMosaic.Lib.IdealHost
public import Idealize.ShloMosaic.PureOps.Ideal.Laws

@[expose] public section

set_option maxRecDepth 16384

noncomputable section

open Idealize.ShloMosaic Idealize.ShloMosaic.TcCoe Idealize.SL.Sem

namespace Cert.ActivationReferenceIdeal.Row

open Cert.ActivationReferenceIdeal Cert.ActivationReferenceIdeal.Gen

variable (p g : FVec Ideal S4096x128 .f32)

/-- The result: the gates times half the products times the complement of the error function. -/
def result : FVec Ideal S4096x128 .f32 :=
  mulf g (mulf (mulf (broadcastInDim S4096x128 ![] bcast_S_S4096x128 (constant S_ .f32 0x3F000000#32)) p)
    (Host.erfc (mulf (Host.negf p) (broadcastInDim S4096x128 ![] bcast_S_S4096x128 (constant S_ .f32 0x3F3504F3#32)))))

/-- A number times the share of a normal variable below it, weighted. -/
def weighted (g x : EReal) : EReal :=
  g * (Ideal.ofBits .f32 0x3F000000#32 * x * (1 + Ideal.erf (x * Ideal.ofBits .f32 0x3F3504F3#32)))

/-- The result at an index. -/
theorem result_apply (r : Fin 4096) (k : Fin 128) : result p g (ix2 r k) = weighted (g (ix2 r k)) (p (ix2 r k)) := by
  have h : result p g (ix2 r k)
      = g (ix2 r k) * (Ideal.ofBits .f32 0x3F000000#32 * p (ix2 r k) * Ideal.erfc (-p (ix2 r k) * Ideal.ofBits .f32 0x3F3504F3#32)) := rfl
  rw [h, weighted, neg_mul, Ideal.erfc_neg]

end Cert.ActivationReferenceIdeal.Row

namespace Cert.ActivationIdeal.Final

open Cert.ActivationIdeal Cert.ActivationIdeal.Gen Cert.ActivationReferenceIdeal.Row

variable (m : (ℓ : Loc nD τ sig) → Buf (Elt Ideal) ℓ) (ρ : Dev nD → PrngReg) (c : Dev nD)

/-- The block indices at a grid point. -/
theorem idx : ∀ t : Fin cfg0.N, win0_0.index t = ![t.val, 0] ∧ win0_1.index t = ![t.val, 0] ∧ win0_2.index t = ![t.val, 0] ∧ t.val < 4 :=
  (by decide +kernel : ∀ t : Fin grid0.N, _)

/-- The products with the experts' first vectors, on device `c`. -/
abbrev P : FVec Ideal S4096x128 .f32 := m ((c : Thread nD τ).loc main_arg0)
/-- The gates. -/
abbrev G : FVec Ideal S4096x128 .f32 := m ((c : Thread nD τ).loc main_arg1)

variable (t : Fin cfg0.N)

/-- A grid point's block of the products. -/
theorem p_block (r : Fin 1024) (k : Fin 128) :
    iblk m c 0 t (ix2 r k) = P m c (ix2 (⟨t.val * 1024 + r.val, by have := (idx t).2.2.2; omega⟩ : Fin 4096) k) := by
  have ht := (idx t).2.2.2
  blk_simp [iblk, idx t]
  have e : (win0_0.blk t).view.emb (ix2 r k) = ix2 (⟨t.val * 1024 + r.val, by omega⟩ : Fin 4096) k := by
    blk_ext [idx t]
  rw [e]

/-- A grid point's block of the gates. -/
theorem g_block (r : Fin 1024) (k : Fin 128) :
    iblk m c 1 t (ix2 r k) = G m c (ix2 (⟨t.val * 1024 + r.val, by have := (idx t).2.2.2; omega⟩ : Fin 4096) k) := by
  have ht := (idx t).2.2.2
  blk_simp [iblk, idx t]
  have e : (win0_1.blk t).view.emb (ix2 r k) = ix2 (⟨t.val * 1024 + r.val, by omega⟩ : Fin 4096) k := by
    blk_ext [idx t]
  rw [e]

/-- What a grid point computes, at a lane. -/
theorem point (p g : FVec Ideal S1024x128 .f32) (r : Fin 1024) (k : Fin 128) :
    k0_pay1 (F := Ideal) p g (ix2 r k) = weighted (g (ix2 r k)) (p (ix2 r k)) := by
  have h : k0_pay1 (F := Ideal) p g (ix2 r k)
      = g (ix2 r k) * (Ideal.ofBits .f32 0x3F000000#32 * p (ix2 r k)
        * (Ideal.ofBits .f32 0x3F800000#32 + Ideal.erf (p (ix2 r k) * Ideal.ofBits .f32 0x3F3504F3#32))) := rfl
  rw [h, weighted, Ideal.ofBits_one_f32]

/-- What a grid point leaves in its block of the result, at a lane. -/
theorem outs (y0 : Fin 1024) (y1 : Fin 128) :
    outsAt0 m c t (ix2 y0 y1) = k0_pay1 (F := Ideal) (iblk m c 0 t) (iblk m c 1 t) (ix2 y0 y1) := by
  unfold outsAt0
  frame_out

/-- The array after the run. -/
theorem array : (dats m 0 c).arrAt 2 cfg0.N = result (P m c) (G m c) := by
  refine (dats m 0 c).arrAt_eq_of_covers 2 _ (by decide +kernel) fun t hf y => ?_
  have ht := (idx t).2.2.2
  blk_simp
  rw [after0_2]
  idx_vars y
  refine ((outs m c t y0 y1).trans (point _ _ y0 y1)).trans ?_
  have e : (win0_2.blk t).view.emb (ix2 y0 y1) = ix2 (⟨t.val * 1024 + y0.val, by omega⟩ : Fin 4096) y1 := by
    blk_ext [idx t]
  rw [e, p_block, g_block]
  exact (result_apply _ _ _ _).symm

/-- The kernel's run. -/
theorem run : θ_run defs (onTc (τ := τ) (main (F := Ideal))) ⟨m, fun _ => 0, ρ⟩ fun r => ∀ c : Dev nD,
    r.2.mem ((c : Thread nD τ).loc main_v0) = result (P m c) (G m c) :=
  (θ_run _ _ _).mono (fun _ h c => ((h c).1 2).trans (array m c)) (run_main m ρ)

end Cert.ActivationIdeal.Final

end
-- ==== Proof.Retaining.lean ====
/- One chunk of the retention, as a function of rows of numbers: its decays, its output and the state it leaves. The chunk
   read backwards in time is the same functions of the rows in the other order. Both the kernel and the reference are
   read as these. -/
module

public import Idealize.ShloMosaic.Lib.Pipeline.ValueKit
public import Idealize.ShloMosaic.Lib.Pointwise

@[expose] public section

noncomputable section

open Idealize.ShloMosaic
open scoped BigOperators

namespace Cert.Retaining

/-- The literal 127. -/
abbrev n127 : EReal := Ideal.ofBits .f32 0x42FE0000#32
/-- The literal 128. -/
abbrev n128 : EReal := Ideal.ofBits .f32 0x43000000#32
/-- The scale of the keys, as the literal both programs print. -/
abbrev κ : EReal := Ideal.ofBits .f32 0x3DB504F3#32

/-- A position in a chunk, as a number. -/
def pos (i : Fin 128) : EReal := ((i.val : ℝ) : EReal)

/-- The integer of a position turned to a number. -/
theorem sitofp_pos (i : Fin 128) : (FloatOps.sitofp FTy.f32 (BitVec.ofNat 32 i.val) : Ideal .f32) = pos i := by
  have h : (BitVec.ofNat 32 i.val).toInt = (i.val : ℤ) := by
    rw [BitVec.toInt_ofNat']
    have := i.isLt
    rw [Int.bmod_eq_of_le] <;> omega
  show (((BitVec.ofNat 32 i.val).toInt : ℝ) : EReal) = _
  rw [h]; rfl

theorem n127_eq : n127 = ((127 : ℝ) : EReal) := by
  simp [n127, Ideal.ofBits, Ideal.ieee, -EReal.coe_mul]; norm_num

theorem n128_eq : n128 = ((128 : ℝ) : EReal) := by
  simp [n128, Ideal.ofBits, Ideal.ieee, -EReal.coe_mul]; norm_num

/-- The logarithm of the logistic of a number. -/
def logGamma (x : EReal) : EReal := -(max (-x) 0 + Ideal.log1p (Ideal.exp (-(FloatOps.absf (F := Ideal) (φ := .f32) (-x)))))

/-- The decay inside a chunk at the distance `r`: none of what comes later. -/
def inner (g r : EReal) : EReal := if 0 ≤ r then Ideal.exp (max r 0 * g) else 0

/-- A row of numbers for each position. -/
abbrev Rows : Type := Fin 128 → Fin 128 → EReal

/-- A chunk's output: its own rows under the decays `a`, and the state before it under the decays `d`. -/
def out (a : Rows) (d : Fin 128 → EReal) (q k v s : Rows) (i e : Fin 128) : EReal :=
  (∑ j, ((∑ x, q i x * k j x) * a i j) * v j e) + (∑ x, q i x * s x e) * d i

/-- The state a chunk leaves: the one before it under the decay `g`, and its own rows under the decays `d`. -/
def state (d : Fin 128 → EReal) (g : EReal) (k v s : Rows) (x e : Fin 128) : EReal :=
  s x e * g + ∑ j, (k j x * d j) * v j e

/-- The forward chunk's output. -/
def forward (g : EReal) (q k v s : Rows) : Rows :=
  out (fun i j => inner g (pos i - pos j)) (fun i => Ideal.exp ((pos i + 1) * g)) q k v s

/-- The state the forward chunk leaves. -/
def forwardState (g : EReal) (k v s : Rows) : Rows :=
  state (fun j => Ideal.exp ((n127 - pos j) * g)) (Ideal.exp (n128 * g)) k v s

/-- The backward chunk's output. -/
def backward (g : EReal) (q k v s : Rows) : Rows :=
  out (fun i j => inner g (pos j - pos i)) (fun i => Ideal.exp ((n128 - pos i) * g)) q k v s

/-- The state the backward chunk leaves. -/
def backwardState (g : EReal) (k v s : Rows) : Rows :=
  state (fun j => Ideal.exp (pos j * g)) (Ideal.exp (n128 * g)) k v s

/-- The rows in the other order. -/
def flip (q : Rows) : Rows := fun i => q i.rev

/-- The position in the other order. -/
theorem pos_rev (i : Fin 128) : pos i.rev = ((127 - i.val : ℝ) : EReal) := by
  unfold pos
  refine congrArg _ ?_
  rw [Fin.val_rev, Nat.cast_sub (by have := i.isLt; omega)]
  push_cast
  ring

/-- Distances change their sign in the other order. -/
theorem pos_sub_rev (i j : Fin 128) : pos i.rev - pos j.rev = pos j - pos i := by
  rw [pos_rev, pos_rev]
  unfold pos
  rw [← EReal.coe_sub, ← EReal.coe_sub]
  exact congrArg _ (by ring)

theorem pos_rev_add (i : Fin 128) : pos i.rev + 1 = n128 - pos i := by
  rw [pos_rev, ← EReal.coe_one, n128_eq]
  unfold pos
  rw [← EReal.coe_add, ← EReal.coe_sub]
  exact congrArg _ (by ring)

theorem n127_sub_rev (i : Fin 128) : n127 - pos i.rev = pos i := by
  rw [pos_rev, n127_eq]
  unfold pos
  rw [← EReal.coe_sub]
  exact congrArg _ (by ring)

/-- A distance below zero is the other one above it. -/
theorem sub_nonpos_iff (i j : Fin 128) : pos i - pos j ≤ 0 ↔ 0 ≤ pos j - pos i := by
  unfold pos
  rw [← EReal.coe_sub, ← EReal.coe_sub, ← EReal.coe_zero, EReal.coe_le_coe_iff, EReal.coe_le_coe_iff]
  constructor <;> intro h <;> linarith

theorem neg_distance (i j : Fin 128) : 0 - (pos i - pos j) = pos j - pos i := by
  unfold pos
  rw [← EReal.coe_sub, ← EReal.coe_sub, ← EReal.coe_zero, ← EReal.coe_sub]
  exact congrArg _ (by ring)

/-- The forward chunk of the rows in the other order is the backward chunk. -/
theorem forward_flip (g : EReal) (q k v s : Rows) (i e : Fin 128) :
    forward g (flip q) (flip k) (flip v) s i.rev e = backward g q k v s i e := by
  unfold forward backward out flip
  refine congrArg₂ _ ?_ ?_
  · refine (Equiv.sum_comp Fin.revPerm _).symm.trans (Finset.sum_congr rfl fun j _ => ?_)
    simp only [Fin.revPerm_apply, Fin.rev_rev, pos_sub_rev]
  · simp only [Fin.rev_rev, pos_rev_add]

/-- The state the forward chunk of the rows in the other order leaves is the backward chunk's. -/
theorem forwardState_flip (g : EReal) (k v s : Rows) : forwardState g (flip k) (flip v) s = backwardState g k v s := by
  funext x e
  unfold forwardState backwardState state flip
  refine congrArg₂ _ rfl ?_
  refine (Equiv.sum_comp Fin.revPerm _).symm.trans (Finset.sum_congr rfl fun j _ => ?_)
  simp only [Fin.revPerm_apply, Fin.rev_rev, n127_sub_rev]

end Cert.Retaining

end
-- ==== Proof.RetBlock.lean ====
/- What one head of the retention's kernel computes from its tiles, in the terms of Proof/Retaining.lean. The four heads print
   the same chain of operations cut at other places; the chain is named once for each direction. -/
module

public import proofs.«01_k».proof.Proof.Gen.RetentionIdeal.Frame
public import proofs.«01_k».proof.Proof.Retaining
public import Idealize.ShloMosaic.Lib.Pipeline.ValueKit
public import Idealize.ShloMosaic.Lib.Pointwise

@[expose] public section

set_option maxRecDepth 16384

noncomputable section

open Idealize.ShloMosaic Idealize.ShloMosaic.TcCoe
open scoped BigOperators

namespace Cert.RetentionIdeal.Block

open Cert.RetentionIdeal Cert.RetentionIdeal.Gen Cert.Retaining

/-! ## The chains of one head -/

/-- The forward output of a head, from its decay's logit, its queries, keys, values and state. -/
def fOut (g : Ideal .f32) (q k v : Vec Ideal S128x128 .f32) (s : Vec Ideal S1x128x128 .f32) : FVec Ideal S128x128 .f32 :=
  k0_pay22 (k0_pay16 s) (k0_pay17 (k0_pay5 (F := Ideal)) (k0_pay7 g)) (k0_pay20 (k0_pay6 (F := Ideal)) (k0_pay7 g) q k v) (k0_pay21 q)

/-- The forward state of a head. -/
def fState (g : Ideal .f32) (k v : Vec Ideal S128x128 .f32) (s : Vec Ideal S1x128x128 .f32) : FVec Ideal S128x128 .f32 :=
  k0_pay23 (k0_pay15 k) v (k0_pay16 s) (k0_pay18 (k0_pay5 (F := Ideal)) (k0_pay7 g)) (k0_pay19 (k0_pay7 g))

/-- The backward output of a head. -/
def bOut (g : Ideal .f32) (q k v : Vec Ideal S128x128 .f32) (s : Vec Ideal S1x128x128 .f32) : FVec Ideal S128x128 .f32 :=
  k0_pay94 (k0_pay5 (F := Ideal)) (k0_pay79 g) (k0_pay89 (k0_pay6 (F := Ideal))) (k0_pay90 (k0_pay6 (F := Ideal))) (k0_pay91 (k0_pay79 g)) q k v s

/-- The backward state of a head. -/
def bState (g : Ideal .f32) (k v : Vec Ideal S128x128 .f32) (s : Vec Ideal S1x128x128 .f32) : FVec Ideal S128x128 .f32 :=
  k0_pay95 (k0_pay5 (F := Ideal)) (k0_pay79 g) k v s

/-- A tile's rows. -/
abbrev rows (q : Vec Ideal S128x128 .f32) : Rows := fun i x => q (ix2 i x)
/-- A tile's rows under the scale of the keys. -/
abbrev scaled (k : Vec Ideal S128x128 .f32) : Rows := fun i x => k (ix2 i x) * κ
/-- A state's rows. -/
abbrev srows (s : Vec Ideal S1x128x128 .f32) : Rows := fun i x => s (ix3 0 i x)

/-- The logarithm of the decay, as the kernel's head spreads it. -/
theorem logGamma_forward (g : Ideal .f32) (y : S1x128.Idx) : (k0_pay7 (F := Ideal) g y : EReal) = logGamma g := by
  pointwise [k0_pay7]
  rw [if_neg (not_not.mpr rfl)]
  unfold logGamma
  simp only [sub_eq_add_neg, zero_add]

theorem logGamma_backward (g : Ideal .f32) (y : S1x128.Idx) : (k0_pay79 (F := Ideal) g y : EReal) = logGamma g := by
  pointwise [k0_pay79]
  rw [if_neg (not_not.mpr rfl)]
  unfold logGamma
  simp only [sub_eq_add_neg, zero_add]

theorem fOut_apply (g : Ideal .f32) (q k v : Vec Ideal S128x128 .f32) (s : Vec Ideal S1x128x128 .f32) (i e : Fin 128) :
    fOut g q k v s (ix2 i e) = forward (logGamma g) (rows q) (scaled k) (rows v) (srows s) i e := by
  pointwise [fOut, k0_pay22, k0_pay16, k0_pay17, k0_pay20, k0_pay21, k0_pay15, k0_pay5, k0_pay6]
  simp only [logGamma_forward, sitofp_pos]
  rfl

theorem fState_apply (g : Ideal .f32) (k v : Vec Ideal S128x128 .f32) (s : Vec Ideal S1x128x128 .f32) (i e : Fin 128) :
    fState g k v s (ix2 i e) = forwardState (logGamma g) (scaled k) (rows v) (srows s) i e := by
  pointwise [fState, k0_pay23, k0_pay16, k0_pay18, k0_pay15, k0_pay5, k0_pay19]
  simp only [logGamma_forward, sitofp_pos]
  rfl

theorem bOut_apply (g : Ideal .f32) (q k v : Vec Ideal S128x128 .f32) (s : Vec Ideal S1x128x128 .f32) (i e : Fin 128) :
    bOut g q k v s (ix2 i e) = backward (logGamma g) (rows q) (scaled k) (rows v) (srows s) i e := by
  pointwise [bOut, k0_pay94, k0_pay89, k0_pay90, k0_pay91, k0_pay92, k0_pay93, k0_pay5, k0_pay6]
  simp only [logGamma_backward, sitofp_pos, sub_nonpos_iff, neg_distance]
  rfl

theorem bState_apply (g : Ideal .f32) (k v : Vec Ideal S128x128 .f32) (s : Vec Ideal S1x128x128 .f32) (i e : Fin 128) :
    bState g k v s (ix2 i e) = backwardState (logGamma g) (scaled k) (rows v) (srows s) i e := by
  pointwise [bState, k0_pay95, k0_pay92, k0_pay93, k0_pay5]
  simp only [logGamma_backward, sitofp_pos]
  rfl

/-! ## The tiles of a block -/

/-- Head `h`'s lanes lie in the block. -/
theorem tile_inb (h : Fin 4) (a : Fin 2) : (![0, h.val * 128] : Fin 2 → ℕ) a + (![128, 128] : Fin 2 → ℕ) a ≤ S128x512.size a := by
  have := h.isLt
  fin_cases a
  · show 0 + 128 ≤ 128; omega
  · show h.val * 128 + 128 ≤ 512; omega

/-- Head `h`'s state lies in the memory. -/
theorem slab_inb (h : Fin 4) (a : Fin 3) : (![h.val, 0, 0] : Fin 3 → ℕ) a + (![1, 128, 128] : Fin 3 → ℕ) a ≤ S4x128x128.size a := by
  have := h.isLt
  fin_cases a
  · show h.val + 1 ≤ 4; omega
  · show 0 + 128 ≤ 128; omega
  · show 0 + 128 ≤ 128; omega

/-- The logit of a head lies in the table. -/
theorem logit_inb (r : Fin 2) (h : Fin 4) (a : Fin 2) : (![r.val, h.val] : Fin 2 → ℕ) a + (![1, 1] : Fin 2 → ℕ) a ≤ S2x4.size a := by
  have := h.isLt
  have := r.isLt
  fin_cases a
  · show r.val + 1 ≤ 2; omega
  · show h.val + 1 ≤ 4; omega

/-- Head `h`'s lanes of a block of 512. -/
def tile (q : Vec Ideal S128x512 .f32) (h : Fin 4) : Vec Ideal S128x128 .f32 :=
  View.ld q (Rect.unit ![0, h.val * 128] ![128, 128] (tile_inb h))

/-- Head `h`'s state. -/
def slab (s : Vec Ideal S4x128x128 .f32) (h : Fin 4) : Vec Ideal S1x128x128 .f32 :=
  View.ld s (Rect.unit ![h.val, 0, 0] ![1, 128, 128] (slab_inb h))

/-- The logit of head `h` in direction `r`. -/
def logit (g : Vec Ideal S2x4 .f32) (r : Fin 2) (h : Fin 4) : Ideal .f32 :=
  View.ld g (Rect.unit ![r.val, h.val] ![1, 1] (logit_inb r h)) (Shape.Idx.first (s := ⟨2, ![1, 1]⟩) (by decide))

theorem tile_apply (q : Vec Ideal S128x512 .f32) (h : Fin 4) (i x : Fin 128) :
    tile q h (ix2 i x) = q (ix2 i ⟨h.val * 128 + x.val, by omega⟩) :=
  View.ld_unit_apply_of q _ _ _ _ _ fun a => by
    fin_cases a
    · show i.val = 0 + i.val; omega
    · rfl

theorem slab_apply (s : Vec Ideal S4x128x128 .f32) (h : Fin 4) (i x : Fin 128) : slab s h (ix3 0 i x) = s (ix3 h i x) :=
  View.ld_unit_apply_of s _ _ _ _ _ fun a => by
    fin_cases a
    · rfl
    · show i.val = 0 + i.val; omega
    · show x.val = 0 + x.val; omega

theorem logit_eq (g : Vec Ideal S2x4 .f32) (r : Fin 2) (h : Fin 4) : logit g r h = g (ix2 r h) :=
  congrArg g (funext fun a => Fin.ext (by fin_cases a <;> rfl))

/-! ## The blocks -/

/-- The rows of head `h` in a block of 512 lanes. -/
abbrev head (q : Vec Ideal S128x512 .f32) (h : Fin 4) : Rows := fun i x => q (ix2 i ⟨h.val * 128 + x.val, by omega⟩)
/-- The keys of head `h` under their scale. -/
abbrev keys (q : Vec Ideal S128x512 .f32) (h : Fin 4) : Rows := fun i x => q (ix2 i ⟨h.val * 128 + x.val, by omega⟩) * κ
/-- The state of head `h`. -/
abbrev mem (s : Vec Ideal S4x128x128 .f32) (h : Fin 4) : Rows := fun i x => s (ix3 h i x)

/-- A tile's rows are its head's. -/
theorem rows_tile (q : Vec Ideal S128x512 .f32) (h : Fin 4) : rows (tile q h) = head q h :=
  funext fun i => funext fun x => tile_apply q h i x

theorem scaled_tile (q : Vec Ideal S128x512 .f32) (h : Fin 4) : scaled (tile q h) = keys q h :=
  funext fun i => funext fun x => congrArg (· * κ) (tile_apply q h i x)

theorem srows_slab (s : Vec Ideal S4x128x128 .f32) (h : Fin 4) : srows (slab s h) = mem s h :=
  funext fun i => funext fun x => slab_apply s h i x

/-- The head of a lane, and the lane in it. -/
abbrev hd (j : Fin 512) : Fin 4 := ⟨j.val / 128, by omega⟩
/-- The lane in its head. -/
abbrev ln (j : Fin 512) : Fin 128 := ⟨j.val % 128, by omega⟩

variable (g : Vec Ideal S2x4 .f32) (q k v : Vec Ideal S128x512 .f32) (s : Vec Ideal S4x128x128 .f32)

/-- The forward outputs of the four heads. -/
def fOuts : FVec Ideal S128x512 .f32 := fun y =>
  forward (logGamma (g (ix2 0 (hd (y 1))))) (head q (hd (y 1))) (keys k (hd (y 1))) (head v (hd (y 1))) (mem s (hd (y 1))) (y 0) (ln (y 1))

/-- The backward outputs of the four heads. -/
def bOuts : FVec Ideal S128x512 .f32 := fun y =>
  backward (logGamma (g (ix2 1 (hd (y 1))))) (head q (hd (y 1))) (keys k (hd (y 1))) (head v (hd (y 1))) (mem s (hd (y 1))) (y 0) (ln (y 1))

/-- The forward states of the four heads. -/
def fStates : FVec Ideal S4x128x128 .f32 := fun y =>
  forwardState (logGamma (g (ix2 0 (y 0)))) (keys k (y 0)) (head v (y 0)) (mem s (y 0)) (y 1) (y 2)

/-- The backward states of the four heads. -/
def bStates : FVec Ideal S4x128x128 .f32 := fun y =>
  backwardState (logGamma (g (ix2 1 (y 0)))) (keys k (y 0)) (head v (y 0)) (mem s (y 0)) (y 1) (y 2)

/-- A tile of the forward outputs. -/
theorem fOut_tile (h : Fin 4) (x : S128x128.Idx) (y : S128x512.Idx) (h0 : (y 0).val = (x 0).val) (h1 : (y 1).val = h.val * 128 + (x 1).val) :
    fOut (logit g 0 h) (tile q h) (tile k h) (tile v h) (slab s h) x = fOuts g q k v s y := by
  idx_vars x
  have hx : x1.val < 128 := x1.isLt
  replace h1 : (y 1).val = h.val * 128 + x1.val := h1
  have e0 : (y 0 : Fin 128) = x0 := Fin.ext h0
  have e1 : hd (y 1) = h := Fin.ext (by show (y 1).val / 128 = h.val; omega)
  have e2 : ln (y 1) = x1 := Fin.ext (by show (y 1).val % 128 = x1.val; omega)
  rw [fOut_apply]
  unfold fOuts
  rw [e0, e1, e2, logit_eq]
  rw [rows_tile, rows_tile, scaled_tile, srows_slab]

/-- A tile of the backward outputs. -/
theorem bOut_tile (h : Fin 4) (x : S128x128.Idx) (y : S128x512.Idx) (h0 : (y 0).val = (x 0).val) (h1 : (y 1).val = h.val * 128 + (x 1).val) :
    bOut (logit g 1 h) (tile q h) (tile k h) (tile v h) (slab s h) x = bOuts g q k v s y := by
  idx_vars x
  have hx : x1.val < 128 := x1.isLt
  replace h1 : (y 1).val = h.val * 128 + x1.val := h1
  have e0 : (y 0 : Fin 128) = x0 := Fin.ext h0
  have e1 : hd (y 1) = h := Fin.ext (by show (y 1).val / 128 = h.val; omega)
  have e2 : ln (y 1) = x1 := Fin.ext (by show (y 1).val % 128 = x1.val; omega)
  rw [bOut_apply]
  unfold bOuts
  rw [e0, e1, e2, logit_eq]
  rw [rows_tile, rows_tile, scaled_tile, srows_slab]

/-- A slab of the forward states. -/
theorem fState_slab (h : Fin 4) (i e : Fin 128) :
    fState (logit g 0 h) (tile k h) (tile v h) (slab s h) (ix2 i e) = fStates g k v s (ix3 h i e) := by
  rw [fState_apply, logit_eq]
  rw [rows_tile, scaled_tile, srows_slab]
  rfl

/-- A slab of the backward states. -/
theorem bState_slab (h : Fin 4) (i e : Fin 128) :
    bState (logit g 1 h) (tile k h) (tile v h) (slab s h) (ix2 i e) = bStates g k v s (ix3 h i e) := by
  rw [bState_apply, logit_eq]
  rw [rows_tile, scaled_tile, srows_slab]
  rfl

/-- The forward state of a head, as it is kept in the memory. -/
def fKept (g : Ideal .f32) (k v : Vec Ideal S128x128 .f32) (s : Vec Ideal S1x128x128 .f32) : FVec Ideal S1x128x128 .f32 :=
  shapeCast S1x128x128 (fState g k v s) shapeCasts_S128x128_S1x128x128

/-- The forward state of a head, as it is written out. -/
def fWritten (g : Ideal .f32) (k v : Vec Ideal S128x128 .f32) (s : Vec Ideal S1x128x128 .f32) : FVec Ideal S1x1x128x128 .f32 :=
  shapeCast S1x1x128x128 (fState g k v s) shapeCasts_S128x128_S1x1x128x128

/-- The backward state of a head, as it is kept in the memory. -/
def bKept (g : Ideal .f32) (k v : Vec Ideal S128x128 .f32) (s : Vec Ideal S1x128x128 .f32) : FVec Ideal S1x128x128 .f32 :=
  shapeCast S1x128x128 (bState g k v s) shapeCasts_S128x128_S1x128x128

/-- The backward state of a head, as it is written out. -/
def bWritten (g : Ideal .f32) (k v : Vec Ideal S128x128 .f32) (s : Vec Ideal S1x128x128 .f32) : FVec Ideal S1x1x128x128 .f32 :=
  shapeCast S1x1x128x128 (bState g k v s) shapeCasts_S128x128_S1x1x128x128

/-- A square under one axis of extent 1. -/
theorem kept_apply (w : FVec Ideal S128x128 .f32) (z : Fin 1) (i e : Fin 128) :
    shapeCast S1x128x128 w shapeCasts_S128x128_S1x128x128 (ix3 z i e) = w (ix2 i e) := by
  obtain rfl : z = 0 := Subsingleton.elim _ _
  pointwise

/-- A square under two axes of extent 1. -/
theorem written_apply (w : FVec Ideal S128x128 .f32) (z z' : Fin 1) (i e : Fin 128) :
    shapeCast S1x1x128x128 w shapeCasts_S128x128_S1x1x128x128 (ix4 z z' i e) = w (ix2 i e) := by
  obtain rfl : z = 0 := Subsingleton.elim _ _
  obtain rfl : z' = 0 := Subsingleton.elim _ _
  pointwise

/-- A slab of the forward states, in the memory. -/
theorem fKept_slab (h : Fin 4) (x : S1x128x128.Idx) (y : S4x128x128.Idx) (h0 : (y 0).val = h.val + (x 0).val)
    (h1 : (y 1).val = (x 1).val) (h2 : (y 2).val = (x 2).val) :
    fKept (logit g 0 h) (tile k h) (tile v h) (slab s h) x = fStates g k v s y := by
  idx_vars x
  have hx : x0.val < 1 := x0.isLt
  replace h0 : (y 0).val = h.val + x0.val := h0
  have e : y = ix3 h x1 x2 := funext fun a => Fin.ext (by
    fin_cases a
    · show (y 0).val = h.val; omega
    · exact h1
    · exact h2)
  rw [e]
  exact (kept_apply _ _ _ _).trans (fState_slab g k v s h x1 x2)

/-- A slab of the backward states, in the memory. -/
theorem bKept_slab (h : Fin 4) (x : S1x128x128.Idx) (y : S4x128x128.Idx) (h0 : (y 0).val = h.val + (x 0).val)
    (h1 : (y 1).val = (x 1).val) (h2 : (y 2).val = (x 2).val) :
    bKept (logit g 1 h) (tile k h) (tile v h) (slab s h) x = bStates g k v s y := by
  idx_vars x
  have hx : x0.val < 1 := x0.isLt
  replace h0 : (y 0).val = h.val + x0.val := h0
  have e : y = ix3 h x1 x2 := funext fun a => Fin.ext (by
    fin_cases a
    · show (y 0).val = h.val; omega
    · exact h1
    · exact h2)
  rw [e]
  exact (kept_apply _ _ _ _).trans (bState_slab g k v s h x1 x2)

/-- A slab of the forward states, as it is written out. -/
theorem fWritten_slab (h : Fin 4) (x : S1x1x128x128.Idx) (i : Fin 4) (j e : Fin 128) (h0 : i.val = h.val + (x 1).val)
    (h1 : j.val = (x 2).val) (h2 : e.val = (x 3).val) :
    fWritten (logit g 0 h) (tile k h) (tile v h) (slab s h) x = fStates g k v s (ix3 i j e) := by
  idx_vars x
  have hx : x1.val < 1 := x1.isLt
  replace h0 : i.val = h.val + x1.val := h0
  obtain rfl : i = h := Fin.ext (by omega)
  obtain rfl : j = x2 := Fin.ext h1
  obtain rfl : e = x3 := Fin.ext h2
  exact (written_apply _ _ _ _ _).trans (fState_slab g k v s _ _ _)

/-- A slab of the backward states, as it is written out. -/
theorem bWritten_slab (h : Fin 4) (x : S1x1x128x128.Idx) (i : Fin 4) (j e : Fin 128) (h0 : i.val = h.val + (x 1).val)
    (h1 : j.val = (x 2).val) (h2 : e.val = (x 3).val) :
    bWritten (logit g 1 h) (tile k h) (tile v h) (slab s h) x = bStates g k v s (ix3 i j e) := by
  idx_vars x
  have hx : x1.val < 1 := x1.isLt
  replace h0 : i.val = h.val + x1.val := h0
  obtain rfl : i = h := Fin.ext (by omega)
  obtain rfl : j = x2 := Fin.ext h1
  obtain rfl : e = x3 := Fin.ext h2
  exact (written_apply _ _ _ _ _).trans (bState_slab g k v s _ _ _)

end Cert.RetentionIdeal.Block

end
-- ==== Proof.RetPoint.lean ====
/- What one point of the retention's grid leaves in its outputs and in its two memories: a first point of a sequence over
   memories of zeros, a later point over what the point before left. -/
module

public import proofs.«01_k».proof.Proof.RetBlock
public import Idealize.ShloMosaic.Lib.Pipeline.ReadBack

@[expose] public section

set_option maxRecDepth 16384

noncomputable section

open Idealize.ShloMosaic Idealize.ShloMosaic.TcCoe Idealize.SL.Sem

namespace Cert.RetentionIdeal.Point

open Cert.RetentionIdeal Cert.RetentionIdeal.Gen Cert.RetentionIdeal.Block

variable (m : (ℓ : Loc nD τ sig) → Buf (Elt Ideal) ℓ) (c : Dev nD)

/-- A memory of zeros. -/
def zeros : FVec Ideal S4x128x128 .f32 := fun _ => 0

/-- The forward memory is first filled with zeros. -/
theorem fill_forward : (k0_pay3 (F := Ideal)) = zeros := by
  funext y
  pointwise [k0_pay3]
  rfl

/-- The backward memory is first filled with zeros. -/
theorem fill_backward : (k0_pay4 (F := Ideal)) = zeros := by
  funext y
  pointwise [k0_pay4]
  rfl

/-- What a later point leaves in the first output. -/
theorem out7_later (t : Fin cfg0.N) (h : ¬ t.val % 2 = 0) (p : FVec Ideal S4x128x128 .f32)
    (hp : (outsAt0 m c (t.val - 1) (Nat.lt_of_le_of_lt (Nat.sub_le _ _) t.isLt)).2.2.2.2.1 = p) (y : S128x512.Idx) :
    (outsAt0 m c t.val t.isLt).1 y = fOuts (iblk m c 0 t) (iblk m c 1 t) (iblk m c 2 t) (iblk m c 3 t) p y := by
  rw [outsAt0_B m c t h]; frame_out
  simp only [read_unread_whole, hp]
  canon_tiles x h
  · exact fOut_tile (iblk m c 0 t) (iblk m c 1 t) (iblk m c 2 t) (iblk m c 3 t) p 3 x y h0 h1
  · exact fOut_tile (iblk m c 0 t) (iblk m c 1 t) (iblk m c 2 t) (iblk m c 3 t) p 2 x y h0 h1
  · exact fOut_tile (iblk m c 0 t) (iblk m c 1 t) (iblk m c 2 t) (iblk m c 3 t) p 1 x y h0 h1
  · exact fOut_tile (iblk m c 0 t) (iblk m c 1 t) (iblk m c 2 t) (iblk m c 3 t) p 0 x y h0 (by omega)

/-- What a first point leaves in the first output. -/
theorem out7_first (t : Fin cfg0.N) (h : t.val % 2 = 0)  (y : S128x512.Idx) :
    (outsAt0 m c t.val t.isLt).1 y = fOuts (iblk m c 0 t) (iblk m c 1 t) (iblk m c 2 t) (iblk m c 3 t) zeros y := by
  rw [outsAt0_A m c t h]; frame_out
  simp (discharger := decide) only [↓View.readCov_skip, ↓View.readCov_fill, fill_forward]
  canon_tiles x h
  · exact fOut_tile (iblk m c 0 t) (iblk m c 1 t) (iblk m c 2 t) (iblk m c 3 t) zeros 3 x y h0 h1
  · exact fOut_tile (iblk m c 0 t) (iblk m c 1 t) (iblk m c 2 t) (iblk m c 3 t) zeros 2 x y h0 h1
  · exact fOut_tile (iblk m c 0 t) (iblk m c 1 t) (iblk m c 2 t) (iblk m c 3 t) zeros 1 x y h0 h1
  · exact fOut_tile (iblk m c 0 t) (iblk m c 1 t) (iblk m c 2 t) (iblk m c 3 t) zeros 0 x y h0 (by omega)

/-- What a later point leaves in the second output. -/
theorem out8_later (t : Fin cfg0.N) (h : ¬ t.val % 2 = 0) (p : FVec Ideal S4x128x128 .f32)
    (hp : (outsAt0 m c (t.val - 1) (Nat.lt_of_le_of_lt (Nat.sub_le _ _) t.isLt)).2.2.2.2.2 = p) (y : S128x512.Idx) :
    (outsAt0 m c t.val t.isLt).2.1 y = bOuts (iblk m c 0 t) (iblk m c 4 t) (iblk m c 5 t) (iblk m c 6 t) p y := by
  rw [outsAt0_B m c t h]; frame_out
  simp only [read_unread_whole, hp]
  canon_tiles x h
  · exact bOut_tile (iblk m c 0 t) (iblk m c 4 t) (iblk m c 5 t) (iblk m c 6 t) p 3 x y h0 h1
  · exact bOut_tile (iblk m c 0 t) (iblk m c 4 t) (iblk m c 5 t) (iblk m c 6 t) p 2 x y h0 h1
  · exact bOut_tile (iblk m c 0 t) (iblk m c 4 t) (iblk m c 5 t) (iblk m c 6 t) p 1 x y h0 h1
  · exact bOut_tile (iblk m c 0 t) (iblk m c 4 t) (iblk m c 5 t) (iblk m c 6 t) p 0 x y h0 (by omega)

/-- What a first point leaves in the second output. -/
theorem out8_first (t : Fin cfg0.N) (h : t.val % 2 = 0)  (y : S128x512.Idx) :
    (outsAt0 m c t.val t.isLt).2.1 y = bOuts (iblk m c 0 t) (iblk m c 4 t) (iblk m c 5 t) (iblk m c 6 t) zeros y := by
  rw [outsAt0_A m c t h]; frame_out
  simp (discharger := decide) only [↓View.readCov_skip, ↓View.readCov_fill, fill_backward]
  canon_tiles x h
  · exact bOut_tile (iblk m c 0 t) (iblk m c 4 t) (iblk m c 5 t) (iblk m c 6 t) zeros 3 x y h0 h1
  · exact bOut_tile (iblk m c 0 t) (iblk m c 4 t) (iblk m c 5 t) (iblk m c 6 t) zeros 2 x y h0 h1
  · exact bOut_tile (iblk m c 0 t) (iblk m c 4 t) (iblk m c 5 t) (iblk m c 6 t) zeros 1 x y h0 h1
  · exact bOut_tile (iblk m c 0 t) (iblk m c 4 t) (iblk m c 5 t) (iblk m c 6 t) zeros 0 x y h0 (by omega)

/-- What a later point leaves in the third output. -/
theorem out9_later (t : Fin cfg0.N) (h : ¬ t.val % 2 = 0) (p : FVec Ideal S4x128x128 .f32)
    (hp : (outsAt0 m c (t.val - 1) (Nat.lt_of_le_of_lt (Nat.sub_le _ _) t.isLt)).2.2.2.2.1 = p) (i : Fin 4) (j e : Fin 128) :
    (outsAt0 m c t.val t.isLt).2.2.1 (ix4 0 i j e) = fStates (iblk m c 0 t) (iblk m c 2 t) (iblk m c 3 t) p (ix3 i j e) := by
  rw [outsAt0_B m c t h]; frame_out
  simp only [read_unread_whole, hp]
  canon_tiles x h
  · exact fWritten_slab (iblk m c 0 t) (iblk m c 2 t) (iblk m c 3 t) p 3 x i j e h1 h2 h3
  · exact fWritten_slab (iblk m c 0 t) (iblk m c 2 t) (iblk m c 3 t) p 2 x i j e h1 h2 h3
  · exact fWritten_slab (iblk m c 0 t) (iblk m c 2 t) (iblk m c 3 t) p 1 x i j e h1 h2 h3
  · exact fWritten_slab (iblk m c 0 t) (iblk m c 2 t) (iblk m c 3 t) p 0 x i j e (h1.trans (Nat.zero_add _).symm) h2 h3

/-- What a later point leaves in the fourth output. -/
theorem out10_later (t : Fin cfg0.N) (h : ¬ t.val % 2 = 0) (p : FVec Ideal S4x128x128 .f32)
    (hp : (outsAt0 m c (t.val - 1) (Nat.lt_of_le_of_lt (Nat.sub_le _ _) t.isLt)).2.2.2.2.2 = p) (i : Fin 4) (j e : Fin 128) :
    (outsAt0 m c t.val t.isLt).2.2.2.1 (ix4 0 i j e) = bStates (iblk m c 0 t) (iblk m c 5 t) (iblk m c 6 t) p (ix3 i j e) := by
  rw [outsAt0_B m c t h]; frame_out
  simp only [read_unread_whole, hp]
  canon_tiles x h
  · exact bWritten_slab (iblk m c 0 t) (iblk m c 5 t) (iblk m c 6 t) p 3 x i j e h1 h2 h3
  · exact bWritten_slab (iblk m c 0 t) (iblk m c 5 t) (iblk m c 6 t) p 2 x i j e h1 h2 h3
  · exact bWritten_slab (iblk m c 0 t) (iblk m c 5 t) (iblk m c 6 t) p 1 x i j e h1 h2 h3
  · exact bWritten_slab (iblk m c 0 t) (iblk m c 5 t) (iblk m c 6 t) p 0 x i j e (h1.trans (Nat.zero_add _).symm) h2 h3

/-- What a first point leaves in the forward memory: four slabs over the zeros. -/
theorem memory_forward (t : Fin cfg0.N) (h : t.val % 2 = 0) :
    (outsAt0 m c t.val t.isLt).2.2.2.2.1 = fStates (iblk m c 0 t) (iblk m c 2 t) (iblk m c 3 t) zeros := by
  rw [outsAt0_A m c t h]; frame_out
  simp (discharger := decide) only [↓View.readCov_skip, ↓View.readCov_fill, fill_forward]
  funext y
  refine View.canon_append_of_piecesOf (Val := Elt Ideal) (e := .f32) (fStates (iblk m c 0 t) (iblk m c 2 t) (iblk m c 3 t) zeros) [_] [_, _, _, _] ⟨fun x => ?_, fun x => ?_, fun x => ?_, fun x => ?_, trivial⟩ y ?_
  · exact fKept_slab (iblk m c 0 t) (iblk m c 2 t) (iblk m c 3 t) zeros 3 x _ (by show 3 + 1 * _ = 3 + _; omega) (by show 0 + 1 * _ = _; omega) (by show 0 + 1 * _ = _; omega)
  · exact fKept_slab (iblk m c 0 t) (iblk m c 2 t) (iblk m c 3 t) zeros 2 x _ (by show 2 + 1 * _ = 2 + _; omega) (by show 0 + 1 * _ = _; omega) (by show 0 + 1 * _ = _; omega)
  · exact fKept_slab (iblk m c 0 t) (iblk m c 2 t) (iblk m c 3 t) zeros 1 x _ (by show 1 + 1 * _ = 1 + _; omega) (by show 0 + 1 * _ = _; omega) (by show 0 + 1 * _ = _; omega)
  · exact fKept_slab (iblk m c 0 t) (iblk m c 2 t) (iblk m c 3 t) zeros 0 x _ (by show 0 + 1 * _ = 0 + _; omega) (by show 0 + 1 * _ = _; omega) (by show 0 + 1 * _ = _; omega)
  · exact View.cover_of_tiled_head _ _ _ (by rfl) y

/-- What a first point leaves in the backward memory: four slabs over the zeros. -/
theorem memory_backward (t : Fin cfg0.N) (h : t.val % 2 = 0) :
    (outsAt0 m c t.val t.isLt).2.2.2.2.2 = bStates (iblk m c 0 t) (iblk m c 5 t) (iblk m c 6 t) zeros := by
  rw [outsAt0_A m c t h]; frame_out
  simp (discharger := decide) only [↓View.readCov_skip, ↓View.readCov_fill, fill_backward]
  funext y
  refine View.canon_append_of_piecesOf (Val := Elt Ideal) (e := .f32) (bStates (iblk m c 0 t) (iblk m c 5 t) (iblk m c 6 t) zeros) [_] [_, _, _, _] ⟨fun x => ?_, fun x => ?_, fun x => ?_, fun x => ?_, trivial⟩ y ?_
  · exact bKept_slab (iblk m c 0 t) (iblk m c 5 t) (iblk m c 6 t) zeros 3 x _ (by show 3 + 1 * _ = 3 + _; omega) (by show 0 + 1 * _ = _; omega) (by show 0 + 1 * _ = _; omega)
  · exact bKept_slab (iblk m c 0 t) (iblk m c 5 t) (iblk m c 6 t) zeros 2 x _ (by show 2 + 1 * _ = 2 + _; omega) (by show 0 + 1 * _ = _; omega) (by show 0 + 1 * _ = _; omega)
  · exact bKept_slab (iblk m c 0 t) (iblk m c 5 t) (iblk m c 6 t) zeros 1 x _ (by show 1 + 1 * _ = 1 + _; omega) (by show 0 + 1 * _ = _; omega) (by show 0 + 1 * _ = _; omega)
  · exact bKept_slab (iblk m c 0 t) (iblk m c 5 t) (iblk m c 6 t) zeros 0 x _ (by show 0 + 1 * _ = 0 + _; omega) (by show 0 + 1 * _ = _; omega) (by show 0 + 1 * _ = _; omega)
  · exact View.cover_of_tiled_head _ _ _ (by rfl) y

end Cert.RetentionIdeal.Point

end
-- ==== Proof.RetReference.lean ====
/- The reference of the retention read at an index: its outputs and its states, chunk by chunk, are those of
   Proof/Retaining.lean. -/
module

public import proofs.«01_k».proof.Proof.Gen.RetentionReferenceIdeal
public import proofs.«01_k».proof.Proof.Retaining
public import Idealize.ShloMosaic.Lib.Pointwise

@[expose] public section

set_option maxRecDepth 16384

noncomputable section

open Idealize.ShloMosaic
open scoped BigOperators

namespace Cert.RetentionReferenceIdeal.Row

open Cert.RetentionReferenceIdeal Cert.RetentionReferenceIdeal.Gen Cert.Retaining

variable (zr : FVec Ideal S4096x2048 .f32) (dl : FVec Ideal S2x4 .f32)

/-- The decay logits, negated. -/
def minus : FVec Ideal S2x4 .f32 := Host.negf dl

/-- The negated logits less zero. -/
def minusZero : FVec Ideal S2x4 .f32 :=
  subf (minus dl) (broadcastInDim S2x4 ![] bcast_S_S2x4 (constant S_ .f32 0x00000000#32))

/-- The logarithms of the decays of both directions. -/
def decays : FVec Ideal S2x4 .f32 :=
  Host.negf (select (cmpf .une (minusZero dl) (minusZero dl))
    (addf (minus dl) (broadcastInDim S2x4 ![] bcast_S_S2x4 (constant S_ .f32 0x00000000#32)))
    (addf (maximumf (minus dl) (broadcastInDim S2x4 ![] bcast_S_S2x4 (constant S_ .f32 0x00000000#32)))
      (Host.log1p (Host.exp (Host.negf (Host.absf (minusZero dl)))))))

theorem decays_apply (r : Fin 2) (h : Fin 4) : decays dl (ix2 r h) = logGamma (dl (ix2 r h)) := by
  pointwise [decays, minus, minusZero]
  rw [if_neg (not_not.mpr rfl)]
  unfold logGamma
  simp only [sub_eq_add_neg, zero_add, sub_zero, neg_zero, add_zero]

/-- The forward decays. -/
def forwards : FVec Ideal S4 .f32 :=
  shapeCast _ (extractStridedSlice S1x4 ![0, 0] (decays dl) slices_S2x4_S1x4_0_0) shapeCasts_S1x4_S4

/-- The backward decays. -/
def backwards : FVec Ideal S4 .f32 :=
  shapeCast _ (extractStridedSlice S1x4 ![1, 0] (decays dl) slices_S2x4_S1x4_1_0) shapeCasts_S1x4_S4

theorem forwards_apply (h : Fin 4) : forwards dl (ix1 h) = logGamma (dl (ix2 0 h)) := by
  pointwise [forwards]
  exact decays_apply dl 0 h

theorem backwards_apply (h : Fin 4) : backwards dl (ix1 h) = logGamma (dl (ix2 1 h)) := by
  pointwise [backwards]
  exact decays_apply dl 1 h

/-- The queries. -/
def q : FVec Ideal S16x256x4x128 .f32 :=
  shapeCast _ (extractStridedSlice S4096x512 ![0, 0] zr slices_S4096x2048_S4096x512_0_0) shapeCasts_S4096x512_S16x256x4x128
/-- The values. -/
def v : FVec Ideal S16x256x4x128 .f32 :=
  shapeCast _ (extractStridedSlice S4096x512 ![0, 1024] zr slices_S4096x2048_S4096x512_0_1024) shapeCasts_S4096x512_S16x256x4x128
/-- The scaled keys. -/
def k : FVec Ideal S16x256x4x128 .f32 :=
  mulf (shapeCast _ (extractStridedSlice S4096x512 ![0, 512] zr slices_S4096x2048_S4096x512_0_512) shapeCasts_S4096x512_S16x256x4x128)
    (broadcastInDim S16x256x4x128 ![] bcast_S_S16x256x4x128 (constant S_ .f32 0x3DB504F3#32))

theorem q_apply (b : Fin 16) (t : Fin 256) (h : Fin 4) (x : Fin 128) :
    q zr (ix4 b t h x) = zr (ix2 ⟨b.val * 256 + t.val, by have := b.isLt; have := t.isLt; omega⟩ ⟨h.val * 128 + x.val, by have := h.isLt; have := x.isLt; omega⟩) := by
  have := h.isLt
  pointwise [q]

theorem v_apply (b : Fin 16) (t : Fin 256) (h : Fin 4) (x : Fin 128) :
    v zr (ix4 b t h x) = zr (ix2 ⟨b.val * 256 + t.val, by have := b.isLt; have := t.isLt; omega⟩ ⟨1024 + (h.val * 128 + x.val), by have := h.isLt; have := x.isLt; omega⟩) := by
  have := h.isLt
  pointwise [v]

theorem k_apply (b : Fin 16) (t : Fin 256) (h : Fin 4) (x : Fin 128) :
    k zr (ix4 b t h x) = zr (ix2 ⟨b.val * 256 + t.val, by have := b.isLt; have := t.isLt; omega⟩ ⟨512 + (h.val * 128 + x.val), by have := h.isLt; have := x.isLt; omega⟩) * κ := by
  have := h.isLt
  pointwise [k]

variable (a : FVec Ideal S16x256x4x128 .f32)

/-- The sequences by chunks. -/
def chunks : FVec Ideal S2x16x128x4x128 .f32 :=
  transpose S2x16x128x4x128 [1, 0, 2, 3, 4] (shapeCast _ a shapeCasts_S16x256x4x128_S16x2x128x4x128) transposes_S16x2x128x4x128_S2x16x128x4x128_1_0_2_3_4
/-- The first chunks. -/
def first : FVec Ideal S16x128x4x128 .f32 :=
  shapeCast _ (extractStridedSlice S1x16x128x4x128 ![0, 0, 0, 0, 0] (chunks a) slices_S2x16x128x4x128_S1x16x128x4x128_0_0_0_0_0) shapeCasts_S1x16x128x4x128_S16x128x4x128
/-- The second chunks. -/
def second : FVec Ideal S16x128x4x128 .f32 :=
  shapeCast _ (extractStridedSlice S1x16x128x4x128 ![1, 0, 0, 0, 0] (chunks a) slices_S2x16x128x4x128_S1x16x128x4x128_1_0_0_0_0) shapeCasts_S1x16x128x4x128_S16x128x4x128

/-- One head of one sequence of a chunk. -/
abbrev cell (a : FVec Ideal S16x128x4x128 .f32) (b : Fin 16) (h : Fin 4) : Rows := fun i x => a (ix4 b i h x)
/-- The first half of one head of a sequence. -/
abbrev low (a : FVec Ideal S16x256x4x128 .f32) (b : Fin 16) (h : Fin 4) : Rows :=
  fun i x => a (ix4 b ⟨i.val, by have := i.isLt; omega⟩ h x)
/-- The second half of one head of a sequence. -/
abbrev high (a : FVec Ideal S16x256x4x128 .f32) (b : Fin 16) (h : Fin 4) : Rows :=
  fun i x => a (ix4 b ⟨128 + i.val, by have := i.isLt; omega⟩ h x)
/-- One head's state of one sequence. -/
abbrev memory (s : FVec Ideal S16x4x128x128 .f32) (b : Fin 16) (h : Fin 4) : Rows := fun i x => s (ix4 b h i x)

theorem first_cell (b : Fin 16) (h : Fin 4) : cell (first a) b h = low a b h := by
  funext i x
  pointwise [first, chunks]

theorem second_cell (b : Fin 16) (h : Fin 4) : cell (second a) b h = high a b h := by
  funext i x
  pointwise [second, chunks]

/-- The first half in the other order is the second half turned. -/
theorem low_reverse (b : Fin 16) (h : Fin 4) : low (Host.reverse [1] a) b h = Retaining.flip (high a b h) := by
  funext i x
  pointwise [Retaining.flip]
  have hi := i.isLt
  have hr := i.rev.isLt
  have e : (⟨i.val, by omega⟩ : Fin 256).rev = ⟨128 + i.rev.val, by omega⟩ := Fin.ext (by simp only [Fin.val_rev]; omega)
  exact congrArg (fun w : Fin 256 => a (ix4 b w h x)) e

/-- The second half in the other order is the first half turned. -/
theorem high_reverse (b : Fin 16) (h : Fin 4) : high (Host.reverse [1] a) b h = Retaining.flip (low a b h) := by
  funext i x
  pointwise [Retaining.flip]
  have hi := i.isLt
  have hr := i.rev.isLt
  have e : (⟨128 + i.val, by omega⟩ : Fin 256).rev = ⟨i.rev.val, by omega⟩ := Fin.ext (by simp only [Fin.val_rev]; omega)
  exact congrArg (fun w : Fin 256 => a (ix4 b w h x)) e

variable (g : FVec Ideal S4 .f32)

/-- The positions. -/
def places : FVec Ideal S128 .f32 := sitofp .f32 (iotaInDim S128 32 0)

/-- The distances. -/
def distances : FVec Ideal S128x128 .f32 :=
  subf (broadcastInDim S128x128 ![0, 1] bcast_S128x1_S128x128_0_1 (broadcastInDim S128x1 ![0] bcast_S128_S128x1_0 places))
    (broadcastInDim S128x128 ![0, 1] bcast_S1x128_S128x128_0_1 (broadcastInDim S1x128 ![1] bcast_S128_S1x128_1 places))

/-- The decays inside a chunk. -/
def inners : FVec Ideal S4x128x128 .f32 :=
  select (broadcastInDim S4x128x128 ![0, 1, 2] bcast_S1x128x128_S4x128x128_0_1_2 (cmpf .oge (broadcastInDim S1x128x128 ![1, 2] bcast_S128x128_S1x128x128_1_2 distances) (broadcastInDim S1x128x128 ![] bcast_S_S1x128x128 (constant S_ .f32 0x00000000#32))))
    (Host.exp (mulf (broadcastInDim S4x128x128 ![0, 1, 2] bcast_S1x128x128_S4x128x128_0_1_2 (broadcastInDim S1x128x128 ![1, 2] bcast_S128x128_S1x128x128_1_2 (maximumf distances (broadcastInDim S128x128 ![] bcast_S_S128x128 (constant S_ .f32 0x00000000#32)))))
      (broadcastInDim S4x128x128 ![0, 1, 2] bcast_S4x1x1_S4x128x128_0_1_2 (broadcastInDim S4x1x1 ![0] bcast_S4_S4x1x1_0 g))))
    (broadcastInDim S4x128x128 ![] bcast_S_S4x128x128 (constant S_ .f32 0x00000000#32))

theorem inners_apply (h : Fin 4) (i j : Fin 128) : inners g (ix3 h i j) = inner (g (ix1 h)) (pos i - pos j) := by
  pointwise [inners, distances, places]
  simp only [sitofp_pos]
  rfl

/-- The decays of the queries. -/
def qdec : FVec Ideal S1x128x4x1 .f32 :=
  broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 places) (broadcastInDim S128x1 ![] bcast_S_S128x1 (constant S_ .f32 0x3F800000#32))))
    (broadcastInDim S128x4 ![0, 1] bcast_S1x4_S128x4_0_1 (broadcastInDim S1x4 ![1] bcast_S4_S1x4_1 g))))
/-- The decays of the keys. -/
def kdec : FVec Ideal S1x128x4x1 .f32 :=
  broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) places)))
    (broadcastInDim S128x4 ![0, 1] bcast_S1x4_S128x4_0_1 (broadcastInDim S1x4 ![1] bcast_S4_S1x4_1 g))))
/-- The decays of the states. -/
def cdec : FVec Ideal S1x4x1x1 .f32 :=
  broadcastInDim S1x4x1x1 ![1] bcast_S4_S1x4x1x1_1 (Host.exp (mulf (broadcastInDim S4 ![] bcast_S_S4 (constant S_ .f32 0x43000000#32)) g))

theorem qdec_apply (h : Fin 4) (i : Fin 128) : qdec g (ix4 0 i h 0) = Ideal.exp ((pos i + 1) * g (ix1 h)) := by
  pointwise [qdec, places]
  simp only [sitofp_pos]

theorem kdec_apply (h : Fin 4) (i : Fin 128) : kdec g (ix4 0 i h 0) = Ideal.exp ((n127 - pos i) * g (ix1 h)) := by
  pointwise [kdec, places]
  simp only [sitofp_pos]

theorem cdec_apply (h : Fin 4) : cdec g (ix4 0 h 0 0) = Ideal.exp (n128 * g (ix1 h)) := by
  pointwise [cdec]

/-- No state. -/
def nothing : FVec Ideal S16x4x128x128 .f32 := broadcastInDim S16x4x128x128 ![] bcast_S_S16x4x128x128 (constant S_ .f32 0x00000000#32)

theorem nothing_memory (b : Fin 16) (h : Fin 4) : memory nothing b h = fun _ _ => 0 := by
  funext i x
  pointwise [nothing]

variable (qc kc vc : FVec Ideal S16x128x4x128 .f32) (s : FVec Ideal S16x4x128x128 .f32)

/-- The state after a chunk. -/
def states : FVec Ideal S16x4x128x128 .f32 :=
  addf (mulf s (broadcastInDim S16x4x128x128 ![0, 1, 2, 3] bcast_S1x4x1x1_S16x4x128x128_0_1_2_3 (cdec g)))
    (Host.dotGeneral dot_S16x128x4x128_S16x128x4x128_S16x4x128x128_1_1_3_3_02_02 none (mulf kc (broadcastInDim S16x128x4x128 ![0, 1, 2, 3] bcast_S1x128x4x1_S16x128x4x128_0_1_2_3 (kdec g))) vc)

/-- The scores inside a chunk, under their decays. -/
def scores : FVec Ideal S16x4x128x128 .f32 :=
  mulf (Host.dotGeneral dot_S16x128x4x128_S16x128x4x128_S16x4x128x128_3_3_1_1_02_02 none qc kc)
    (broadcastInDim S16x4x128x128 ![0, 1, 2, 3] bcast_S1x4x128x128_S16x4x128x128_0_1_2_3 (broadcastInDim S1x4x128x128 ![1, 2, 3] bcast_S4x128x128_S1x4x128x128_1_2_3 (inners g)))

/-- The output of a chunk. -/
def outs : FVec Ideal S16x128x4x128 .f32 :=
  addf (transpose S16x128x4x128 [0, 3, 1, 2] (Host.dotGeneral dot_S16x128x4x128_S16x4x128x128_S16x4x128x128_1_3_3_2_02_01 none vc (scores g qc kc)) transposes_S16x4x128x128_S16x128x4x128_0_3_1_2)
    (mulf (transpose S16x128x4x128 [0, 3, 1, 2] (Host.dotGeneral dot_S16x4x128x128_S16x128x4x128_S16x4x128x128_2_3_3_1_01_02 none s qc) transposes_S16x4x128x128_S16x128x4x128_0_3_1_2)
      (broadcastInDim S16x128x4x128 ![0, 1, 2, 3] bcast_S1x128x4x1_S16x128x4x128_0_1_2_3 (qdec g)))

theorem states_memory (b : Fin 16) (h : Fin 4) :
    memory (states g kc vc s) b h = forwardState (g (ix1 h)) (cell kc b h) (cell vc b h) (memory s b h) := by
  funext i x
  pointwise [states]
  simp only [kdec_apply, cdec_apply]
  rfl

theorem scores_apply (b : Fin 16) (h : Fin 4) (i j : Fin 128) :
    scores g qc kc (ix4 b h i j) = (∑ x, qc (ix4 b i h x) * kc (ix4 b j h x)) * inner (g (ix1 h)) (pos i - pos j) := by
  pointwise [scores]
  simp only [inners_apply]

theorem outs_apply (b : Fin 16) (h : Fin 4) (i x : Fin 128) :
    outs g qc kc vc s (ix4 b i h x) = forward (g (ix1 h)) (cell qc b h) (cell kc b h) (cell vc b h) (memory s b h) i x := by
  pointwise [outs]
  simp only [scores_apply, qdec_apply]
  unfold forward out
  refine congrArg₂ (· + ·) (Finset.sum_congr rfl fun j _ => mul_comm _ _) (congrArg (· * _) (Finset.sum_congr rfl fun j _ => mul_comm _ _))

variable (u w : FVec Ideal S16x128x4x128 .f32)

/-- The two chunks of the sequences, one after the other. -/
def join : FVec Ideal S16x256x4x128 .f32 :=
  shapeCast _ (transpose S16x2x128x4x128 [1, 0, 2, 3, 4] (concatenate S2x16x128x4x128 0
    [⟨S1x16x128x4x128, (broadcastInDim S1x16x128x4x128 ![1, 2, 3, 4] bcast_S16x128x4x128_S1x16x128x4x128_1_2_3_4 u)⟩,
     ⟨S1x16x128x4x128, (broadcastInDim S1x16x128x4x128 ![1, 2, 3, 4] bcast_S16x128x4x128_S1x16x128x4x128_1_2_3_4 w)⟩]
    concatenates_S1x16x128x4x128_S1x16x128x4x128_S2x16x128x4x128_d0) transposes_S2x16x128x4x128_S16x2x128x4x128_1_0_2_3_4) shapeCasts_S16x2x128x4x128_S16x256x4x128

theorem join_low (b : Fin 16) (h : Fin 4) : low (join u w) b h = cell u b h := by
  funext i x
  have hi := i.isLt
  pointwise [join]
  rw [dif_pos (by omega)]
  exact congrArg (fun j : Fin 128 => u (ix4 b j h x)) (Fin.ext (by simp only; omega))

theorem join_high (b : Fin 16) (h : Fin 4) : high (join u w) b h = cell w b h := by
  funext i x
  have hi := i.isLt
  pointwise [join]
  rw [dif_neg (by omega)]

variable (qa ka va : FVec Ideal S16x256x4x128 .f32)

/-- The states between the two chunks. -/
def between : FVec Ideal S16x4x128x128 .f32 := states g (first ka) (first va) nothing

/-- The outputs over whole sequences. -/
def passes : FVec Ideal S16x256x4x128 .f32 :=
  join (outs g (first qa) (first ka) (first va) nothing) (outs g (second qa) (second ka) (second va) (between g ka va))

/-- The last states. -/
def lasts : FVec Ideal S16x4x128x128 .f32 := states g (second ka) (second va) (between g ka va)

/-- Rows of zeros. -/
abbrev none0 : Rows := fun _ _ => 0

theorem between_memory (b : Fin 16) (h : Fin 4) :
    memory (between g ka va) b h = forwardState (g (ix1 h)) (low ka b h) (low va b h) none0 := by
  unfold between
  rw [states_memory, first_cell, first_cell, nothing_memory]

theorem passes_low (b : Fin 16) (h : Fin 4) :
    low (passes g qa ka va) b h = forward (g (ix1 h)) (low qa b h) (low ka b h) (low va b h) none0 := by
  unfold passes
  rw [join_low]
  funext i x
  refine (outs_apply g _ _ _ _ b h i x).trans ?_
  rw [first_cell, first_cell, first_cell, nothing_memory]

theorem passes_high (b : Fin 16) (h : Fin 4) :
    high (passes g qa ka va) b h = forward (g (ix1 h)) (high qa b h) (high ka b h) (high va b h)
      (forwardState (g (ix1 h)) (low ka b h) (low va b h) none0) := by
  unfold passes
  rw [join_high]
  funext i x
  refine (outs_apply g _ _ _ _ b h i x).trans ?_
  rw [second_cell, second_cell, second_cell, between_memory]

theorem lasts_memory (b : Fin 16) (h : Fin 4) :
    memory (lasts g ka va) b h = forwardState (g (ix1 h)) (high ka b h) (high va b h)
      (forwardState (g (ix1 h)) (low ka b h) (low va b h) none0) := by
  unfold lasts
  rw [states_memory, second_cell, second_cell, between_memory]

/-- Rows of a sequence, flattened. -/
def flat : FVec Ideal S4096x512 .f32 := shapeCast _ a shapeCasts_S16x256x4x128_S4096x512

/-- The first chunk of a sequence among all chunks. -/
def ev (b : Fin 16) : Fin 32 := ⟨b.val * 2, by have := b.isLt; omega⟩
/-- The second chunk of a sequence among all chunks. -/
def od (b : Fin 16) : Fin 32 := ⟨b.val * 2 + 1, by have := b.isLt; omega⟩
/-- A chunk's row among all rows. -/
def at0 (n : Fin 32) (i : Fin 128) : Fin 4096 := ⟨n.val * 128 + i.val, by have := n.isLt; have := i.isLt; omega⟩
/-- A head's lane among all lanes. -/
def ln0 (h : Fin 4) (x : Fin 128) : Fin 512 := ⟨h.val * 128 + x.val, by have := h.isLt; have := x.isLt; omega⟩

theorem flat_ev (b : Fin 16) (h : Fin 4) (i x : Fin 128) : flat a (ix2 (at0 (ev b) i) (ln0 h x)) = low a b h i x := by
  have hh := h.isLt
  have hi := i.isLt
  have hx := x.isLt
  pointwise [flat, at0, ev, ln0]
  exact congrArg (fun w : Fin 256 => a (ix4 b w h x)) (Fin.ext (by simp only; omega))

theorem flat_od (b : Fin 16) (h : Fin 4) (i x : Fin 128) : flat a (ix2 (at0 (od b) i) (ln0 h x)) = high a b h i x := by
  have hh := h.isLt
  have hi := i.isLt
  have hx := x.isLt
  pointwise [flat, at0, od, ln0]
  exact congrArg (fun w : Fin 256 => a (ix4 b w h x)) (Fin.ext (by simp only; omega))

/-- The queries of one head of one chunk. -/
abbrev qs (n : Fin 32) (h : Fin 4) : Rows := fun i x => zr (ix2 (at0 n i) ⟨h.val * 128 + x.val, by have := h.isLt; have := x.isLt; omega⟩)
/-- The keys of one head of one chunk, scaled. -/
abbrev ks (n : Fin 32) (h : Fin 4) : Rows := fun i x => zr (ix2 (at0 n i) ⟨512 + (h.val * 128 + x.val), by have := h.isLt; have := x.isLt; omega⟩) * κ
/-- The values of one head of one chunk. -/
abbrev vs (n : Fin 32) (h : Fin 4) : Rows := fun i x => zr (ix2 (at0 n i) ⟨1024 + (h.val * 128 + x.val), by have := h.isLt; have := x.isLt; omega⟩)

theorem row_ev (b : Fin 16) (i : Fin 128) (p : b.val * 256 + i.val < 4096) : (⟨b.val * 256 + i.val, p⟩ : Fin 4096) = at0 (ev b) i :=
  Fin.ext (by simp only [at0, ev]; omega)

theorem row_od (b : Fin 16) (i : Fin 128) (p : b.val * 256 + (128 + i.val) < 4096) :
    (⟨b.val * 256 + (128 + i.val), p⟩ : Fin 4096) = at0 (od b) i :=
  Fin.ext (by simp only [at0, od]; omega)

theorem q_low (b : Fin 16) (h : Fin 4) : low (q zr) b h = qs zr (ev b) h := by
  funext i x; refine (q_apply zr b _ h x).trans (congrArg (fun R : Fin 4096 => zr (ix2 R _)) (row_ev b i _))
theorem q_high (b : Fin 16) (h : Fin 4) : high (q zr) b h = qs zr (od b) h := by
  funext i x; refine (q_apply zr b _ h x).trans (congrArg (fun R : Fin 4096 => zr (ix2 R _)) (row_od b i _))
theorem k_low (b : Fin 16) (h : Fin 4) : low (k zr) b h = ks zr (ev b) h := by
  funext i x; refine (k_apply zr b _ h x).trans (congrArg (fun R : Fin 4096 => zr (ix2 R _) * κ) (row_ev b i _))
theorem k_high (b : Fin 16) (h : Fin 4) : high (k zr) b h = ks zr (od b) h := by
  funext i x; refine (k_apply zr b _ h x).trans (congrArg (fun R : Fin 4096 => zr (ix2 R _) * κ) (row_od b i _))
theorem v_low (b : Fin 16) (h : Fin 4) : low (v zr) b h = vs zr (ev b) h := by
  funext i x; refine (v_apply zr b _ h x).trans (congrArg (fun R : Fin 4096 => zr (ix2 R _)) (row_ev b i _))
theorem v_high (b : Fin 16) (h : Fin 4) : high (v zr) b h = vs zr (od b) h := by
  funext i x; refine (v_apply zr b _ h x).trans (congrArg (fun R : Fin 4096 => zr (ix2 R _)) (row_od b i _))

/-- The forward outputs. -/
def ofs : FVec Ideal S4096x512 .f32 := flat (passes (forwards dl) (q zr) (k zr) (v zr))
/-- The backward outputs: the pass over the sequences in the other order, put back in order. -/
def obs : FVec Ideal S4096x512 .f32 :=
  flat (Host.reverse [1] (passes (backwards dl) (Host.reverse [1] (q zr)) (Host.reverse [1] (k zr)) (Host.reverse [1] (v zr))))
/-- The forward states. -/
def sfs : FVec Ideal S16x4x128x128 .f32 := lasts (forwards dl) (k zr) (v zr)
/-- The backward states. -/
def sbs : FVec Ideal S16x4x128x128 .f32 := lasts (backwards dl) (Host.reverse [1] (k zr)) (Host.reverse [1] (v zr))

/-- The forward output in a sequence's first chunk. -/
theorem ofs_ev (b : Fin 16) (h : Fin 4) (i x : Fin 128) : ofs zr dl (ix2 (at0 (ev b) i) (ln0 h x))
    = forward (logGamma (dl (ix2 0 h))) (qs zr (ev b) h) (ks zr (ev b) h) (vs zr (ev b) h) none0 i x := by
  unfold ofs
  rw [flat_ev, passes_low, forwards_apply, q_low, k_low, v_low]

/-- The forward output in a sequence's second chunk. -/
theorem ofs_od (b : Fin 16) (h : Fin 4) (i x : Fin 128) : ofs zr dl (ix2 (at0 (od b) i) (ln0 h x))
    = forward (logGamma (dl (ix2 0 h))) (qs zr (od b) h) (ks zr (od b) h) (vs zr (od b) h)
        (forwardState (logGamma (dl (ix2 0 h))) (ks zr (ev b) h) (vs zr (ev b) h) none0) i x := by
  unfold ofs
  rw [flat_od, passes_high, forwards_apply, q_high, k_high, v_high, k_low, v_low]

/-- The backward output in a sequence's second chunk, which is the first one read. -/
theorem obs_od (b : Fin 16) (h : Fin 4) (i x : Fin 128) : obs zr dl (ix2 (at0 (od b) i) (ln0 h x))
    = backward (logGamma (dl (ix2 1 h))) (qs zr (od b) h) (ks zr (od b) h) (vs zr (od b) h) none0 i x := by
  unfold obs
  rw [flat_od, high_reverse]
  unfold Retaining.flip
  rw [passes_low, backwards_apply, low_reverse, low_reverse, low_reverse, q_high, k_high, v_high]
  exact forward_flip _ _ _ _ _ i x

/-- The backward output in a sequence's first chunk. -/
theorem obs_ev (b : Fin 16) (h : Fin 4) (i x : Fin 128) : obs zr dl (ix2 (at0 (ev b) i) (ln0 h x))
    = backward (logGamma (dl (ix2 1 h))) (qs zr (ev b) h) (ks zr (ev b) h) (vs zr (ev b) h)
        (backwardState (logGamma (dl (ix2 1 h))) (ks zr (od b) h) (vs zr (od b) h) none0) i x := by
  unfold obs
  rw [flat_ev, low_reverse]
  unfold Retaining.flip
  rw [passes_high, backwards_apply, high_reverse, high_reverse, high_reverse, low_reverse, low_reverse, forwardState_flip,
    q_low, k_low, v_low, k_high, v_high]
  exact forward_flip _ _ _ _ _ i x

/-- The forward states. -/
theorem sfs_apply (b : Fin 16) (h : Fin 4) (i x : Fin 128) : sfs zr dl (ix4 b h i x)
    = forwardState (logGamma (dl (ix2 0 h))) (ks zr (od b) h) (vs zr (od b) h)
        (forwardState (logGamma (dl (ix2 0 h))) (ks zr (ev b) h) (vs zr (ev b) h) none0) i x := by
  unfold sfs
  refine (congrFun (congrFun (lasts_memory (forwards dl) (k zr) (v zr) b h) i) x).trans ?_
  rw [forwards_apply, k_high, v_high, k_low, v_low]

/-- The backward states. -/
theorem sbs_apply (b : Fin 16) (h : Fin 4) (i x : Fin 128) : sbs zr dl (ix4 b h i x)
    = backwardState (logGamma (dl (ix2 1 h))) (ks zr (ev b) h) (vs zr (ev b) h)
        (backwardState (logGamma (dl (ix2 1 h))) (ks zr (od b) h) (vs zr (od b) h) none0) i x := by
  unfold sbs
  refine (congrFun (congrFun (lasts_memory (backwards dl) _ _ b h) i) x).trans ?_
  rw [backwards_apply, high_reverse, high_reverse, low_reverse, low_reverse, forwardState_flip, forwardState_flip,
    k_low, v_low, k_high, v_high]

end Cert.RetentionReferenceIdeal.Row

end
-- ==== Proof.RetFinal.lean ====
/- The retention's arrays after a run: the reference's results of the kernel's own arguments. -/
module

public import proofs.«01_k».proof.Proof.RetPoint
public import proofs.«01_k».proof.Proof.RetReference
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.RetentionIdeal.Final

open Cert.RetentionIdeal Cert.RetentionIdeal.Gen Cert.RetentionIdeal.Block Cert.RetentionIdeal.Point Cert.Retaining
open Cert.RetentionReferenceIdeal.Row (ev od at0 ln0 qs ks vs none0)

variable (m : (ℓ : Loc nD τ sig) → Buf (Elt Ideal) ℓ) (c : Dev nD)

/-- The block indices of the forward windows and of the states. -/
theorem idx : ∀ t : Fin cfg0.N, win0_0.index t = ![0, 0] ∧ win0_1.index t = ![t.val, 0] ∧ win0_2.index t = ![t.val, 1]
    ∧ win0_3.index t = ![t.val, 2] ∧ win0_7.index t = ![t.val, 0] ∧ win0_9.index t = ![t.val / 2, 0, 0, 0]
    ∧ win0_10.index t = ![t.val / 2, 0, 0, 0] ∧ t.val < 32 :=
  (by decide +kernel : ∀ t : Fin grid0.N, _)

/-- The block indices of the backward windows: a sequence's chunks in the other order. -/
theorem idxb : ∀ t : Fin cfg0.N, win0_4.index t = ![t.val / 2 * 2 + 1 - t.val % 2, 0]
    ∧ win0_5.index t = ![t.val / 2 * 2 + 1 - t.val % 2, 1] ∧ win0_6.index t = ![t.val / 2 * 2 + 1 - t.val % 2, 2]
    ∧ win0_8.index t = ![t.val / 2 * 2 + 1 - t.val % 2, 0] :=
  (by decide +kernel : ∀ t : Fin grid0.N, _)

/-- A grid point is one of 32. -/
theorem lt (t : Fin cfg0.N) : t.val < 32 := (idx t).2.2.2.2.2.2.2

/-- The projected columns, on device `c`. -/
abbrev Z : FVec Ideal S4096x2048 .f32 := m ((c : Thread nD τ).loc main_arg0)
/-- The decay logits. -/
abbrev D : FVec Ideal S2x4 .f32 := m ((c : Thread nD τ).loc main_arg1)

variable (t : Fin cfg0.N)

/-- The chunk a point reads forwards. -/
def fwd (t : Fin cfg0.N) : Fin 32 := ⟨t.val, lt t⟩
/-- The chunk a point reads backwards. -/
def bwd (t : Fin cfg0.N) : Fin 32 := ⟨t.val / 2 * 2 + 1 - t.val % 2, by have := lt t; omega⟩
/-- The sequence of a point. -/
def seq (t : Fin cfg0.N) : Fin 16 := ⟨t.val / 2, by have := lt t; omega⟩

theorem d_block (r : Fin 2) (h : Fin 4) : iblk m c 0 t (ix2 r h) = D m c (ix2 r h) := by
  blk_simp [iblk, idx t]
  have e : (win0_0.blk t).view.emb (ix2 r h) = ix2 r h := by
    blk_ext [idx t]
  rw [e]

theorem q_block (i : Fin 128) (k : Fin 512) : iblk m c 1 t (ix2 i k) = Z m c (ix2 (at0 (fwd t) i) ⟨k.val, by have := k.isLt; omega⟩) := by
  have ht := lt t
  blk_simp [iblk, idx t]
  have e : (win0_1.blk t).view.emb (ix2 i k) = ix2 (at0 (fwd t) i) ⟨k.val, by have := k.isLt; omega⟩ := by
    blk_ext [idx t, at0, fwd]
  rw [e]

theorem k_block (i : Fin 128) (k : Fin 512) : iblk m c 2 t (ix2 i k) = Z m c (ix2 (at0 (fwd t) i) ⟨512 + k.val, by have := k.isLt; omega⟩) := by
  have ht := lt t
  blk_simp [iblk, idx t]
  have e : (win0_2.blk t).view.emb (ix2 i k) = ix2 (at0 (fwd t) i) ⟨512 + k.val, by have := k.isLt; omega⟩ := by
    blk_ext [idx t, at0, fwd]
  rw [e]

theorem v_block (i : Fin 128) (k : Fin 512) : iblk m c 3 t (ix2 i k) = Z m c (ix2 (at0 (fwd t) i) ⟨1024 + k.val, by have := k.isLt; omega⟩) := by
  have ht := lt t
  blk_simp [iblk, idx t]
  have e : (win0_3.blk t).view.emb (ix2 i k) = ix2 (at0 (fwd t) i) ⟨1024 + k.val, by have := k.isLt; omega⟩ := by
    blk_ext [idx t, at0, fwd]
  rw [e]

theorem qb_block (i : Fin 128) (k : Fin 512) : iblk m c 4 t (ix2 i k) = Z m c (ix2 (at0 (bwd t) i) ⟨k.val, by have := k.isLt; omega⟩) := by
  have ht := lt t
  blk_simp [iblk, idxb t]
  have e : (win0_4.blk t).view.emb (ix2 i k) = ix2 (at0 (bwd t) i) ⟨k.val, by have := k.isLt; omega⟩ := by
    blk_ext [idxb t, at0, bwd]
  rw [e]

theorem kb_block (i : Fin 128) (k : Fin 512) : iblk m c 5 t (ix2 i k) = Z m c (ix2 (at0 (bwd t) i) ⟨512 + k.val, by have := k.isLt; omega⟩) := by
  have ht := lt t
  blk_simp [iblk, idxb t]
  have e : (win0_5.blk t).view.emb (ix2 i k) = ix2 (at0 (bwd t) i) ⟨512 + k.val, by have := k.isLt; omega⟩ := by
    blk_ext [idxb t, at0, bwd]
  rw [e]

theorem vb_block (i : Fin 128) (k : Fin 512) : iblk m c 6 t (ix2 i k) = Z m c (ix2 (at0 (bwd t) i) ⟨1024 + k.val, by have := k.isLt; omega⟩) := by
  have ht := lt t
  blk_simp [iblk, idxb t]
  have e : (win0_6.blk t).view.emb (ix2 i k) = ix2 (at0 (bwd t) i) ⟨1024 + k.val, by have := k.isLt; omega⟩ := by
    blk_ext [idxb t, at0, bwd]
  rw [e]

theorem q_head (h : Fin 4) : head (iblk m c 1 t) h = qs (Z m c) (fwd t) h := funext fun i => funext fun x => q_block m c t i _
theorem k_head (h : Fin 4) : keys (iblk m c 2 t) h = ks (Z m c) (fwd t) h :=
  funext fun i => funext fun x => congrArg (fun y : EReal => y * κ) (k_block m c t i _)
theorem v_head (h : Fin 4) : head (iblk m c 3 t) h = vs (Z m c) (fwd t) h := funext fun i => funext fun x => v_block m c t i _
theorem qb_head (h : Fin 4) : head (iblk m c 4 t) h = qs (Z m c) (bwd t) h := funext fun i => funext fun x => qb_block m c t i _
theorem kb_head (h : Fin 4) : keys (iblk m c 5 t) h = ks (Z m c) (bwd t) h :=
  funext fun i => funext fun x => congrArg (fun y : EReal => y * κ) (kb_block m c t i _)
theorem vb_head (h : Fin 4) : head (iblk m c 6 t) h = vs (Z m c) (bwd t) h := funext fun i => funext fun x => vb_block m c t i _

variable (p : FVec Ideal S4x128x128 .f32) (h : Fin 4)

/-- The forward output over a memory. -/
theorem fOuts_at (y : S128x512.Idx) : fOuts (iblk m c 0 t) (iblk m c 1 t) (iblk m c 2 t) (iblk m c 3 t) p y
    = forward (logGamma (D m c (ix2 0 (hd (y 1))))) (qs (Z m c) (fwd t) (hd (y 1))) (ks (Z m c) (fwd t) (hd (y 1)))
        (vs (Z m c) (fwd t) (hd (y 1))) (mem p (hd (y 1))) (y 0) (ln (y 1)) := by
  unfold fOuts
  rw [d_block, q_head, k_head, v_head]

/-- The backward output over a memory. -/
theorem bOuts_at (y : S128x512.Idx) : bOuts (iblk m c 0 t) (iblk m c 4 t) (iblk m c 5 t) (iblk m c 6 t) p y
    = backward (logGamma (D m c (ix2 1 (hd (y 1))))) (qs (Z m c) (bwd t) (hd (y 1))) (ks (Z m c) (bwd t) (hd (y 1)))
        (vs (Z m c) (bwd t) (hd (y 1))) (mem p (hd (y 1))) (y 0) (ln (y 1)) := by
  unfold bOuts
  rw [d_block, qb_head, kb_head, vb_head]

/-- The forward memory left over a memory. -/
theorem fStates_at : mem (fStates (iblk m c 0 t) (iblk m c 2 t) (iblk m c 3 t) p) h
    = forwardState (logGamma (D m c (ix2 0 h))) (ks (Z m c) (fwd t) h) (vs (Z m c) (fwd t) h) (mem p h) := by
  rw [← d_block m c t, ← k_head, ← v_head]
  rfl

/-- The backward memory left over a memory. -/
theorem bStates_at : mem (bStates (iblk m c 0 t) (iblk m c 5 t) (iblk m c 6 t) p) h
    = backwardState (logGamma (D m c (ix2 1 h))) (ks (Z m c) (bwd t) h) (vs (Z m c) (bwd t) h) (mem p h) := by
  rw [← d_block m c t, ← kb_head, ← vb_head]
  rfl

theorem mem_zeros : mem zeros h = none0 := rfl

/-- The point before. -/
def prev (t : Fin cfg0.N) : Fin cfg0.N := ⟨t.val - 1, Nat.lt_of_le_of_lt (Nat.sub_le _ _) t.isLt⟩

theorem prev_even (ho : ¬ t.val % 2 = 0) : (prev t).val % 2 = 0 := by simp only [prev]; omega

theorem fwd_even (he : t.val % 2 = 0) : fwd t = ev (seq t) := Fin.ext (by simp only [fwd, ev, seq]; omega)
theorem fwd_odd (ho : ¬ t.val % 2 = 0) : fwd t = od (seq t) := Fin.ext (by simp only [fwd, od, seq]; omega)
theorem bwd_even (he : t.val % 2 = 0) : bwd t = od (seq t) := Fin.ext (by simp only [bwd, od, seq]; omega)
theorem bwd_odd (ho : ¬ t.val % 2 = 0) : bwd t = ev (seq t) := Fin.ext (by simp only [bwd, ev, seq]; omega)
theorem fwd_prev (ho : ¬ t.val % 2 = 0) : fwd (prev t) = ev (seq t) := Fin.ext (by simp only [fwd, ev, seq, prev]; omega)
theorem bwd_prev (ho : ¬ t.val % 2 = 0) : bwd (prev t) = od (seq t) := Fin.ext (by simp only [bwd, od, seq, prev]; omega)

/-- The forward outputs, as the reference gives them. -/
abbrev O7 : FVec Ideal S4096x512 .f32 := Cert.RetentionReferenceIdeal.Row.ofs (Z m c) (D m c)
/-- The backward outputs. -/
abbrev O8 : FVec Ideal S4096x512 .f32 := Cert.RetentionReferenceIdeal.Row.obs (Z m c) (D m c)
/-- The forward states. -/
abbrev O9 : FVec Ideal S16x4x128x128 .f32 := Cert.RetentionReferenceIdeal.Row.sfs (Z m c) (D m c)
/-- The backward states. -/
abbrev O10 : FVec Ideal S16x4x128x128 .f32 := Cert.RetentionReferenceIdeal.Row.sbs (Z m c) (D m c)

/-- A lane is its head's lane. -/
theorem lane (j : Fin 512) : ln0 (hd j) (ln j) = j := Fin.ext (by simp only [ln0, hd, ln]; omega)

/-- The first output at a point. -/
theorem out7 (y0 : Fin 128) (y1 : Fin 512) : (outsAt0 m c t.val t.isLt).1 (ix2 y0 y1) = O7 m c (ix2 (at0 (fwd t) y0) y1) := by
  conv_rhs => rw [← lane y1]
  by_cases he : t.val % 2 = 0
  · refine (out7_first m c t he _).trans ((fOuts_at m c t zeros _).trans ?_)
    rw [fwd_even t he]
    exact (Cert.RetentionReferenceIdeal.Row.ofs_ev (Z m c) (D m c) (seq t) (hd y1) y0 (ln y1)).symm
  · refine (out7_later m c t he _ (memory_forward m c (prev t) (prev_even t he)) _).trans ((fOuts_at m c t _ _).trans ?_)
    rw [fStates_at m c (prev t), fwd_odd t he, fwd_prev t he]
    exact (Cert.RetentionReferenceIdeal.Row.ofs_od (Z m c) (D m c) (seq t) (hd y1) y0 (ln y1)).symm

/-- The second output at a point. -/
theorem out8 (y0 : Fin 128) (y1 : Fin 512) : (outsAt0 m c t.val t.isLt).2.1 (ix2 y0 y1) = O8 m c (ix2 (at0 (bwd t) y0) y1) := by
  conv_rhs => rw [← lane y1]
  by_cases he : t.val % 2 = 0
  · refine (out8_first m c t he _).trans ((bOuts_at m c t zeros _).trans ?_)
    rw [bwd_even t he]
    exact (Cert.RetentionReferenceIdeal.Row.obs_od (Z m c) (D m c) (seq t) (hd y1) y0 (ln y1)).symm
  · refine (out8_later m c t he _ (memory_backward m c (prev t) (prev_even t he)) _).trans ((bOuts_at m c t _ _).trans ?_)
    rw [bStates_at m c (prev t), bwd_odd t he, bwd_prev t he]
    exact (Cert.RetentionReferenceIdeal.Row.obs_ev (Z m c) (D m c) (seq t) (hd y1) y0 (ln y1)).symm

/-- The third output at a sequence's last point. -/
theorem out9 (ho : ¬ t.val % 2 = 0) (i : Fin 4) (j e : Fin 128) :
    (outsAt0 m c t.val t.isLt).2.2.1 (ix4 0 i j e) = O9 m c (ix4 (seq t) i j e) := by
  refine (out9_later m c t ho _ (memory_forward m c (prev t) (prev_even t ho)) i j e).trans ?_
  refine (congrFun (congrFun (fStates_at m c t _ i) j) e).trans ?_
  rw [fStates_at m c (prev t), fwd_odd t ho, fwd_prev t ho]
  exact (Cert.RetentionReferenceIdeal.Row.sfs_apply (Z m c) (D m c) (seq t) i j e).symm

/-- The fourth output at a sequence's last point. -/
theorem out10 (ho : ¬ t.val % 2 = 0) (i : Fin 4) (j e : Fin 128) :
    (outsAt0 m c t.val t.isLt).2.2.2.1 (ix4 0 i j e) = O10 m c (ix4 (seq t) i j e) := by
  refine (out10_later m c t ho _ (memory_backward m c (prev t) (prev_even t ho)) i j e).trans ?_
  refine (congrFun (congrFun (bStates_at m c t _ i) j) e).trans ?_
  rw [bStates_at m c (prev t), bwd_odd t ho, bwd_prev t ho]
  exact (Cert.RetentionReferenceIdeal.Row.sbs_apply (Z m c) (D m c) (seq t) i j e).symm

/-- The forward outputs, after the run. -/
theorem array7 : (dats m 0 c).arrAt 7 cfg0.N = O7 m c := by
  refine (dats m 0 c).arrAt_eq_of_covers 7 _ (by decide +kernel) fun t hf y => ?_
  have ht := lt t
  blk_simp
  rw [after0_7]
  idx_vars y
  refine (out7 m c t y0 y1).trans ?_
  have e : (win0_7.blk t).view.emb (ix2 y0 y1) = ix2 (at0 (fwd t) y0) y1 := by
    blk_ext [idx t, at0, fwd]
  rw [e]

/-- The backward outputs, after the run. -/
theorem array8 : (dats m 0 c).arrAt 8 cfg0.N = O8 m c := by
  refine (dats m 0 c).arrAt_eq_of_covers 8 _ (by decide +kernel) fun t hf y => ?_
  have ht := lt t
  blk_simp
  rw [after0_8]
  idx_vars y
  refine (out8 m c t y0 y1).trans ?_
  have e : (win0_8.blk t).view.emb (ix2 y0 y1) = ix2 (at0 (bwd t) y0) y1 := by
    blk_ext [idxb t, at0, bwd]
  rw [e]

/-- The forward states, after the run. -/
theorem array9 : (dats m 0 c).arrAt 9 cfg0.N = O9 m c := by
  refine (dats m 0 c).arrAt_eq_of_covers 9 _ (by decide +kernel) fun t hf y => ?_
  have ht := lt t
  have ho : ¬ t.val % 2 = 0 := (by decide +kernel : ∀ t : Fin grid0.N, (cfg0.win 9).flush t = true → ¬ t.val % 2 = 0) t hf
  blk_simp
  rw [after0_9]
  idx_vars y
  obtain rfl : y0 = 0 := Subsingleton.elim _ _
  refine (out9 m c t ho y1 y2 y3).trans ?_
  have e : (win0_9.blk t).view.emb (ix4 0 y1 y2 y3) = ix4 (seq t) y1 y2 y3 := by
    blk_ext [idx t, seq]
  rw [e]

/-- The backward states, after the run. -/
theorem array10 : (dats m 0 c).arrAt 10 cfg0.N = O10 m c := by
  refine (dats m 0 c).arrAt_eq_of_covers 10 _ (by decide +kernel) fun t hf y => ?_
  have ht := lt t
  have ho : ¬ t.val % 2 = 0 := (by decide +kernel : ∀ t : Fin grid0.N, (cfg0.win 10).flush t = true → ¬ t.val % 2 = 0) t hf
  blk_simp
  rw [after0_10]
  idx_vars y
  obtain rfl : y0 = 0 := Subsingleton.elim _ _
  refine (out10 m c t ho y1 y2 y3).trans ?_
  have e : (win0_10.blk t).view.emb (ix4 0 y1 y2 y3) = ix4 (seq t) y1 y2 y3 := by
    blk_ext [idx t, seq]
  rw [e]

/-- The kernel's run: its four arrays are the reference's results. -/
theorem run (ρ : Dev nD → PrngReg) : θ_run defs (onTc (τ := τ) (main (F := Ideal))) ⟨m, fun _ => 0, ρ⟩ fun r => ∀ c : Dev nD,
    r.2.mem ((c : Thread nD τ).loc main_v0_0) = O7 m c ∧ r.2.mem ((c : Thread nD τ).loc main_v0_1) = O8 m c
    ∧ r.2.mem ((c : Thread nD τ).loc main_v0_2) = O9 m c ∧ r.2.mem ((c : Thread nD τ).loc main_v0_3) = O10 m c :=
  (θ_run _ _ _).mono (fun _ h c => ⟨((h c).1 7).trans (array7 m c), ((h c).1 8).trans (array8 m c),
    ((h c).1 9).trans (array9 m c), ((h c).1 10).trans (array10 m c)⟩) (run_main m ρ)

end Cert.RetentionIdeal.Final

end
-- ==== Proof.RetRun.lean ====
/- The results of a run of the reference of the retention, in the terms of Proof/RetReference.lean. -/
module

public import proofs.«01_k».proof.Proof.Gen.RetentionReferenceIdeal.Run
public import proofs.«01_k».proof.Proof.RetReference

@[expose] public section

set_option maxRecDepth 16384

noncomputable section

open Idealize.ShloMosaic Idealize.ShloMosaic.TcCoe Idealize.SL.Sem

namespace Cert.RetentionReferenceIdeal.Results

open Cert.RetentionReferenceIdeal Cert.RetentionReferenceIdeal.Gen

variable (m : (ℓ : Loc nD τ sig) → Buf (Elt Ideal) ℓ) (ρ : Dev nD → PrngReg)

/-- The reference's run. -/
theorem run : θ_run defs (onTc (τ := τ) (main (F := Ideal))) ⟨m, fun _ => 0, ρ⟩ fun r => ∀ c : Dev nD,
    r.2.mem ((c.tc : Thread nD τ).loc main_v211) = Row.ofs (m ((c.tc : Thread nD τ).loc main_arg0)) (m ((c.tc : Thread nD τ).loc main_arg1))
    ∧ r.2.mem ((c.tc : Thread nD τ).loc main_v213) = Row.obs (m ((c.tc : Thread nD τ).loc main_arg0)) (m ((c.tc : Thread nD τ).loc main_arg1))
    ∧ r.2.mem ((c.tc : Thread nD τ).loc main_v103) = Row.sfs (m ((c.tc : Thread nD τ).loc main_arg0)) (m ((c.tc : Thread nD τ).loc main_arg1))
    ∧ r.2.mem ((c.tc : Thread nD τ).loc main_v205) = Row.sbs (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run _ _ _).mono (fun r h c => ?_) (Value.run (F := Ideal) m ρ)
  obtain ⟨h₀, h₁, h₂, h₃, h⟩ := h c
  exact ⟨h₀.trans rfl, h₁.trans rfl, h₂.trans rfl, h₃.trans rfl, h⟩

end Cert.RetentionReferenceIdeal.Results

end
-- ==== Proof.MixBlock.lean ====
/- What one grid point of the mixing computes, read at an index of its output blocks. -/
module

public import proofs.«01_k».proof.Proof.Gen.MixIdeal.Frame
public import proofs.«01_k».proof.Proof.Mixing
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MixIdeal.Block

open Cert.MixIdeal Cert.MixIdeal.Gen Cert.Projection Cert.Mixing

variable (f b g : FVec Ideal S256x512 .f32) (gn : FVec Ideal S1x512 .f32) (r : Fin 256)

/-- The standardised heads. -/
def fam : Fin 4 → FVec Ideal S256x128 .f32 := fun n => match n with
  | ⟨0, _⟩ => k0_pay5 f b
  | ⟨1, _⟩ => k0_pay6 f b
  | ⟨2, _⟩ => standardised (k0_pay7 f b)
  | ⟨3, _⟩ => standardised (extractStridedSlice S256x128 ![0, 384] (k0_pay4 f b) slices_S256x512_o0_384_S256x128)
where
  /-- A head less its mean. -/
  centre (a : FVec Ideal S256x128 .f32) : FVec Ideal S256x128 .f32 :=
    subf a (broadcastTo S256x128 (divf (shapeCast S256x1 (multiReduction .add [1] S256 a 0x00000000#32 reduces_S256x128_S256 (.inl rfl) rfl) shapeCasts_S256_S256x1)
      (broadcast S256x1 (Scalar.ofBits .f32 0x43000000#32))) broadcasts_S256x1_S256x128)
  /-- A head less its mean, over the root of its variance. -/
  standardised (a : FVec Ideal S256x128 .f32) : FVec Ideal S256x128 .f32 :=
    mulf (centre a) (broadcastTo S256x128 (rsqrt (addf (divf (shapeCast S256x1 (multiReduction .add [1] S256 (mulf (centre a) (centre a)) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128)

/-- A standardised head at a lane. -/
theorem fam_apply (n : Fin 4) (l : Fin 128) :
    fam f b n (ix2 r l)
      = standard (fun i => f (ix2 r (⟨n.val * 128 + i, by omega⟩ : Fin 512)) + b (ix2 r (⟨n.val * 128 + i, by omega⟩ : Fin 512))) l := by
  match n with
  | ⟨0, _⟩ =>
    unfold standard centred scale
    pointwise [fam, k0_pay4, k0_pay5]
  | ⟨1, _⟩ =>
    unfold standard centred scale
    pointwise [fam, k0_pay4, k0_pay6]
  | ⟨2, _⟩ =>
    unfold standard centred scale
    pointwise [fam, fam.standardised, fam.centre, k0_pay4, k0_pay7]
  | ⟨3, _⟩ =>
    unfold standard centred scale
    pointwise [fam, fam.standardised, fam.centre, k0_pay4]

/-- The retention's gated row at a lane. -/
theorem ret (j : Fin 512) :
    k0_pay9 (F := Ideal) (k0_pay4 f b) (k0_pay5 f b) (k0_pay6 f b) (k0_pay7 f b) (k0_pay8 f b) g gn (ix2 r j)
      = gated (fun j => f (ix2 r j) + b (ix2 r j)) (fun j => g (ix2 r j)) (fun j => gn (ix2 0 j)) j := by
  have e := concatenate_ofFn_apply (t := S256x512) (s₁ := S256x128) (1 : Fin 2) (fam f b)
    concatenates_S256x128_S256x128_S256x128_S256x128_S256x512_d1 rfl 128 rfl (ix2 r j) ⟨j.val / 128, by omega⟩ rfl
    (ix2 r (⟨j.val % 128, by omega⟩ : Fin 128)) rfl (fun b hb => by fin_cases b <;> first | rfl | exact absurd rfl hb)
  rw [fam_apply] at e
  unfold gated
  rw [← e]
  have h : k0_pay9 (F := Ideal) (k0_pay4 f b) (k0_pay5 f b) (k0_pay6 f b) (k0_pay7 f b) (k0_pay8 f b) g gn (ix2 r j)
      = g (ix2 r j) * FloatOps.logistic (F := Ideal) (g (ix2 r j))
        * (concatenate S256x512 1 (List.ofFn fun n => (⟨S256x128, fam f b n⟩ : (s : Shape) × FVec Ideal s .f32)) concatenates_S256x128_S256x128_S256x128_S256x128_S256x512_d1 (ix2 r j)
          * broadcastTo S256x512 (shapeCast S1x512 gn shapeCasts_S1x512_S1x512) broadcasts_S1x512_S256x512 (ix2 r j)) := rfl
  rw [h]
  unfold swish
  pointwise
  rfl

variable (ρ : FVec Ideal S256x512 .f32) (a : FVec Ideal S256x512 .bf16) (lo hi : FVec Ideal S512x1024 .bf16)
  (md : FVec Ideal S1x6x1024 .f32) (x : FVec Ideal S256x1024 .f32) (n : FVec Ideal S1x1024 .f32)

/-- The first output block at a lane. -/
theorem x1 (k : Fin 1024) :
    k0_pay2 (F := Ideal) ρ (k0_pay10 a lo) hi md x (ix2 r k)
      = summed (fun k => x (ix2 r k)) (fun k => md (ix3 0 2 k)) (fun j => a (ix2 r j)) (fun j => ρ (ix2 r j))
        (fun j k => lo (ix2 j k)) (fun j k => hi (ix2 j k)) k := by
  unfold summed times
  pointwise [k0_pay2, k0_pay10, k0_pay1]

variable (att : FVec Ideal S256x1024 .f32)

/-- The second output block at a lane. -/
theorem h2 (k : Fin 1024) :
    k0_pay3 (F := Ideal) ρ att hi md x n (ix2 r k)
      = modulated (fun k => k0_pay2 (F := Ideal) ρ att hi md x (ix2 r k)) (fun k => n (ix2 0 k)) (fun k => md (ix3 0 3 k)) (fun k => md (ix3 0 4 k)) k := by
  unfold modulated normed scale
  pointwise [k0_pay3, k0_pay1]

end Cert.MixIdeal.Block

end
-- ==== Proof.MixEntry.lean ====
/- What the host leaves in the operands of the mixing, and what a grid point's blocks of them hold. -/
module

public import proofs.«01_k».proof.Proof.Gen.MixIdeal.Frame
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open scoped BigOperators

namespace Cert.MixIdeal.Entry

open Cert.MixIdeal Cert.MixIdeal.Gen

variable (m : (ℓ : Loc nD τ sig) → Buf (Elt Ideal) ℓ) (c : Dev nD)

/-- The block indices of the windows that move with the grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 3] ∧ win0_5.index t = ![t.val / 16, 0, 0]
    ∧ win0_9.index t = ![t.val, 0] ∧ win0_10.index t = ![t.val, 0] ∧ t.val < 128 :=
  (by decide +kernel : ∀ t : Fin grid0.N, _)

/-- The block indices of the windows that stay. -/
theorem still : ∀ t : Fin cfg0.N, win0_6.index t = ![0, 0] ∧ win0_7.index t = ![0, 0] ∧ win0_8.index t = ![0, 0] :=
  (by decide +kernel : ∀ t : Fin grid0.N, _)

/-- The layer's input rows, on device `c`. -/
abbrev X : FVec Ideal S8x4096x1024 .f32 := m ((c : Thread nD τ).loc main_arg0)
/-- The attention's rows. -/
abbrev A : FVec Ideal S32768x512 .bf16 := m ((c : Thread nD τ).loc main_arg1)
/-- The forward retention's rows. -/
abbrev Of : FVec Ideal S32768x512 .f32 := m ((c : Thread nD τ).loc main_arg2)
/-- The backward retention's rows. -/
abbrev Ob : FVec Ideal S32768x512 .f32 := m ((c : Thread nD τ).loc main_arg3)
/-- The retention's projected columns, the gate's among them. -/
abbrev Z : FVec Ideal S32768x2048 .f32 := m ((c : Thread nD τ).loc main_arg4)
/-- The modulation. -/
abbrev M : FVec Ideal S8x6144 .f32 := m ((c : Thread nD τ).loc main_arg5)
/-- The weights of the retention's norm. -/
abbrev G : FVec Ideal S512 .f32 := m ((c : Thread nD τ).loc main_arg6)
/-- The output projection. -/
abbrev W : FVec Ideal S1024x1024 .f32 := m ((c : Thread nD τ).loc main_arg7)
/-- The second norm's weights. -/
abbrev N : FVec Ideal S1024 .f32 := m ((c : Thread nD τ).loc main_arg8)

/-- The row operand. -/
theorem x_entry (R : Fin 32768) (k : Fin 1024) :
    V m c main_v3 (ix2 R k) = X m c (ix3 (⟨R.val / 4096, by omega⟩ : Fin 8) (⟨R.val % 4096, by omega⟩ : Fin 4096) k) := by
  unfold V
  after_reads_at

/-- The modulation operand: six vectors for every batch element. -/
theorem m_entry (b : Fin 8) (i : Fin 6) (k : Fin 1024) :
    V m c main_v4 (ix3 b i k) = M m c (ix2 b (⟨i.val * 1024 + k.val, by omega⟩ : Fin 6144)) := by
  unfold V
  after_reads_at

/-- The operand of the retention's norm. -/
theorem g_entry (k : Fin 512) : V m c main_v0 (ix2 (0 : Fin 1) k) = G m c (ix1 k) := by
  unfold V
  after_reads_at

/-- The output projection's operand. -/
theorem w_entry (k : Fin 1024) (j : Fin 1024) : V m c main_v1 (ix2 k j) = W m c (ix2 k j) := by
  unfold V
  after_reads_at

/-- The second norm's operand. -/
theorem n_entry (k : Fin 1024) : V m c main_v2 (ix2 (0 : Fin 1) k) = N m c (ix1 k) := by
  unfold V
  after_reads_at

/-- The attention's operand. -/
theorem a_entry (R : Fin 32768) (k : Fin 512) : V m c main_arg1 (ix2 R k) = A m c (ix2 R k) := by
  unfold V
  after_reads_at

/-- The forward retention's operand. -/
theorem f_entry (R : Fin 32768) (k : Fin 512) : V m c main_arg2 (ix2 R k) = Of m c (ix2 R k) := by
  unfold V
  after_reads_at

/-- The backward retention's operand. -/
theorem b_entry (R : Fin 32768) (k : Fin 512) : V m c main_arg3 (ix2 R k) = Ob m c (ix2 R k) := by
  unfold V
  after_reads_at

/-- The projected columns' operand. -/
theorem z_entry (R : Fin 32768) (k : Fin 2048) : V m c main_arg4 (ix2 R k) = Z m c (ix2 R k) := by
  unfold V
  after_reads_at

variable (t : Fin cfg0.N)

/-- A grid point is one of 128. -/
theorem lt (t : Fin cfg0.N) : t.val < 128 := (idx t).2.2.2.2.2.2.2.2

/-- A row of a grid point's block among all rows. -/
def tok (t : Fin cfg0.N) (r : Fin 256) : Fin 32768 := ⟨t.val * 256 + r.val, by have := lt t; omega⟩

/-- The batch element of a grid point. -/
def bat (t : Fin cfg0.N) : Fin 8 := ⟨t.val / 16, by have := lt t; omega⟩

/-- A grid point's block of rows. -/
theorem x_block (r : Fin 256) (k : Fin 1024) :
    iblk m c 0 t (ix2 r k) = X m c (ix3 (⟨(tok t r).val / 4096, by omega⟩ : Fin 8) (⟨(tok t r).val % 4096, by omega⟩ : Fin 4096) k) := by
  have ht := lt t
  blk_simp [iblk, idx t]
  have e : (win0_0.blk t).view.emb (ix2 r k) = ix2 (tok t r) k := by
    blk_ext [idx t, tok]
  rw [e, x_entry]

/-- A grid point's block of the attention's rows. -/
theorem a_block (r : Fin 256) (k : Fin 512) : iblk m c 1 t (ix2 r k) = A m c (ix2 (tok t r) k) := by
  have ht := lt t
  blk_simp [iblk, idx t]
  have e : (win0_1.blk t).view.emb (ix2 r k) = ix2 (tok t r) k := by
    blk_ext [idx t, tok]
  rw [e, a_entry]

/-- A grid point's block of the forward retention's rows. -/
theorem f_block (r : Fin 256) (k : Fin 512) : iblk m c 2 t (ix2 r k) = Of m c (ix2 (tok t r) k) := by
  have ht := lt t
  blk_simp [iblk, idx t]
  have e : (win0_2.blk t).view.emb (ix2 r k) = ix2 (tok t r) k := by
    blk_ext [idx t, tok]
  rw [e, f_entry]

/-- A grid point's block of the backward retention's rows. -/
theorem b_block (r : Fin 256) (k : Fin 512) : iblk m c 3 t (ix2 r k) = Ob m c (ix2 (tok t r) k) := by
  have ht := lt t
  blk_simp [iblk, idx t]
  have e : (win0_3.blk t).view.emb (ix2 r k) = ix2 (tok t r) k := by
    blk_ext [idx t, tok]
  rw [e, b_entry]

/-- A grid point's block of the gate: the last quarter of the projected columns. -/
theorem z_block (r : Fin 256) (k : Fin 512) : iblk m c 4 t (ix2 r k) = Z m c (ix2 (tok t r) (⟨1536 + k, by omega⟩ : Fin 2048)) := by
  have ht := lt t
  blk_simp [iblk, idx t]
  have e : (win0_4.blk t).view.emb (ix2 r k) = ix2 (tok t r) (⟨1536 + k, by omega⟩ : Fin 2048) := by
    blk_ext [idx t, tok]
  rw [e, z_entry]

/-- A grid point's block of the modulation. -/
theorem m_block (i : Fin 6) (k : Fin 1024) :
    iblk m c 5 t (ix3 (0 : Fin 1) i k) = M m c (ix2 (bat t) (⟨i.val * 1024 + k.val, by omega⟩ : Fin 6144)) := by
  have ht := lt t
  blk_simp [iblk, idx t]
  have e : (win0_5.blk t).view.emb (ix3 (0 : Fin 1) i k) = ix3 (bat t) i k := by
    blk_ext [idx t, bat]
  rw [e, m_entry]

/-- The weights of the retention's norm in a block. -/
theorem g_block (k : Fin 512) : iblk m c 6 t (ix2 (0 : Fin 1) k) = G m c (ix1 k) := by
  blk_simp [iblk, still t]
  have e : (win0_6.blk t).view.emb (ix2 (0 : Fin 1) k) = ix2 (0 : Fin 1) k := by
    blk_ext [still t]
  rw [e, g_entry]

/-- The output projection in a block. -/
theorem w_block (k : Fin 1024) (j : Fin 1024) : iblk m c 7 t (ix2 k j) = W m c (ix2 k j) := by
  blk_simp [iblk, still t]
  have e : (win0_7.blk t).view.emb (ix2 k j) = ix2 k j := by
    blk_ext [still t]
  rw [e, w_entry]

/-- The second norm's weights in a block. -/
theorem n_block (k : Fin 1024) : iblk m c 8 t (ix2 (0 : Fin 1) k) = N m c (ix1 k) := by
  blk_simp [iblk, still t]
  have e : (win0_8.blk t).view.emb (ix2 (0 : Fin 1) k) = ix2 (0 : Fin 1) k := by
    blk_ext [still t]
  rw [e, n_entry]

end Cert.MixIdeal.Entry

end
-- ==== Proof.MixReference.lean ====
/- The reference of the mixing read at an index: each of its rows is the mixing of its token. -/
module

public import proofs.«01_k».proof.Proof.Gen.MixReferenceIdeal
public import proofs.«01_k».proof.Proof.Mixing
public import Idealize.ShloMosaic.Lib.Pointwise

@[expose] public section

set_option maxRecDepth 16384

noncomputable section

open Idealize.ShloMosaic
open scoped BigOperators

namespace Cert.MixReferenceIdeal.Row

open Cert.MixReferenceIdeal Cert.MixReferenceIdeal.Gen Cert.Projection Cert.Mixing

variable (x : FVec Ideal S8x4096x1024 .f32) (att : FVec Ideal S32768x512 .bf16) (of ob : FVec Ideal S32768x512 .f32)
  (zr : FVec Ideal S32768x2048 .f32) (md : FVec Ideal S8x6144 .f32) (gn : FVec Ideal S512 .f32) (w : FVec Ideal S1024x1024 .f32)
  (n : FVec Ideal S1024 .f32)

/-- The retention's heads: the sum of the two directions. -/
def heads : FVec Ideal S8x4096x4x128 .f32 := shapeCast _ (addf of ob) shapeCasts_S32768x512_S8x4096x4x128

/-- Heads less their means. -/
def centres (a : FVec Ideal S8x4096x4x128 .f32) : FVec Ideal S8x4096x4x128 .f32 :=
  subf a (broadcastInDim S8x4096x4x128 ![0, 1, 2, 3] bcast_S8x4096x4x1_S8x4096x4x128_0_1_2_3
    (Host.divf (broadcastInDim S8x4096x4x1 ![0, 1, 2] bcast_S8x4096x4_S8x4096x4x1_0_1_2
        (Host.reduceAdd a (constant S_ .f32 0x00000000#32) reducesTo_S8x4096x4x128_S8x4096x4_d3 h_S_))
      (broadcastInDim S8x4096x4x1 ![] bcast_S_S8x4096x4x1 (constant S_ .f32 0x43000000#32))))

/-- Heads less their means, over the roots of their variances. -/
def standards (a : FVec Ideal S8x4096x4x128 .f32) : FVec Ideal S8x4096x4x128 .f32 :=
  mulf (centres a) (broadcastInDim S8x4096x4x128 ![0, 1, 2, 3] bcast_S8x4096x4x1_S8x4096x4x128_0_1_2_3
    (Host.rsqrt (addf (Host.divf (broadcastInDim S8x4096x4x1 ![0, 1, 2] bcast_S8x4096x4_S8x4096x4x1_0_1_2
          (Host.reduceAdd (mulf (centres a) (centres a)) (constant S_ .f32 0x00000000#32) reducesTo_S8x4096x4x128_S8x4096x4_d3 h_S_))
        (broadcastInDim S8x4096x4x1 ![] bcast_S_S8x4096x4x1 (constant S_ .f32 0x43000000#32)))
      (broadcastInDim S8x4096x4x1 ![] bcast_S_S8x4096x4x1 (constant S_ .f32 0x358637BD#32)))))

/-- The gate's columns. -/
def gates : FVec Ideal S8x4096x512 .f32 :=
  shapeCast _ (extractStridedSlice S32768x512 ![0, 1536] zr slices_S32768x2048_S32768x512_0_1536) shapeCasts_S32768x512_S8x4096x512

/-- The retention's rows, gated. -/
def retained : FVec Ideal S8x4096x512 .f32 :=
  mulf (mulf (gates zr) (Host.divf (broadcastInDim S8x4096x512 ![] bcast_S_S8x4096x512 (constant S_ .f32 0x3F800000#32))
      (addf (broadcastInDim S8x4096x512 ![] bcast_S_S8x4096x512 (constant S_ .f32 0x3F800000#32)) (Host.exp (Host.negf (gates zr))))))
    (mulf (shapeCast _ (standards (heads of ob)) shapeCasts_S8x4096x4x128_S8x4096x512)
      (broadcastInDim S8x4096x512 ![0, 1, 2] bcast_S1x1x512_S8x4096x512_0_1_2 (broadcastInDim S1x1x512 ![2] bcast_S512_S1x1x512_2 gn)))

/-- The attention's columns, then the retention's. -/
def both : FVec Ideal S8x4096x1024 .f32 :=
  concatenate S8x4096x1024 2 [⟨S8x4096x512, (shapeCast _ (extf .f32 att bitsLt_bf16_f32) shapeCasts_S32768x512_S8x4096x512)⟩,
    ⟨S8x4096x512, retained of ob zr gn⟩] concatenates_S8x4096x512_S8x4096x512_S8x4096x1024_d2

/-- The rows after the residual. -/
def residuals : FVec Ideal S8x4096x1024 .f32 :=
  addf x (mulf (broadcastInDim S8x4096x1024 ![0, 1, 2] bcast_S8x1x1024_S8x4096x1024_0_1_2
      (extractStridedSlice S8x1x1024 ![0, 0, 2048] (broadcastInDim S8x1x6144 ![0, 2] bcast_S8x6144_S8x1x6144_0_2 md) slices_S8x1x6144_S8x1x1024_0_0_2048))
    (Host.dotGeneral dot_S8x4096x1024_S1024x1024_S8x4096x1024_2_0_01_1_n_n none (both att of ob zr gn) w))

/-- The second modulated norm of rows. -/
def second (y : FVec Ideal S8x4096x1024 .f32) : FVec Ideal S8x4096x1024 .f32 :=
  addf (mulf (mulf (mulf y (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf y y) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 n)))
    (broadcastInDim S8x4096x1024 ![0, 1, 2] bcast_S8x1x1024_S8x4096x1024_0_1_2
      (addf (broadcastInDim S8x1x1024 ![] bcast_S_S8x1x1024 (constant S_ .f32 0x3F800000#32))
        (extractStridedSlice S8x1x1024 ![0, 0, 4096] (broadcastInDim S8x1x6144 ![0, 2] bcast_S8x6144_S8x1x6144_0_2 md) slices_S8x1x6144_S8x1x1024_0_0_4096))))
    (broadcastInDim S8x4096x1024 ![0, 1, 2] bcast_S8x1x1024_S8x4096x1024_0_1_2
      (extractStridedSlice S8x1x1024 ![0, 0, 3072] (broadcastInDim S8x1x6144 ![0, 2] bcast_S8x6144_S8x1x6144_0_2 md) slices_S8x1x6144_S8x1x1024_0_0_3072))

/-- The first result: the rows after the residual. -/
def x1 : FVec Ideal S32768x1024 .f32 := shapeCast _ (residuals x att of ob zr md gn w) shapeCasts_S8x4096x1024_S32768x1024

/-- The second result: their second modulated norm. -/
def h2 : FVec Ideal S32768x1024 .f32 := shapeCast _ (second md n (residuals x att of ob zr md gn w)) shapeCasts_S8x4096x1024_S32768x1024

variable (b : Fin 8) (s : Fin 4096)

/-- The row of a token of a batch element. -/
abbrev tok : Fin 32768 := ⟨b * 4096 + s, by omega⟩

/-- A head at a lane. -/
theorem heads_apply (h : Fin 4) (i : Fin 128) :
    heads of ob (ix4 b s h i) = of (ix2 (tok b s) (⟨h.val * 128 + i, by omega⟩ : Fin 512)) + ob (ix2 (tok b s) (⟨h.val * 128 + i, by omega⟩ : Fin 512)) := by
  pointwise [heads]

/-- A centred head at a lane. -/
theorem centres_apply (a : FVec Ideal S8x4096x4x128 .f32) (h : Fin 4) (i : Fin 128) :
    centres a (ix4 b s h i) = centred (fun i => a (ix4 b s h i)) i := by
  unfold centred
  pointwise [centres]

/-- A standardised head at a lane. -/
theorem standards_apply (a : FVec Ideal S8x4096x4x128 .f32) (h : Fin 4) (i : Fin 128) :
    standards a (ix4 b s h i) = standard (fun i => a (ix4 b s h i)) i := by
  unfold standard scale
  simp only [← centres_apply]
  pointwise [standards]

/-- The gate at a lane. -/
theorem gates_apply (j : Fin 512) : gates zr (ix3 b s j) = zr (ix2 (tok b s) (⟨1536 + j, by omega⟩ : Fin 2048)) := by
  pointwise [gates]

/-- The retention's row at a lane. -/
theorem retained_apply (j : Fin 512) :
    retained of ob zr gn (ix3 b s j)
      = gated (fun j => of (ix2 (tok b s) j) + ob (ix2 (tok b s) j)) (fun j => zr (ix2 (tok b s) (⟨1536 + j, by omega⟩ : Fin 2048))) (fun j => gn (ix1 j)) j := by
  unfold gated swish
  simp only [← heads_apply of ob b s ⟨j / 128, by omega⟩, ← standards_apply, ← gates_apply]
  pointwise [retained]

/-- The two halves at a lane. -/
theorem both_apply (j : Fin 1024) :
    both att of ob zr gn (ix3 b s j)
      = if h : j.val < 512 then att (ix2 (tok b s) (⟨j, h⟩ : Fin 512)) else retained of ob zr gn (ix3 b s (⟨j - 512, by omega⟩ : Fin 512)) := by
  pointwise [both]

/-- A row after the residual, at a lane. -/
theorem residuals_apply (k : Fin 1024) :
    residuals x att of ob zr md gn w (ix3 b s k)
      = summed (fun k => x (ix3 b s k)) (fun k => md (ix2 b (⟨2048 + k, by omega⟩ : Fin 6144))) (fun j => att (ix2 (tok b s) j))
        (gated (fun j => of (ix2 (tok b s) j) + ob (ix2 (tok b s) j)) (fun j => zr (ix2 (tok b s) (⟨1536 + j, by omega⟩ : Fin 2048))) (fun j => gn (ix1 j)))
        (fun j k => w (ix2 (⟨j, by omega⟩ : Fin 1024) k)) (fun j k => w (ix2 (⟨512 + j, by omega⟩ : Fin 1024) k)) k := by
  unfold summed
  rw [← times_halves _ _ (fun j k => w (ix2 j k)) (fun j => both att of ob zr gn (ix3 b s j))
    (fun j => by simp only [both_apply, retained_apply])]
  unfold times
  pointwise [residuals]

/-- The second norm of a row, at a lane. -/
theorem second_apply (y : FVec Ideal S8x4096x1024 .f32) (k : Fin 1024) :
    second md n y (ix3 b s k)
      = modulated (fun k => y (ix3 b s k)) (fun k => n (ix1 k)) (fun k => md (ix2 b (⟨3072 + k, by omega⟩ : Fin 6144)))
        (fun k => md (ix2 b (⟨4096 + k, by omega⟩ : Fin 6144))) k := by
  unfold modulated normed scale
  pointwise [second]

/-- The first result at an index. -/
theorem x1_apply (R : Fin 32768) (k : Fin 1024) :
    x1 x att of ob zr md gn w (ix2 R k)
      = residuals x att of ob zr md gn w (ix3 (⟨R / 4096, by omega⟩ : Fin 8) (⟨R % 4096, by omega⟩ : Fin 4096) k) := by
  pointwise [x1]

/-- The second result at an index. -/
theorem h2_apply (R : Fin 32768) (k : Fin 1024) :
    h2 x att of ob zr md gn w n (ix2 R k)
      = second md n (residuals x att of ob zr md gn w) (ix3 (⟨R / 4096, by omega⟩ : Fin 8) (⟨R % 4096, by omega⟩ : Fin 4096) k) := by
  pointwise [h2]

end Cert.MixReferenceIdeal.Row

end
-- ==== Proof.MixFinal.lean ====
/- The arrays of the mixing after the run: the reference's results of the kernel's own arguments. -/
module

public import proofs.«01_k».proof.Proof.MixBlock
public import proofs.«01_k».proof.Proof.MixEntry
public import proofs.«01_k».proof.Proof.MixReference
public import Idealize.ShloMosaic.Lib.Pipeline.ValueKit

@[expose] public section

set_option maxRecDepth 16384

noncomputable section

open Idealize.ShloMosaic Idealize.ShloMosaic.TcCoe Idealize.SL.Sem

namespace Cert.MixIdeal.Final

open Cert.MixIdeal Cert.MixIdeal.Gen Cert.MixIdeal.Entry Cert.Projection Cert.Mixing

variable (m : (ℓ : Loc nD τ sig) → Buf (Elt Ideal) ℓ) (c : Dev nD)

/-- The reference's rows after the residual. -/
abbrev P : FVec Ideal Cert.MixReferenceIdeal.S8x4096x1024 .f32 :=
  Cert.MixReferenceIdeal.Row.residuals (X m c) (A m c) (Of m c) (Ob m c) (Z m c) (M m c) (G m c) (W m c)

/-- The first result: the reference's of the kernel's own arguments. -/
abbrev X1 : FVec Ideal Cert.MixReferenceIdeal.S32768x1024 .f32 :=
  Cert.MixReferenceIdeal.Row.x1 (X m c) (A m c) (Of m c) (Ob m c) (Z m c) (M m c) (G m c) (W m c)

/-- The second result: the reference's of the kernel's own arguments. -/
abbrev H2 : FVec Ideal Cert.MixReferenceIdeal.S32768x1024 .f32 :=
  Cert.MixReferenceIdeal.Row.h2 (X m c) (A m c) (Of m c) (Ob m c) (Z m c) (M m c) (G m c) (W m c) (N m c)

variable (t : Fin cfg0.N) (r : Fin 256)

/-- The batch element of a row of a grid point's block. -/
abbrev row : Fin 8 := ⟨(tok t r).val / 4096, by omega⟩
/-- The place of a row of a grid point's block in its batch element. -/
abbrev col : Fin 4096 := ⟨(tok t r).val % 4096, by omega⟩

/-- The batch element of a row is its grid point's. -/
theorem bat_eq : bat t = row t r := by
  refine Fin.ext ?_
  have := r.isLt
  show t.val / 16 = (t.val * 256 + r.val) / 4096
  omega

/-- A row is found again from its batch element and its place. -/
theorem tok_eq : tok t r = Cert.MixReferenceIdeal.Row.tok (row t r) (col t r) := by
  refine Fin.ext ?_
  show (tok t r).val = (tok t r).val / 4096 * 4096 + (tok t r).val % 4096
  omega

/-- The output projection's rows of the attention. -/
abbrev lo : FVec Ideal S512x1024 .bf16 := View.ld (iblk m c 7 t) r0_2
/-- The output projection's rows of the retention. -/
abbrev hi : FVec Ideal S512x1024 .bf16 := View.ld (iblk m c 7 t) r0_3

/-- The attention's rows of the projection at an index. -/
theorem lo_apply (j : Fin 512) (k : Fin 1024) : lo m c t (ix2 j k) = W m c (ix2 (⟨j, by omega⟩ : Fin 1024) k) := by
  rw [← w_block m c t]
  show iblk m c 7 t (r0_2.idx (ix2 j k)) = _
  refine congrArg _ (funext fun a => Fin.ext ?_)
  fin_cases a
  · show 0 + 1 * j.val = j.val
    omega
  · show 0 + 1 * k.val = k.val
    omega

/-- The retention's rows of the projection at an index. -/
theorem hi_apply (j : Fin 512) (k : Fin 1024) : hi m c t (ix2 j k) = W m c (ix2 (⟨512 + j, by omega⟩ : Fin 1024) k) := by
  rw [← w_block m c t]
  show iblk m c 7 t (r0_3.idx (ix2 j k)) = _
  refine congrArg _ (funext fun a => Fin.ext ?_)
  fin_cases a
  · show 512 + 1 * j.val = 512 + j.val
    omega
  · show 0 + 1 * k.val = k.val
    omega

/-- The retention's gated rows of a block. -/
abbrev ret : FVec Ideal S256x512 .f32 :=
  k0_pay9 (k0_pay4 (iblk m c 2 t) (iblk m c 3 t)) (k0_pay5 (iblk m c 2 t) (iblk m c 3 t)) (k0_pay6 (iblk m c 2 t) (iblk m c 3 t))
    (k0_pay7 (iblk m c 2 t) (iblk m c 3 t)) (k0_pay8 (iblk m c 2 t) (iblk m c 3 t)) (iblk m c 4 t) (iblk m c 6 t)

/-- The first output block at a lane: the reference's row. -/
theorem x1_block (k : Fin 1024) :
    k0_pay2 (F := Ideal) (ret m c t) (k0_pay10 (iblk m c 1 t) (lo m c t)) (hi m c t) (iblk m c 5 t) (iblk m c 0 t) (ix2 r k)
      = P m c (ix3 (row t r) (col t r) k) := by
  rw [Block.x1]
  refine Eq.trans ?_ (Cert.MixReferenceIdeal.Row.residuals_apply (X m c) (A m c) (Of m c) (Ob m c) (Z m c) (M m c) (G m c) (W m c) (row t r) (col t r) k).symm
  simp only [Block.ret, lo_apply, hi_apply, a_block, f_block, b_block, z_block, x_block, g_block, m_block, bat_eq t r, ← tok_eq t r]
  rfl

/-- The second output block at a lane: the reference's row. -/
theorem h2_block (k : Fin 1024) :
    k0_pay3 (F := Ideal) (ret m c t) (k0_pay10 (iblk m c 1 t) (lo m c t)) (hi m c t) (iblk m c 5 t) (iblk m c 0 t) (iblk m c 8 t) (ix2 r k)
      = Cert.MixReferenceIdeal.Row.second (M m c) (N m c) (P m c) (ix3 (row t r) (col t r) k) := by
  rw [Block.h2]
  refine Eq.trans ?_ (Cert.MixReferenceIdeal.Row.second_apply (M m c) (N m c) (row t r) (col t r) (P m c) k).symm
  simp only [x1_block, n_block, m_block, bat_eq t r]
  rfl

/-- The rows after the residual, after the run. -/
theorem array9 : (dats m 0 c).arrAt 9 cfg0.N = X1 m c := by
  refine (dats m 0 c).arrAt_eq_of_covers 9 _ (by decide +kernel) fun t hf y => ?_
  have ht := lt t
  blk_simp
  rw [after0_9]
  unfold_out out0_9
  frame_out
  idx_vars y
  refine (x1_block m c t y0 y1).trans ?_
  have e : (win0_9.blk t).view.emb (ix2 y0 y1) = ix2 (tok t y0) y1 := by
    blk_ext [idx t, tok]
  rw [e]
  exact (Cert.MixReferenceIdeal.Row.x1_apply (X m c) (A m c) (Of m c) (Ob m c) (Z m c) (M m c) (G m c) (W m c) (tok t y0) y1).symm

/-- Their second modulated norm, after the run. -/
theorem array10 : (dats m 0 c).arrAt 10 cfg0.N = H2 m c := by
  refine (dats m 0 c).arrAt_eq_of_covers 10 _ (by decide +kernel) fun t hf y => ?_
  have ht := lt t
  blk_simp
  rw [after0_10]
  unfold_out out0_10
  frame_out
  idx_vars y
  refine (h2_block m c t y0 y1).trans ?_
  have e : (win0_10.blk t).view.emb (ix2 y0 y1) = ix2 (tok t y0) y1 := by
    blk_ext [idx t, tok]
  rw [e]
  exact (Cert.MixReferenceIdeal.Row.h2_apply (X m c) (A m c) (Of m c) (Ob m c) (Z m c) (M m c) (G m c) (W m c) (N m c) (tok t y0) y1).symm

/-- The kernel's run: its two arrays are the reference's results, and its arguments are as they were. -/
theorem run (ρ : Dev nD → PrngReg) : θ_run defs (onTc (τ := τ) (main (F := Ideal))) ⟨m, fun _ => 0, ρ⟩ fun r => ∀ c : Dev nD,
    r.2.mem ((c : Thread nD τ).loc main_v5_0) = X1 m c ∧ r.2.mem ((c : Thread nD τ).loc main_v5_1) = H2 m c :=
  (θ_run _ _ _).mono (fun _ h c => ⟨((h c).1 9).trans (array9 m c), ((h c).1 10).trans (array10 m c)⟩) (run_main m ρ)

end Cert.MixIdeal.Final

end
-- ==== Proof.MixRun.lean ====
/- The results of a run of the reference of the mixing, in the terms of Proof/MixReference.lean. -/
module

public import proofs.«01_k».proof.Proof.Gen.MixReferenceIdeal.Run
public import proofs.«01_k».proof.Proof.MixReference

@[expose] public section

set_option maxRecDepth 16384

noncomputable section

open Idealize.ShloMosaic Idealize.ShloMosaic.TcCoe Idealize.SL.Sem

namespace Cert.MixReferenceIdeal.Results

open Cert.MixReferenceIdeal Cert.MixReferenceIdeal.Gen

variable (m : (ℓ : Loc nD τ sig) → Buf (Elt Ideal) ℓ) (ρ : Dev nD → PrngReg)

/-- The reference's run. -/
theorem run : θ_run defs (onTc (τ := τ) (main (F := Ideal))) ⟨m, fun _ => 0, ρ⟩ fun r => ∀ c : Dev nD,
    r.2.mem ((c.tc : Thread nD τ).loc main_v61)
      = Row.x1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
    ∧ r.2.mem ((c.tc : Thread nD τ).loc main_v62)
      = Row.h2 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  refine (θ_run _ _ _).mono (fun r h c => ?_) (Value.run (F := Ideal) m ρ)
  obtain ⟨h₀, h₁, h⟩ := h c
  exact ⟨h₀.trans rfl, h₁.trans rfl, h⟩

end Cert.MixReferenceIdeal.Results

end
-- ==== Proof.lean ====
/- The claim assembled: the frames and the quiescence from the generated runs, and for the value claims the kernels' output
   arrays (Proof/Final.lean, Proof/PromptFinal.lean, Proof/RetFinal.lean, Proof/MixFinal.lean) beside the references' composed terms. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Prompt
public import proofs.«01_k».proof.Proof.Gen.Prompt.Frame
public import proofs.«01_k».proof.Proof.Gen.PromptIdeal
public import proofs.«01_k».proof.Proof.Gen.PromptIdeal.Frame
public import proofs.«01_k».proof.Proof.Gen.PromptIdeal.Value
public import proofs.«01_k».proof.Proof.Gen.PromptReferenceIdeal
public import proofs.«01_k».proof.Proof.Gen.PromptReferenceIdeal.Run
public import proofs.«01_k».proof.Proof.Gen.Retention
public import proofs.«01_k».proof.Proof.Gen.Retention.Frame
public import proofs.«01_k».proof.Proof.Gen.RetentionIdeal
public import proofs.«01_k».proof.Proof.Gen.RetentionIdeal.Frame
public import proofs.«01_k».proof.Proof.Gen.RetentionReferenceIdeal
public import proofs.«01_k».proof.Proof.Gen.RetentionReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.Residual
public import proofs.«01_k».proof.Proof.Gen.Residual.Frame
public import proofs.«01_k».proof.Proof.Gen.ResidualIdeal
public import proofs.«01_k».proof.Proof.Gen.ResidualIdeal.Frame
public import proofs.«01_k».proof.Proof.Gen.ResidualReferenceIdeal
public import proofs.«01_k».proof.Proof.Gen.ResidualReferenceIdeal.Run
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailReferenceIdeal
public import proofs.«01_k».proof.Proof.Gen.TailReferenceIdeal.Run
public import proofs.«01_k».proof.Proof.Gen.Latents
public import proofs.«01_k».proof.Proof.Gen.Latents.Frame
public import proofs.«01_k».proof.Proof.Gen.LatentsIdeal
public import proofs.«01_k».proof.Proof.Gen.LatentsIdeal.Frame
public import proofs.«01_k».proof.Proof.Gen.LatentsReferenceIdeal
public import proofs.«01_k».proof.Proof.Gen.LatentsReferenceIdeal.Run
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationReferenceIdeal
public import proofs.«01_k».proof.Proof.Gen.ModulationReferenceIdeal.Run
public import proofs.«01_k».proof.Proof.Gen.Activation
public import proofs.«01_k».proof.Proof.Gen.Activation.Frame
public import proofs.«01_k».proof.Proof.Gen.ActivationIdeal
public import proofs.«01_k».proof.Proof.Gen.ActivationIdeal.Frame
public import proofs.«01_k».proof.Proof.Gen.ActivationReferenceIdeal
public import proofs.«01_k».proof.Proof.Gen.ActivationReferenceIdeal.Run
public import proofs.«01_k».proof.Proof.Final
public import proofs.«01_k».proof.Proof.ResidualFinal
public import proofs.«01_k».proof.Proof.TailFinal
public import proofs.«01_k».proof.Proof.Finite
public import proofs.«01_k».proof.Proof.PromptFinal
public import proofs.«01_k».proof.Proof.PromptRun
public import proofs.«01_k».proof.Proof.LatentsArrays
public import proofs.«01_k».proof.Proof.LatentsRun
public import proofs.«01_k».proof.Proof.ModulationFinal
public import proofs.«01_k».proof.Proof.ActivationFinal
public import proofs.«01_k».proof.Proof.RetFinal
public import proofs.«01_k».proof.Proof.RetRun
public import proofs.«01_k».proof.Proof.MixFinal
public import proofs.«01_k».proof.Proof.MixRun
public import Idealize.ShloMosaic.Adequacy
public import Idealize.ShloMosaic.Init

@[expose] public section

noncomputable section

namespace Cert.Proof

open Idealize.ShloMosaic Idealize.SL.Sem

/-- The attention: on finite queries and keys the kernel's array and the reference's are the same. -/
theorem attention :
    Cert.algebraic_KernelIdeal_ReferenceIdeal_pre_finite_scores (hKernelIdeal := Cert.KernelIdeal.Gen.facts)
      (hReferenceIdeal := Cert.ReferenceIdeal.Gen.facts) (hPre_finite_scores := Cert.Pre_finite_scores.facts) := by
  intro m g m' g' hpre hag
  refine ⟨fun c => Cert.KernelIdeal.Final.target m c, ?_, ?_⟩
  · refine (θ_run _ _ _).mono (fun r h c => ?_) (Cert.KernelIdeal.Value.run_blocks (F := Ideal) m g)
    obtain ⟨hq, hk, hkc⟩ := Cert.Pre_finite_scores.real (hpre c)
    exact ⟨(h c).1.trans (Cert.KernelIdeal.Final.array m c hq hk hkc), (h c).2⟩
  · refine (θ_run _ _ _).mono (fun r h c => ?_) (Cert.ReferenceIdeal.Value.run (F := Ideal) m' g')
    refine ⟨(h c).1.trans ?_, (h c).2⟩
    obtain ⟨e₀, e₁, e₂, e₃, e₄⟩ := hag c
    rw [e₀, e₁, e₂, e₃, e₄]
    rfl

/-- The attention's reference runs, leaves its arguments and has no semaphore. -/
theorem reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- The prompt's input projection: the kernel's six arrays and the reference's are the same. -/
theorem prompt :
    Cert.algebraic_PromptIdeal_PromptReferenceIdeal (hPromptIdeal := Cert.PromptIdeal.Gen.facts) (hPromptReferenceIdeal := Cert.PromptReferenceIdeal.Gen.facts) := by
  intro m g m' g' _ hag
  refine ⟨fun c => Cert.PromptReferenceIdeal.Row.ckv (Cert.PromptIdeal.Entry.Kn m c) (Cert.PromptIdeal.Final.P m c),
    fun c => Cert.PromptReferenceIdeal.Row.krope (Cert.PromptIdeal.Final.P m c),
    fun c => Cert.PromptReferenceIdeal.Row.queries (Cert.PromptIdeal.Entry.Qn m c) (Cert.PromptIdeal.Entry.Wq m c) (Cert.PromptIdeal.Entry.Qh m c) (Cert.PromptIdeal.Final.P m c),
    fun c => Cert.PromptReferenceIdeal.Row.keys (Cert.PromptIdeal.Entry.Kn m c) (Cert.PromptIdeal.Entry.Wkv m c) (Cert.PromptIdeal.Entry.Kh m c) (Cert.PromptIdeal.Final.P m c),
    fun c => Cert.PromptReferenceIdeal.Row.values (Cert.PromptIdeal.Entry.Kn m c) (Cert.PromptIdeal.Entry.Wkv m c) (Cert.PromptIdeal.Final.P m c),
    fun c => Cert.PromptReferenceIdeal.Row.ret (Cert.PromptIdeal.Final.P m c), ?_, ?_⟩
  · refine (θ_run _ _ _).mono (fun r h c => ?_) (Cert.PromptIdeal.Value.run_blocks (F := Ideal) m g)
    obtain ⟨h₀, h₁, h₂, h₃, h₄, h₅, h⟩ := h c
    exact ⟨h₀.trans (Cert.PromptIdeal.Final.array12 m c), h₁.trans (Cert.PromptIdeal.Final.array13 m c), h₂.trans (Cert.PromptIdeal.Final.array14 m c),
      h₃.trans (Cert.PromptIdeal.Final.array15 m c), h₄.trans (Cert.PromptIdeal.Final.array16 m c), h₅.trans (Cert.PromptIdeal.Final.array17 m c), h⟩
  · refine (θ_run _ _ _).mono (fun r h c => ?_) (Cert.PromptReferenceIdeal.Results.run m' g')
    obtain ⟨h₀, h₁, h₂, h₃, h₄, h₅, h⟩ := h c
    obtain ⟨e₀, e₁, e₂, e₃, e₄, e₅, e₆, e₇, e₈, e₉⟩ := hag c
    have eP : Cert.PromptReferenceIdeal.Results.P m' c = Cert.PromptIdeal.Final.P m c := by
      unfold Cert.PromptReferenceIdeal.Results.P
      rw [e₀, e₁, e₂, e₃]
    rw [eP] at h₀ h₁ h₂ h₃ h₄ h₅
    rw [e₆] at h₀ h₃ h₄
    rw [e₇] at h₃ h₄
    rw [e₉] at h₃
    rw [e₄, e₅, e₈] at h₂
    exact ⟨h₀, h₁, h₂, h₃, h₄, h₅, h⟩

/-- The reference of the prompt's input projection runs, leaves its arguments and has no semaphore. -/
theorem reference_prompt : Cert.quiescent_PromptReferenceIdeal (hPromptReferenceIdeal := Cert.PromptReferenceIdeal.Gen.facts) := fun m g _ =>
  (θ_run _ _ _).mono (fun r h => ⟨fun c => (h c).2.2.2.2.2.2, sem_eq_zero_of_no_sems rfl r.2⟩) (Cert.PromptReferenceIdeal.Results.run m g)

/-- The retention: the kernel's two outputs and two states are the reference's. -/
theorem retention :
    Cert.algebraic_RetentionIdeal_RetentionReferenceIdeal (hRetentionIdeal := Cert.RetentionIdeal.Gen.facts)
      (hRetentionReferenceIdeal := Cert.RetentionReferenceIdeal.Gen.facts) := by
  intro m g m' g' _ hag
  refine ⟨fun c => Cert.RetentionIdeal.Final.O7 m c, fun c => Cert.RetentionIdeal.Final.O8 m c, fun c => Cert.RetentionIdeal.Final.O9 m c,
    fun c => Cert.RetentionIdeal.Final.O10 m c, ?_, ?_⟩
  · refine (θ_run _ _ _).mono (fun r h c => ?_)
      (θ_run_and (Cert.RetentionIdeal.Final.run m g) (Cert.RetentionIdeal.Gen.unchanged m g))
    obtain ⟨h₀, h₁, h₂, h₃⟩ := h.1 c
    exact ⟨h₀, h₁, h₂, h₃, h.2 c⟩
  · refine (θ_run _ _ _).mono (fun r h c => ?_) (Cert.RetentionReferenceIdeal.Results.run m' g')
    obtain ⟨h₀, h₁, h₂, h₃, h⟩ := h c
    obtain ⟨e₀, e₁⟩ := hag c
    rw [e₀, e₁] at h₀ h₁ h₂ h₃
    exact ⟨h₀, h₁, h₂, h₃, h⟩

/-- The reference of the retention runs, leaves its arguments and has no semaphore. -/
theorem reference_retention : Cert.quiescent_RetentionReferenceIdeal (hRetentionReferenceIdeal := Cert.RetentionReferenceIdeal.Gen.facts) := fun m g _ =>
  (θ_run _ _ _).mono (fun r h => ⟨fun c => (h c).2.2.2.2, sem_eq_zero_of_no_sems rfl r.2⟩) (Cert.RetentionReferenceIdeal.Results.run m g)

/-- The mixing: the kernel's two arrays are the reference's. -/
theorem mix :
    Cert.algebraic_MixIdeal_MixReferenceIdeal (hMixIdeal := Cert.MixIdeal.Gen.facts) (hMixReferenceIdeal := Cert.MixReferenceIdeal.Gen.facts) := by
  intro m g m' g' _ hag
  refine ⟨fun c => Cert.MixIdeal.Final.X1 m c, fun c => Cert.MixIdeal.Final.H2 m c, ?_, ?_⟩
  · exact (θ_run _ _ _).mono (fun r h c => ⟨(h.1 c).1, (h.1 c).2, h.2 c⟩)
      (θ_run_and (Cert.MixIdeal.Final.run m g) (Cert.MixIdeal.Gen.unchanged m g))
  · refine (θ_run _ _ _).mono (fun r h c => ?_) (Cert.MixReferenceIdeal.Results.run m' g')
    obtain ⟨h₀, h₁, h⟩ := h c
    obtain ⟨e₀, e₁, e₂, e₃, e₄, e₅, e₆, e₇, e₈⟩ := hag c
    rw [e₀, e₁, e₂, e₃, e₄, e₅, e₆, e₇] at h₀ h₁
    rw [e₈] at h₁
    exact ⟨h₀, h₁, h⟩

/-- The reference of the mixing runs, leaves its arguments and has no semaphore. -/
theorem reference_mix : Cert.quiescent_MixReferenceIdeal (hMixReferenceIdeal := Cert.MixReferenceIdeal.Gen.facts) := fun m g _ =>
  (θ_run _ _ _).mono (fun r h => ⟨fun c => (h c).2.2, sem_eq_zero_of_no_sems rfl r.2⟩) (Cert.MixReferenceIdeal.Results.run m g)

/-- The prompt's residual computes its reference's result. -/
theorem residual :
    Cert.algebraic_ResidualIdeal_ResidualReferenceIdeal (hResidualIdeal := Cert.ResidualIdeal.Gen.facts)
      (hResidualReferenceIdeal := Cert.ResidualReferenceIdeal.Gen.facts) := by
  intro m g m' g' _ hag
  refine ⟨fun c => Cert.ResidualReferenceIdeal.Row.result (Cert.ResidualIdeal.Final.X m c) (Cert.ResidualIdeal.Final.E m c) (Cert.ResidualIdeal.Final.M m c), ?_, ?_⟩
  · exact (θ_run _ _ _).mono (fun r h c => ⟨h.1 c, h.2 c⟩) (θ_run_and (Cert.ResidualIdeal.Final.run m g) (Cert.ResidualIdeal.Gen.unchanged m g))
  · refine (θ_run _ _ _).mono (fun r h c => ?_) (Cert.ResidualReferenceIdeal.Results.run m' g')
    obtain ⟨h₀, h⟩ := h c
    obtain ⟨e₀, e₁, e₂⟩ := hag c
    rw [e₀, e₁, e₂] at h₀
    exact ⟨h₀, h⟩

/-- The reference of the prompt's residual runs, leaves its arguments and has no semaphore. -/
theorem reference_residual : Cert.quiescent_ResidualReferenceIdeal (hResidualReferenceIdeal := Cert.ResidualReferenceIdeal.Gen.facts) := fun m g _ =>
  (θ_run _ _ _).mono (fun r h => ⟨fun c => (h c).2, sem_eq_zero_of_no_sems rfl r.2⟩) (Cert.ResidualReferenceIdeal.Results.run m g)

/-- The residual of the latents' last rows computes its reference's result. -/
theorem tail :
    Cert.algebraic_TailIdeal_TailReferenceIdeal (hTailIdeal := Cert.TailIdeal.Gen.facts)
      (hTailReferenceIdeal := Cert.TailReferenceIdeal.Gen.facts) := by
  intro m g m' g' _ hag
  refine ⟨fun c => Cert.TailReferenceIdeal.Row.result (Cert.TailIdeal.Final.X m c) (Cert.TailIdeal.Final.E m c) (Cert.TailIdeal.Final.M m c) (Cert.TailIdeal.Final.Y m c), ?_, ?_⟩
  · exact (θ_run _ _ _).mono (fun r h c => ⟨h.1 c, h.2 c⟩) (θ_run_and (Cert.TailIdeal.Final.run m g) (Cert.TailIdeal.Gen.unchanged m g))
  · refine (θ_run _ _ _).mono (fun r h c => ?_) (Cert.TailReferenceIdeal.Results.run m' g')
    obtain ⟨h₀, h⟩ := h c
    obtain ⟨e₀, e₁, e₂, e₃⟩ := hag c
    rw [e₀, e₁, e₂, e₃] at h₀
    exact ⟨h₀, h⟩

/-- The reference of the latents' last rows runs, leaves its arguments and has no semaphore. -/
theorem reference_tail : Cert.quiescent_TailReferenceIdeal (hTailReferenceIdeal := Cert.TailReferenceIdeal.Gen.facts) := fun m g _ =>
  (θ_run _ _ _).mono (fun r h => ⟨fun c => (h c).2, sem_eq_zero_of_no_sems rfl r.2⟩) (Cert.TailReferenceIdeal.Results.run m g)

/-- The latents' input projection: the kernel's six arrays and the reference's are the same. -/
theorem latents :
    Cert.algebraic_LatentsIdeal_LatentsReferenceIdeal (hLatentsIdeal := Cert.LatentsIdeal.Gen.facts) (hLatentsReferenceIdeal := Cert.LatentsReferenceIdeal.Gen.facts) := by
  intro m g m' g' _ hag
  refine ⟨fun c => Cert.LatentsReferenceIdeal.Row.ckv (Cert.LatentsIdeal.Entry.Kn m c) (Cert.LatentsIdeal.Final.P m c),
    fun c => Cert.LatentsReferenceIdeal.Row.krope (Cert.LatentsIdeal.Final.P m c),
    fun c => Cert.LatentsReferenceIdeal.Row.queries (Cert.LatentsIdeal.Entry.Qn m c) (Cert.LatentsIdeal.Entry.Wq m c) (Cert.LatentsIdeal.Entry.Qh m c) (Cert.LatentsIdeal.Final.P m c),
    fun c => Cert.LatentsReferenceIdeal.Row.keys (Cert.LatentsIdeal.Entry.Kn m c) (Cert.LatentsIdeal.Entry.Wkv m c) (Cert.LatentsIdeal.Entry.Kh m c) (Cert.LatentsIdeal.Final.P m c),
    fun c => Cert.LatentsReferenceIdeal.Row.values (Cert.LatentsIdeal.Entry.Kn m c) (Cert.LatentsIdeal.Entry.Wkv m c) (Cert.LatentsIdeal.Final.P m c),
    fun c => Cert.LatentsReferenceIdeal.Row.ret (Cert.LatentsIdeal.Final.P m c), ?_, ?_⟩
  · refine (θ_run _ _ _).mono (fun r h c => ?_) (θ_run_and (Cert.LatentsIdeal.Final.run m g) (Cert.LatentsIdeal.Gen.unchanged m g))
    obtain ⟨h₀, h₁, h₂, h₃, h₄, h₅⟩ := h.1 c
    exact ⟨h₀, h₁, h₂, h₃, h₄, h₅, h.2 c⟩
  · refine (θ_run _ _ _).mono (fun r h c => ?_) (Cert.LatentsReferenceIdeal.Results.run m' g')
    obtain ⟨h₀, h₁, h₂, h₃, h₄, h₅, h⟩ := h c
    obtain ⟨e₀, e₁, e₂, e₃, e₄, e₅, e₆, e₇, e₈, e₉⟩ := hag c
    have eP : Cert.LatentsReferenceIdeal.Results.P m' c = Cert.LatentsIdeal.Final.P m c := by
      unfold Cert.LatentsReferenceIdeal.Results.P
      rw [e₀, e₁, e₂, e₃]
    rw [eP] at h₀ h₁ h₂ h₃ h₄ h₅
    rw [e₆] at h₀ h₃ h₄
    rw [e₇] at h₃ h₄
    rw [e₉] at h₃
    rw [e₄, e₅, e₈] at h₂
    exact ⟨h₀, h₁, h₂, h₃, h₄, h₅, h⟩

/-- The reference of the latents' input projection runs, leaves its arguments and has no semaphore. -/
theorem reference_latents : Cert.quiescent_LatentsReferenceIdeal (hLatentsReferenceIdeal := Cert.LatentsReferenceIdeal.Gen.facts) := fun m g _ =>
  (θ_run _ _ _).mono (fun r h => ⟨fun c => (h c).2.2.2.2.2.2, sem_eq_zero_of_no_sems rfl r.2⟩) (Cert.LatentsReferenceIdeal.Results.run m g)

/-- The modulation computes its reference's result. -/
theorem modulation :
    Cert.algebraic_ModulationIdeal_ModulationReferenceIdeal (hModulationIdeal := Cert.ModulationIdeal.Gen.facts)
      (hModulationReferenceIdeal := Cert.ModulationReferenceIdeal.Gen.facts) := by
  intro m g m' g' _ hag
  refine ⟨fun c => Cert.ModulationReferenceIdeal.Row.result (Cert.ModulationIdeal.Final.X m c) (Cert.ModulationIdeal.Final.W m c) (Cert.ModulationIdeal.Final.B m c), ?_, ?_⟩
  · exact (θ_run _ _ _).mono (fun r h c => ⟨h.1 c, h.2 c⟩) (θ_run_and (Cert.ModulationIdeal.Final.run m g) (Cert.ModulationIdeal.Gen.unchanged m g))
  · refine (θ_run _ _ _).mono (fun r h c => ?_) (Cert.ModulationReferenceIdeal.Value.run (F := Ideal) m' g')
    obtain ⟨h₀, h⟩ := h c
    obtain ⟨e₀, e₁, e₂⟩ := hag c
    rw [e₀, e₁, e₂] at h₀
    exact ⟨h₀.trans rfl, h⟩

/-- The reference of the modulation runs, leaves its arguments and has no semaphore. -/
theorem reference_modulation : Cert.quiescent_ModulationReferenceIdeal (hModulationReferenceIdeal := Cert.ModulationReferenceIdeal.Gen.facts) := fun m g _ =>
  (θ_run _ _ _).mono (fun r h => ⟨fun c => (h c).2, sem_eq_zero_of_no_sems rfl r.2⟩) (Cert.ModulationReferenceIdeal.Value.run (F := Ideal) m g)

/-- The experts' activation computes its reference's result. -/
theorem activation :
    Cert.algebraic_ActivationIdeal_ActivationReferenceIdeal (hActivationIdeal := Cert.ActivationIdeal.Gen.facts)
      (hActivationReferenceIdeal := Cert.ActivationReferenceIdeal.Gen.facts) := by
  intro m g m' g' _ hag
  refine ⟨fun c => Cert.ActivationReferenceIdeal.Row.result (Cert.ActivationIdeal.Final.P m c) (Cert.ActivationIdeal.Final.G m c), ?_, ?_⟩
  · exact (θ_run _ _ _).mono (fun r h c => ⟨h.1 c, h.2 c⟩) (θ_run_and (Cert.ActivationIdeal.Final.run m g) (Cert.ActivationIdeal.Gen.unchanged m g))
  · refine (θ_run _ _ _).mono (fun r h c => ?_) (Cert.ActivationReferenceIdeal.Value.run (F := Ideal) m' g')
    obtain ⟨h₀, h⟩ := h c
    obtain ⟨e₀, e₁, e₂⟩ := hag c
    rw [e₀, e₁] at h₀
    exact ⟨h₀.trans rfl, h⟩

/-- The reference of the experts' activation runs, leaves its arguments and has no semaphore. -/
theorem reference_activation : Cert.quiescent_ActivationReferenceIdeal (hActivationReferenceIdeal := Cert.ActivationReferenceIdeal.Gen.facts) := fun m g _ =>
  (θ_run _ _ _).mono (fun r h => ⟨fun c => (h c).2, sem_eq_zero_of_no_sems rfl r.2⟩) (Cert.ActivationReferenceIdeal.Value.run (F := Ideal) m g)

/-- Every claim of the certificate. -/
theorem claim : Cert.Claim :=
  ⟨Cert.Kernel.Gen.facts, Cert.KernelIdeal.Gen.facts, Cert.ReferenceIdeal.Gen.facts, Cert.Prompt.Gen.facts, Cert.PromptIdeal.Gen.facts,
    Cert.PromptReferenceIdeal.Gen.facts, Cert.Retention.Gen.facts, Cert.RetentionIdeal.Gen.facts, Cert.RetentionReferenceIdeal.Gen.facts,
    Cert.Mix.Gen.facts, Cert.MixIdeal.Gen.facts, Cert.MixReferenceIdeal.Gen.facts,
    Cert.Residual.Gen.facts, Cert.ResidualIdeal.Gen.facts, Cert.ResidualReferenceIdeal.Gen.facts,
    Cert.Tail.Gen.facts, Cert.TailIdeal.Gen.facts, Cert.TailReferenceIdeal.Gen.facts,
    Cert.Latents.Gen.facts, Cert.LatentsIdeal.Gen.facts, Cert.LatentsReferenceIdeal.Gen.facts,
    Cert.Modulation.Gen.facts, Cert.ModulationIdeal.Gen.facts, Cert.ModulationReferenceIdeal.Gen.facts,
    Cert.Activation.Gen.facts, Cert.ActivationIdeal.Gen.facts, Cert.ActivationReferenceIdeal.Gen.facts, Cert.Pre_finite_scores.facts,
    fun m g _ => Cert.Kernel.Gen.frame m g,
    fun m g _ => Cert.KernelIdeal.Gen.frame m g,
    fun m g _ => Cert.KernelIdeal.Gen.frame m g,
    reference,
    fun m g _ => reference m g trivial,
    fun m g _ => Cert.Prompt.Gen.frame m g,
    fun m g _ => Cert.PromptIdeal.Gen.frame m g,
    reference_prompt,
    fun m g _ => Cert.Retention.Gen.frame m g,
    fun m g _ => Cert.RetentionIdeal.Gen.frame m g,
    reference_retention,
    fun m g _ => Cert.Mix.Gen.frame m g,
    fun m g _ => Cert.MixIdeal.Gen.frame m g,
    reference_mix,
    fun m g _ => Cert.Residual.Gen.frame m g,
    fun m g _ => Cert.ResidualIdeal.Gen.frame m g,
    reference_residual,
    fun m g _ => Cert.Tail.Gen.frame m g,
    fun m g _ => Cert.TailIdeal.Gen.frame m g,
    reference_tail,
    fun m g _ => Cert.Latents.Gen.frame m g,
    fun m g _ => Cert.LatentsIdeal.Gen.frame m g,
    reference_latents,
    fun m g _ => Cert.Modulation.Gen.frame m g,
    fun m g _ => Cert.ModulationIdeal.Gen.frame m g,
    reference_modulation,
    fun m g _ => Cert.Activation.Gen.frame m g,
    fun m g _ => Cert.ActivationIdeal.Gen.frame m g,
    reference_activation,
    trivial,
    attention,
    trivial,
    prompt,
    trivial,
    retention,
    trivial,
    mix,
    trivial,
    residual,
    trivial,
    tail,
    trivial,
    latents,
    trivial,
    modulation,
    trivial,
    activation⟩

end Cert.Proof

end
